-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_MergeRouter (m : (ℓ : Loc Cert.MergeRouter.nD Cert.MergeRouter.τ Cert.MergeRouter.sig) → Buf (Elt Bits) ℓ) : Prop :=
  True

def Pre_MergeRouterIdeal (m : (ℓ : Loc Cert.MergeRouterIdeal.nD Cert.MergeRouterIdeal.τ Cert.MergeRouterIdeal.sig) → Buf (Elt Ideal) ℓ) : Prop :=
  True

def Pre_MergeRouterReferenceIdeal (m : (ℓ : Loc Cert.MergeRouterReferenceIdeal.nD Cert.MergeRouterReferenceIdeal.τ Cert.MergeRouterReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_MergeRouter [hMergeRouter : Cert.MergeRouter.Facts] : Prop :=
  ∀ (m : (ℓ : Loc Cert.MergeRouter.nD Cert.MergeRouter.τ Cert.MergeRouter.sig) → Buf (Elt Bits) ℓ) (g : Dev Cert.MergeRouter.nD → PrngReg), Pre_MergeRouter m →
    θ_run (Cert.MergeRouter.defs (F := Bits)) (onTc (τ := Cert.MergeRouter.τ) (Cert.MergeRouter.main (F := Bits))) ⟨m, fun _ => 0, g⟩ (fun r => (∀ c : Dev Cert.MergeRouter.nD,
      r.2.mem ((c.tc : Thread Cert.MergeRouter.nD Cert.MergeRouter.τ).loc Cert.MergeRouter.main_arg0) = m ((c.tc : Thread Cert.MergeRouter.nD Cert.MergeRouter.τ).loc Cert.MergeRouter.main_arg0)
      ∧ r.2.mem ((c.tc : Thread Cert.MergeRouter.nD Cert.MergeRouter.τ).loc Cert.MergeRouter.main_arg1) = m ((c.tc : Thread Cert.MergeRouter.nD Cert.MergeRouter.τ).loc Cert.MergeRouter.main_arg1)
      ∧ r.2.mem ((c.tc : Thread Cert.MergeRouter.nD Cert.MergeRouter.τ).loc Cert.MergeRouter.main_arg2) = m ((c.tc : Thread Cert.MergeRouter.nD Cert.MergeRouter.τ).loc Cert.MergeRouter.main_arg2)
      ∧ r.2.mem ((c.tc : Thread Cert.MergeRouter.nD Cert.MergeRouter.τ).loc Cert.MergeRouter.main_arg3) = m ((c.tc : Thread Cert.MergeRouter.nD Cert.MergeRouter.τ).loc Cert.MergeRouter.main_arg3)
      ∧ r.2.mem ((c.tc : Thread Cert.MergeRouter.nD Cert.MergeRouter.τ).loc Cert.MergeRouter.main_arg4) = m ((c.tc : Thread Cert.MergeRouter.nD Cert.MergeRouter.τ).loc Cert.MergeRouter.main_arg4)
      ∧ r.2.mem ((c.tc : Thread Cert.MergeRouter.nD Cert.MergeRouter.τ).loc Cert.MergeRouter.main_arg5) = m ((c.tc : Thread Cert.MergeRouter.nD Cert.MergeRouter.τ).loc Cert.MergeRouter.main_arg5)
      ∧ r.2.mem ((c.tc : Thread Cert.MergeRouter.nD Cert.MergeRouter.τ).loc Cert.MergeRouter.main_arg6) = m ((c.tc : Thread Cert.MergeRouter.nD Cert.MergeRouter.τ).loc Cert.MergeRouter.main_arg6)
      ∧ r.2.mem ((c.tc : Thread Cert.MergeRouter.nD Cert.MergeRouter.τ).loc Cert.MergeRouter.main_arg7) = m ((c.tc : Thread Cert.MergeRouter.nD Cert.MergeRouter.τ).loc Cert.MergeRouter.main_arg7)
      ∧ r.2.mem ((c.tc : Thread Cert.MergeRouter.nD Cert.MergeRouter.τ).loc Cert.MergeRouter.main_arg8) = m ((c.tc : Thread Cert.MergeRouter.nD Cert.MergeRouter.τ).loc Cert.MergeRouter.main_arg8)
      ∧ r.2.mem ((c.tc : Thread Cert.MergeRouter.nD Cert.MergeRouter.τ).loc Cert.MergeRouter.main_arg9) = m ((c.tc : Thread Cert.MergeRouter.nD Cert.MergeRouter.τ).loc Cert.MergeRouter.main_arg9)
      ∧ r.2.mem ((c.tc : Thread Cert.MergeRouter.nD Cert.MergeRouter.τ).loc Cert.MergeRouter.main_arg10) = m ((c.tc : Thread Cert.MergeRouter.nD Cert.MergeRouter.τ).loc Cert.MergeRouter.main_arg10)
      ∧ r.2.mem ((c.tc : Thread Cert.MergeRouter.nD Cert.MergeRouter.τ).loc Cert.MergeRouter.main_arg11) = m ((c.tc : Thread Cert.MergeRouter.nD Cert.MergeRouter.τ).loc Cert.MergeRouter.main_arg11)
      ∧ r.2.mem ((c.tc : Thread Cert.MergeRouter.nD Cert.MergeRouter.τ).loc Cert.MergeRouter.main_arg12) = m ((c.tc : Thread Cert.MergeRouter.nD Cert.MergeRouter.τ).loc Cert.MergeRouter.main_arg12)
      ∧ r.2.mem ((c.tc : Thread Cert.MergeRouter.nD Cert.MergeRouter.τ).loc Cert.MergeRouter.main_arg13) = m ((c.tc : Thread Cert.MergeRouter.nD Cert.MergeRouter.τ).loc Cert.MergeRouter.main_arg13))
      ∧ r.2.sem = fun _ => 0)

def quiescent_MergeRouterIdeal [hMergeRouterIdeal : Cert.MergeRouterIdeal.Facts] : Prop :=
  ∀ (m : (ℓ : Loc Cert.MergeRouterIdeal.nD Cert.MergeRouterIdeal.τ Cert.MergeRouterIdeal.sig) → Buf (Elt Ideal) ℓ) (g : Dev Cert.MergeRouterIdeal.nD → PrngReg), Pre_MergeRouterIdeal m →
    θ_run (Cert.MergeRouterIdeal.defs (F := Ideal)) (onTc (τ := Cert.MergeRouterIdeal.τ) (Cert.MergeRouterIdeal.main (F := Ideal))) ⟨m, fun _ => 0, g⟩ (fun r => (∀ c : Dev Cert.MergeRouterIdeal.nD,
      r.2.mem ((c.tc : Thread Cert.MergeRouterIdeal.nD Cert.MergeRouterIdeal.τ).loc Cert.MergeRouterIdeal.main_arg0) = m ((c.tc : Thread Cert.MergeRouterIdeal.nD Cert.MergeRouterIdeal.τ).loc Cert.MergeRouterIdeal.main_arg0)
      ∧ r.2.mem ((c.tc : Thread Cert.MergeRouterIdeal.nD Cert.MergeRouterIdeal.τ).loc Cert.MergeRouterIdeal.main_arg1) = m ((c.tc : Thread Cert.MergeRouterIdeal.nD Cert.MergeRouterIdeal.τ).loc Cert.MergeRouterIdeal.main_arg1)
      ∧ r.2.mem ((c.tc : Thread Cert.MergeRouterIdeal.nD Cert.MergeRouterIdeal.τ).loc Cert.MergeRouterIdeal.main_arg2) = m ((c.tc : Thread Cert.MergeRouterIdeal.nD Cert.MergeRouterIdeal.τ).loc Cert.MergeRouterIdeal.main_arg2)
      ∧ r.2.mem ((c.tc : Thread Cert.MergeRouterIdeal.nD Cert.MergeRouterIdeal.τ).loc Cert.MergeRouterIdeal.main_arg3) = m ((c.tc : Thread Cert.MergeRouterIdeal.nD Cert.MergeRouterIdeal.τ).loc Cert.MergeRouterIdeal.main_arg3)
      ∧ r.2.mem ((c.tc : Thread Cert.MergeRouterIdeal.nD Cert.MergeRouterIdeal.τ).loc Cert.MergeRouterIdeal.main_arg4) = m ((c.tc : Thread Cert.MergeRouterIdeal.nD Cert.MergeRouterIdeal.τ).loc Cert.MergeRouterIdeal.main_arg4)
      ∧ r.2.mem ((c.tc : Thread Cert.MergeRouterIdeal.nD Cert.MergeRouterIdeal.τ).loc Cert.MergeRouterIdeal.main_arg5) = m ((c.tc : Thread Cert.MergeRouterIdeal.nD Cert.MergeRouterIdeal.τ).loc Cert.MergeRouterIdeal.main_arg5)
      ∧ r.2.mem ((c.tc : Thread Cert.MergeRouterIdeal.nD Cert.MergeRouterIdeal.τ).loc Cert.MergeRouterIdeal.main_arg6) = m ((c.tc : Thread Cert.MergeRouterIdeal.nD Cert.MergeRouterIdeal.τ).loc Cert.MergeRouterIdeal.main_arg6)
      ∧ r.2.mem ((c.tc : Thread Cert.MergeRouterIdeal.nD Cert.MergeRouterIdeal.τ).loc Cert.MergeRouterIdeal.main_arg7) = m ((c.tc : Thread Cert.MergeRouterIdeal.nD Cert.MergeRouterIdeal.τ).loc Cert.MergeRouterIdeal.main_arg7)
      ∧ r.2.mem ((c.tc : Thread Cert.MergeRouterIdeal.nD Cert.MergeRouterIdeal.τ).loc Cert.MergeRouterIdeal.main_arg8) = m ((c.tc : Thread Cert.MergeRouterIdeal.nD Cert.MergeRouterIdeal.τ).loc Cert.MergeRouterIdeal.main_arg8)
      ∧ r.2.mem ((c.tc : Thread Cert.MergeRouterIdeal.nD Cert.MergeRouterIdeal.τ).loc Cert.MergeRouterIdeal.main_arg9) = m ((c.tc : Thread Cert.MergeRouterIdeal.nD Cert.MergeRouterIdeal.τ).loc Cert.MergeRouterIdeal.main_arg9)
      ∧ r.2.mem ((c.tc : Thread Cert.MergeRouterIdeal.nD Cert.MergeRouterIdeal.τ).loc Cert.MergeRouterIdeal.main_arg10) = m ((c.tc : Thread Cert.MergeRouterIdeal.nD Cert.MergeRouterIdeal.τ).loc Cert.MergeRouterIdeal.main_arg10)
      ∧ r.2.mem ((c.tc : Thread Cert.MergeRouterIdeal.nD Cert.MergeRouterIdeal.τ).loc Cert.MergeRouterIdeal.main_arg11) = m ((c.tc : Thread Cert.MergeRouterIdeal.nD Cert.MergeRouterIdeal.τ).loc Cert.MergeRouterIdeal.main_arg11)
      ∧ r.2.mem ((c.tc : Thread Cert.MergeRouterIdeal.nD Cert.MergeRouterIdeal.τ).loc Cert.MergeRouterIdeal.main_arg12) = m ((c.tc : Thread Cert.MergeRouterIdeal.nD Cert.MergeRouterIdeal.τ).loc Cert.MergeRouterIdeal.main_arg12)
      ∧ r.2.mem ((c.tc : Thread Cert.MergeRouterIdeal.nD Cert.MergeRouterIdeal.τ).loc Cert.MergeRouterIdeal.main_arg13) = m ((c.tc : Thread Cert.MergeRouterIdeal.nD Cert.MergeRouterIdeal.τ).loc Cert.MergeRouterIdeal.main_arg13))
      ∧ r.2.sem = fun _ => 0)

def quiescent_MergeRouterReferenceIdeal [hMergeRouterReferenceIdeal : Cert.MergeRouterReferenceIdeal.Facts] : Prop :=
  ∀ (m : (ℓ : Loc Cert.MergeRouterReferenceIdeal.nD Cert.MergeRouterReferenceIdeal.τ Cert.MergeRouterReferenceIdeal.sig) → Buf (Elt Ideal) ℓ) (g : Dev Cert.MergeRouterReferenceIdeal.nD → PrngReg), Pre_MergeRouterReferenceIdeal m →
    θ_run (Cert.MergeRouterReferenceIdeal.defs (F := Ideal)) (onTc (τ := Cert.MergeRouterReferenceIdeal.τ) (Cert.MergeRouterReferenceIdeal.main (F := Ideal))) ⟨m, fun _ => 0, g⟩ (fun r => (∀ c : Dev Cert.MergeRouterReferenceIdeal.nD,
      r.2.mem ((c.tc : Thread Cert.MergeRouterReferenceIdeal.nD Cert.MergeRouterReferenceIdeal.τ).loc Cert.MergeRouterReferenceIdeal.main_arg0) = m ((c.tc : Thread Cert.MergeRouterReferenceIdeal.nD Cert.MergeRouterReferenceIdeal.τ).loc Cert.MergeRouterReferenceIdeal.main_arg0)
      ∧ r.2.mem ((c.tc : Thread Cert.MergeRouterReferenceIdeal.nD Cert.MergeRouterReferenceIdeal.τ).loc Cert.MergeRouterReferenceIdeal.main_arg1) = m ((c.tc : Thread Cert.MergeRouterReferenceIdeal.nD Cert.MergeRouterReferenceIdeal.τ).loc Cert.MergeRouterReferenceIdeal.main_arg1)
      ∧ r.2.mem ((c.tc : Thread Cert.MergeRouterReferenceIdeal.nD Cert.MergeRouterReferenceIdeal.τ).loc Cert.MergeRouterReferenceIdeal.main_arg2) = m ((c.tc : Thread Cert.MergeRouterReferenceIdeal.nD Cert.MergeRouterReferenceIdeal.τ).loc Cert.MergeRouterReferenceIdeal.main_arg2)
      ∧ r.2.mem ((c.tc : Thread Cert.MergeRouterReferenceIdeal.nD Cert.MergeRouterReferenceIdeal.τ).loc Cert.MergeRouterReferenceIdeal.main_arg3) = m ((c.tc : Thread Cert.MergeRouterReferenceIdeal.nD Cert.MergeRouterReferenceIdeal.τ).loc Cert.MergeRouterReferenceIdeal.main_arg3)
      ∧ r.2.mem ((c.tc : Thread Cert.MergeRouterReferenceIdeal.nD Cert.MergeRouterReferenceIdeal.τ).loc Cert.MergeRouterReferenceIdeal.main_arg4) = m ((c.tc : Thread Cert.MergeRouterReferenceIdeal.nD Cert.MergeRouterReferenceIdeal.τ).loc Cert.MergeRouterReferenceIdeal.main_arg4)
      ∧ r.2.mem ((c.tc : Thread Cert.MergeRouterReferenceIdeal.nD Cert.MergeRouterReferenceIdeal.τ).loc Cert.MergeRouterReferenceIdeal.main_arg5) = m ((c.tc : Thread Cert.MergeRouterReferenceIdeal.nD Cert.MergeRouterReferenceIdeal.τ).loc Cert.MergeRouterReferenceIdeal.main_arg5)
      ∧ r.2.mem ((c.tc : Thread Cert.MergeRouterReferenceIdeal.nD Cert.MergeRouterReferenceIdeal.τ).loc Cert.MergeRouterReferenceIdeal.main_arg6) = m ((c.tc : Thread Cert.MergeRouterReferenceIdeal.nD Cert.MergeRouterReferenceIdeal.τ).loc Cert.MergeRouterReferenceIdeal.main_arg6)
      ∧ r.2.mem ((c.tc : Thread Cert.MergeRouterReferenceIdeal.nD Cert.MergeRouterReferenceIdeal.τ).loc Cert.MergeRouterReferenceIdeal.main_arg7) = m ((c.tc : Thread Cert.MergeRouterReferenceIdeal.nD Cert.MergeRouterReferenceIdeal.τ).loc Cert.MergeRouterReferenceIdeal.main_arg7)
      ∧ r.2.mem ((c.tc : Thread Cert.MergeRouterReferenceIdeal.nD Cert.MergeRouterReferenceIdeal.τ).loc Cert.MergeRouterReferenceIdeal.main_arg8) = m ((c.tc : Thread Cert.MergeRouterReferenceIdeal.nD Cert.MergeRouterReferenceIdeal.τ).loc Cert.MergeRouterReferenceIdeal.main_arg8)
      ∧ r.2.mem ((c.tc : Thread Cert.MergeRouterReferenceIdeal.nD Cert.MergeRouterReferenceIdeal.τ).loc Cert.MergeRouterReferenceIdeal.main_arg9) = m ((c.tc : Thread Cert.MergeRouterReferenceIdeal.nD Cert.MergeRouterReferenceIdeal.τ).loc Cert.MergeRouterReferenceIdeal.main_arg9)
      ∧ r.2.mem ((c.tc : Thread Cert.MergeRouterReferenceIdeal.nD Cert.MergeRouterReferenceIdeal.τ).loc Cert.MergeRouterReferenceIdeal.main_arg10) = m ((c.tc : Thread Cert.MergeRouterReferenceIdeal.nD Cert.MergeRouterReferenceIdeal.τ).loc Cert.MergeRouterReferenceIdeal.main_arg10)
      ∧ r.2.mem ((c.tc : Thread Cert.MergeRouterReferenceIdeal.nD Cert.MergeRouterReferenceIdeal.τ).loc Cert.MergeRouterReferenceIdeal.main_arg11) = m ((c.tc : Thread Cert.MergeRouterReferenceIdeal.nD Cert.MergeRouterReferenceIdeal.τ).loc Cert.MergeRouterReferenceIdeal.main_arg11)
      ∧ r.2.mem ((c.tc : Thread Cert.MergeRouterReferenceIdeal.nD Cert.MergeRouterReferenceIdeal.τ).loc Cert.MergeRouterReferenceIdeal.main_arg12) = m ((c.tc : Thread Cert.MergeRouterReferenceIdeal.nD Cert.MergeRouterReferenceIdeal.τ).loc Cert.MergeRouterReferenceIdeal.main_arg12)
      ∧ r.2.mem ((c.tc : Thread Cert.MergeRouterReferenceIdeal.nD Cert.MergeRouterReferenceIdeal.τ).loc Cert.MergeRouterReferenceIdeal.main_arg13) = m ((c.tc : Thread Cert.MergeRouterReferenceIdeal.nD Cert.MergeRouterReferenceIdeal.τ).loc Cert.MergeRouterReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v136) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v33) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)) →
    ∃ (v0 : (c : Dev Cert.ProjectionIdeal.nD) → Buf (Elt Ideal) ((c.tc : Thread Cert.ProjectionIdeal.nD Cert.ProjectionIdeal.τ).loc Cert.ProjectionIdeal.main_v0)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v102) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v81) = v0 c
          ∧ r.2.mem ((c.tc : Thread Cert.MergeReferenceIdeal.nD Cert.MergeReferenceIdeal.τ).loc Cert.MergeReferenceIdeal.main_v116) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v37) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_MergeRouter_MergeRouterIdeal : Prop :=
  True

def algebraic_MergeRouterIdeal_MergeRouterReferenceIdeal [hMergeRouterIdeal : Cert.MergeRouterIdeal.Facts] [hMergeRouterReferenceIdeal : Cert.MergeRouterReferenceIdeal.Facts] : Prop :=
  ∀ (m : (ℓ : Loc Cert.MergeRouterIdeal.nD Cert.MergeRouterIdeal.τ Cert.MergeRouterIdeal.sig) → Buf (Elt Ideal) ℓ) (g : Dev Cert.MergeRouterIdeal.nD → PrngReg)
    (m' : (ℓ : Loc Cert.MergeRouterReferenceIdeal.nD Cert.MergeRouterReferenceIdeal.τ Cert.MergeRouterReferenceIdeal.sig) → Buf (Elt Ideal) ℓ) (g' : Dev Cert.MergeRouterReferenceIdeal.nD → PrngReg), Pre_MergeRouterIdeal m →
    (∀ c : Dev Cert.MergeRouterIdeal.nD,
      m' ((c.tc : Thread Cert.MergeRouterReferenceIdeal.nD Cert.MergeRouterReferenceIdeal.τ).loc Cert.MergeRouterReferenceIdeal.main_arg0) = m ((c.tc : Thread Cert.MergeRouterIdeal.nD Cert.MergeRouterIdeal.τ).loc Cert.MergeRouterIdeal.main_arg0)
      ∧ m' ((c.tc : Thread Cert.MergeRouterReferenceIdeal.nD Cert.MergeRouterReferenceIdeal.τ).loc Cert.MergeRouterReferenceIdeal.main_arg1) = m ((c.tc : Thread Cert.MergeRouterIdeal.nD Cert.MergeRouterIdeal.τ).loc Cert.MergeRouterIdeal.main_arg1)
      ∧ m' ((c.tc : Thread Cert.MergeRouterReferenceIdeal.nD Cert.MergeRouterReferenceIdeal.τ).loc Cert.MergeRouterReferenceIdeal.main_arg2) = m ((c.tc : Thread Cert.MergeRouterIdeal.nD Cert.MergeRouterIdeal.τ).loc Cert.MergeRouterIdeal.main_arg2)
      ∧ m' ((c.tc : Thread Cert.MergeRouterReferenceIdeal.nD Cert.MergeRouterReferenceIdeal.τ).loc Cert.MergeRouterReferenceIdeal.main_arg3) = m ((c.tc : Thread Cert.MergeRouterIdeal.nD Cert.MergeRouterIdeal.τ).loc Cert.MergeRouterIdeal.main_arg3)
      ∧ m' ((c.tc : Thread Cert.MergeRouterReferenceIdeal.nD Cert.MergeRouterReferenceIdeal.τ).loc Cert.MergeRouterReferenceIdeal.main_arg4) = m ((c.tc : Thread Cert.MergeRouterIdeal.nD Cert.MergeRouterIdeal.τ).loc Cert.MergeRouterIdeal.main_arg4)
      ∧ m' ((c.tc : Thread Cert.MergeRouterReferenceIdeal.nD Cert.MergeRouterReferenceIdeal.τ).loc Cert.MergeRouterReferenceIdeal.main_arg5) = m ((c.tc : Thread Cert.MergeRouterIdeal.nD Cert.MergeRouterIdeal.τ).loc Cert.MergeRouterIdeal.main_arg5)
      ∧ m' ((c.tc : Thread Cert.MergeRouterReferenceIdeal.nD Cert.MergeRouterReferenceIdeal.τ).loc Cert.MergeRouterReferenceIdeal.main_arg6) = m ((c.tc : Thread Cert.MergeRouterIdeal.nD Cert.MergeRouterIdeal.τ).loc Cert.MergeRouterIdeal.main_arg6)
      ∧ m' ((c.tc : Thread Cert.MergeRouterReferenceIdeal.nD Cert.MergeRouterReferenceIdeal.τ).loc Cert.MergeRouterReferenceIdeal.main_arg7) = m ((c.tc : Thread Cert.MergeRouterIdeal.nD Cert.MergeRouterIdeal.τ).loc Cert.MergeRouterIdeal.main_arg7)
      ∧ m' ((c.tc : Thread Cert.MergeRouterReferenceIdeal.nD Cert.MergeRouterReferenceIdeal.τ).loc Cert.MergeRouterReferenceIdeal.main_arg8) = m ((c.tc : Thread Cert.MergeRouterIdeal.nD Cert.MergeRouterIdeal.τ).loc Cert.MergeRouterIdeal.main_arg8)
      ∧ m' ((c.tc : Thread Cert.MergeRouterReferenceIdeal.nD Cert.MergeRouterReferenceIdeal.τ).loc Cert.MergeRouterReferenceIdeal.main_arg9) = m ((c.tc : Thread Cert.MergeRouterIdeal.nD Cert.MergeRouterIdeal.τ).loc Cert.MergeRouterIdeal.main_arg9)
      ∧ m' ((c.tc : Thread Cert.MergeRouterReferenceIdeal.nD Cert.MergeRouterReferenceIdeal.τ).loc Cert.MergeRouterReferenceIdeal.main_arg10) = m ((c.tc : Thread Cert.MergeRouterIdeal.nD Cert.MergeRouterIdeal.τ).loc Cert.MergeRouterIdeal.main_arg10)
      ∧ m' ((c.tc : Thread Cert.MergeRouterReferenceIdeal.nD Cert.MergeRouterReferenceIdeal.τ).loc Cert.MergeRouterReferenceIdeal.main_arg11) = m ((c.tc : Thread Cert.MergeRouterIdeal.nD Cert.MergeRouterIdeal.τ).loc Cert.MergeRouterIdeal.main_arg11)
      ∧ m' ((c.tc : Thread Cert.MergeRouterReferenceIdeal.nD Cert.MergeRouterReferenceIdeal.τ).loc Cert.MergeRouterReferenceIdeal.main_arg12) = m ((c.tc : Thread Cert.MergeRouterIdeal.nD Cert.MergeRouterIdeal.τ).loc Cert.MergeRouterIdeal.main_arg12)
      ∧ m' ((c.tc : Thread Cert.MergeRouterReferenceIdeal.nD Cert.MergeRouterReferenceIdeal.τ).loc Cert.MergeRouterReferenceIdeal.main_arg13) = m ((c.tc : Thread Cert.MergeRouterIdeal.nD Cert.MergeRouterIdeal.τ).loc Cert.MergeRouterIdeal.main_arg13)) →
    ∃ (v0 : (c : Dev Cert.MergeRouterIdeal.nD) → Buf (Elt Ideal) ((c.tc : Thread Cert.MergeRouterIdeal.nD Cert.MergeRouterIdeal.τ).loc Cert.MergeRouterIdeal.main_v0_0)) (v1 : (c : Dev Cert.MergeRouterIdeal.nD) → Buf (Elt Ideal) ((c.tc : Thread Cert.MergeRouterIdeal.nD Cert.MergeRouterIdeal.τ).loc Cert.MergeRouterIdeal.main_v0_1)),
      θ_run (Cert.MergeRouterIdeal.defs (F := Ideal)) (onTc (τ := Cert.MergeRouterIdeal.τ) (Cert.MergeRouterIdeal.main (F := Ideal))) ⟨m, fun _ => 0, g⟩ (fun r => ∀ c : Dev Cert.MergeRouterIdeal.nD,
          r.2.mem ((c.tc : Thread Cert.MergeRouterIdeal.nD Cert.MergeRouterIdeal.τ).loc Cert.MergeRouterIdeal.main_v0_0) = v0 c
          ∧ r.2.mem ((c.tc : Thread Cert.MergeRouterIdeal.nD Cert.MergeRouterIdeal.τ).loc Cert.MergeRouterIdeal.main_v0_1) = v1 c
          ∧ r.2.mem ((c.tc : Thread Cert.MergeRouterIdeal.nD Cert.MergeRouterIdeal.τ).loc Cert.MergeRouterIdeal.main_arg0) = m ((c.tc : Thread Cert.MergeRouterIdeal.nD Cert.MergeRouterIdeal.τ).loc Cert.MergeRouterIdeal.main_arg0)
          ∧ r.2.mem ((c.tc : Thread Cert.MergeRouterIdeal.nD Cert.MergeRouterIdeal.τ).loc Cert.MergeRouterIdeal.main_arg1) = m ((c.tc : Thread Cert.MergeRouterIdeal.nD Cert.MergeRouterIdeal.τ).loc Cert.MergeRouterIdeal.main_arg1)
          ∧ r.2.mem ((c.tc : Thread Cert.MergeRouterIdeal.nD Cert.MergeRouterIdeal.τ).loc Cert.MergeRouterIdeal.main_arg2) = m ((c.tc : Thread Cert.MergeRouterIdeal.nD Cert.MergeRouterIdeal.τ).loc Cert.MergeRouterIdeal.main_arg2)
          ∧ r.2.mem ((c.tc : Thread Cert.MergeRouterIdeal.nD Cert.MergeRouterIdeal.τ).loc Cert.MergeRouterIdeal.main_arg3) = m ((c.tc : Thread Cert.MergeRouterIdeal.nD Cert.MergeRouterIdeal.τ).loc Cert.MergeRouterIdeal.main_arg3)
          ∧ r.2.mem ((c.tc : Thread Cert.MergeRouterIdeal.nD Cert.MergeRouterIdeal.τ).loc Cert.MergeRouterIdeal.main_arg4) = m ((c.tc : Thread Cert.MergeRouterIdeal.nD Cert.MergeRouterIdeal.τ).loc Cert.MergeRouterIdeal.main_arg4)
          ∧ r.2.mem ((c.tc : Thread Cert.MergeRouterIdeal.nD Cert.MergeRouterIdeal.τ).loc Cert.MergeRouterIdeal.main_arg5) = m ((c.tc : Thread Cert.MergeRouterIdeal.nD Cert.MergeRouterIdeal.τ).loc Cert.MergeRouterIdeal.main_arg5)
          ∧ r.2.mem ((c.tc : Thread Cert.MergeRouterIdeal.nD Cert.MergeRouterIdeal.τ).loc Cert.MergeRouterIdeal.main_arg6) = m ((c.tc : Thread Cert.MergeRouterIdeal.nD Cert.MergeRouterIdeal.τ).loc Cert.MergeRouterIdeal.main_arg6)
          ∧ r.2.mem ((c.tc : Thread Cert.MergeRouterIdeal.nD Cert.MergeRouterIdeal.τ).loc Cert.MergeRouterIdeal.main_arg7) = m ((c.tc : Thread Cert.MergeRouterIdeal.nD Cert.MergeRouterIdeal.τ).loc Cert.MergeRouterIdeal.main_arg7)
          ∧ r.2.mem ((c.tc : Thread Cert.MergeRouterIdeal.nD Cert.MergeRouterIdeal.τ).loc Cert.MergeRouterIdeal.main_arg8) = m ((c.tc : Thread Cert.MergeRouterIdeal.nD Cert.MergeRouterIdeal.τ).loc Cert.MergeRouterIdeal.main_arg8)
          ∧ r.2.mem ((c.tc : Thread Cert.MergeRouterIdeal.nD Cert.MergeRouterIdeal.τ).loc Cert.MergeRouterIdeal.main_arg9) = m ((c.tc : Thread Cert.MergeRouterIdeal.nD Cert.MergeRouterIdeal.τ).loc Cert.MergeRouterIdeal.main_arg9)
          ∧ r.2.mem ((c.tc : Thread Cert.MergeRouterIdeal.nD Cert.MergeRouterIdeal.τ).loc Cert.MergeRouterIdeal.main_arg10) = m ((c.tc : Thread Cert.MergeRouterIdeal.nD Cert.MergeRouterIdeal.τ).loc Cert.MergeRouterIdeal.main_arg10)
          ∧ r.2.mem ((c.tc : Thread Cert.MergeRouterIdeal.nD Cert.MergeRouterIdeal.τ).loc Cert.MergeRouterIdeal.main_arg11) = m ((c.tc : Thread Cert.MergeRouterIdeal.nD Cert.MergeRouterIdeal.τ).loc Cert.MergeRouterIdeal.main_arg11)
          ∧ r.2.mem ((c.tc : Thread Cert.MergeRouterIdeal.nD Cert.MergeRouterIdeal.τ).loc Cert.MergeRouterIdeal.main_arg12) = m ((c.tc : Thread Cert.MergeRouterIdeal.nD Cert.MergeRouterIdeal.τ).loc Cert.MergeRouterIdeal.main_arg12)
          ∧ r.2.mem ((c.tc : Thread Cert.MergeRouterIdeal.nD Cert.MergeRouterIdeal.τ).loc Cert.MergeRouterIdeal.main_arg13) = m ((c.tc : Thread Cert.MergeRouterIdeal.nD Cert.MergeRouterIdeal.τ).loc Cert.MergeRouterIdeal.main_arg13))
      ∧ θ_run (Cert.MergeRouterReferenceIdeal.defs (F := Ideal)) (onTc (τ := Cert.MergeRouterReferenceIdeal.τ) (Cert.MergeRouterReferenceIdeal.main (F := Ideal))) ⟨m', fun _ => 0, g'⟩ (fun r => ∀ c : Dev Cert.MergeRouterReferenceIdeal.nD,
          r.2.mem ((c.tc : Thread Cert.MergeRouterReferenceIdeal.nD Cert.MergeRouterReferenceIdeal.τ).loc Cert.MergeRouterReferenceIdeal.main_v81) = v0 c
          ∧ r.2.mem ((c.tc : Thread Cert.MergeRouterReferenceIdeal.nD Cert.MergeRouterReferenceIdeal.τ).loc Cert.MergeRouterReferenceIdeal.main_v115) = v1 c
          ∧ r.2.mem ((c.tc : Thread Cert.MergeRouterReferenceIdeal.nD Cert.MergeRouterReferenceIdeal.τ).loc Cert.MergeRouterReferenceIdeal.main_arg0) = m' ((c.tc : Thread Cert.MergeRouterReferenceIdeal.nD Cert.MergeRouterReferenceIdeal.τ).loc Cert.MergeRouterReferenceIdeal.main_arg0)
          ∧ r.2.mem ((c.tc : Thread Cert.MergeRouterReferenceIdeal.nD Cert.MergeRouterReferenceIdeal.τ).loc Cert.MergeRouterReferenceIdeal.main_arg1) = m' ((c.tc : Thread Cert.MergeRouterReferenceIdeal.nD Cert.MergeRouterReferenceIdeal.τ).loc Cert.MergeRouterReferenceIdeal.main_arg1)
          ∧ r.2.mem ((c.tc : Thread Cert.MergeRouterReferenceIdeal.nD Cert.MergeRouterReferenceIdeal.τ).loc Cert.MergeRouterReferenceIdeal.main_arg2) = m' ((c.tc : Thread Cert.MergeRouterReferenceIdeal.nD Cert.MergeRouterReferenceIdeal.τ).loc Cert.MergeRouterReferenceIdeal.main_arg2)
          ∧ r.2.mem ((c.tc : Thread Cert.MergeRouterReferenceIdeal.nD Cert.MergeRouterReferenceIdeal.τ).loc Cert.MergeRouterReferenceIdeal.main_arg3) = m' ((c.tc : Thread Cert.MergeRouterReferenceIdeal.nD Cert.MergeRouterReferenceIdeal.τ).loc Cert.MergeRouterReferenceIdeal.main_arg3)
          ∧ r.2.mem ((c.tc : Thread Cert.MergeRouterReferenceIdeal.nD Cert.MergeRouterReferenceIdeal.τ).loc Cert.MergeRouterReferenceIdeal.main_arg4) = m' ((c.tc : Thread Cert.MergeRouterReferenceIdeal.nD Cert.MergeRouterReferenceIdeal.τ).loc Cert.MergeRouterReferenceIdeal.main_arg4)
          ∧ r.2.mem ((c.tc : Thread Cert.MergeRouterReferenceIdeal.nD Cert.MergeRouterReferenceIdeal.τ).loc Cert.MergeRouterReferenceIdeal.main_arg5) = m' ((c.tc : Thread Cert.MergeRouterReferenceIdeal.nD Cert.MergeRouterReferenceIdeal.τ).loc Cert.MergeRouterReferenceIdeal.main_arg5)
          ∧ r.2.mem ((c.tc : Thread Cert.MergeRouterReferenceIdeal.nD Cert.MergeRouterReferenceIdeal.τ).loc Cert.MergeRouterReferenceIdeal.main_arg6) = m' ((c.tc : Thread Cert.MergeRouterReferenceIdeal.nD Cert.MergeRouterReferenceIdeal.τ).loc Cert.MergeRouterReferenceIdeal.main_arg6)
          ∧ r.2.mem ((c.tc : Thread Cert.MergeRouterReferenceIdeal.nD Cert.MergeRouterReferenceIdeal.τ).loc Cert.MergeRouterReferenceIdeal.main_arg7) = m' ((c.tc : Thread Cert.MergeRouterReferenceIdeal.nD Cert.MergeRouterReferenceIdeal.τ).loc Cert.MergeRouterReferenceIdeal.main_arg7)
          ∧ r.2.mem ((c.tc : Thread Cert.MergeRouterReferenceIdeal.nD Cert.MergeRouterReferenceIdeal.τ).loc Cert.MergeRouterReferenceIdeal.main_arg8) = m' ((c.tc : Thread Cert.MergeRouterReferenceIdeal.nD Cert.MergeRouterReferenceIdeal.τ).loc Cert.MergeRouterReferenceIdeal.main_arg8)
          ∧ r.2.mem ((c.tc : Thread Cert.MergeRouterReferenceIdeal.nD Cert.MergeRouterReferenceIdeal.τ).loc Cert.MergeRouterReferenceIdeal.main_arg9) = m' ((c.tc : Thread Cert.MergeRouterReferenceIdeal.nD Cert.MergeRouterReferenceIdeal.τ).loc Cert.MergeRouterReferenceIdeal.main_arg9)
          ∧ r.2.mem ((c.tc : Thread Cert.MergeRouterReferenceIdeal.nD Cert.MergeRouterReferenceIdeal.τ).loc Cert.MergeRouterReferenceIdeal.main_arg10) = m' ((c.tc : Thread Cert.MergeRouterReferenceIdeal.nD Cert.MergeRouterReferenceIdeal.τ).loc Cert.MergeRouterReferenceIdeal.main_arg10)
          ∧ r.2.mem ((c.tc : Thread Cert.MergeRouterReferenceIdeal.nD Cert.MergeRouterReferenceIdeal.τ).loc Cert.MergeRouterReferenceIdeal.main_arg11) = m' ((c.tc : Thread Cert.MergeRouterReferenceIdeal.nD Cert.MergeRouterReferenceIdeal.τ).loc Cert.MergeRouterReferenceIdeal.main_arg11)
          ∧ r.2.mem ((c.tc : Thread Cert.MergeRouterReferenceIdeal.nD Cert.MergeRouterReferenceIdeal.τ).loc Cert.MergeRouterReferenceIdeal.main_arg12) = m' ((c.tc : Thread Cert.MergeRouterReferenceIdeal.nD Cert.MergeRouterReferenceIdeal.τ).loc Cert.MergeRouterReferenceIdeal.main_arg12)
          ∧ r.2.mem ((c.tc : Thread Cert.MergeRouterReferenceIdeal.nD Cert.MergeRouterReferenceIdeal.τ).loc Cert.MergeRouterReferenceIdeal.main_arg13) = m' ((c.tc : Thread Cert.MergeRouterReferenceIdeal.nD Cert.MergeRouterReferenceIdeal.τ).loc Cert.MergeRouterReferenceIdeal.main_arg13))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hProjection : Cert.Projection.Facts) (hProjectionIdeal : Cert.ProjectionIdeal.Facts) (hProjectionReferenceIdeal : Cert.ProjectionReferenceIdeal.Facts) (hMerge : Cert.Merge.Facts) (hMergeIdeal : Cert.MergeIdeal.Facts) (hMergeReferenceIdeal : Cert.MergeReferenceIdeal.Facts) (hModulation : Cert.Modulation.Facts) (hModulationIdeal : Cert.ModulationIdeal.Facts) (hModulationReferenceIdeal : Cert.ModulationReferenceIdeal.Facts) (hMergeRouter : Cert.MergeRouter.Facts) (hMergeRouterIdeal : Cert.MergeRouterIdeal.Facts) (hMergeRouterReferenceIdeal : Cert.MergeRouterReferenceIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_Dense (hDense := hDense)
    ∧ quiescent_DenseIdeal (hDenseIdeal := hDenseIdeal)
    ∧ quiescent_DenseReferenceIdeal (hDenseReferenceIdeal := hDenseReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_MergeRouter (hMergeRouter := hMergeRouter)
    ∧ quiescent_MergeRouterIdeal (hMergeRouterIdeal := hMergeRouterIdeal)
    ∧ quiescent_MergeRouterReferenceIdeal (hMergeRouterReferenceIdeal := hMergeRouterReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_Dense_DenseIdeal
    ∧ algebraic_DenseIdeal_DenseReferenceIdeal (hDenseIdeal := hDenseIdeal) (hDenseReferenceIdeal := hDenseReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_Merge_MergeIdeal
    ∧ algebraic_MergeIdeal_MergeReferenceIdeal (hMergeIdeal := hMergeIdeal) (hMergeReferenceIdeal := hMergeReferenceIdeal)
    ∧ preserves_Modulation_ModulationIdeal
    ∧ algebraic_ModulationIdeal_ModulationReferenceIdeal (hModulationIdeal := hModulationIdeal) (hModulationReferenceIdeal := hModulationReferenceIdeal)
    ∧ preserves_MergeRouter_MergeRouterIdeal
    ∧ algebraic_MergeRouterIdeal_MergeRouterReferenceIdeal (hMergeRouterIdeal := hMergeRouterIdeal) (hMergeRouterReferenceIdeal := hMergeRouterReferenceIdeal)
-- ==== Pre_finite.lean ====
abbrev S17408x6784 : Shape := ⟨2, ![17408, 6784]⟩
abbrev S4x8x15x31 : Shape := ⟨4, ![4, 8, 15, 31]⟩
abbrev S_ : Shape := ⟨0, ![]⟩

class Facts : Prop where
  bcast_S_S17408x6784 : S_.BroadcastsInDim S17408x6784 (![] : Fin 0 → Fin S17408x6784.rank)
  reducesTo_S17408x6784_S_d0_1 : S17408x6784.ReducesTo [0, 1] S_
  h_S_ : 0 < S_.numel
  bcast_S_S4x8x15x31 : S_.BroadcastsInDim S4x8x15x31 (![] : Fin 0 → Fin S4x8x15x31.rank)
  reducesTo_S4x8x15x31_S_d0_1_2_3 : S4x8x15x31.ReducesTo [0, 1, 2, 3] S_

variable [Facts]

def fn {F : FTy → Type} [FloatOps F] (main_arg0 : FVec F S17408x6784 .bf16) (main_arg1 : FVec F S4x8x15x31 .f32) : IVec S_ 1 :=
  let main_v0 : FVec F S17408x6784 .bf16 := Host.absf main_arg0
  let main_cst : FVec F S_ .bf16 := constant S_ .bf16 0x7F80#16
  let main_v1 : FVec F S17408x6784 .bf16 := broadcastInDim S17408x6784 ![] bcast_S_S17408x6784 main_cst
  let main_v2 : IVec S17408x6784 1 := cmpf .olt main_v0 main_v1
  let main_c : IVec S_ 1 := constantI S_ 1 1#1
  let main_v3 : IVec S_ 1 := (fun x v => Host.reduce IntOp.andi x v reducesTo_S17408x6784_S_d0_1 h_S_) main_v2 main_c
  let main_v4 : FVec F S4x8x15x31 .f32 := Host.absf main_arg1
  let main_cst_0 : FVec F S_ .f32 := constant S_ .f32 0x7F800000#32
  let main_v5 : FVec F S4x8x15x31 .f32 := broadcastInDim S4x8x15x31 ![] bcast_S_S4x8x15x31 main_cst_0
  let main_v6 : IVec S4x8x15x31 1 := cmpf .olt main_v4 main_v5
  let main_c_1 : IVec S_ 1 := constantI S_ 1 1#1
  let main_v7 : IVec S_ 1 := (fun x v => Host.reduce IntOp.andi x v reducesTo_S4x8x15x31_S_d0_1_2_3 h_S_) main_v6 main_c_1
  let main_v8 : IVec S_ 1 := andi main_v3 main_v7
  main_v8
-- ==== Pre_routed.lean ====
abbrev S42 : Shape := ⟨1, ![42]⟩
abbrev S1 : Shape := ⟨1, ![1]⟩
abbrev S43008x1024 : Shape := ⟨2, ![43008, 1024]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S42 : S_.BroadcastsInDim S42 (![] : Fin 0 → Fin S42.rank)
  bcast_S_S1 : S_.BroadcastsInDim S1 (![] : Fin 0 → Fin S1.rank)

variable [Facts]

def fn {F : FTy → Type} [FloatOps F] (main_arg0 : IVec S42 32) (main_arg1 : IVec S1 32) (main_arg2 : FVec F S43008x1024 .f32) (main_arg3 : FVec F S2x8x1024x3584 .f32) (main_arg4 : FVec F S2x8x1024x3584 .f32) (main_arg5 : FVec F S2x8x3584x1024 .f32) : IVec S42 1 × IVec S1 1 :=
  let main_c : IVec S_ 32 := constantI S_ 32 0#32
  let main_v0 : IVec S42 32 := broadcastInDim S42 ![] bcast_S_S42 main_c
  let main_v1 : IVec S42 1 := cmpi .sge main_arg0 main_v0
  let main_c_0 : IVec S_ 32 := constantI S_ 32 8#32
  let main_v2 : IVec S42 32 := broadcastInDim S42 ![] bcast_S_S42 main_c_0
  let main_v3 : IVec S42 1 := cmpi .slt main_arg0 main_v2
  let main_v4 : IVec S42 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 42#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S17408x6784 : Shape := ⟨2, ![17408, 6784]⟩
abbrev S4x8x15x31 : Shape := ⟨4, ![4, 8, 15, 31]⟩
abbrev S4x12 : Shape := ⟨2, ![4, 12]⟩
abbrev S64x64 : Shape := ⟨2, ![64, 64]⟩
abbrev S4x4x12 : Shape := ⟨3, ![4, 4, 12]⟩
abbrev S4x12x1 : Shape := ⟨3, ![4, 12, 1]⟩
abbrev S4x8x4x12x31 : Shape := ⟨5, ![4, 8, 4, 12, 31]⟩
abbrev S64x64x1 : Shape := ⟨3, ![64, 64, 1]⟩
abbrev S4x8x4x12x64x64 : Shape := ⟨6, ![4, 8, 4, 12, 64, 64]⟩
abbrev S4x8x4x64x12x64 : Shape := ⟨6, ![4, 8, 4, 64, 12, 64]⟩
abbrev S_ : Shape := ⟨0, ![]⟩
abbrev S1x1x1x64x1x64 : Shape := ⟨6, ![1, 1, 1, 64, 1, 64]⟩
abbrev S4x8x256x768 : Shape := ⟨4, ![4, 8, 256, 768]⟩
abbrev S4x4x1x12x1 : Shape := ⟨5, ![4, 4, 1, 12, 1]⟩
abbrev S4x4x64x12x64 : Shape := ⟨5, ![4, 4, 64, 12, 64]⟩
abbrev S4x256x768 : Shape := ⟨3, ![4, 256, 768]⟩
abbrev S17408x512 : Shape := ⟨2, ![17408, 512]⟩
abbrev S256x512 : Shape := ⟨2, ![256, 512]⟩
abbrev S1x8x256x768 : Shape := ⟨4, ![1, 8, 256, 768]⟩
abbrev S1x256x768 : Shape := ⟨3, ![1, 256, 768]⟩
abbrev S256x128 : Shape := ⟨2, ![256, 128]⟩
abbrev S256x768 : Shape := ⟨2, ![256, 768]⟩
abbrev S512x128 : Shape := ⟨2, ![512, 128]⟩
abbrev S512x256 : Shape := ⟨2, ![512, 256]⟩
abbrev S512x768 : Shape := ⟨2, ![512, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩

abbrev nBuf : Space → Nat
  | .hbm => 25
  | .vmem => 23
  | .smem => 0
  | _ => 0

abbrev bufTy : (tb : Table) → Fin (tcTables nBuf tb) → BufTy
  | .hbm, ⟨0, _⟩ => ⟨S17408x6784, .bf16⟩
  | .hbm, ⟨1, _⟩ => ⟨S4x8x15x31, .f32⟩
  | .hbm, ⟨2, _⟩ => ⟨S4x12, .i32⟩
  | .hbm, ⟨3, _⟩ => ⟨S64x64, .i32⟩
  | .hbm, ⟨4, _⟩ => ⟨S64x64, .i1⟩
  | .hbm, ⟨5, _⟩ => ⟨S4x4x12, .f32⟩
  | .hbm, ⟨6, _⟩ => ⟨S4x12x1, .i32⟩
  | .hbm, ⟨7, _⟩ => ⟨S4x8x4x12x31, .f32⟩
  | .hbm, ⟨8, _⟩ => ⟨S64x64x1, .i32⟩
  | .hbm, ⟨9, _⟩ => ⟨S4x8x4x12x64x64, .f32⟩
  | .hbm, ⟨10, _⟩ => ⟨S4x8x4x64x12x64, .f32⟩
  | .hbm, ⟨11, _⟩ => ⟨S_, .f32⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S1x1x1x64x1x64, .f32⟩
  | .hbm, ⟨17, _⟩ => ⟨S1x1x1x64x1x64, .f32⟩
  | .hbm, ⟨18, _⟩ => ⟨S4x8x4x64x12x64, .f32⟩
  | .hbm, ⟨19, _⟩ => ⟨S4x8x4x64x12x64, .f32⟩
  | .hbm, ⟨20, _⟩ => ⟨S4x8x256x768, .f32⟩
  | .hbm, ⟨21, _⟩ => ⟨S4x4x1x12x1, .f32⟩
  | .hbm, ⟨22, _⟩ => ⟨S4x4x64x12x64, .f32⟩
  | .hbm, ⟨23, _⟩ => ⟨S4x256x768, .f32⟩
  | .hbm, ⟨24, _⟩ => ⟨S17408x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S1x8x256x768, .f32⟩
  | .local _ .vmem, ⟨19, _⟩ => ⟨S1x256x768, .f32⟩
  | .local _ .vmem, ⟨20, _⟩ => ⟨S1x256x768, .f32⟩
  | .local _ .vmem, ⟨21, _⟩ => ⟨S256x512, .bf16⟩
  | .local _ .vmem, ⟨22, _⟩ => ⟨S256x512, .bf16⟩
  | _, _ => ⟨S17408x6784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_cst_2 : Ref sig .tc := ⟨.hbm, 11, rfl⟩
abbrev main_cst_3 : Ref sig .tc := ⟨.hbm, 12, rfl⟩
abbrev main_call2_v0 : Ref sig .tc := ⟨.hbm, 13, rfl⟩
abbrev main_call2_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c16_i32 : BitVec 32 := 16#32
  let v1 : BitVec 32 := Scalar.muli arg0 c16_i32
  let c4_i32 : BitVec 32 := 4#32
  let v2 : BitVec 32 := Scalar.addi c4_i32 v1
  let v3 : BitVec 32 := Scalar.addi v2 arg1
  let c1_i32 : BitVec 32 := 1#32
  let v4 : BitVec 32 := Scalar.subi v3 c1_i32
  let v5 : BitVec 32 := Scalar.select v0 arg0 v4
  let c10_i32 : BitVec 32 := 10#32
  let c0_i32_0 : BitVec 32 := 0#32
  ![v5.toNat, c10_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c16_i32 : BitVec 32 := 16#32
  let v1 : BitVec 32 := Scalar.muli arg0 c16_i32
  let c4_i32 : BitVec 32 := 4#32
  let v2 : BitVec 32 := Scalar.addi c4_i32 v1
  let c0_i32 : BitVec 32 := 0#32
  let c15_i32 : BitVec 32 := 15#32
  let v3 : BitVec 32 := Scalar.maxsi c0_i32 v0
  let v4 : BitVec 32 := Scalar.minsi c15_i32 v3
  let v5 : BitVec 32 := Scalar.addi v2 v4
  let c11_i32 : BitVec 32 := 11#32
  let c0_i32_0 : BitVec 32 := 0#32
  ![v5.toNat, c11_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c16_i32 : BitVec 32 := 16#32
  let v1 : BitVec 32 := Scalar.muli arg0 c16_i32
  let c4_i32 : BitVec 32 := 4#32
  let v2 : BitVec 32 := Scalar.addi c4_i32 v1
  let c0_i32 : BitVec 32 := 0#32
  let c15_i32 : BitVec 32 := 15#32
  let v3 : BitVec 32 := Scalar.maxsi c0_i32 v0
  let v4 : BitVec 32 := Scalar.minsi c15_i32 v3
  let v5 : BitVec 32 := Scalar.addi v2 v4
  let c11_i32 : BitVec 32 := 11#32
  let c0_i32_0 : BitVec 32 := 0#32
  ![v5.toNat, c11_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.addi c4_i32 v0
  let c0_i32 : BitVec 32 := 0#32
  let c15_i32 : BitVec 32 := 15#32
  let v2 : BitVec 32 := Scalar.maxsi c0_i32 arg1
  let v3 : BitVec 32 := Scalar.minsi c15_i32 v2
  let v4 : BitVec 32 := Scalar.addi v1 v3
  let c11_i32 : BitVec 32 := 11#32
  let c0_i32_0 : BitVec 32 := 0#32
  ![v4.toNat, c11_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c16_i32 : BitVec 32 := 16#32
  let v1 : BitVec 32 := Scalar.muli arg0 c16_i32
  let c4_i32 : BitVec 32 := 4#32
  let v2 : BitVec 32 := Scalar.addi c4_i32 v1
  let c0_i32 : BitVec 32 := 0#32
  let c15_i32 : BitVec 32 := 15#32
  let v3 : BitVec 32 := Scalar.maxsi c0_i32 v0
  let v4 : BitVec 32 := Scalar.minsi c15_i32 v3
  let v5 : BitVec 32 := Scalar.addi v2 v4
  let c12_i32 : BitVec 32 := 12#32
  let c0_i32_0 : BitVec 32 := 0#32
  ![v5.toNat, c12_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c16_i32 : BitVec 32 := 16#32
  let v1 : BitVec 32 := Scalar.muli arg0 c16_i32
  let c4_i32 : BitVec 32 := 4#32
  let v2 : BitVec 32 := Scalar.addi c4_i32 v1
  let c0_i32 : BitVec 32 := 0#32
  let c15_i32 : BitVec 32 := 15#32
  let v3 : BitVec 32 := Scalar.maxsi c0_i32 v0
  let v4 : BitVec 32 := Scalar.minsi c15_i32 v3
  let v5 : BitVec 32 := Scalar.addi v2 v4
  let c12_i32 : BitVec 32 := 12#32
  let c0_i32_0 : BitVec 32 := 0#32
  ![v5.toNat, c12_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.addi c4_i32 v0
  let c0_i32 : BitVec 32 := 0#32
  let c15_i32 : BitVec 32 := 15#32
  let v2 : BitVec 32 := Scalar.maxsi c0_i32 arg1
  let v3 : BitVec 32 := Scalar.minsi c15_i32 v2
  let v4 : BitVec 32 := Scalar.addi v1 v3
  let c12_i32 : BitVec 32 := 12#32
  let c0_i32_0 : BitVec 32 := 0#32
  ![v4.toNat, c12_i32.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, c12_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let c16_i32 : BitVec 32 := 16#32
  let v2 : BitVec 1 := Scalar.cmpi .eq arg1 c16_i32
  let c2_i32 : BitVec 32 := 2#32
  let c1_i32_0 : BitVec 32 := 1#32
  let v3 : BitVec 32 := Scalar.select v2 c2_i32 c1_i32_0
  let c0_i32_1 : BitVec 32 := 0#32
  let v4 : BitVec 32 := Scalar.select v1 c0_i32_1 v3
  let c3_i32 : BitVec 32 := 3#32
  let v5 : BitVec 32 := Scalar.select v0 c3_i32 v4
  let c0_i32_2 : BitVec 32 := 0#32
  let c0_i32_3 : BitVec 32 := 0#32
  let c0_i32_4 : BitVec 32 := 0#32
  ![v5.toNat, c0_i32_2.toNat, c0_i32_3.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c16_i32 : BitVec 32 := 16#32
  let v1 : BitVec 32 := Scalar.muli arg0 c16_i32
  let c4_i32 : BitVec 32 := 4#32
  let v2 : BitVec 32 := Scalar.addi c4_i32 v1
  let v3 : BitVec 32 := Scalar.addi v2 arg1
  let c1_i32 : BitVec 32 := 1#32
  let v4 : BitVec 32 := Scalar.subi v3 c1_i32
  let v5 : BitVec 32 := Scalar.select v0 arg0 v4
  let c0_i32_0 : BitVec 32 := 0#32
  let c0_i32_1 : BitVec 32 := 0#32
  ![v5.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x8x256x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S17408x6784 : Shape := ⟨2, ![17408, 6784]⟩
abbrev S4x8x15x31 : Shape := ⟨4, ![4, 8, 15, 31]⟩
abbrev S17408x512 : Shape := ⟨2, ![17408, 512]⟩
abbrev S1024x512 : Shape := ⟨2, ![1024, 512]⟩
abbrev S4x256x8x64 : Shape := ⟨4, ![4, 256, 8, 64]⟩
abbrev S4x8x256x64 : Shape := ⟨4, ![4, 8, 256, 64]⟩
abbrev S16384x512 : Shape := ⟨2, ![16384, 512]⟩
abbrev S4x4096x8x64 : Shape := ⟨4, ![4, 4096, 8, 64]⟩
abbrev S4x8x4096x64 : Shape := ⟨4, ![4, 8, 4096, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x8x15x31 : Shape := ⟨4, ![1, 8, 15, 31]⟩
abbrev S8x15x31 : Shape := ⟨3, ![8, 15, 31]⟩
abbrev S64x64x1 : Shape := ⟨3, ![64, 64, 1]⟩
abbrev S8x64x64x31 : Shape := ⟨4, ![8, 64, 64, 31]⟩
abbrev S8x64x64x64x64 : Shape := ⟨5, ![8, 64, 64, 64, 64]⟩
abbrev S1x64x64x1x1 : Shape := ⟨5, ![1, 64, 64, 1, 1]⟩
abbrev S1x1x1x64x64 : Shape := ⟨5, ![1, 1, 1, 64, 64]⟩
abbrev S1x64x64x64x64 : Shape := ⟨5, ![1, 64, 64, 64, 64]⟩
abbrev S8x4096x4096 : Shape := ⟨3, ![8, 4096, 4096]⟩
abbrev S4x8x4096x4096 : Shape := ⟨4, ![4, 8, 4096, 4096]⟩
abbrev S1x8x4096x4096 : Shape := ⟨4, ![1, 8, 4096, 4096]⟩
abbrev S4x8x4096x256 : Shape := ⟨4, ![4, 8, 4096, 256]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S4x8x256x256 : Shape := ⟨4, ![4, 8, 256, 256]⟩
abbrev S4x8x256 : Shape := ⟨3, ![4, 8, 256]⟩
abbrev S4x8x256x1 : Shape := ⟨4, ![4, 8, 256, 1]⟩

abbrev nBuf : Space → Nat
  | .hbm => 186
  | .vmem => 0
  | .smem => 0
  | _ => 0

abbrev hbmTy0_0 (i : Nat) : BufTy := match i % 128 with
  | 0 => ⟨S17408x6784, .bf16⟩
  | 1 => ⟨S4x8x15x31, .f32⟩
  | 2 => ⟨S17408x512, .bf16⟩
  | 3 => ⟨S17408x512, .bf16⟩
  | 4 => ⟨S17408x512, .bf16⟩
  | 5 => ⟨S1024x512, .bf16⟩
  | 6 => ⟨S1024x512, .f32⟩
  | 7 => ⟨S4x256x8x64, .f32⟩
  | 8 => ⟨S4x8x256x64, .f32⟩
  | 9 => ⟨S1024x512, .bf16⟩
  | 10 => ⟨S1024x512, .f32⟩
  | 11 => ⟨S4x256x8x64, .f32⟩
  | 12 => ⟨S4x8x256x64, .f32⟩
  | 13 => ⟨S1024x512, .bf16⟩
  | 14 => ⟨S1024x512, .f32⟩
  | 15 => ⟨S4x256x8x64, .f32⟩
  | 16 => ⟨S4x8x256x64, .f32⟩
  | 17 => ⟨S16384x512, .bf16⟩
  | 18 => ⟨S16384x512, .f32⟩
  | 19 => ⟨S4x4096x8x64, .f32⟩
  | 20 => ⟨S4x8x4096x64, .f32⟩
  | 21 => ⟨S16384x512, .bf16⟩
  | 22 => ⟨S16384x512, .f32⟩
  | 23 => ⟨S4x4096x8x64, .f32⟩
  | 24 => ⟨S4x8x4096x64, .f32⟩
  | 25 => ⟨S16384x512, .bf16⟩
  | 26 => ⟨S16384x512, .f32⟩
  | 27 => ⟨S4x4096x8x64, .f32⟩
  | 28 => ⟨S4x8x4096x64, .f32⟩
  | 29 => ⟨S64, .i32⟩
  | 30 => ⟨S_, .i32⟩
  | 31 => ⟨S64, .i32⟩
  | 32 => ⟨S64, .i32⟩
  | 33 => ⟨S_, .i32⟩
  | 34 => ⟨S_, .i32⟩
  | 35 => ⟨S_, .i32⟩
  | 36 => ⟨S64, .i32⟩
  | 37 => ⟨S64, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S_, .i32⟩
  | 45 => ⟨S_, .i32⟩
  | 46 => ⟨S_, .i32⟩
  | 47 => ⟨S64, .i32⟩
  | 48 => ⟨S64, .i32⟩
  | 49 => ⟨S_, .i32⟩
  | 50 => ⟨S64, .i32⟩
  | 51 => ⟨S64, .i32⟩
  | 52 => ⟨S1x64, .i32⟩
  | 53 => ⟨S64x1, .i32⟩
  | 54 => ⟨S64x64, .i32⟩
  | 55 => ⟨S64x64, .i32⟩
  | 56 => ⟨S64x64, .i1⟩
  | 57 => ⟨S1x64, .i32⟩
  | 58 => ⟨S64x1, .i32⟩
  | 59 => ⟨S_, .i32⟩
  | 60 => ⟨S64x1, .i32⟩
  | 61 => ⟨S64x1, .i32⟩
  | 62 => ⟨S64x64, .i32⟩
  | 63 => ⟨S64x64, .i32⟩
  | 64 => ⟨S64x64, .i1⟩
  | 65 => ⟨S64x64, .i1⟩
  | 66 => ⟨S1x64, .i32⟩
  | 67 => ⟨S64x1, .i32⟩
  | 68 => ⟨S64x64, .i32⟩
  | 69 => ⟨S64x64, .i32⟩
  | 70 => ⟨S64x64, .i1⟩
  | 71 => ⟨S1x64, .i32⟩
  | 72 => ⟨S64x1, .i32⟩
  | 73 => ⟨S_, .i32⟩
  | 74 => ⟨S64x1, .i32⟩
  | 75 => ⟨S64x1, .i32⟩
  | 76 => ⟨S64x64, .i32⟩
  | 77 => ⟨S64x64, .i32⟩
  | 78 => ⟨S64x64, .i1⟩
  | 79 => ⟨S64x64, .i1⟩
  | 80 => ⟨S1x64, .i32⟩
  | 81 => ⟨S64x1, .i32⟩
  | 82 => ⟨S64x64, .i32⟩
  | 83 => ⟨S64x64, .i32⟩
  | 84 => ⟨S64x64, .i32⟩
  | 85 => ⟨S_, .i32⟩
  | 86 => ⟨S64x64, .i32⟩
  | 87 => ⟨S64x64, .i32⟩
  | 88 => ⟨S_, .i32⟩
  | 89 => ⟨S_, .i32⟩
  | 90 => ⟨S_, .i32⟩
  | 91 => ⟨S64x64, .i32⟩
  | 92 => ⟨S64x64, .i32⟩
  | 93 => ⟨S_, .i32⟩
  | 94 => ⟨S64x64, .i32⟩
  | 95 => ⟨S64x64, .i32⟩
  | 96 => ⟨S1x64, .i32⟩
  | 97 => ⟨S64x1, .i32⟩
  | 98 => ⟨S64x64, .i32⟩
  | 99 => ⟨S64x64, .i32⟩
  | 100 => ⟨S64x64, .i32⟩
  | 101 => ⟨S_, .i32⟩
  | 102 => ⟨S64x64, .i32⟩
  | 103 => ⟨S64x64, .i32⟩
  | 104 => ⟨S_, .i32⟩
  | 105 => ⟨S_, .i32⟩
  | 106 => ⟨S_, .i32⟩
  | 107 => ⟨S64x64, .i32⟩
  | 108 => ⟨S64x64, .i32⟩
  | 109 => ⟨S_, .i32⟩
  | 110 => ⟨S64x64, .i32⟩
  | 111 => ⟨S64x64, .i32⟩
  | 112 => ⟨S1x8x15x31, .f32⟩
  | 113 => ⟨S8x15x31, .f32⟩
  | 114 => ⟨S64x64x1, .i32⟩
  | 115 => ⟨S8x64x64x31, .f32⟩
  | 116 => ⟨S64x64x1, .i32⟩
  | 117 => ⟨S8x64x64x64x64, .f32⟩
  | 118 => ⟨S1x64x64x1x1, .i1⟩
  | 119 => ⟨S1x1x1x64x64, .i1⟩
  | 120 => ⟨S1x64x64x64x64, .i1⟩
  | 121 => ⟨S1x64x64x64x64, .i1⟩
  | 122 => ⟨S1x64x64x64x64, .i1⟩
  | 123 => ⟨S_, .f32⟩
  | 124 => ⟨S_, .f32⟩
  | 125 => ⟨S8x64x64x64x64, .i1⟩
  | 126 => ⟨S8x64x64x64x64, .f32⟩
  | 127 => ⟨S8x64x64x64x64, .f32⟩
  | _ => ⟨S17408x6784, .bf16⟩

abbrev hbmTy0_1 (i : Nat) : BufTy := match i % 128 with
  | 0 => ⟨S8x64x64x64x64, .f32⟩
  | 1 => ⟨S8x4096x4096, .f32⟩
  | 2 => ⟨S4x8x4096x4096, .f32⟩
  | 3 => ⟨S_, .f32⟩
  | 4 => ⟨S4x8x4096x4096, .f32⟩
  | 5 => ⟨S4x8x4096x4096, .f32⟩
  | 6 => ⟨S1x8x4096x4096, .f32⟩
  | 7 => ⟨S4x8x4096x4096, .f32⟩
  | 8 => ⟨S4x8x4096x4096, .f32⟩
  | 9 => ⟨S4x8x4096x256, .f32⟩
  | 10 => ⟨S_, .f32⟩
  | 11 => ⟨S4x8x4096x256, .f32⟩
  | 12 => ⟨S4x8x4096x256, .f32⟩
  | 13 => ⟨S4x8x4096x4352, .f32⟩
  | 14 => ⟨S_, .f32⟩
  | 15 => ⟨S4x8x4096, .f32⟩
  | 16 => ⟨S_, .f32⟩
  | 17 => ⟨S4x8x4096, .f32⟩
  | 18 => ⟨S4x8x4096, .f32⟩
  | 19 => ⟨S4x8x4096x1, .f32⟩
  | 20 => ⟨S4x8x4096x4352, .f32⟩
  | 21 => ⟨S4x8x4096x4352, .f32⟩
  | 22 => ⟨S4x8x4096x4352, .f32⟩
  | 23 => ⟨S_, .f32⟩
  | 24 => ⟨S4x8x4096, .f32⟩
  | 25 => ⟨S4x8x4096x1, .f32⟩
  | 26 => ⟨S4x8x4096x4352, .f32⟩
  | 27 => ⟨S4x8x4096x4352, .f32⟩
  | 28 => ⟨S4x8x4096x4096, .f32⟩
  | 29 => ⟨S4x8x4096x64, .f32⟩
  | 30 => ⟨S4x8x4096x256, .f32⟩
  | 31 => ⟨S4x8x4096x64, .f32⟩
  | 32 => ⟨S4x8x4096x64, .f32⟩
  | 33 => ⟨S4x8x256x256, .f32⟩
  | 34 => ⟨S_, .f32⟩
  | 35 => ⟨S4x8x256x256, .f32⟩
  | 36 => ⟨S4x8x256x256, .f32⟩
  | 37 => ⟨S_, .f32⟩
  | 38 => ⟨S4x8x256, .f32⟩
  | 39 => ⟨S_, .f32⟩
  | 40 => ⟨S4x8x256, .f32⟩
  | 41 => ⟨S4x8x256, .f32⟩
  | 42 => ⟨S4x8x256x1, .f32⟩
  | 43 => ⟨S4x8x256x256, .f32⟩
  | 44 => ⟨S4x8x256x256, .f32⟩
  | 45 => ⟨S4x8x256x256, .f32⟩
  | 46 => ⟨S_, .f32⟩
  | 47 => ⟨S4x8x256, .f32⟩
  | 48 => ⟨S4x8x256x1, .f32⟩
  | 49 => ⟨S4x8x256x256, .f32⟩
  | 50 => ⟨S4x8x256x256, .f32⟩
  | 51 => ⟨S4x8x256x64, .f32⟩
  | 52 => ⟨S4x256x8x64, .f32⟩
  | 53 => ⟨S1024x512, .f32⟩
  | 54 => ⟨S4x4096x8x64, .f32⟩
  | 55 => ⟨S16384x512, .f32⟩
  | 56 => ⟨S17408x512, .f32⟩
  | 57 => ⟨S17408x512, .bf16⟩
  | _ => ⟨S17408x6784, .bf16⟩

abbrev hbmTy (i : Nat) : BufTy := match i / 128 with
  | 0 => hbmTy0_0 i
  | 1 => hbmTy0_1 i
  | _ => ⟨S17408x6784, .bf16⟩

abbrev bufTy : (tb : Table) → Fin (tcTables nBuf tb) → BufTy
  | .hbm, ⟨i, _⟩ => hbmTy i
  | _, _ => ⟨S17408x6784, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_c : Ref sig .tc := ⟨.hbm, 30, rfl⟩
abbrev main_v28 : Ref sig .tc := ⟨.hbm, 31, rfl⟩
abbrev main_v29 : Ref sig .tc := ⟨.hbm, 32, rfl⟩
abbrev main_c_0 : Ref sig .tc := ⟨.hbm, 33, rfl⟩
abbrev main_c_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_7 : Ref sig .tc := ⟨.hbm, 85, rfl⟩
abbrev main_v65 : Ref sig .tc := ⟨.hbm, 86, rfl⟩
abbrev main_v66 : Ref sig .tc := ⟨.hbm, 87, rfl⟩
abbrev main_c_8 : Ref sig .tc := ⟨.hbm, 88, rfl⟩
abbrev main_c_9 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_10 : Ref sig .tc := ⟨.hbm, 101, rfl⟩
abbrev main_v73 : Ref sig .tc := ⟨.hbm, 102, rfl⟩
abbrev main_v74 : Ref sig .tc := ⟨.hbm, 103, rfl⟩
abbrev main_c_11 : Ref sig .tc := ⟨.hbm, 104, rfl⟩
abbrev main_c_12 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call4_v0 : Ref sig .tc := ⟨.hbm, 114, rfl⟩
abbrev main_v78 : Ref sig .tc := ⟨.hbm, 115, rfl⟩
abbrev main_call5_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_13 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_14 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_15 : Ref sig .tc := ⟨.hbm, 142, rfl⟩
abbrev main_v98 : Ref sig .tc := ⟨.hbm, 143, rfl⟩
abbrev main_cst_16 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_17 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_18 : Ref sig .tc := ⟨.hbm, 162, rfl⟩
abbrev main_v115 : Ref sig .tc := ⟨.hbm, 163, rfl⟩
abbrev main_v116 : Ref sig .tc := ⟨.hbm, 164, rfl⟩
abbrev main_cst_19 : Ref sig .tc := ⟨.hbm, 165, rfl⟩
abbrev main_v117 : Ref sig .tc := ⟨.hbm, 166, rfl⟩
abbrev main_cst_20 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_21 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]
-- ==== Experts.lean ====
abbrev S42 : Shape := ⟨1, ![42]⟩
abbrev S1 : Shape := ⟨1, ![1]⟩
abbrev S43008x1024 : Shape := ⟨2, ![43008, 1024]⟩
abbrev S2x8x1024x3584 : Shape := ⟨4, ![2, 8, 1024, 3584]⟩
abbrev S2x8x3584x1024 : Shape := ⟨4, ![2, 8, 3584, 1024]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S43008x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S43008x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S42, .i32⟩
  | .local _ .smem, ⟨1, _⟩ => ⟨S1, .i32⟩
  | _, _ => ⟨S43008x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![42, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c0_i32_21 : BitVec 32 := 0#32
  let v30 : BitVec 1 := Scalar.cmpi .eq arg1 c0_i32_21
  let v31 : BitVec 32 := Scalar.extui v30
  let c0_i32_22 : BitVec 32 := 0#32
  let v32 : BitVec 1 := Scalar.cmpi .ne v31 c0_i32_22
  v32

def k0_cond4 (i : grid0.Coords) : BitVec 1 :=
  let arg1 : BitVec 32 := BitVec.ofNat 32 (i 1).val
  let c0_i32_23 : BitVec 32 := 0#32
  let v33 : BitVec 1 := Scalar.cmpi .sgt arg1 c0_i32_23
  let v34 : BitVec 32 := Scalar.extui v33
  let c0_i32_24 : BitVec 32 := 0#32
  let v35 : BitVec 1 := Scalar.cmpi .ne v34 c0_i32_24
  v35

def k0_cond5 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S42 : Shape := ⟨1, ![42]⟩
abbrev S1 : Shape := ⟨1, ![1]⟩
abbrev S43008x1024 : Shape := ⟨2, ![43008, 1024]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S42x1 : Shape := ⟨2, ![42, 1]⟩
abbrev S42x1024 : Shape := ⟨2, ![42, 1024]⟩
abbrev S43008 : Shape := ⟨1, ![43008]⟩
abbrev S1x1x1024x3584 : Shape := ⟨4, ![1, 1, 1024, 3584]⟩
abbrev S1024x3584 : Shape := ⟨2, ![1024, 3584]⟩
abbrev S43008x3584 : Shape := ⟨2, ![43008, 3584]⟩
abbrev S1x1x3584x1024 : Shape := ⟨4, ![1, 1, 3584, 1024]⟩
abbrev S3584x1024 : Shape := ⟨2, ![3584, 1024]⟩
abbrev S43008x1 : Shape := ⟨2, ![43008, 1]⟩

abbrev nBuf : Space → Nat
  | .hbm => 251
  | .vmem => 0
  | .smem => 0
  | _ => 0

abbrev hbmTy0_0 (i : Nat) : BufTy := match i % 128 with
  | 0 => ⟨S42, .i32⟩
  | 1 => ⟨S1, .i32⟩
  | 2 => ⟨S43008x1024, .f32⟩
  | 3 => ⟨S2x8x1024x3584, .f32⟩
  | 4 => ⟨S2x8x1024x3584, .f32⟩
  | 5 => ⟨S2x8x3584x1024, .f32⟩
  | 6 => ⟨S42, .i32⟩
  | 7 => ⟨S_, .i32⟩
  | 8 => ⟨S42, .i32⟩
  | 9 => ⟨S42, .i1⟩
  | 10 => ⟨S_, .i32⟩
  | 11 => ⟨S_, .i32⟩
  | 12 => ⟨S42, .i32⟩
  | 13 => ⟨S42, .i32⟩
  | 14 => ⟨S42x1, .i32⟩
  | 15 => ⟨S42x1024, .i32⟩
  | 16 => ⟨S43008, .i32⟩
  | 17 => ⟨S_, .f32⟩
  | 18 => ⟨S43008x1024, .f32⟩
  | 19 => ⟨S1x1x1024x3584, .f32⟩
  | 20 => ⟨S1024x3584, .f32⟩
  | 21 => ⟨S43008x3584, .f32⟩
  | 22 => ⟨S43008x3584, .f32⟩
  | 23 => ⟨S43008x3584, .f32⟩
  | 24 => ⟨S_, .f32⟩
  | 25 => ⟨S43008x3584, .f32⟩
  | 26 => ⟨S43008x3584, .f32⟩
  | 27 => ⟨S_, .f32⟩
  | 28 => ⟨S43008x3584, .f32⟩
  | 29 => ⟨S43008x3584, .f32⟩
  | 30 => ⟨S43008x3584, .f32⟩
  | 31 => ⟨S1x1x1024x3584, .f32⟩
  | 32 => ⟨S1024x3584, .f32⟩
  | 33 => ⟨S43008x3584, .f32⟩
  | 34 => ⟨S43008x3584, .f32⟩
  | 35 => ⟨S1x1x3584x1024, .f32⟩
  | 36 => ⟨S3584x1024, .f32⟩
  | 37 => ⟨S43008x1024, .f32⟩
  | 38 => ⟨S_, .i32⟩
  | 39 => ⟨S43008, .i32⟩
  | 40 => ⟨S43008, .i1⟩
  | 41 => ⟨S43008x1, .i1⟩
  | 42 => ⟨S_, .f32⟩
  | 43 => ⟨S_, .f32⟩
  | 44 => ⟨S43008x1024, .i1⟩
  | 45 => ⟨S43008x1024, .f32⟩
  | 46 => ⟨S43008x1024, .f32⟩
  | 47 => ⟨S43008x1024, .f32⟩
  | 48 => ⟨S1x1x1024x3584, .f32⟩
  | 49 => ⟨S1024x3584, .f32⟩
  | 50 => ⟨S43008x3584, .f32⟩
  | 51 => ⟨S43008x3584, .f32⟩
  | 52 => ⟨S43008x3584, .f32⟩
  | 53 => ⟨S_, .f32⟩
  | 54 => ⟨S43008x3584, .f32⟩
  | 55 => ⟨S43008x3584, .f32⟩
  | 56 => ⟨S_, .f32⟩
  | 57 => ⟨S43008x3584, .f32⟩
  | 58 => ⟨S43008x3584, .f32⟩
  | 59 => ⟨S43008x3584, .f32⟩
  | 60 => ⟨S1x1x1024x3584, .f32⟩
  | 61 => ⟨S1024x3584, .f32⟩
  | 62 => ⟨S43008x3584, .f32⟩
  | 63 => ⟨S43008x3584, .f32⟩
  | 64 => ⟨S1x1x3584x1024, .f32⟩
  | 65 => ⟨S3584x1024, .f32⟩
  | 66 => ⟨S43008x1024, .f32⟩
  | 67 => ⟨S_, .i32⟩
  | 68 => ⟨S43008, .i32⟩
  | 69 => ⟨S43008, .i1⟩
  | 70 => ⟨S43008x1, .i1⟩
  | 71 => ⟨S_, .f32⟩
  | 72 => ⟨S_, .f32⟩
  | 73 => ⟨S43008x1024, .i1⟩
  | 74 => ⟨S43008x1024, .f32⟩
  | 75 => ⟨S43008x1024, .f32⟩
  | 76 => ⟨S43008x1024, .f32⟩
  | 77 => ⟨S1x1x1024x3584, .f32⟩
  | 78 => ⟨S1024x3584, .f32⟩
  | 79 => ⟨S43008x3584, .f32⟩
  | 80 => ⟨S43008x3584, .f32⟩
  | 81 => ⟨S43008x3584, .f32⟩
  | 82 => ⟨S_, .f32⟩
  | 83 => ⟨S43008x3584, .f32⟩
  | 84 => ⟨S43008x3584, .f32⟩
  | 85 => ⟨S_, .f32⟩
  | 86 => ⟨S43008x3584, .f32⟩
  | 87 => ⟨S43008x3584, .f32⟩
  | 88 => ⟨S43008x3584, .f32⟩
  | 89 => ⟨S1x1x1024x3584, .f32⟩
  | 90 => ⟨S1024x3584, .f32⟩
  | 91 => ⟨S43008x3584, .f32⟩
  | 92 => ⟨S43008x3584, .f32⟩
  | 93 => ⟨S1x1x3584x1024, .f32⟩
  | 94 => ⟨S3584x1024, .f32⟩
  | 95 => ⟨S43008x1024, .f32⟩
  | 96 => ⟨S_, .i32⟩
  | 97 => ⟨S43008, .i32⟩
  | 98 => ⟨S43008, .i1⟩
  | 99 => ⟨S43008x1, .i1⟩
  | 100 => ⟨S_, .f32⟩
  | 101 => ⟨S_, .f32⟩
  | 102 => ⟨S43008x1024, .i1⟩
  | 103 => ⟨S43008x1024, .f32⟩
  | 104 => ⟨S43008x1024, .f32⟩
  | 105 => ⟨S43008x1024, .f32⟩
  | 106 => ⟨S1x1x1024x3584, .f32⟩
  | 107 => ⟨S1024x3584, .f32⟩
  | 108 => ⟨S43008x3584, .f32⟩
  | 109 => ⟨S43008x3584, .f32⟩
  | 110 => ⟨S43008x3584, .f32⟩
  | 111 => ⟨S_, .f32⟩
  | 112 => ⟨S43008x3584, .f32⟩
  | 113 => ⟨S43008x3584, .f32⟩
  | 114 => ⟨S_, .f32⟩
  | 115 => ⟨S43008x3584, .f32⟩
  | 116 => ⟨S43008x3584, .f32⟩
  | 117 => ⟨S43008x3584, .f32⟩
  | 118 => ⟨S1x1x1024x3584, .f32⟩
  | 119 => ⟨S1024x3584, .f32⟩
  | 120 => ⟨S43008x3584, .f32⟩
  | 121 => ⟨S43008x3584, .f32⟩
  | 122 => ⟨S1x1x3584x1024, .f32⟩
  | 123 => ⟨S3584x1024, .f32⟩
  | 124 => ⟨S43008x1024, .f32⟩
  | 125 => ⟨S_, .i32⟩
  | 126 => ⟨S43008, .i32⟩
  | 127 => ⟨S43008, .i1⟩
  | _ => ⟨S42, .i32⟩

abbrev hbmTy0_1 (i : Nat) : BufTy := match i % 128 with
  | 0 => ⟨S43008x1, .i1⟩
  | 1 => ⟨S_, .f32⟩
  | 2 => ⟨S_, .f32⟩
  | 3 => ⟨S43008x1024, .i1⟩
  | 4 => ⟨S43008x1024, .f32⟩
  | 5 => ⟨S43008x1024, .f32⟩
  | 6 => ⟨S43008x1024, .f32⟩
  | 7 => ⟨S1x1x1024x3584, .f32⟩
  | 8 => ⟨S1024x3584, .f32⟩
  | 9 => ⟨S43008x3584, .f32⟩
  | 10 => ⟨S43008x3584, .f32⟩
  | 11 => ⟨S43008x3584, .f32⟩
  | 12 => ⟨S_, .f32⟩
  | 13 => ⟨S43008x3584, .f32⟩
  | 14 => ⟨S43008x3584, .f32⟩
  | 15 => ⟨S_, .f32⟩
  | 16 => ⟨S43008x3584, .f32⟩
  | 17 => ⟨S43008x3584, .f32⟩
  | 18 => ⟨S43008x3584, .f32⟩
  | 19 => ⟨S1x1x1024x3584, .f32⟩
  | 20 => ⟨S1024x3584, .f32⟩
  | 21 => ⟨S43008x3584, .f32⟩
  | 22 => ⟨S43008x3584, .f32⟩
  | 23 => ⟨S1x1x3584x1024, .f32⟩
  | 24 => ⟨S3584x1024, .f32⟩
  | 25 => ⟨S43008x1024, .f32⟩
  | 26 => ⟨S_, .i32⟩
  | 27 => ⟨S43008, .i32⟩
  | 28 => ⟨S43008, .i1⟩
  | 29 => ⟨S43008x1, .i1⟩
  | 30 => ⟨S_, .f32⟩
  | 31 => ⟨S_, .f32⟩
  | 32 => ⟨S43008x1024, .i1⟩
  | 33 => ⟨S43008x1024, .f32⟩
  | 34 => ⟨S43008x1024, .f32⟩
  | 35 => ⟨S43008x1024, .f32⟩
  | 36 => ⟨S1x1x1024x3584, .f32⟩
  | 37 => ⟨S1024x3584, .f32⟩
  | 38 => ⟨S43008x3584, .f32⟩
  | 39 => ⟨S43008x3584, .f32⟩
  | 40 => ⟨S43008x3584, .f32⟩
  | 41 => ⟨S_, .f32⟩
  | 42 => ⟨S43008x3584, .f32⟩
  | 43 => ⟨S43008x3584, .f32⟩
  | 44 => ⟨S_, .f32⟩
  | 45 => ⟨S43008x3584, .f32⟩
  | 46 => ⟨S43008x3584, .f32⟩
  | 47 => ⟨S43008x3584, .f32⟩
  | 48 => ⟨S1x1x1024x3584, .f32⟩
  | 49 => ⟨S1024x3584, .f32⟩
  | 50 => ⟨S43008x3584, .f32⟩
  | 51 => ⟨S43008x3584, .f32⟩
  | 52 => ⟨S1x1x3584x1024, .f32⟩
  | 53 => ⟨S3584x1024, .f32⟩
  | 54 => ⟨S43008x1024, .f32⟩
  | 55 => ⟨S_, .i32⟩
  | 56 => ⟨S43008, .i32⟩
  | 57 => ⟨S43008, .i1⟩
  | 58 => ⟨S43008x1, .i1⟩
  | 59 => ⟨S_, .f32⟩
  | 60 => ⟨S_, .f32⟩
  | 61 => ⟨S43008x1024, .i1⟩
  | 62 => ⟨S43008x1024, .f32⟩
  | 63 => ⟨S43008x1024, .f32⟩
  | 64 => ⟨S43008x1024, .f32⟩
  | 65 => ⟨S1x1x1024x3584, .f32⟩
  | 66 => ⟨S1024x3584, .f32⟩
  | 67 => ⟨S43008x3584, .f32⟩
  | 68 => ⟨S43008x3584, .f32⟩
  | 69 => ⟨S43008x3584, .f32⟩
  | 70 => ⟨S_, .f32⟩
  | 71 => ⟨S43008x3584, .f32⟩
  | 72 => ⟨S43008x3584, .f32⟩
  | 73 => ⟨S_, .f32⟩
  | 74 => ⟨S43008x3584, .f32⟩
  | 75 => ⟨S43008x3584, .f32⟩
  | 76 => ⟨S43008x3584, .f32⟩
  | 77 => ⟨S1x1x1024x3584, .f32⟩
  | 78 => ⟨S1024x3584, .f32⟩
  | 79 => ⟨S43008x3584, .f32⟩
  | 80 => ⟨S43008x3584, .f32⟩
  | 81 => ⟨S1x1x3584x1024, .f32⟩
  | 82 => ⟨S3584x1024, .f32⟩
  | 83 => ⟨S43008x1024, .f32⟩
  | 84 => ⟨S_, .i32⟩
  | 85 => ⟨S43008, .i32⟩
  | 86 => ⟨S43008, .i1⟩
  | 87 => ⟨S43008x1, .i1⟩
  | 88 => ⟨S_, .f32⟩
  | 89 => ⟨S_, .f32⟩
  | 90 => ⟨S43008x1024, .i1⟩
  | 91 => ⟨S43008x1024, .f32⟩
  | 92 => ⟨S43008x1024, .f32⟩
  | 93 => ⟨S43008x1024, .f32⟩
  | 94 => ⟨S1x1x1024x3584, .f32⟩
  | 95 => ⟨S1024x3584, .f32⟩
  | 96 => ⟨S43008x3584, .f32⟩
  | 97 => ⟨S43008x3584, .f32⟩
  | 98 => ⟨S43008x3584, .f32⟩
  | 99 => ⟨S_, .f32⟩
  | 100 => ⟨S43008x3584, .f32⟩
  | 101 => ⟨S43008x3584, .f32⟩
  | 102 => ⟨S_, .f32⟩
  | 103 => ⟨S43008x3584, .f32⟩
  | 104 => ⟨S43008x3584, .f32⟩
  | 105 => ⟨S43008x3584, .f32⟩
  | 106 => ⟨S1x1x1024x3584, .f32⟩
  | 107 => ⟨S1024x3584, .f32⟩
  | 108 => ⟨S43008x3584, .f32⟩
  | 109 => ⟨S43008x3584, .f32⟩
  | 110 => ⟨S1x1x3584x1024, .f32⟩
  | 111 => ⟨S3584x1024, .f32⟩
  | 112 => ⟨S43008x1024, .f32⟩
  | 113 => ⟨S_, .i32⟩
  | 114 => ⟨S43008, .i32⟩
  | 115 => ⟨S43008, .i1⟩
  | 116 => ⟨S43008x1, .i1⟩
  | 117 => ⟨S_, .f32⟩
  | 118 => ⟨S_, .f32⟩
  | 119 => ⟨S43008x1024, .i1⟩
  | 120 => ⟨S43008x1024, .f32⟩
  | 121 => ⟨S43008x1024, .f32⟩
  | 122 => ⟨S43008x1024, .f32⟩
  | _ => ⟨S42, .i32⟩

abbrev hbmTy (i : Nat) : BufTy := match i / 128 with
  | 0 => hbmTy0_0 i
  | 1 => hbmTy0_1 i
  | _ => ⟨S42, .i32⟩

abbrev bufTy : (tb : Table) → Fin (tcTables nBuf tb) → BufTy
  | .hbm, ⟨i, _⟩ => hbmTy i
  | _, _ => ⟨S42, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call3_v0 : Ref sig .tc := ⟨.hbm, 51, rfl⟩
abbrev main_call3_v1 : Ref sig .tc := ⟨.hbm, 52, rfl⟩
abbrev main_call3_cst : Ref sig .tc := ⟨.hbm, 53, rfl⟩
abbrev main_call3_v2 : Ref sig .tc := ⟨.hbm, 54, rfl⟩
abbrev main_call3_v3 : Ref sig .tc := ⟨.hbm, 55, rfl⟩
abbrev main_call3_cst_0 : Ref sig .tc := ⟨.hbm, 56, rfl⟩
abbrev main_call3_v4 : Ref sig .tc := ⟨.hbm, 57, rfl⟩
abbrev main_call3_v5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_2 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_3 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call5_v0 : Ref sig .tc := ⟨.hbm, 80, rfl⟩
abbrev main_call5_v1 : Ref sig .tc := ⟨.hbm, 81, rfl⟩
abbrev main_call5_cst : Ref sig .tc := ⟨.hbm, 82, rfl⟩
abbrev main_call5_v2 : Ref sig .tc := ⟨.hbm, 83, rfl⟩
abbrev main_call5_v3 : Ref sig .tc := ⟨.hbm, 84, rfl⟩
abbrev main_call5_cst_0 : Ref sig .tc := ⟨.hbm, 85, rfl⟩
abbrev main_call5_v4 : Ref sig .tc := ⟨.hbm, 86, rfl⟩
abbrev main_call5_v5 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_4 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_5 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_call7_v0 : Ref sig .tc := ⟨.hbm, 109, rfl⟩
abbrev main_call7_v1 : Ref sig .tc := ⟨.hbm, 110, rfl⟩
abbrev main_call7_cst : Ref sig .tc := ⟨.hbm, 111, rfl⟩
abbrev main_call7_v2 : Ref sig .tc := ⟨.hbm, 112, rfl⟩
abbrev main_call7_v3 : Ref sig .tc := ⟨.hbm, 113, rfl⟩
abbrev main_call7_cst_0 : Ref sig .tc := ⟨.hbm, 114, rfl⟩
abbrev main_call7_v4 : Ref sig .tc := ⟨.hbm, 115, rfl⟩
abbrev main_call7_v5 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_c_6 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_7 : Ref sig .tc := ⟨.hbm, 129, rfl⟩
abbrev main_call8_v0 : Ref sig .tc := ⟨.hbm, 130, rfl⟩
abbrev main_call8_v1 : Ref sig .tc := ⟨.hbm, 131, rfl⟩
abbrev main_call8_v2 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_call9_v0 : Ref sig .tc := ⟨.hbm, 138, rfl⟩
abbrev main_call9_v1 : Ref sig .tc := ⟨.hbm, 139, rfl⟩
abbrev main_call9_cst : Ref sig .tc := ⟨.hbm, 140, rfl⟩
abbrev main_call9_v2 : Ref sig .tc := ⟨.hbm, 141, rfl⟩
abbrev main_call9_v3 : Ref sig .tc := ⟨.hbm, 142, rfl⟩
abbrev main_call9_cst_0 : Ref sig .tc := ⟨.hbm, 143, rfl⟩
abbrev main_call9_v4 : Ref sig .tc := ⟨.hbm, 144, rfl⟩
abbrev main_call9_v5 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_c_8 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_cst_9 : Ref sig .tc := ⟨.hbm, 158, rfl⟩
abbrev main_call10_v0 : Ref sig .tc := ⟨.hbm, 159, rfl⟩
abbrev main_call10_v1 : Ref sig .tc := ⟨.hbm, 160, rfl⟩
abbrev main_call10_v2 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_call11_v0 : Ref sig .tc := ⟨.hbm, 167, rfl⟩
abbrev main_call11_v1 : Ref sig .tc := ⟨.hbm, 168, rfl⟩
abbrev main_call11_cst : Ref sig .tc := ⟨.hbm, 169, rfl⟩
abbrev main_call11_v2 : Ref sig .tc := ⟨.hbm, 170, rfl⟩
abbrev main_call11_v3 : Ref sig .tc := ⟨.hbm, 171, rfl⟩
abbrev main_call11_cst_0 : Ref sig .tc := ⟨.hbm, 172, rfl⟩
abbrev main_call11_v4 : Ref sig .tc := ⟨.hbm, 173, rfl⟩
abbrev main_call11_v5 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_c_10 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_cst_11 : Ref sig .tc := ⟨.hbm, 187, rfl⟩
abbrev main_call12_v0 : Ref sig .tc := ⟨.hbm, 188, rfl⟩
abbrev main_call12_v1 : Ref sig .tc := ⟨.hbm, 189, rfl⟩
abbrev main_call12_v2 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_call13_v0 : Ref sig .tc := ⟨.hbm, 196, rfl⟩
abbrev main_call13_v1 : Ref sig .tc := ⟨.hbm, 197, rfl⟩
abbrev main_call13_cst : Ref sig .tc := ⟨.hbm, 198, rfl⟩
abbrev main_call13_v2 : Ref sig .tc := ⟨.hbm, 199, rfl⟩
abbrev main_call13_v3 : Ref sig .tc := ⟨.hbm, 200, rfl⟩
abbrev main_call13_cst_0 : Ref sig .tc := ⟨.hbm, 201, rfl⟩
abbrev main_call13_v4 : Ref sig .tc := ⟨.hbm, 202, rfl⟩
abbrev main_call13_v5 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_c_12 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_cst_13 : Ref sig .tc := ⟨.hbm, 216, rfl⟩
abbrev main_call14_v0 : Ref sig .tc := ⟨.hbm, 217, rfl⟩
abbrev main_call14_v1 : Ref sig .tc := ⟨.hbm, 218, rfl⟩
abbrev main_call14_v2 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_call15_v0 : Ref sig .tc := ⟨.hbm, 225, rfl⟩
abbrev main_call15_v1 : Ref sig .tc := ⟨.hbm, 226, rfl⟩
abbrev main_call15_cst : Ref sig .tc := ⟨.hbm, 227, rfl⟩
abbrev main_call15_v2 : Ref sig .tc := ⟨.hbm, 228, rfl⟩
abbrev main_call15_v3 : Ref sig .tc := ⟨.hbm, 229, rfl⟩
abbrev main_call15_cst_0 : Ref sig .tc := ⟨.hbm, 230, rfl⟩
abbrev main_call15_v4 : Ref sig .tc := ⟨.hbm, 231, rfl⟩
abbrev main_call15_v5 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_v131 : Ref sig .tc := ⟨.hbm, 240, rfl⟩
abbrev main_c_14 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_cst_15 : Ref sig .tc := ⟨.hbm, 245, rfl⟩
abbrev main_call16_v0 : Ref sig .tc := ⟨.hbm, 246, rfl⟩
abbrev main_call16_v1 : Ref sig .tc := ⟨.hbm, 247, rfl⟩
abbrev main_call16_v2 : Ref sig .tc := ⟨.hbm, 248, rfl⟩
abbrev main_v135 : Ref sig .tc := ⟨.hbm, 249, rfl⟩
abbrev main_v136 : Ref sig .tc := ⟨.hbm, 250, rfl⟩

abbrev nD : Nat := 1
abbrev τ : Topo := Topo.v7x

variable {F : FTy → Type} [FloatOps F]
-- ==== Dense.lean ====
abbrev S17408x1024 : Shape := ⟨2, ![17408, 1024]⟩
abbrev S2x1024x3584 : Shape := ⟨3, ![2, 1024, 3584]⟩
abbrev S2x3584x1024 : Shape := ⟨3, ![2, 3584, 1024]⟩
abbrev S1x1024 : Shape := ⟨2, ![1, 1024]⟩
abbrev S8x6x1x1024 : Shape := ⟨4, ![8, 6, 1, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1x1x1x1024 : Shape := ⟨4, ![1, 1, 1, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 8
  | .vmem => 16
  | .smem => 0
  | _ => 0

abbrev bufTy : (tb : Table) → Fin (tcTables nBuf tb) → BufTy
  | .hbm, ⟨0, _⟩ => ⟨S17408x1024, .bf16⟩
  | .hbm, ⟨1, _⟩ => ⟨S2x1024x3584, .f32⟩
  | .hbm, ⟨2, _⟩ => ⟨S2x1024x3584, .f32⟩
  | .hbm, ⟨3, _⟩ => ⟨S2x3584x1024, .f32⟩
  | .hbm, ⟨4, _⟩ => ⟨S17408x1024, .f32⟩
  | .hbm, ⟨5, _⟩ => ⟨S1x1024, .f32⟩
  | .hbm, ⟨6, _⟩ => ⟨S8x6x1x1024, .f32⟩
  | .hbm, ⟨7, _⟩ => ⟨S17408x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![17, 7], ![false, false]⟩

def k0_cond2 (i : grid0.Coords) : BitVec 1 :=
  let arg1 : BitVec 32 := BitVec.ofNat 32 (i 1).val
  let c6_i32 : BitVec 32 := 6#32
  let v25 : BitVec 1 := Scalar.cmpi .eq arg1 c6_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 1 := Scalar.cmpi .slt v0 c4_i32_0
  let c4_i32_1 : BitVec 32 := 4#32
  let v2 : BitVec 32 := Scalar.muli arg0 c4_i32_1
  let c4_i32_2 : BitVec 32 := 4#32
  let v3 : BitVec 32 := Scalar.subi v2 c4_i32_2
  let c16_i32 : BitVec 32 := 16#32
  let v4 : BitVec 32 := Scalar.divsi v3 c16_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let v21 : BitVec 32 := Scalar.select v1 c4_i32_7 v20
  let c5_i32 : BitVec 32 := 5#32
  let c0_i32_8 : BitVec 32 := 0#32
  let c0_i32_9 : BitVec 32 := 0#32
  let c0_i32_10 : BitVec 32 := 0#32
  ![v21.toNat, c5_i32.toNat, c0_i32_8.toNat, c0_i32_9.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DenseReferenceIdeal.lean ====
abbrev S17408x1024 : Shape := ⟨2, ![17408, 1024]⟩
abbrev S2x1024x3584 : Shape := ⟨3, ![2, 1024, 3584]⟩
abbrev S2x3584x1024 : Shape := ⟨3, ![2, 3584, 1024]⟩
abbrev S1x1024 : Shape := ⟨2, ![1, 1024]⟩
abbrev S8x6x1x1024 : Shape := ⟨4, ![8, 6, 1, 1024]⟩
abbrev S1x1024x3584 : Shape := ⟨3, ![1, 1024, 3584]⟩
abbrev S1024x3584 : Shape := ⟨2, ![1024, 3584]⟩
abbrev S17408x3584 : Shape := ⟨2, ![17408, 3584]⟩
abbrev S_ : Shape := ⟨0, ![]⟩
abbrev S1x3584x1024 : Shape := ⟨3, ![1, 3584, 1024]⟩
abbrev S3584x1024 : Shape := ⟨2, ![3584, 1024]⟩
abbrev S17408 : Shape := ⟨1, ![17408]⟩
abbrev S17408x1 : Shape := ⟨2, ![17408, 1]⟩
abbrev S1x1x1x1024 : Shape := ⟨4, ![1, 1, 1, 1024]⟩
abbrev S1024x1024 : Shape := ⟨2, ![1024, 1024]⟩
abbrev S4x1x1x1024 : Shape := ⟨4, ![4, 1, 1, 1024]⟩
abbrev S4x1x1024 : Shape := ⟨3, ![4, 1, 1024]⟩
abbrev S4x4096x1024 : Shape := ⟨3, ![4, 4096, 1024]⟩
abbrev S16384x1024 : Shape := ⟨2, ![16384, 1024]⟩

abbrev nBuf : Space → Nat
  | .hbm => 52
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S2x1024x3584, .f32⟩
  | .hbm, ⟨2, _⟩ => ⟨S2x1024x3584, .f32⟩
  | .hbm, ⟨3, _⟩ => ⟨S2x3584x1024, .f32⟩
  | .hbm, ⟨4, _⟩ => ⟨S17408x1024, .f32⟩
  | .hbm, ⟨5, _⟩ => ⟨S1x1024, .f32⟩
  | .hbm, ⟨6, _⟩ => ⟨S8x6x1x1024, .f32⟩
  | .hbm, ⟨7, _⟩ => ⟨S17408x1024, .f32⟩
  | .hbm, ⟨8, _⟩ => ⟨S1x1024x3584, .f32⟩
  | .hbm, ⟨9, _⟩ => ⟨S1024x3584, .f32⟩
  | .hbm, ⟨10, _⟩ => ⟨S17408x3584, .f32⟩
  | .hbm, ⟨11, _⟩ => ⟨S17408x3584, .f32⟩
  | .hbm, ⟨12, _⟩ => ⟨S17408x3584, .f32⟩
  | .hbm, ⟨13, _⟩ => ⟨S_, .f32⟩
  | .hbm, ⟨14, _⟩ => ⟨S17408x3584, .f32⟩
  | .hbm, ⟨15, _⟩ => ⟨S17408x3584, .f32⟩
  | .hbm, ⟨16, _⟩ => ⟨S_, .f32⟩
  | .hbm, ⟨17, _⟩ => ⟨S17408x3584, .f32⟩
  | .hbm, ⟨18, _⟩ => ⟨S17408x3584, .f32⟩
  | .hbm, ⟨19, _⟩ => ⟨S17408x3584, .f32⟩
  | .hbm, ⟨20, _⟩ => ⟨S1x1024x3584, .f32⟩
  | .hbm, ⟨21, _⟩ => ⟨S1024x3584, .f32⟩
  | .hbm, ⟨22, _⟩ => ⟨S17408x3584, .f32⟩
  | .hbm, ⟨23, _⟩ => ⟨S17408x3584, .f32⟩
  | .hbm, ⟨24, _⟩ => ⟨S1x3584x1024, .f32⟩
  | .hbm, ⟨25, _⟩ => ⟨S3584x1024, .f32⟩
  | .hbm, ⟨26, _⟩ => ⟨S17408x1024, .f32⟩
  | .hbm, ⟨27, _⟩ => ⟨S17408x1024, .f32⟩
  | .hbm, ⟨28, _⟩ => ⟨S_, .f32⟩
  | .hbm, ⟨29, _⟩ => ⟨S17408, .f32⟩
  | .hbm, ⟨30, _⟩ => ⟨S17408x1, .f32⟩
  | .hbm, ⟨31, _⟩ => ⟨S_, .f32⟩
  | .hbm, ⟨32, _⟩ => ⟨S17408x1, .f32⟩
  | .hbm, ⟨33, _⟩ => ⟨S17408x1, .f32⟩
  | .hbm, ⟨34, _⟩ => ⟨S_, .f32⟩
  | .hbm, ⟨35, _⟩ => ⟨S17408x1, .f32⟩
  | .hbm, ⟨36, _⟩ => ⟨S17408x1, .f32⟩
  | .hbm, ⟨37, _⟩ => ⟨S17408x1, .f32⟩
  | .hbm, ⟨38, _⟩ => ⟨S17408x1024, .f32⟩
  | .hbm, ⟨39, _⟩ => ⟨S17408x1024, .f32⟩
  | .hbm, ⟨40, _⟩ => ⟨S17408x1024, .f32⟩
  | .hbm, ⟨41, _⟩ => ⟨S17408x1024, .f32⟩
  | .hbm, ⟨42, _⟩ => ⟨S1x1x1x1024, .f32⟩
  | .hbm, ⟨43, _⟩ => ⟨S1x1024, .f32⟩
  | .hbm, ⟨44, _⟩ => ⟨S1024x1024, .f32⟩
  | .hbm, ⟨45, _⟩ => ⟨S4x1x1x1024, .f32⟩
  | .hbm, ⟨46, _⟩ => ⟨S4x1x1024, .f32⟩
  | .hbm, ⟨47, _⟩ => ⟨S4x4096x1024, .f32⟩
  | .hbm, ⟨48, _⟩ => ⟨S16384x1024, .f32⟩
  | .hbm, ⟨49, _⟩ => ⟨S17408x1024, .f32⟩
  | .hbm, ⟨50, _⟩ => ⟨S17408x1024, .f32⟩
  | .hbm, ⟨51, _⟩ => ⟨S17408x1024, .f32⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Projection.lean ====
abbrev S17408x1024 : Shape := ⟨2, ![17408, 1024]⟩
abbrev S1x1024 : Shape := ⟨2, ![1, 1024]⟩
abbrev S8x6x1x1024 : Shape := ⟨4, ![8, 6, 1, 1024]⟩
abbrev S4352x128 : Shape := ⟨2, ![4352, 128]⟩
abbrev S4x1024x6784 : Shape := ⟨3, ![4, 1024, 6784]⟩
abbrev S17408x6784 : Shape := ⟨2, ![17408, 6784]⟩
abbrev S256x1024 : Shape := ⟨2, ![256, 1024]⟩
abbrev S1x1x1x1024 : Shape := ⟨4, ![1, 1, 1, 1024]⟩
abbrev S256x128 : Shape := ⟨2, ![256, 128]⟩
abbrev S1x1024x6784 : Shape := ⟨3, ![1, 1024, 6784]⟩
abbrev S256x6784 : Shape := ⟨2, ![256, 6784]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x1024x640 : Shape := ⟨3, ![1, 1024, 640]⟩
abbrev S1024x640 : Shape := ⟨2, ![1024, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S1x1024, .f32⟩
  | .hbm, ⟨2, _⟩ => ⟨S8x6x1x1024, .f32⟩
  | .hbm, ⟨3, _⟩ => ⟨S4352x128, .f32⟩
  | .hbm, ⟨4, _⟩ => ⟨S4352x128, .f32⟩
  | .hbm, ⟨5, _⟩ => ⟨S4x1024x6784, .bf16⟩
  | .hbm, ⟨6, _⟩ => ⟨S17408x6784, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x1024x6784, .bf16⟩
  | .local _ .vmem, ⟨12, _⟩ => ⟨S256x6784, .bf16⟩
  | .local _ .vmem, ⟨13, _⟩ => ⟨S256x6784, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.select v0 c4_i32_5 v18
  let c0_i32_6 : BitVec 32 := 0#32
  let c0_i32_7 : BitVec 32 := 0#32
  let c0_i32_8 : BitVec 32 := 0#32
  let c0_i32_9 : BitVec 32 := 0#32
  ![v19.toNat, c0_i32_6.toNat, c0_i32_7.toNat, c0_i32_8.toNat]

def cc0_transform_3 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.select v0 c4_i32_5 v18
  let c1_i32_6 : BitVec 32 := 1#32
  let c0_i32_7 : BitVec 32 := 0#32
  let c0_i32_8 : BitVec 32 := 0#32
  let c0_i32_9 : BitVec 32 := 0#32
  ![v19.toNat, c1_i32_6.toNat, c0_i32_7.toNat, c0_i32_8.toNat]

def cc0_transform_4 (i : grid0.Coords) : Fin 2 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_5 (i : grid0.Coords) : Fin 2 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x6784 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x6784 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjectionReferenceIdeal.lean ====
abbrev S17408x1024 : Shape := ⟨2, ![17408, 1024]⟩
abbrev S1x1024 : Shape := ⟨2, ![1, 1024]⟩
abbrev S8x6x1x1024 : Shape := ⟨4, ![8, 6, 1, 1024]⟩
abbrev S4352x128 : Shape := ⟨2, ![4352, 128]⟩
abbrev S4x1024x6784 : Shape := ⟨3, ![4, 1024, 6784]⟩
abbrev S_ : Shape := ⟨0, ![]⟩
abbrev S17408 : Shape := ⟨1, ![17408]⟩
abbrev S17408x1 : Shape := ⟨2, ![17408, 1]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S1024x1024 : Shape := ⟨2, ![1024, 1024]⟩
abbrev S4x1x1024 : Shape := ⟨3, ![4, 1, 1024]⟩
abbrev S4x4096x1024 : Shape := ⟨3, ![4, 4096, 1024]⟩
abbrev S16384x1024 : Shape := ⟨2, ![16384, 1024]⟩
abbrev S1x1024x6784 : Shape := ⟨3, ![1, 1024, 6784]⟩
abbrev S1024x6784 : Shape := ⟨2, ![1024, 6784]⟩
abbrev S17408x6784 : Shape := ⟨2, ![17408, 6784]⟩
abbrev S256x128 : Shape := ⟨2, ![256, 128]⟩
abbrev S1x256x128 : Shape := ⟨3, ![1, 256, 128]⟩
abbrev S4x256x128 : Shape := ⟨3, ![4, 256, 128]⟩
abbrev S1024x128 : Shape := ⟨2, ![1024, 128]⟩
abbrev S4096x128 : Shape := ⟨2, ![4096, 128]⟩
abbrev S1x4096x128 : Shape := ⟨3, ![1, 4096, 128]⟩
abbrev S4x4096x128 : Shape := ⟨3, ![4, 4096, 128]⟩
abbrev S16384x128 : Shape := ⟨2, ![16384, 128]⟩
abbrev S17408x128 : Shape := ⟨2, ![17408, 128]⟩
abbrev S17408x1x2x64 : Shape := ⟨4, ![17408, 1, 2, 64]⟩
abbrev S17408x512 : Shape := ⟨2, ![17408, 512]⟩
abbrev S17408x4x2x64 : Shape := ⟨4, ![17408, 4, 2, 64]⟩
abbrev S17408x4x2x32 : Shape := ⟨4, ![17408, 4, 2, 32]⟩
abbrev S17408x1x2x32 : Shape := ⟨4, ![17408, 1, 2, 32]⟩
abbrev S17408x5760 : Shape := ⟨2, ![17408, 5760]⟩

abbrev nBuf : Space → Nat
  | .hbm => 114
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1x1024, .f32⟩
  | .hbm, ⟨2, _⟩ => ⟨S8x6x1x1024, .f32⟩
  | .hbm, ⟨3, _⟩ => ⟨S4352x128, .f32⟩
  | .hbm, ⟨4, _⟩ => ⟨S4352x128, .f32⟩
  | .hbm, ⟨5, _⟩ => ⟨S4x1024x6784, .bf16⟩
  | .hbm, ⟨6, _⟩ => ⟨S17408x1024, .f32⟩
  | .hbm, ⟨7, _⟩ => ⟨S_, .f32⟩
  | .hbm, ⟨8, _⟩ => ⟨S17408, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S17408x1, .f32⟩
  | .hbm, ⟨17, _⟩ => ⟨S17408x1024, .f32⟩
  | .hbm, ⟨18, _⟩ => ⟨S17408x1024, .f32⟩
  | .hbm, ⟨19, _⟩ => ⟨S17408x1024, .f32⟩
  | .hbm, ⟨20, _⟩ => ⟨S17408x1024, .f32⟩
  | .hbm, ⟨21, _⟩ => ⟨S8x1x1x1024, .f32⟩
  | .hbm, ⟨22, _⟩ => ⟨S8x1x1024, .f32⟩
  | .hbm, ⟨23, _⟩ => ⟨S1x1x1024, .f32⟩
  | .hbm, ⟨24, _⟩ => ⟨S1x1024, .f32⟩
  | .hbm, ⟨25, _⟩ => ⟨S1024x1024, .f32⟩
  | .hbm, ⟨26, _⟩ => ⟨S4x1x1024, .f32⟩
  | .hbm, ⟨27, _⟩ => ⟨S4x4096x1024, .f32⟩
  | .hbm, ⟨28, _⟩ => ⟨S16384x1024, .f32⟩
  | .hbm, ⟨29, _⟩ => ⟨S17408x1024, .f32⟩
  | .hbm, ⟨30, _⟩ => ⟨S_, .f32⟩
  | .hbm, ⟨31, _⟩ => ⟨S17408x1024, .f32⟩
  | .hbm, ⟨32, _⟩ => ⟨S17408x1024, .f32⟩
  | .hbm, ⟨33, _⟩ => ⟨S17408x1024, .f32⟩
  | .hbm, ⟨34, _⟩ => ⟨S8x1x1x1024, .f32⟩
  | .hbm, ⟨35, _⟩ => ⟨S8x1x1024, .f32⟩
  | .hbm, ⟨36, _⟩ => ⟨S1x1x1024, .f32⟩
  | .hbm, ⟨37, _⟩ => ⟨S1x1024, .f32⟩
  | .hbm, ⟨38, _⟩ => ⟨S1024x1024, .f32⟩
  | .hbm, ⟨39, _⟩ => ⟨S4x1x1024, .f32⟩
  | .hbm, ⟨40, _⟩ => ⟨S4x4096x1024, .f32⟩
  | .hbm, ⟨41, _⟩ => ⟨S16384x1024, .f32⟩
  | .hbm, ⟨42, _⟩ => ⟨S17408x1024, .f32⟩
  | .hbm, ⟨43, _⟩ => ⟨S17408x1024, .f32⟩
  | .hbm, ⟨44, _⟩ => ⟨S1x1024x6784, .bf16⟩
  | .hbm, ⟨45, _⟩ => ⟨S1024x6784, .bf16⟩
  | .hbm, ⟨46, _⟩ => ⟨S1024x6784, .f32⟩
  | .hbm, ⟨47, _⟩ => ⟨S17408x6784, .f32⟩
  | .hbm, ⟨48, _⟩ => ⟨S256x128, .f32⟩
  | .hbm, ⟨49, _⟩ => ⟨S1x256x128, .f32⟩
  | .hbm, ⟨50, _⟩ => ⟨S4x256x128, .f32⟩
  | .hbm, ⟨51, _⟩ => ⟨S1024x128, .f32⟩
  | .hbm, ⟨52, _⟩ => ⟨S4096x128, .f32⟩
  | .hbm, ⟨53, _⟩ => ⟨S1x4096x128, .f32⟩
  | .hbm, ⟨54, _⟩ => ⟨S4x4096x128, .f32⟩
  | .hbm, ⟨55, _⟩ => ⟨S16384x128, .f32⟩
  | .hbm, ⟨56, _⟩ => ⟨S17408x128, .f32⟩
  | .hbm, ⟨57, _⟩ => ⟨S17408x1x2x64, .f32⟩
  | .hbm, ⟨58, _⟩ => ⟨S256x128, .f32⟩
  | .hbm, ⟨59, _⟩ => ⟨S1x256x128, .f32⟩
  | .hbm, ⟨60, _⟩ => ⟨S4x256x128, .f32⟩
  | .hbm, ⟨61, _⟩ => ⟨S1024x128, .f32⟩
  | .hbm, ⟨62, _⟩ => ⟨S4096x128, .f32⟩
  | .hbm, ⟨63, _⟩ => ⟨S1x4096x128, .f32⟩
  | .hbm, ⟨64, _⟩ => ⟨S4x4096x128, .f32⟩
  | .hbm, ⟨65, _⟩ => ⟨S16384x128, .f32⟩
  | .hbm, ⟨66, _⟩ => ⟨S17408x128, .f32⟩
  | .hbm, ⟨67, _⟩ => ⟨S17408x1x2x64, .f32⟩
  | .hbm, ⟨68, _⟩ => ⟨S17408x512, .f32⟩
  | .hbm, ⟨69, _⟩ => ⟨S17408x4x2x64, .f32⟩
  | .hbm, ⟨70, _⟩ => ⟨S17408x4x2x32, .f32⟩
  | .hbm, ⟨71, _⟩ => ⟨S17408x4x2x32, .f32⟩
  | .hbm, ⟨72, _⟩ => ⟨S17408x1x2x32, .f32⟩
  | .hbm, ⟨73, _⟩ => ⟨S17408x4x2x32, .f32⟩
  | .hbm, ⟨74, _⟩ => ⟨S17408x4x2x32, .f32⟩
  | .hbm, ⟨75, _⟩ => ⟨S17408x1x2x32, .f32⟩
  | .hbm, ⟨76, _⟩ => ⟨S17408x4x2x32, .f32⟩
  | .hbm, ⟨77, _⟩ => ⟨S17408x4x2x32, .f32⟩
  | .hbm, ⟨78, _⟩ => ⟨S17408x4x2x32, .f32⟩
  | .hbm, ⟨79, _⟩ => ⟨S17408x1x2x32, .f32⟩
  | .hbm, ⟨80, _⟩ => ⟨S17408x4x2x32, .f32⟩
  | .hbm, ⟨81, _⟩ => ⟨S17408x4x2x32, .f32⟩
  | .hbm, ⟨82, _⟩ => ⟨S17408x1x2x32, .f32⟩
  | .hbm, ⟨83, _⟩ => ⟨S17408x4x2x32, .f32⟩
  | .hbm, ⟨84, _⟩ => ⟨S17408x4x2x32, .f32⟩
  | .hbm, ⟨85, _⟩ => ⟨S17408x4x2x32, .f32⟩
  | .hbm, ⟨86, _⟩ => ⟨S17408x4x2x64, .f32⟩
  | .hbm, ⟨87, _⟩ => ⟨S17408x512, .f32⟩
  | .hbm, ⟨88, _⟩ => ⟨S_, .f32⟩
  | .hbm, ⟨89, _⟩ => ⟨S17408x512, .f32⟩
  | .hbm, ⟨90, _⟩ => ⟨S17408x512, .f32⟩
  | .hbm, ⟨91, _⟩ => ⟨S17408x512, .f32⟩
  | .hbm, ⟨92, _⟩ => ⟨S17408x4x2x64, .f32⟩
  | .hbm, ⟨93, _⟩ => ⟨S17408x4x2x32, .f32⟩
  | .hbm, ⟨94, _⟩ => ⟨S17408x4x2x32, .f32⟩
  | .hbm, ⟨95, _⟩ => ⟨S17408x1x2x32, .f32⟩
  | .hbm, ⟨96, _⟩ => ⟨S17408x4x2x32, .f32⟩
  | .hbm, ⟨97, _⟩ => ⟨S17408x4x2x32, .f32⟩
  | .hbm, ⟨98, _⟩ => ⟨S17408x1x2x32, .f32⟩
  | .hbm, ⟨99, _⟩ => ⟨S17408x4x2x32, .f32⟩
  | .hbm, ⟨100, _⟩ => ⟨S17408x4x2x32, .f32⟩
  | .hbm, ⟨101, _⟩ => ⟨S17408x4x2x32, .f32⟩
  | .hbm, ⟨102, _⟩ => ⟨S17408x1x2x32, .f32⟩
  | .hbm, ⟨103, _⟩ => ⟨S17408x4x2x32, .f32⟩
  | .hbm, ⟨104, _⟩ => ⟨S17408x4x2x32, .f32⟩
  | .hbm, ⟨105, _⟩ => ⟨S17408x1x2x32, .f32⟩
  | .hbm, ⟨106, _⟩ => ⟨S17408x4x2x32, .f32⟩
  | .hbm, ⟨107, _⟩ => ⟨S17408x4x2x32, .f32⟩
  | .hbm, ⟨108, _⟩ => ⟨S17408x4x2x32, .f32⟩
  | .hbm, ⟨109, _⟩ => ⟨S17408x4x2x64, .f32⟩
  | .hbm, ⟨110, _⟩ => ⟨S17408x512, .f32⟩
  | .hbm, ⟨111, _⟩ => ⟨S17408x5760, .f32⟩
  | .hbm, ⟨112, _⟩ => ⟨S17408x6784, .f32⟩
  | .hbm, ⟨113, _⟩ => ⟨S17408x6784, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_3 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩

abbrev nD : Nat := 1
abbrev τ : Topo := Topo.v7x

variable {F : FTy → Type} [FloatOps F]
-- ==== Merge.lean ====
abbrev S17408x1024 : Shape := ⟨2, ![17408, 1024]⟩
abbrev S17408x6784 : Shape := ⟨2, ![17408, 6784]⟩
abbrev S17408x512 : Shape := ⟨2, ![17408, 512]⟩
abbrev S1x1024 : Shape := ⟨2, ![1, 1024]⟩
abbrev S4x1024x1024 : Shape := ⟨3, ![4, 1024, 1024]⟩
abbrev S4x512x1024 : Shape := ⟨3, ![4, 512, 1024]⟩
abbrev S8x6x1x1024 : Shape := ⟨4, ![8, 6, 1, 1024]⟩
abbrev S256x1024 : Shape := ⟨2, ![256, 1024]⟩
abbrev S256x512 : Shape := ⟨2, ![256, 512]⟩
abbrev S1x1024x1024 : Shape := ⟨3, ![1, 1024, 1024]⟩
abbrev S1x512x1024 : Shape := ⟨3, ![1, 512, 1024]⟩
abbrev S1x1x1x1024 : Shape := ⟨4, ![1, 1, 1, 1024]⟩
abbrev S256x256 : Shape := ⟨2, ![256, 256]⟩
abbrev S256 : Shape := ⟨1, ![256]⟩
abbrev S256x1 : Shape := ⟨2, ![256, 1]⟩
abbrev S1024x1024 : Shape := ⟨2, ![1024, 1024]⟩
abbrev S512x1024 : Shape := ⟨2, ![512, 1024]⟩

abbrev nBuf : Space → Nat
  | .hbm => 14
  | .vmem => 30
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x6784, .bf16⟩
  | .hbm, ⟨3, _⟩ => ⟨S17408x512, .bf16⟩
  | .hbm, ⟨4, _⟩ => ⟨S17408x1024, .f32⟩
  | .hbm, ⟨5, _⟩ => ⟨S1x1024, .f32⟩
  | .hbm, ⟨6, _⟩ => ⟨S4x1024x1024, .bf16⟩
  | .hbm, ⟨7, _⟩ => ⟨S4x512x1024, .bf16⟩
  | .hbm, ⟨8, _⟩ => ⟨S4x1024x1024, .bf16⟩
  | .hbm, ⟨9, _⟩ => ⟨S1x1024, .f32⟩
  | .hbm, ⟨10, _⟩ => ⟨S1x1024, .f32⟩
  | .hbm, ⟨11, _⟩ => ⟨S8x6x1x1024, .f32⟩
  | .hbm, ⟨12, _⟩ => ⟨S17408x1024, .f32⟩
  | .hbm, ⟨13, _⟩ => ⟨S17408x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1x1x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let c0_i32_0 : BitVec 32 := 0#32
  ![v0.toNat, c3_i32.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c4_i32 : BitVec 32 := 4#32
  let c0_i32_0 : BitVec 32 := 0#32
  ![v0.toNat, c4_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 1 := Scalar.cmpi .slt v0 c4_i32
  let c0_i32_0 : BitVec 32 := 0#32
  let v2 : BitVec 32 := Scalar.addi arg0 c0_i32_0
  let c4_i32_1 : BitVec 32 := 4#32
  let v3 : BitVec 32 := Scalar.subi v2 c4_i32_1
  let c16_i32 : BitVec 32 := 16#32
  let v4 : BitVec 32 := Scalar.divsi v3 c16_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let v21 : BitVec 32 := Scalar.select v1 c4_i32_7 v20
  let c2_i32 : BitVec 32 := 2#32
  let c0_i32_8 : BitVec 32 := 0#32
  let c0_i32_9 : BitVec 32 := 0#32
  let c0_i32_10 : BitVec 32 := 0#32
  ![v21.toNat, c2_i32.toNat, c0_i32_8.toNat, c0_i32_9.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 1 := Scalar.cmpi .slt v0 c4_i32
  let c0_i32_0 : BitVec 32 := 0#32
  let v2 : BitVec 32 := Scalar.addi arg0 c0_i32_0
  let c4_i32_1 : BitVec 32 := 4#32
  let v3 : BitVec 32 := Scalar.subi v2 c4_i32_1
  let c16_i32 : BitVec 32 := 16#32
  let v4 : BitVec 32 := Scalar.divsi v3 c16_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let v21 : BitVec 32 := Scalar.select v1 c4_i32_7 v20
  let c3_i32 : BitVec 32 := 3#32
  let c0_i32_8 : BitVec 32 := 0#32
  let c0_i32_9 : BitVec 32 := 0#32
  let c0_i32_10 : BitVec 32 := 0#32
  ![v21.toNat, c3_i32.toNat, c0_i32_8.toNat, c0_i32_9.toNat]

def cc0_transform_15 (i : grid0.Coords) : Fin 4 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 1 := Scalar.cmpi .slt v0 c4_i32
  let c0_i32_0 : BitVec 32 := 0#32
  let v2 : BitVec 32 := Scalar.addi arg0 c0_i32_0
  let c4_i32_1 : BitVec 32 := 4#32
  let v3 : BitVec 32 := Scalar.subi v2 c4_i32_1
  let c16_i32 : BitVec 32 := 16#32
  let v4 : BitVec 32 := Scalar.divsi v3 c16_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let v21 : BitVec 32 := Scalar.select v1 c4_i32_7 v20
  let c4_i32_8 : BitVec 32 := 4#32
  let c0_i32_9 : BitVec 32 := 0#32
  let c0_i32_10 : BitVec 32 := 0#32
  let c0_i32_11 : BitVec 32 := 0#32
  ![v21.toNat, c4_i32_8.toNat, c0_i32_9.toNat, c0_i32_10.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeReferenceIdeal.lean ====
abbrev S17408x1024 : Shape := ⟨2, ![17408, 1024]⟩
abbrev S17408x6784 : Shape := ⟨2, ![17408, 6784]⟩
abbrev S17408x512 : Shape := ⟨2, ![17408, 512]⟩
abbrev S1x1024 : Shape := ⟨2, ![1, 1024]⟩
abbrev S4x1024x1024 : Shape := ⟨3, ![4, 1024, 1024]⟩
abbrev S4x512x1024 : Shape := ⟨3, ![4, 512, 1024]⟩
abbrev S8x6x1x1024 : Shape := ⟨4, ![8, 6, 1, 1024]⟩
abbrev S17408x4x256 : Shape := ⟨3, ![17408, 4, 256]⟩
abbrev S_ : Shape := ⟨0, ![]⟩
abbrev S17408x4 : Shape := ⟨2, ![17408, 4]⟩
abbrev S17408x4x1 : Shape := ⟨3, ![17408, 4, 1]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S4x1x1024 : Shape := ⟨3, ![4, 1, 1024]⟩
abbrev S4x4096x1024 : Shape := ⟨3, ![4, 4096, 1024]⟩
abbrev S16384x1024 : Shape := ⟨2, ![16384, 1024]⟩
abbrev S17408 : Shape := ⟨1, ![17408]⟩
abbrev S17408x1 : Shape := ⟨2, ![17408, 1]⟩

abbrev nBuf : Space → Nat
  | .hbm => 145
  | .vmem => 0
  | .smem => 0
  | _ => 0

abbrev hbmTy0_0 (i : Nat) : BufTy := match i % 128 with
  | 0 => ⟨S17408x1024, .bf16⟩
  | 1 => ⟨S17408x1024, .bf16⟩
  | 2 => ⟨S17408x6784, .bf16⟩
  | 3 => ⟨S17408x512, .bf16⟩
  | 4 => ⟨S17408x1024, .f32⟩
  | 5 => ⟨S1x1024, .f32⟩
  | 6 => ⟨S4x1024x1024, .bf16⟩
  | 7 => ⟨S4x512x1024, .bf16⟩
  | 8 => ⟨S4x1024x1024, .bf16⟩
  | 9 => ⟨S1x1024, .f32⟩
  | 10 => ⟨S1x1024, .f32⟩
  | 11 => ⟨S8x6x1x1024, .f32⟩
  | 12 => ⟨S17408x1024, .f32⟩
  | 13 => ⟨S17408x1024, .f32⟩
  | 14 => ⟨S17408x1024, .f32⟩
  | 15 => ⟨S17408x4x256, .f32⟩
  | 16 => ⟨S17408x4x256, .f32⟩
  | 17 => ⟨S_, .f32⟩
  | 18 => ⟨S17408x4, .f32⟩
  | 19 => ⟨S17408x4x1, .f32⟩
  | 20 => ⟨S_, .f32⟩
  | 21 => ⟨S17408x4x1, .f32⟩
  | 22 => ⟨S17408x4x1, .f32⟩
  | 23 => ⟨S_, .f32⟩
  | 24 => ⟨S17408x4x1, .f32⟩
  | 25 => ⟨S17408x4x1, .f32⟩
  | 26 => ⟨S17408x4x1, .f32⟩
  | 27 => ⟨S17408x4x256, .f32⟩
  | 28 => ⟨S17408x4x256, .f32⟩
  | 29 => ⟨S17408x1024, .f32⟩
  | 30 => ⟨S17408x1024, .bf16⟩
  | 31 => ⟨S17408x1024, .f32⟩
  | 32 => ⟨S17408x1024, .bf16⟩
  | 33 => ⟨S17408x1024, .f32⟩
  | 34 => ⟨S17408x1024, .bf16⟩
  | 35 => ⟨S17408x1024, .f32⟩
  | 36 => ⟨S17408x1024, .f32⟩
  | 37 => ⟨S17408x1024, .f32⟩
  | 38 => ⟨S17408x1024, .f32⟩
  | 39 => ⟨S17408x1024, .f32⟩
  | 40 => ⟨S_, .f32⟩
  | 41 => ⟨S17408x1024, .f32⟩
  | 42 => ⟨S17408x1024, .f32⟩
  | 43 => ⟨S_, .f32⟩
  | 44 => ⟨S17408x1024, .f32⟩
  | 45 => ⟨S17408x1024, .f32⟩
  | 46 => ⟨S17408x1024, .f32⟩
  | 47 => ⟨S17408x1024, .f32⟩
  | 48 => ⟨S1x1024x1024, .bf16⟩
  | 49 => ⟨S1024x1024, .bf16⟩
  | 50 => ⟨S1024x1024, .f32⟩
  | 51 => ⟨S17408x1024, .f32⟩
  | 52 => ⟨S17408x512, .f32⟩
  | 53 => ⟨S1x512x1024, .bf16⟩
  | 54 => ⟨S512x1024, .bf16⟩
  | 55 => ⟨S512x1024, .f32⟩
  | 56 => ⟨S17408x1024, .f32⟩
  | 57 => ⟨S17408x1024, .f32⟩
  | 58 => ⟨S17408x1024, .f32⟩
  | 59 => ⟨S_, .f32⟩
  | 60 => ⟨S17408x1024, .f32⟩
  | 61 => ⟨S17408x1024, .f32⟩
  | 62 => ⟨S_, .f32⟩
  | 63 => ⟨S17408x1024, .f32⟩
  | 64 => ⟨S17408x1024, .f32⟩
  | 65 => ⟨S17408x1024, .f32⟩
  | 66 => ⟨S17408x1024, .f32⟩
  | 67 => ⟨S17408x1024, .f32⟩
  | 68 => ⟨S_, .f32⟩
  | 69 => ⟨S17408x1024, .f32⟩
  | 70 => ⟨S17408x1024, .f32⟩
  | 71 => ⟨S_, .f32⟩
  | 72 => ⟨S17408x1024, .f32⟩
  | 73 => ⟨S17408x1024, .f32⟩
  | 74 => ⟨S17408x1024, .f32⟩
  | 75 => ⟨S17408x1024, .f32⟩
  | 76 => ⟨S8x1x1x1024, .f32⟩
  | 77 => ⟨S8x1x1024, .f32⟩
  | 78 => ⟨S1x1x1024, .f32⟩
  | 79 => ⟨S1x1024, .f32⟩
  | 80 => ⟨S1024x1024, .f32⟩
  | 81 => ⟨S4x1x1024, .f32⟩
  | 82 => ⟨S4x4096x1024, .f32⟩
  | 83 => ⟨S16384x1024, .f32⟩
  | 84 => ⟨S17408x1024, .f32⟩
  | 85 => ⟨S1x1024x1024, .bf16⟩
  | 86 => ⟨S1024x1024, .bf16⟩
  | 87 => ⟨S1024x1024, .f32⟩
  | 88 => ⟨S17408x1024, .f32⟩
  | 89 => ⟨S17408x1024, .f32⟩
  | 90 => ⟨S_, .f32⟩
  | 91 => ⟨S17408, .f32⟩
  | 92 => ⟨S17408x1, .f32⟩
  | 93 => ⟨S_, .f32⟩
  | 94 => ⟨S17408x1, .f32⟩
  | 95 => ⟨S17408x1, .f32⟩
  | 96 => ⟨S_, .f32⟩
  | 97 => ⟨S17408x1, .f32⟩
  | 98 => ⟨S17408x1, .f32⟩
  | 99 => ⟨S17408x1, .f32⟩
  | 100 => ⟨S17408x1024, .f32⟩
  | 101 => ⟨S17408x1024, .f32⟩
  | 102 => ⟨S17408x1024, .f32⟩
  | 103 => ⟨S17408x1024, .f32⟩
  | 104 => ⟨S17408x1024, .f32⟩
  | 105 => ⟨S17408x1024, .f32⟩
  | 106 => ⟨S17408x1024, .f32⟩
  | 107 => ⟨S_, .f32⟩
  | 108 => ⟨S17408, .f32⟩
  | 109 => ⟨S17408x1, .f32⟩
  | 110 => ⟨S_, .f32⟩
  | 111 => ⟨S17408x1, .f32⟩
  | 112 => ⟨S17408x1, .f32⟩
  | 113 => ⟨S_, .f32⟩
  | 114 => ⟨S17408x1, .f32⟩
  | 115 => ⟨S17408x1, .f32⟩
  | 116 => ⟨S17408x1, .f32⟩
  | 117 => ⟨S17408x1024, .f32⟩
  | 118 => ⟨S17408x1024, .f32⟩
  | 119 => ⟨S17408x1024, .f32⟩
  | 120 => ⟨S17408x1024, .f32⟩
  | 121 => ⟨S8x1x1x1024, .f32⟩
  | 122 => ⟨S8x1x1024, .f32⟩
  | 123 => ⟨S1x1x1024, .f32⟩
  | 124 => ⟨S1x1024, .f32⟩
  | 125 => ⟨S1024x1024, .f32⟩
  | 126 => ⟨S4x1x1024, .f32⟩
  | 127 => ⟨S4x4096x1024, .f32⟩
  | _ => ⟨S17408x1024, .bf16⟩

abbrev hbmTy0_1 (i : Nat) : BufTy := match i % 128 with
  | 0 => ⟨S16384x1024, .f32⟩
  | 1 => ⟨S17408x1024, .f32⟩
  | 2 => ⟨S_, .f32⟩
  | 3 => ⟨S17408x1024, .f32⟩
  | 4 => ⟨S17408x1024, .f32⟩
  | 5 => ⟨S17408x1024, .f32⟩
  | 6 => ⟨S8x1x1x1024, .f32⟩
  | 7 => ⟨S8x1x1024, .f32⟩
  | 8 => ⟨S1x1x1024, .f32⟩
  | 9 => ⟨S1x1024, .f32⟩
  | 10 => ⟨S1024x1024, .f32⟩
  | 11 => ⟨S4x1x1024, .f32⟩
  | 12 => ⟨S4x4096x1024, .f32⟩
  | 13 => ⟨S16384x1024, .f32⟩
  | 14 => ⟨S17408x1024, .f32⟩
  | 15 => ⟨S17408x1024, .f32⟩
  | 16 => ⟨S17408x1024, .bf16⟩
  | _ => ⟨S17408x1024, .bf16⟩

abbrev hbmTy (i : Nat) : BufTy := match i / 128 with
  | 0 => hbmTy0_0 i
  | 1 => hbmTy0_1 i
  | _ => ⟨S17408x1024, .bf16⟩

abbrev bufTy : (tb : Table) → Fin (tcTables nBuf tb) → BufTy
  | .hbm, ⟨i, _⟩ => hbmTy i
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_11 : Ref sig .tc := ⟨.hbm, 107, rfl⟩
abbrev main_v83 : Ref sig .tc := ⟨.hbm, 108, rfl⟩
abbrev main_v84 : Ref sig .tc := ⟨.hbm, 109, rfl⟩
abbrev main_cst_12 : Ref sig .tc := ⟨.hbm, 110, rfl⟩
abbrev main_v85 : Ref sig .tc := ⟨.hbm, 111, rfl⟩
abbrev main_v86 : Ref sig .tc := ⟨.hbm, 112, rfl⟩
abbrev main_cst_13 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_14 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩

abbrev nD : Nat := 1
abbrev τ : Topo := Topo.v7x

variable {F : FTy → Type} [FloatOps F]
-- ==== Modulation.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== MergeRouter.lean ====
abbrev S17408x1024 : Shape := ⟨2, ![17408, 1024]⟩
abbrev S17408x6784 : Shape := ⟨2, ![17408, 6784]⟩
abbrev S17408x512 : Shape := ⟨2, ![17408, 512]⟩
abbrev S1x1024 : Shape := ⟨2, ![1, 1024]⟩
abbrev S4x1024x1024 : Shape := ⟨3, ![4, 1024, 1024]⟩
abbrev S4x512x1024 : Shape := ⟨3, ![4, 512, 1024]⟩
abbrev S8x6x1x1024 : Shape := ⟨4, ![8, 6, 1, 1024]⟩
abbrev S1024x128 : Shape := ⟨2, ![1024, 128]⟩
abbrev S17408x128 : Shape := ⟨2, ![17408, 128]⟩
abbrev S8x128 : Shape := ⟨2, ![8, 128]⟩
abbrev S256x1024 : Shape := ⟨2, ![256, 1024]⟩
abbrev S256x512 : Shape := ⟨2, ![256, 512]⟩
abbrev S1x1024x1024 : Shape := ⟨3, ![1, 1024, 1024]⟩
abbrev S1x512x1024 : Shape := ⟨3, ![1, 512, 1024]⟩
abbrev S1x1x1x1024 : Shape := ⟨4, ![1, 1, 1, 1024]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S1024x1024 : Shape := ⟨2, ![1024, 1024]⟩
abbrev S512x1024 : Shape := ⟨2, ![512, 1024]⟩
abbrev S128 : Shape := ⟨1, ![128]⟩

abbrev nBuf : Space → Nat
  | .hbm => 18
  | .vmem => 36
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x6784, .bf16⟩
  | .hbm, ⟨3, _⟩ => ⟨S17408x512, .bf16⟩
  | .hbm, ⟨4, _⟩ => ⟨S17408x1024, .f32⟩
  | .hbm, ⟨5, _⟩ => ⟨S1x1024, .f32⟩
  | .hbm, ⟨6, _⟩ => ⟨S4x1024x1024, .bf16⟩
  | .hbm, ⟨7, _⟩ => ⟨S4x512x1024, .bf16⟩
  | .hbm, ⟨8, _⟩ => ⟨S4x1024x1024, .bf16⟩
  | .hbm, ⟨9, _⟩ => ⟨S1x1024, .f32⟩
  | .hbm, ⟨10, _⟩ => ⟨S1x1024, .f32⟩
  | .hbm, ⟨11, _⟩ => ⟨S8x6x1x1024, .f32⟩
  | .hbm, ⟨12, _⟩ => ⟨S1024x128, .bf16⟩
  | .hbm, ⟨13, _⟩ => ⟨S1024x128, .bf16⟩
  | .hbm, ⟨14, _⟩ => ⟨S17408x1024, .f32⟩
  | .hbm, ⟨15, _⟩ => ⟨S17408x1024, .f32⟩
  | .hbm, ⟨16, _⟩ => ⟨S17408x128, .f32⟩
  | .hbm, ⟨17, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1x1x1024, .f32⟩
  | .local _ .vmem, ⟨26, _⟩ => ⟨S1024x128, .bf16⟩
  | .local _ .vmem, ⟨27, _⟩ => ⟨S1024x128, .bf16⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x128, .f32⟩
  | .local _ .vmem, ⟨33, _⟩ => ⟨S256x128, .f32⟩
  | .local _ .vmem, ⟨34, _⟩ => ⟨S8x128, .f32⟩
  | .local _ .vmem, ⟨35, _⟩ => ⟨S1x128, .f32⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let c0_i32_0 : BitVec 32 := 0#32
  ![v0.toNat, c3_i32.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c4_i32 : BitVec 32 := 4#32
  let c0_i32_0 : BitVec 32 := 0#32
  ![v0.toNat, c4_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 1 := Scalar.cmpi .slt v0 c4_i32
  let c0_i32_0 : BitVec 32 := 0#32
  let v2 : BitVec 32 := Scalar.addi arg0 c0_i32_0
  let c4_i32_1 : BitVec 32 := 4#32
  let v3 : BitVec 32 := Scalar.subi v2 c4_i32_1
  let c16_i32 : BitVec 32 := 16#32
  let v4 : BitVec 32 := Scalar.divsi v3 c16_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let v21 : BitVec 32 := Scalar.select v1 c4_i32_7 v20
  let c2_i32 : BitVec 32 := 2#32
  let c0_i32_8 : BitVec 32 := 0#32
  let c0_i32_9 : BitVec 32 := 0#32
  let c0_i32_10 : BitVec 32 := 0#32
  ![v21.toNat, c2_i32.toNat, c0_i32_8.toNat, c0_i32_9.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 1 := Scalar.cmpi .slt v0 c4_i32
  let c0_i32_0 : BitVec 32 := 0#32
  let v2 : BitVec 32 := Scalar.addi arg0 c0_i32_0
  let c4_i32_1 : BitVec 32 := 4#32
  let v3 : BitVec 32 := Scalar.subi v2 c4_i32_1
  let c16_i32 : BitVec 32 := 16#32
  let v4 : BitVec 32 := Scalar.divsi v3 c16_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let v21 : BitVec 32 := Scalar.select v1 c4_i32_7 v20
  let c3_i32 : BitVec 32 := 3#32
  let c0_i32_8 : BitVec 32 := 0#32
  let c0_i32_9 : BitVec 32 := 0#32
  let c0_i32_10 : BitVec 32 := 0#32
  ![v21.toNat, c3_i32.toNat, c0_i32_8.toNat, c0_i32_9.toNat]

def cc0_transform_15 (i : grid0.Coords) : Fin 4 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 1 := Scalar.cmpi .slt v0 c4_i32
  let c0_i32_0 : BitVec 32 := 0#32
  let v2 : BitVec 32 := Scalar.addi arg0 c0_i32_0
  let c4_i32_1 : BitVec 32 := 4#32
  let v3 : BitVec 32 := Scalar.subi v2 c4_i32_1
  let c16_i32 : BitVec 32 := 16#32
  let v4 : BitVec 32 := Scalar.divsi v3 c16_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c16_i32 c0_i32_4
  let v11 : BitVec 32 := Scalar.extui v10
  let c0_i32_5 : BitVec 32 := 0#32
  let v12 : BitVec 1 := Scalar.cmpi .slt c16_i32 c0_i32_5
  let v13 : BitVec 32 := Scalar.extui v12
  let v14 : BitVec 32 := Scalar.subi v11 v13
  let v15 : BitVec 1 := Scalar.cmpi .ne v9 v14
  let v16 : BitVec 32 := Scalar.remsi v3 c16_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let v21 : BitVec 32 := Scalar.select v1 c4_i32_7 v20
  let c4_i32_8 : BitVec 32 := 4#32
  let c0_i32_9 : BitVec 32 := 0#32
  let c0_i32_10 : BitVec 32 := 0#32
  let c0_i32_11 : BitVec 32 := 0#32
  ![v21.toNat, c4_i32_8.toNat, c0_i32_9.toNat, c0_i32_10.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MergeRouterReferenceIdeal.lean ====
abbrev S17408x1024 : Shape := ⟨2, ![17408, 1024]⟩
abbrev S17408x6784 : Shape := ⟨2, ![17408, 6784]⟩
abbrev S17408x512 : Shape := ⟨2, ![17408, 512]⟩
abbrev S1x1024 : Shape := ⟨2, ![1, 1024]⟩
abbrev S4x1024x1024 : Shape := ⟨3, ![4, 1024, 1024]⟩
abbrev S4x512x1024 : Shape := ⟨3, ![4, 512, 1024]⟩
abbrev S8x6x1x1024 : Shape := ⟨4, ![8, 6, 1, 1024]⟩
abbrev S1024x128 : Shape := ⟨2, ![1024, 128]⟩
abbrev S17408x4x256 : Shape := ⟨3, ![17408, 4, 256]⟩
abbrev S_ : Shape := ⟨0, ![]⟩
abbrev S17408x4 : Shape := ⟨2, ![17408, 4]⟩
abbrev S17408x4x1 : Shape := ⟨3, ![17408, 4, 1]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S4x1x1024 : Shape := ⟨3, ![4, 1, 1024]⟩
abbrev S4x4096x1024 : Shape := ⟨3, ![4, 4096, 1024]⟩
abbrev S16384x1024 : Shape := ⟨2, ![16384, 1024]⟩
abbrev S17408 : Shape := ⟨1, ![17408]⟩
abbrev S17408x1 : Shape := ⟨2, ![17408, 1]⟩

abbrev nBuf : Space → Nat
  | .hbm => 146
  | .vmem => 0
  | .smem => 0
  | _ => 0

abbrev hbmTy0_0 (i : Nat) : BufTy := match i % 128 with
  | 0 => ⟨S17408x1024, .bf16⟩
  | 1 => ⟨S17408x1024, .bf16⟩
  | 2 => ⟨S17408x6784, .bf16⟩
  | 3 => ⟨S17408x512, .bf16⟩
  | 4 => ⟨S17408x1024, .f32⟩
  | 5 => ⟨S1x1024, .f32⟩
  | 6 => ⟨S4x1024x1024, .bf16⟩
  | 7 => ⟨S4x512x1024, .bf16⟩
  | 8 => ⟨S4x1024x1024, .bf16⟩
  | 9 => ⟨S1x1024, .f32⟩
  | 10 => ⟨S1x1024, .f32⟩
  | 11 => ⟨S8x6x1x1024, .f32⟩
  | 12 => ⟨S1024x128, .bf16⟩
  | 13 => ⟨S1024x128, .bf16⟩
  | 14 => ⟨S17408x1024, .f32⟩
  | 15 => ⟨S17408x1024, .f32⟩
  | 16 => ⟨S17408x1024, .f32⟩
  | 17 => ⟨S17408x4x256, .f32⟩
  | 18 => ⟨S17408x4x256, .f32⟩
  | 19 => ⟨S_, .f32⟩
  | 20 => ⟨S17408x4, .f32⟩
  | 21 => ⟨S17408x4x1, .f32⟩
  | 22 => ⟨S_, .f32⟩
  | 23 => ⟨S17408x4x1, .f32⟩
  | 24 => ⟨S17408x4x1, .f32⟩
  | 25 => ⟨S_, .f32⟩
  | 26 => ⟨S17408x4x1, .f32⟩
  | 27 => ⟨S17408x4x1, .f32⟩
  | 28 => ⟨S17408x4x1, .f32⟩
  | 29 => ⟨S17408x4x256, .f32⟩
  | 30 => ⟨S17408x4x256, .f32⟩
  | 31 => ⟨S17408x1024, .f32⟩
  | 32 => ⟨S17408x1024, .bf16⟩
  | 33 => ⟨S17408x1024, .f32⟩
  | 34 => ⟨S17408x1024, .bf16⟩
  | 35 => ⟨S17408x1024, .f32⟩
  | 36 => ⟨S17408x1024, .bf16⟩
  | 37 => ⟨S17408x1024, .f32⟩
  | 38 => ⟨S17408x1024, .f32⟩
  | 39 => ⟨S17408x1024, .f32⟩
  | 40 => ⟨S17408x1024, .f32⟩
  | 41 => ⟨S17408x1024, .f32⟩
  | 42 => ⟨S_, .f32⟩
  | 43 => ⟨S17408x1024, .f32⟩
  | 44 => ⟨S17408x1024, .f32⟩
  | 45 => ⟨S_, .f32⟩
  | 46 => ⟨S17408x1024, .f32⟩
  | 47 => ⟨S17408x1024, .f32⟩
  | 48 => ⟨S17408x1024, .f32⟩
  | 49 => ⟨S17408x1024, .f32⟩
  | 50 => ⟨S1x1024x1024, .bf16⟩
  | 51 => ⟨S1024x1024, .bf16⟩
  | 52 => ⟨S1024x1024, .f32⟩
  | 53 => ⟨S17408x1024, .f32⟩
  | 54 => ⟨S17408x512, .f32⟩
  | 55 => ⟨S1x512x1024, .bf16⟩
  | 56 => ⟨S512x1024, .bf16⟩
  | 57 => ⟨S512x1024, .f32⟩
  | 58 => ⟨S17408x1024, .f32⟩
  | 59 => ⟨S17408x1024, .f32⟩
  | 60 => ⟨S17408x1024, .f32⟩
  | 61 => ⟨S_, .f32⟩
  | 62 => ⟨S17408x1024, .f32⟩
  | 63 => ⟨S17408x1024, .f32⟩
  | 64 => ⟨S_, .f32⟩
  | 65 => ⟨S17408x1024, .f32⟩
  | 66 => ⟨S17408x1024, .f32⟩
  | 67 => ⟨S17408x1024, .f32⟩
  | 68 => ⟨S17408x1024, .f32⟩
  | 69 => ⟨S17408x1024, .f32⟩
  | 70 => ⟨S_, .f32⟩
  | 71 => ⟨S17408x1024, .f32⟩
  | 72 => ⟨S17408x1024, .f32⟩
  | 73 => ⟨S_, .f32⟩
  | 74 => ⟨S17408x1024, .f32⟩
  | 75 => ⟨S17408x1024, .f32⟩
  | 76 => ⟨S17408x1024, .f32⟩
  | 77 => ⟨S17408x1024, .f32⟩
  | 78 => ⟨S8x1x1x1024, .f32⟩
  | 79 => ⟨S8x1x1024, .f32⟩
  | 80 => ⟨S1x1x1024, .f32⟩
  | 81 => ⟨S1x1024, .f32⟩
  | 82 => ⟨S1024x1024, .f32⟩
  | 83 => ⟨S4x1x1024, .f32⟩
  | 84 => ⟨S4x4096x1024, .f32⟩
  | 85 => ⟨S16384x1024, .f32⟩
  | 86 => ⟨S17408x1024, .f32⟩
  | 87 => ⟨S1x1024x1024, .bf16⟩
  | 88 => ⟨S1024x1024, .bf16⟩
  | 89 => ⟨S1024x1024, .f32⟩
  | 90 => ⟨S17408x1024, .f32⟩
  | 91 => ⟨S17408x1024, .f32⟩
  | 92 => ⟨S_, .f32⟩
  | 93 => ⟨S17408, .f32⟩
  | 94 => ⟨S17408x1, .f32⟩
  | 95 => ⟨S_, .f32⟩
  | 96 => ⟨S17408x1, .f32⟩
  | 97 => ⟨S17408x1, .f32⟩
  | 98 => ⟨S_, .f32⟩
  | 99 => ⟨S17408x1, .f32⟩
  | 100 => ⟨S17408x1, .f32⟩
  | 101 => ⟨S17408x1, .f32⟩
  | 102 => ⟨S17408x1024, .f32⟩
  | 103 => ⟨S17408x1024, .f32⟩
  | 104 => ⟨S17408x1024, .f32⟩
  | 105 => ⟨S17408x1024, .f32⟩
  | 106 => ⟨S17408x1024, .f32⟩
  | 107 => ⟨S17408x1024, .f32⟩
  | 108 => ⟨S17408x1024, .f32⟩
  | 109 => ⟨S_, .f32⟩
  | 110 => ⟨S17408, .f32⟩
  | 111 => ⟨S17408x1, .f32⟩
  | 112 => ⟨S_, .f32⟩
  | 113 => ⟨S17408x1, .f32⟩
  | 114 => ⟨S17408x1, .f32⟩
  | 115 => ⟨S_, .f32⟩
  | 116 => ⟨S17408x1, .f32⟩
  | 117 => ⟨S17408x1, .f32⟩
  | 118 => ⟨S17408x1, .f32⟩
  | 119 => ⟨S17408x1024, .f32⟩
  | 120 => ⟨S17408x1024, .f32⟩
  | 121 => ⟨S17408x1024, .f32⟩
  | 122 => ⟨S17408x1024, .f32⟩
  | 123 => ⟨S8x1x1x1024, .f32⟩
  | 124 => ⟨S8x1x1024, .f32⟩
  | 125 => ⟨S1x1x1024, .f32⟩
  | 126 => ⟨S1x1024, .f32⟩
  | 127 => ⟨S1024x1024, .f32⟩
  | _ => ⟨S17408x1024, .bf16⟩

abbrev hbmTy0_1 (i : Nat) : BufTy := match i % 128 with
  | 0 => ⟨S4x1x1024, .f32⟩
  | 1 => ⟨S4x4096x1024, .f32⟩
  | 2 => ⟨S16384x1024, .f32⟩
  | 3 => ⟨S17408x1024, .f32⟩
  | 4 => ⟨S_, .f32⟩
  | 5 => ⟨S17408x1024, .f32⟩
  | 6 => ⟨S17408x1024, .f32⟩
  | 7 => ⟨S17408x1024, .f32⟩
  | 8 => ⟨S8x1x1x1024, .f32⟩
  | 9 => ⟨S8x1x1024, .f32⟩
  | 10 => ⟨S1x1x1024, .f32⟩
  | 11 => ⟨S1x1024, .f32⟩
  | 12 => ⟨S1024x1024, .f32⟩
  | 13 => ⟨S4x1x1024, .f32⟩
  | 14 => ⟨S4x4096x1024, .f32⟩
  | 15 => ⟨S16384x1024, .f32⟩
  | 16 => ⟨S17408x1024, .f32⟩
  | 17 => ⟨S17408x1024, .f32⟩
  | _ => ⟨S17408x1024, .bf16⟩

abbrev hbmTy (i : Nat) : BufTy := match i / 128 with
  | 0 => hbmTy0_0 i
  | 1 => hbmTy0_1 i
  | _ => ⟨S17408x1024, .bf16⟩

abbrev bufTy : (tb : Table) → Fin (tcTables nBuf tb) → BufTy
  | .hbm, ⟨i, _⟩ => hbmTy i
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_8 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_v86 : Ref sig .tc := ⟨.hbm, 114, rfl⟩
abbrev main_cst_13 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_14 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩

abbrev nD : Nat := 1
abbrev τ : Topo := Topo.v7x

variable {F : FTy → Type} [FloatOps F]
-- ==== Proof.Block.lean ====
module
public import proofs.«01_k».proof.Proof.Gen.KernelIdeal.Value
@[expose] public section
noncomputable section
namespace Cert.KernelIdeal.Block
open Cert.KernelIdeal Cert.KernelIdeal.Gen Idealize.ShloMosaic Idealize.ShloMosaic.TcCoe Idealize.SL.Sem
variable {F : FTy → Type} [FloatOps F]

/-! ## What one grid point computes for one pair of heads

The body treats the eight heads in four pairs. Each pair runs the same operations on 128 of the 512 lanes, so
one definition names all four. -/

/-- Lanes of the pair's first head. -/
def low : IVec S256x128 1 :=
  cmpi .slt (iota .tc S256x128 32 [1] iota_S256x128_d1_w32) (broadcast S256x128 (64#32))

/-- The scaled queries of both heads, stacked, each with the other head's lanes set to zero. -/
def qs (q : FVec F S256x128 .bf16) : FVec F S512x128 .bf16 :=
  have qp : FVec F S256x128 .bf16 := mulf q (broadcast S256x128 (Scalar.ofBits .bf16 0x3E00#16))
  have z : FVec F S256x128 .bf16 := broadcast S256x128 (Scalar.ofBits .bf16 0x0000#16)
  concatenate S512x128 0 [⟨S256x128, select low qp z⟩, ⟨S256x128, select low z qp⟩] concatenates_S256x128_S256x128_S512x128_d0

/-- The stacked queries against one tile of keys. -/
def sc (q k : FVec F S256x128 .bf16) : FVec F S512x256 .f32 :=
  matmul dot_S512x128_S256x128_S512x256_1_1_0_0_n_n none (qs q) k (constant S512x256 .f32 0x00000000#32)

/-- The stacked queries against the three tiles of the window. -/
def sc3 (q k0 k1 k2 : FVec F S256x128 .bf16) : FVec F S512x768 .f32 :=
  concatenate S512x768 1 [⟨S512x256, sc q k0⟩, ⟨S512x256, sc q k1⟩, ⟨S512x256, sc q k2⟩] concatenates_S512x256_S512x256_S512x256_S512x768_d1

/-- The bias of one head plus the row mask. -/
def bm (b : FVec F S1x1x256x768 .f32) (mk : FVec F S1x256x768 .f32) : FVec F S256x768 .f32 :=
  addf (shapeCast S256x768 b shapeCasts_S1x1x256x768_S256x768) (shapeCast S256x768 mk shapeCasts_S1x256x768_S256x768)

/-- Window scores of the first head. -/
def sl0 (q k0 k1 k2 : FVec F S256x128 .bf16) (b : FVec F S1x1x256x768 .f32) (mk : FVec F S1x256x768 .f32) : FVec F S256x768 .f32 :=
  addf (extractStridedSlice S256x768 ![0, 0] (sc3 q k0 k1 k2) slices_S512x768_o0_0_S256x768) (bm b mk)

/-- Window scores of the second head. -/
def sl1 (q k0 k1 k2 : FVec F S256x128 .bf16) (b : FVec F S1x1x256x768 .f32) (mk : FVec F S1x256x768 .f32) : FVec F S256x768 .f32 :=
  addf (extractStridedSlice S256x768 ![256, 0] (sc3 q k0 k1 k2) slices_S512x768_o256_0_S256x768) (bm b mk)

/-- Context scores of the first head. -/
def sx0 (q kc : FVec F S256x128 .bf16) : FVec F S256x256 .f32 :=
  extractStridedSlice S256x256 ![0, 0] (sc q kc) slices_S512x256_o0_0_S256x256

/-- Context scores of the second head. -/
def sx1 (q kc : FVec F S256x128 .bf16) : FVec F S256x256 .f32 :=
  extractStridedSlice S256x256 ![256, 0] (sc q kc) slices_S512x256_o256_0_S256x256

/-- The largest score of a row over window and context. -/
def mx (l : FVec F S256x768 .f32) (x : FVec F S256x256 .f32) : FVec F S256x1 .f32 :=
  maximumf (shapeCast S256x1 (multiReduction .maximumf [1] S256 l 0xFF800000#32 reduces_S256x768_S256 (.inl rfl) rfl) shapeCasts_S256_S256x1)
    (shapeCast S256x1 (multiReduction .maximumf [1] S256 x 0xFF800000#32 reduces_S256x256_S256 (.inl rfl) rfl) shapeCasts_S256_S256x1)

/-- Unnormalised window weights. -/
def el (l : FVec F S256x768 .f32) (x : FVec F S256x256 .f32) : FVec F S256x768 .f32 :=
  exp (subf l (broadcastTo S256x768 (mx l x) broadcasts_S256x1_S256x768))

/-- Unnormalised context weights. -/
def ex (l : FVec F S256x768 .f32) (x : FVec F S256x256 .f32) : FVec F S256x256 .f32 :=
  exp (subf x (broadcastTo S256x256 (mx l x) broadcasts_S256x1_S256x256))

/-- The sum of a row's weights. -/
def den (l : FVec F S256x768 .f32) (x : FVec F S256x256 .f32) : FVec F S256x1 .f32 :=
  addf (shapeCast S256x1 (multiReduction .add [1] S256 (el l x) 0x00000000#32 reduces_S256x768_S256 (.inl rfl) rfl) shapeCasts_S256_S256x1)
    (shapeCast S256x1 (multiReduction .add [1] S256 (ex l x) 0x00000000#32 reduces_S256x256_S256 (.inl rfl) rfl) shapeCasts_S256_S256x1)

/-- Window weights of both heads, stacked. -/
def e2 (l0 l1 : FVec F S256x768 .f32) (x0 x1 : FVec F S256x256 .f32) : FVec F S512x768 .bf16 :=
  concatenate S512x768 0 [⟨S256x768, truncf .bf16 (el l0 x0) bitsLt_bf16_f32⟩, ⟨S256x768, truncf .bf16 (el l1 x1) bitsLt_bf16_f32⟩] concatenates_S256x768_S256x768_S512x768_d0

/-- Context weights of both heads, stacked. -/
def ec2 (l0 l1 : FVec F S256x768 .f32) (x0 x1 : FVec F S256x256 .f32) : FVec F S512x256 .bf16 :=
  concatenate S512x256 0 [⟨S256x256, truncf .bf16 (ex l0 x0) bitsLt_bf16_f32⟩, ⟨S256x256, truncf .bf16 (ex l1 x1) bitsLt_bf16_f32⟩] concatenates_S256x256_S256x256_S512x256_d0

/-- Weights times one tile of values. -/
def pv (e : FVec F S512x256 .bf16) (v : FVec F S256x128 .bf16) : FVec F S512x128 .f32 :=
  matmul dot_S512x256_S256x128_S512x128_1_0_0_1_n_n none e v (constant S512x128 .f32 0x00000000#32)

/-- Weights times values, over context and window. -/
def acc (e : FVec F S512x768 .bf16) (ec : FVec F S512x256 .bf16) (v0 v1 v2 vc : FVec F S256x128 .bf16) : FVec F S512x128 .f32 :=
  addf (addf (addf (pv ec vc) (pv (extractStridedSlice S512x256 ![0, 0] e slices_S512x768_o0_0_S512x256) v0))
    (pv (extractStridedSlice S512x256 ![0, 256] e slices_S512x768_o0_256_S512x256) v1))
    (pv (extractStridedSlice S512x256 ![0, 512] e slices_S512x768_o0_512_S512x256) v2)

/-- The two heads' quotients, each on its own lanes. -/
def fin (a : FVec F S512x128 .f32) (d0 d1 : FVec F S256x1 .f32) : FVec F S256x128 .bf16 :=
  truncf .bf16 (select low
    (divf (extractStridedSlice S256x128 ![0, 0] a slices_S512x128_o0_0_S256x128) (broadcastTo S256x128 d0 broadcasts_S256x1_S256x128))
    (divf (extractStridedSlice S256x128 ![256, 0] a slices_S512x128_o256_0_S256x128) (broadcastTo S256x128 d1 broadcasts_S256x1_S256x128))) bitsLt_bf16_f32

/-- One pair of heads of one tile. -/
def pairVal (q k0 k1 k2 kc v0 v1 v2 vc : FVec F S256x128 .bf16) (b0 b1 : FVec F S1x1x256x768 .f32) (mk : FVec F S1x256x768 .f32) : FVec F S256x128 .bf16 :=
  have l0 := sl0 q k0 k1 k2 b0 mk
  have l1 := sl1 q k0 k1 k2 b1 mk
  have x0 := sx0 q kc
  have x1 := sx1 q kc
  fin (acc (e2 l0 l1 x0 x1) (ec2 l0 l1 x0 x1) v0 v1 v2 vc) (den l0 x0) (den l1 x1)

/-- The 128 lanes of a 512-lane block a pair works on. -/
abbrev lanes0 (x : Vec F S256x512 .bf16) : Vec F S256x128 .bf16 := View.ld x (Rect.unit ![0, 0] S256x128.size inb_S256x512_S256x128_0_0)
abbrev lanes1 (x : Vec F S256x512 .bf16) : Vec F S256x128 .bf16 := View.ld x (Rect.unit ![0, 128] S256x128.size inb_S256x512_S256x128_0_128)
abbrev lanes2 (x : Vec F S256x512 .bf16) : Vec F S256x128 .bf16 := View.ld x (Rect.unit ![0, 256] S256x128.size inb_S256x512_S256x128_0_256)
abbrev lanes3 (x : Vec F S256x512 .bf16) : Vec F S256x128 .bf16 := View.ld x (Rect.unit ![0, 384] S256x128.size inb_S256x512_S256x128_0_384)

/-- What the body leaves in its output block: one piece for each pair of heads. -/
theorem out_eq (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S1x8x256x768 .f32) (harg11 : arg11.IsWhole) (arg12 : Memref sig .tc .vmem S1x256x768 .f32) (harg12 : arg12.IsWhole) (arg13 : Memref sig .tc .vmem S256x512 .bf16) (harg13 : arg13.IsWhole)
    (x0 : Vec F S256x512 .bf16) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S1x8x256x768 .f32) (x10 : Vec F S1x256x768 .f32) :
   out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 =
   View.canon [
     ⟨Rect.unit (s := S256x512) ![0, 384] S256x128.size inb_S256x512_S256x128_0_384, pairVal (lanes3 x0) (lanes3 x1) (lanes3 x2) (lanes3 x3) (lanes3 x4) (lanes3 x5) (lanes3 x6) (lanes3 x7) (lanes3 x8) (View.ld x9 (Rect.unit ![0, 6, 0, 0] S1x1x256x768.size inb_S1x8x256x768_S1x1x256x768_0_6_0_0)) (View.ld x9 (Rect.unit ![0, 7, 0, 0] S1x1x256x768.size inb_S1x8x256x768_S1x1x256x768_0_7_0_0)) x10⟩,
     ⟨Rect.unit (s := S256x512) ![0, 256] S256x128.size inb_S256x512_S256x128_0_256, pairVal (lanes2 x0) (lanes2 x1) (lanes2 x2) (lanes2 x3) (lanes2 x4) (lanes2 x5) (lanes2 x6) (lanes2 x7) (lanes2 x8) (View.ld x9 (Rect.unit ![0, 4, 0, 0] S1x1x256x768.size inb_S1x8x256x768_S1x1x256x768_0_4_0_0)) (View.ld x9 (Rect.unit ![0, 5, 0, 0] S1x1x256x768.size inb_S1x8x256x768_S1x1x256x768_0_5_0_0)) x10⟩,
     ⟨Rect.unit (s := S256x512) ![0, 128] S256x128.size inb_S256x512_S256x128_0_128, pairVal (lanes1 x0) (lanes1 x1) (lanes1 x2) (lanes1 x3) (lanes1 x4) (lanes1 x5) (lanes1 x6) (lanes1 x7) (lanes1 x8) (View.ld x9 (Rect.unit ![0, 2, 0, 0] S1x1x256x768.size inb_S1x8x256x768_S1x1x256x768_0_2_0_0)) (View.ld x9 (Rect.unit ![0, 3, 0, 0] S1x1x256x768.size inb_S1x8x256x768_S1x1x256x768_0_3_0_0)) x10⟩,
     ⟨Rect.unit (s := S256x512) ![0, 0] S256x128.size inb_S256x512_S256x128_0_0, pairVal (lanes0 x0) (lanes0 x1) (lanes0 x2) (lanes0 x3) (lanes0 x4) (lanes0 x5) (lanes0 x6) (lanes0 x7) (lanes0 x8) (View.ld x9 (Rect.unit ![0, 0, 0, 0] S1x1x256x768.size inb_S1x8x256x768_S1x1x256x768_0_0_0_0)) (View.ld x9 (Rect.unit ![0, 1, 0, 0] S1x1x256x768.size inb_S1x8x256x768_S1x1x256x768_0_1_0_0)) x10⟩] := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  simp only [View.readAt_eq_ld, Memref.IsWhole.read_unread]
  rw [View.ld_unit_zero (off := ![0, 0, 0]) (by decide) _ x10]
  rfl
-- ==== Proof.Windows.lean ====
module
public import proofs.«01_k».proof.Proof.Block
public import Idealize.ShloMosaic.Lib.ValueIdx
public import Idealize.ShloMosaic.Lib.Pipeline.ValueKit.Tiles
@[expose] public section
noncomputable section
namespace Cert.KernelIdeal.Windows
open Cert.KernelIdeal Cert.KernelIdeal.Gen Idealize.ShloMosaic Idealize.ShloMosaic.TcCoe Idealize.SL.Sem Idealize.ShloMosaic.ValueIdx
variable {F : FTy → Type} [FloatOps F]
variable (m : (ℓ : Loc nD τ sig) → Buf (Elt F) ℓ)

/-! ## Which part of its array each window shows at a grid point -/

/-- The batch of a grid point. -/
def bq (t : Fin cfg0.N) : ℕ := ((cfg0.grid.coords t) 0).val
/-- The tile of a grid point: 0 is the context tile. -/
def jq (t : Fin cfg0.N) : ℕ := ((cfg0.grid.coords t) 1).val
/-- The row block of the queries and of the result. -/
def qrow (t : Fin cfg0.N) : ℕ := if jq t = 0 then bq t else 4 + 16 * bq t + (jq t - 1)
/-- The row block of the `i`-th tile of the window. -/
def krow (i : ℕ) (t : Fin cfg0.N) : ℕ := 4 + 16 * bq t + min 15 (jq t + i - 2)
/-- Which row mask applies. -/
def pat (t : Fin cfg0.N) : ℕ := if jq t = 0 then 3 else if jq t = 1 then 0 else if jq t = 16 then 2 else 1

theorem bq_lt (t : Fin cfg0.N) : bq t < 4 := ((cfg0.grid.coords t) 0).isLt
theorem jq_lt (t : Fin cfg0.N) : jq t < 17 := ((cfg0.grid.coords t) 1).isLt

theorem index0 : ∀ t : Fin cfg0.N, win0_0.index t 0 = qrow t ∧ win0_0.index t 1 = 10 :=
  (by decide +kernel : ∀ t : Fin grid0.N, _)
theorem index1 : ∀ t : Fin cfg0.N, win0_1.index t 0 = krow 0 t ∧ win0_1.index t 1 = 11 :=
  (by decide +kernel : ∀ t : Fin grid0.N, _)
theorem index2 : ∀ t : Fin cfg0.N, win0_2.index t 0 = krow 1 t ∧ win0_2.index t 1 = 11 :=
  (by decide +kernel : ∀ t : Fin grid0.N, _)
theorem index3 : ∀ t : Fin cfg0.N, win0_3.index t 0 = krow 2 t ∧ win0_3.index t 1 = 11 :=
  (by decide +kernel : ∀ t : Fin grid0.N, _)
theorem index4 : ∀ t : Fin cfg0.N, win0_4.index t 0 = bq t ∧ win0_4.index t 1 = 11 :=
  (by decide +kernel : ∀ t : Fin grid0.N, _)
theorem index5 : ∀ t : Fin cfg0.N, win0_5.index t 0 = krow 0 t ∧ win0_5.index t 1 = 12 :=
  (by decide +kernel : ∀ t : Fin grid0.N, _)
theorem index6 : ∀ t : Fin cfg0.N, win0_6.index t 0 = krow 1 t ∧ win0_6.index t 1 = 12 :=
  (by decide +kernel : ∀ t : Fin grid0.N, _)
theorem index7 : ∀ t : Fin cfg0.N, win0_7.index t 0 = krow 2 t ∧ win0_7.index t 1 = 12 :=
  (by decide +kernel : ∀ t : Fin grid0.N, _)
theorem index8 : ∀ t : Fin cfg0.N, win0_8.index t 0 = bq t ∧ win0_8.index t 1 = 12 :=
  (by decide +kernel : ∀ t : Fin grid0.N, _)
theorem index9 : ∀ t : Fin cfg0.N, win0_9.index t 0 = 0 ∧ win0_9.index t 1 = 0 ∧ win0_9.index t 2 = 0 ∧ win0_9.index t 3 = 0 :=
  (by decide +kernel : ∀ t : Fin grid0.N, _)
theorem index10 : ∀ t : Fin cfg0.N, win0_10.index t 0 = pat t ∧ win0_10.index t 1 = 0 ∧ win0_10.index t 2 = 0 :=
  (by decide +kernel : ∀ t : Fin grid0.N, _)
theorem index11 : ∀ t : Fin cfg0.N, win0_11.index t 0 = qrow t ∧ win0_11.index t 1 = 0 :=
  (by decide +kernel : ∀ t : Fin grid0.N, _)

theorem x0_eq (c : Dev nD) (t : Fin cfg0.N) (a : Fin 256) (l : Fin 512) (r : Fin 17408) (k : Fin 6784)
    (hr : r.val = qrow t * 256 + a.val) (hk : k.val = 10 * 512 + l.val) :
    (X0_0 m c t : Vec F S256x512 .bf16) (ix2 a l) = (m ((c : Thread nD τ).loc main_arg0) : Vec F S17408x6784 .bf16) (ix2 r k) := by
  obtain ⟨e0, e1⟩ := index0 t
  unfold X0_0 Pipeline.Window.fill
  rw [dif_pos (moved0_0 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_0.index t 0 * 256 + 1 * a.val = r.val; rw [e0]; omega
  | ⟨1, _⟩ => show win0_0.index t 1 * 512 + 1 * l.val = k.val; rw [e1]; omega

theorem x1_eq (c : Dev nD) (t : Fin cfg0.N) (a : Fin 256) (l : Fin 512) (r : Fin 17408) (k : Fin 6784)
    (hr : r.val = krow 0 t * 256 + a.val) (hk : k.val = 11 * 512 + l.val) :
    (X0_1 m c t : Vec F S256x512 .bf16) (ix2 a l) = (m ((c : Thread nD τ).loc main_arg0) : Vec F S17408x6784 .bf16) (ix2 r k) := by
  obtain ⟨e0, e1⟩ := index1 t
  unfold X0_1 Pipeline.Window.fill
  rw [dif_pos (moved0_1 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_1.index t 0 * 256 + 1 * a.val = r.val; rw [e0]; omega
  | ⟨1, _⟩ => show win0_1.index t 1 * 512 + 1 * l.val = k.val; rw [e1]; omega

theorem x2_eq (c : Dev nD) (t : Fin cfg0.N) (a : Fin 256) (l : Fin 512) (r : Fin 17408) (k : Fin 6784)
    (hr : r.val = krow 1 t * 256 + a.val) (hk : k.val = 11 * 512 + l.val) :
    (X0_2 m c t : Vec F S256x512 .bf16) (ix2 a l) = (m ((c : Thread nD τ).loc main_arg0) : Vec F S17408x6784 .bf16) (ix2 r k) := by
  obtain ⟨e0, e1⟩ := index2 t
  unfold X0_2 Pipeline.Window.fill
  rw [dif_pos (moved0_2 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_2.index t 0 * 256 + 1 * a.val = r.val; rw [e0]; omega
  | ⟨1, _⟩ => show win0_2.index t 1 * 512 + 1 * l.val = k.val; rw [e1]; omega

theorem x3_eq (c : Dev nD) (t : Fin cfg0.N) (a : Fin 256) (l : Fin 512) (r : Fin 17408) (k : Fin 6784)
    (hr : r.val = krow 2 t * 256 + a.val) (hk : k.val = 11 * 512 + l.val) :
    (X0_3 m c t : Vec F S256x512 .bf16) (ix2 a l) = (m ((c : Thread nD τ).loc main_arg0) : Vec F S17408x6784 .bf16) (ix2 r k) := by
  obtain ⟨e0, e1⟩ := index3 t
  unfold X0_3 Pipeline.Window.fill
  rw [dif_pos (moved0_3 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_3.index t 0 * 256 + 1 * a.val = r.val; rw [e0]; omega
  | ⟨1, _⟩ => show win0_3.index t 1 * 512 + 1 * l.val = k.val; rw [e1]; omega

theorem x4_eq (c : Dev nD) (t : Fin cfg0.N) (a : Fin 256) (l : Fin 512) (r : Fin 17408) (k : Fin 6784)
    (hr : r.val = bq t * 256 + a.val) (hk : k.val = 11 * 512 + l.val) :
    (X0_4 m c t : Vec F S256x512 .bf16) (ix2 a l) = (m ((c : Thread nD τ).loc main_arg0) : Vec F S17408x6784 .bf16) (ix2 r k) := by
  obtain ⟨e0, e1⟩ := index4 t
  unfold X0_4 Pipeline.Window.fill
  rw [dif_pos (moved0_4 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_4.index t 0 * 256 + 1 * a.val = r.val; rw [e0]; omega
  | ⟨1, _⟩ => show win0_4.index t 1 * 512 + 1 * l.val = k.val; rw [e1]; omega

theorem x5_eq (c : Dev nD) (t : Fin cfg0.N) (a : Fin 256) (l : Fin 512) (r : Fin 17408) (k : Fin 6784)
    (hr : r.val = krow 0 t * 256 + a.val) (hk : k.val = 12 * 512 + l.val) :
    (X0_5 m c t : Vec F S256x512 .bf16) (ix2 a l) = (m ((c : Thread nD τ).loc main_arg0) : Vec F S17408x6784 .bf16) (ix2 r k) := by
  obtain ⟨e0, e1⟩ := index5 t
  unfold X0_5 Pipeline.Window.fill
  rw [dif_pos (moved0_5 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_5.index t 0 * 256 + 1 * a.val = r.val; rw [e0]; omega
  | ⟨1, _⟩ => show win0_5.index t 1 * 512 + 1 * l.val = k.val; rw [e1]; omega

theorem x6_eq (c : Dev nD) (t : Fin cfg0.N) (a : Fin 256) (l : Fin 512) (r : Fin 17408) (k : Fin 6784)
    (hr : r.val = krow 1 t * 256 + a.val) (hk : k.val = 12 * 512 + l.val) :
    (X0_6 m c t : Vec F S256x512 .bf16) (ix2 a l) = (m ((c : Thread nD τ).loc main_arg0) : Vec F S17408x6784 .bf16) (ix2 r k) := by
  obtain ⟨e0, e1⟩ := index6 t
  unfold X0_6 Pipeline.Window.fill
  rw [dif_pos (moved0_6 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_6.index t 0 * 256 + 1 * a.val = r.val; rw [e0]; omega
  | ⟨1, _⟩ => show win0_6.index t 1 * 512 + 1 * l.val = k.val; rw [e1]; omega

theorem x7_eq (c : Dev nD) (t : Fin cfg0.N) (a : Fin 256) (l : Fin 512) (r : Fin 17408) (k : Fin 6784)
    (hr : r.val = krow 2 t * 256 + a.val) (hk : k.val = 12 * 512 + l.val) :
    (X0_7 m c t : Vec F S256x512 .bf16) (ix2 a l) = (m ((c : Thread nD τ).loc main_arg0) : Vec F S17408x6784 .bf16) (ix2 r k) := by
  obtain ⟨e0, e1⟩ := index7 t
  unfold X0_7 Pipeline.Window.fill
  rw [dif_pos (moved0_7 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_7.index t 0 * 256 + 1 * a.val = r.val; rw [e0]; omega
  | ⟨1, _⟩ => show win0_7.index t 1 * 512 + 1 * l.val = k.val; rw [e1]; omega

theorem x8_eq (c : Dev nD) (t : Fin cfg0.N) (a : Fin 256) (l : Fin 512) (r : Fin 17408) (k : Fin 6784)
    (hr : r.val = bq t * 256 + a.val) (hk : k.val = 12 * 512 + l.val) :
    (X0_8 m c t : Vec F S256x512 .bf16) (ix2 a l) = (m ((c : Thread nD τ).loc main_arg0) : Vec F S17408x6784 .bf16) (ix2 r k) := by
  obtain ⟨e0, e1⟩ := index8 t
  unfold X0_8 Pipeline.Window.fill
  rw [dif_pos (moved0_8 t _)]
  unfold iblk
  rw [View.read_apply]
  show V m c main_arg0 _ = m (c.tc.loc main_arg0) _
  rw [V_main_arg0]
  refine congrArg (m (c.tc.loc main_arg0)) ?_
  funext x
  apply Fin.ext
  match x with
  | ⟨0, _⟩ => show win0_8.index t 0 * 256 + 1 * a.val = r.val; rw [e0]; omega
  | ⟨1, _⟩ => show win0_8.index t 1 * 512 + 1 * l.val = k.val; rw [e1]; omega

theorem i9_eq (c : Dev nD) (t : Fin cfg0.N) (z : Fin 1) (h : Fin 8) (a : Fin 256) (l : Fin 768) :
    (iblk m c 9 t : Vec F S1x8x256x768 .f32) (ix4 z h a l) = (V m c main_v8 : Vec F S4x8x256x768 .f32) (ix4 0 h a l) := by
  obtain ⟨e0, e1, e2, e3⟩ := index9 t
  unfold iblk
  rw [View.read_apply]
  show V m c main_v8 _ = V m c main_v8 _
  refine congrArg (V m c main_v8) ?_
  funext x
  apply Fin.ext
  match x with
  | ⟨0, _⟩ => show win0_9.index t 0 * 1 + 1 * z.val = 0; rw [e0]; omega
  | ⟨1, _⟩ => show win0_9.index t 1 * 8 + 1 * h.val = h.val; rw [e1]; omega
  | ⟨2, _⟩ => show win0_9.index t 2 * 256 + 1 * a.val = a.val; rw [e2]; omega
  | ⟨3, _⟩ => show win0_9.index t 3 * 768 + 1 * l.val = l.val; rw [e3]; omega

theorem i10_eq (c : Dev nD) (t : Fin cfg0.N) (z : Fin 1) (a : Fin 256) (l : Fin 768) (p : Fin 4) (hp : p.val = pat t) :
    (iblk m c 10 t : Vec F S1x256x768 .f32) (ix3 z a l) = (V m c main_v11 : Vec F S4x256x768 .f32) (ix3 p a l) := by
  obtain ⟨e0, e1, e2⟩ := index10 t
  unfold iblk
  rw [View.read_apply]
  show V m c main_v11 _ = V m c main_v11 _
  refine congrArg (V m c main_v11) ?_
  funext x
  apply Fin.ext
  match x with
  | ⟨0, _⟩ => show win0_10.index t 0 * 1 + 1 * z.val = p.val; rw [e0]; omega
  | ⟨1, _⟩ => show win0_10.index t 1 * 256 + 1 * a.val = a.val; rw [e1]; omega
  | ⟨2, _⟩ => show win0_10.index t 2 * 768 + 1 * l.val = l.val; rw [e2]; omega

/-- Lanes of a block, read at its own index. -/
theorem lanes_at (off : ℕ) (x : Vec F S256x512 .bf16) (inb) (a : Fin 256) (l : Fin 128) (k : Fin 512) (hk : k.val = off + l.val) :
    (View.ld (Val := Elt F) (e' := .bf16) x (Rect.unit (s := S256x512) ![0, off] S256x128.size inb) : Vec F S256x128 .bf16) (ix2 a l) = x (ix2 a k) := by
  refine View.ld_unit_apply_of (Val := Elt F) (e := .bf16) x _ _ inb _ _ ?_
  intro y
  match y with
  | ⟨0, _⟩ => show a.val = 0 + a.val; omega
  | ⟨1, _⟩ => exact hk

end Cert.KernelIdeal.Windows
-- ==== Proof.Tables.lean ====
module
public import proofs.«01_k».proof.KernelIdeal
@[expose] public section
noncomputable section
namespace Cert.Tables
open Cert.KernelIdeal Idealize.ShloMosaic

/-! ## The neighbourhood, in plain numbers

Positions are a row and a column of a 64 by 64 grid. -/

/-- Key row `rk` lies in the 8 rows that query row `rq` attends to. -/
abbrev rowIn (rq rk : ℕ) : Prop := min (rq - 4) 56 ≤ rk ∧ rk < min (rq - 4) 56 + 8
/-- Key column `ck` lies in the 16 columns that query column `cq` attends to. -/
abbrev colIn (cq ck : ℕ) : Prop := min (cq - 8) 48 ≤ ck ∧ ck < min (cq - 8) 48 + 16
/-- The row of the bias table. -/
abbrev rowOff (rq rk : ℕ) : ℕ := min (rk + 7 - rq) 14
/-- The column of the bias table. -/
abbrev colOff (cq ck : ℕ) : ℕ := min (ck + 15 - cq) 30
/-- Window row `s` (of twelve) of tile row `j` (of four) under row mask `p`. -/
abbrev winIn (p j s : ℕ) : Prop := (p = 0 ∧ 4 ≤ s) ∨ (p = 1 ∧ j ≤ s ∧ s < j + 8) ∨ (p = 2 ∧ s < 8)

theorem lit0_eq : ∀ n : Fin 48, ((lit0 n).toInt.toNat) = n.val % 12 + 3 - n.val / 12 := by decide +kernel
theorem lit1_eq : ∀ n : Fin 4096, ((lit1 n).toInt.toNat) = colOff (n.val / 64) (n.val % 64) := by decide +kernel
theorem lit2_eq : ∀ n : Fin 4096, lit2 n = if colIn (n.val / 64) (n.val % 64) then 1#1 else 0#1 := by decide +kernel
theorem lit3_eq : ∀ n : Fin 192, lit3 n = if winIn (n.val / 48) (n.val / 12 % 4) (n.val % 12) then 0x00000000#32 else 0xFF800000#32 := by
  decide +kernel

end Cert.Tables
-- ==== Proof.Softmax.lean ====
module
public import Idealize.ShloMosaic.PureOps.Ideal.Laws
@[expose] public section
noncomputable section
namespace Cert.Softmax
open Idealize.ShloMosaic

/-! ## A softmax average over scores some of which are minus infinity -/

/-- The weight of a score: its exponential, and nothing for minus infinity. -/
def wt (s : EReal) : ℝ := if s = ⊥ then 0 else Real.exp s.toReal

theorem wt_bot : wt ⊥ = 0 := by simp [wt]
theorem wt_coe (r : ℝ) : wt (r : EReal) = Real.exp r := by simp [wt]
theorem wt_nonneg (s : EReal) : 0 ≤ wt s := by
  unfold wt; split
  · exact le_rfl
  · exact (Real.exp_pos _).le
theorem wt_pos {s : EReal} (h : s ≠ ⊥) : 0 < wt s := by
  rw [wt, if_neg h]; exact Real.exp_pos _

/-- Subtracting a real number from the score scales its weight. -/
theorem exp_sub {s : EReal} (h : s ≠ ⊤) (m : ℝ) : Ideal.exp (s - (m : EReal)) = ((wt s * Real.exp (-m) : ℝ) : EReal) := by
  induction s with
  | bot => rw [wt_bot, zero_mul, EReal.coe_zero, EReal.bot_sub]; rfl
  | top => exact absurd rfl h
  | coe r =>
    rw [wt_coe, ← EReal.coe_sub, ← Real.exp_add]
    rfl

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem fold_max_ne_top {ι : Type*} (t : Finset ι) (f : ι → EReal) (b : EReal) (hb : b ≠ ⊤) (h : ∀ i ∈ t, f i ≠ ⊤) : t.fold max b f ≠ ⊤ := by
  have : t.fold max b f < ⊤ := Finset.fold_max_lt ⊤ |>.mpr ⟨lt_top_iff_ne_top.mpr hb, fun i hi => lt_top_iff_ne_top.mpr (h i hi)⟩
  exact this.ne

theorem fold_max_ne_bot {ι : Type*} (t : Finset ι) (f : ι → EReal) (b : EReal) {i : ι} (hi : i ∈ t) (h : f i ≠ ⊥) : t.fold max b f ≠ ⊥ := by
  have : ⊥ < t.fold max b f := Finset.lt_fold_max ⊥ |>.mpr (Or.inr ⟨i, hi, bot_lt_iff_ne_bot.mpr h⟩)
  exact this.ne'

theorem div_coe (a b : ℝ) (hb : b ≠ 0) : Ideal.div (a : EReal) (b : EReal) = ((a / b : ℝ) : EReal) := by
  have h0 : (b : EReal) ≠ 0 := by simpa using hb
  rw [Ideal.div, if_neg h0, ← EReal.coe_inv, ← EReal.coe_mul, div_eq_mul_inv]

/-- A common positive factor leaves a quotient. -/
theorem scaled_quotient (n d e : ℝ) (he : e ≠ 0) : (n * e) / (d * e) = n / d := mul_div_mul_right n d he

end Cert.Softmax
end
-- ==== Proof.BlockIdeal.lean ====
module
public import proofs.«01_k».proof.Proof.Block
public import proofs.«01_k».proof.Proof.Softmax
public import Idealize.ShloMosaic.Lib.MatmulPlain
public import Idealize.ShloMosaic.Lib.ValueIdx
@[expose] public section
noncomputable section
namespace Cert.KernelIdeal.Block
open Cert.KernelIdeal Cert.KernelIdeal.Gen Idealize.ShloMosaic.TcCoe Idealize.SL.Sem
open Idealize.ShloMosaic
open Idealize.ShloMosaic.ValueIdx Cert.Softmax

/-! ## The pair's block at the ideal values, one entry at a time -/

/-- Row of head `h` and query `a` in the stacked arrays. -/
def r2 (h : Fin 2) (a : Fin 256) : Fin 512 := ⟨256 * h.val + a.val, by omega⟩
/-- Lane `d` of head `h`. -/
def ln (h : Fin 2) (d : Fin 64) : Fin 128 := ⟨64 * h.val + d.val, by omega⟩
/-- Key `c` of window tile `i`. -/
def wk (i : Fin 3) (c : Fin 256) : Fin 768 := ⟨256 * i.val + c.val, by omega⟩

theorem low_apply (a : Fin 256) (l : Fin 128) : low (ix2 a l) = if l.val < 64 then 1#1 else 0#1 := by
  have : ∀ l : Fin 128, IntOp.cmpi .slt (BitVec.ofNat 32 l.val) (64#32) = if l.val < 64 then 1#1 else 0#1 := by decide +kernel
  unfold low
  rw [← this l]
  show IntOp.cmpi .slt (iota .tc S256x128 32 [1] iota_S256x128_d1_w32 (ix2 a l)) (64#32) = _
  rw [iota_single_apply]

theorem eighth : Ideal.ofBits .bf16 0x3E00#16 = (((1 : ℝ) / 8 : ℝ) : EReal) := by
  simp [Ideal.ofBits, Ideal.ieee, -EReal.coe_mul]; norm_num

theorem zero_bf16 : Ideal.ofBits .bf16 0x0000#16 = (0 : EReal) := by simp [Ideal.ofBits, Ideal.ieee]

theorem qs_apply (q : FVec Ideal S256x128 .bf16) (h : Fin 2) (a : Fin 256) (l : Fin 128) :
    qs q (ix2 (r2 h a) l) = if l.val / 64 = h.val then q (ix2 a l) * (((1 : ℝ) / 8 : ℝ) : EReal) else 0 := by
  have hm : ∀ l, mulf q (broadcast S256x128 (Scalar.ofBits .bf16 0x3E00#16 : Ideal .bf16)) (ix2 a l) = q (ix2 a l) * (((1 : ℝ) / 8 : ℝ) : EReal) := fun l => by
    rw [← eighth]; rfl
  have hz : broadcast S256x128 (Scalar.ofBits .bf16 0x0000#16 : Ideal .bf16) (ix2 a l) = (0 : EReal) := zero_bf16
  have hl := l.isLt
  unfold qs
  match h with
  | ⟨0, _⟩ =>
    refine (concatenate_pair_apply_left (s₁ := S256x128) (s₂ := S256x128) _ _ _ _ (ix2 (r2 ⟨0, by omega⟩ a) l) rfl (ix2 a l) (fun b => match b with
      | ⟨0, _⟩ => by show a.val = 256 * 0 + a.val; omega
      | ⟨1, _⟩ => rfl)).trans ?_
    rw [select_apply, low_apply, hz, hm]
    show _ = if l.val / 64 = 0 then _ else _
    by_cases hc : l.val < 64
    · rw [if_pos hc, if_pos (by omega)]; exact select_one _ _
    · rw [if_neg hc, if_neg (by omega)]; exact select_zero _ _
  | ⟨1, _⟩ =>
    refine (concatenate_pair_apply_right (s₁ := S256x128) (s₂ := S256x128) _ _ _ _ (ix2 (r2 ⟨1, by omega⟩ a) l) rfl rfl (ix2 a l) (fun b => match b with
      | ⟨0, _⟩ => fun hb => absurd rfl hb
      | ⟨1, _⟩ => fun _ => rfl) (by show a.val + 256 = 256 * 1 + a.val; omega)).trans ?_
    rw [select_apply, low_apply, hz, hm]
    show _ = if l.val / 64 = 1 then _ else _
    by_cases hc : l.val < 64
    · rw [if_pos hc, if_neg (by omega)]; exact select_one _ _
    · rw [if_neg hc, if_pos (by omega)]; exact select_zero _ _

/-- One score: the head's dot product over its 64 lanes, times an eighth. -/
def dot64 (Q K : S256x128.Idx → ℝ) (h : Fin 2) (a c : Fin 256) : ℝ := (∑ d : Fin 64, Q (ix2 a (ln h d)) * K (ix2 c (ln h d))) * (1 / 8)

theorem sum128 (f : Fin 128 → EReal) : ∑ l, f l = (∑ d : Fin 64, f (ln 0 d)) + ∑ d : Fin 64, f (ln 1 d) := by
  refine (Fin.sum_univ_add (a := 64) (b := 64) f).trans ?_
  refine congrArg₂ (· + ·) (Finset.sum_congr rfl fun d _ => congrArg f (Fin.ext ?_)) (Finset.sum_congr rfl fun d _ => congrArg f (Fin.ext ?_))
  · show d.val = 64 * 0 + d.val; omega
  · show 64 + d.val = 64 * 1 + d.val; omega

theorem sc_apply (Q K : S256x128.Idx → ℝ) (h : Fin 2) (a c : Fin 256) :
    sc (F := Ideal) (fun i => (Q i : EReal)) (fun i => (K i : EReal)) (ix2 (r2 h a) c) = (dot64 Q K h a c : EReal) := by
  refine (Ideal.matmul_transposedRhs_apply none _ _ _ (r2 h a) c).trans ?_
  have hz : (constant S512x256 .f32 0x00000000#32 : FVec Ideal S512x256 .f32) (ix2 (r2 h a) c) = (0 : EReal) := Ideal.ofBits_zero_f32
  rw [show (constant (⟨2, ![512, 256]⟩ : Shape) .f32 0x00000000#32 : FVec Ideal (⟨2, ![512, 256]⟩ : Shape) .f32) (ix2 (r2 h a) c) = (0 : EReal) from hz, zero_add]
  rw [sum128]
  simp only [qs_apply]
  have hb : ∀ h' : Fin 2, ∀ d : Fin 64, (ln h' d).val / 64 = h'.val := fun h' d => by
    show (64 * h'.val + d.val) / 64 = h'.val; omega
  simp only [hb]
  have key : ∀ h' : Fin 2, ∑ d : Fin 64, ((Q (ix2 a (ln h' d)) : EReal) * (((1 : ℝ) / 8 : ℝ) : EReal)) * (K (ix2 c (ln h' d)) : EReal) = (dot64 Q K h' a c : EReal) := fun h' => by
    rw [dot64, Finset.sum_mul, coe_sum]
    refine Finset.sum_congr rfl fun d _ => ?_
    rw [← EReal.coe_mul, ← EReal.coe_mul]; congr 1; ring
  match h with
  | ⟨0, _⟩ =>
    simp only [Fin.val_zero, Fin.val_one, if_true, show ¬ (1 = 0) by omega, if_false, zero_mul, Finset.sum_const_zero, add_zero]
    exact key 0
  | ⟨1, _⟩ =>
    simp only [Fin.val_zero, Fin.val_one, if_true, show ¬ (0 = 1) by omega, if_false, zero_mul, Finset.sum_const_zero, zero_add]
    exact key 1

theorem sc3_apply (q k0 k1 k2 : FVec Ideal S256x128 .bf16) (r : Fin 512) (i : Fin 3) (c : Fin 256) :
    sc3 q k0 k1 k2 (ix2 r (wk i c)) = sc q (![k0, k1, k2] i) (ix2 r c) := by
  unfold sc3
  match i with
  | ⟨0, _⟩ => exact concatenate_apply_piece (1 : Fin S512x768.rank) [⟨S512x256, sc q k0⟩, ⟨S512x256, sc q k1⟩, ⟨S512x256, sc q k2⟩] concatenates_S512x256_S512x256_S512x256_S512x768_d1 (ix2 r (wk 0 c)) 0 (by decide : 0 < 3) S512x256 (sc q k0) rfl rfl 0 rfl (ix2 r c) (fun b => match b with
      | ⟨0, _⟩ => fun _ => rfl
      | ⟨1, _⟩ => fun hb => absurd rfl hb) (by show 0 + c.val = 256 * 0 + c.val; omega)
  | ⟨1, _⟩ => exact concatenate_apply_piece (1 : Fin S512x768.rank) [⟨S512x256, sc q k0⟩, ⟨S512x256, sc q k1⟩, ⟨S512x256, sc q k2⟩] concatenates_S512x256_S512x256_S512x256_S512x768_d1 (ix2 r (wk 1 c)) 1 (by decide : 1 < 3) S512x256 (sc q k1) rfl rfl 256 rfl (ix2 r c) (fun b => match b with
      | ⟨0, _⟩ => fun _ => rfl
      | ⟨1, _⟩ => fun hb => absurd rfl hb) (by show 256 + c.val = 256 * 1 + c.val; omega)
  | ⟨2, _⟩ => exact concatenate_apply_piece (1 : Fin S512x768.rank) [⟨S512x256, sc q k0⟩, ⟨S512x256, sc q k1⟩, ⟨S512x256, sc q k2⟩] concatenates_S512x256_S512x256_S512x256_S512x768_d1 (ix2 r (wk 2 c)) 2 (by decide : 2 < 3) S512x256 (sc q k2) rfl rfl 512 rfl (ix2 r c) (fun b => match b with
      | ⟨0, _⟩ => fun _ => rfl
      | ⟨1, _⟩ => fun hb => absurd rfl hb) (by show 512 + c.val = 256 * 2 + c.val; omega)

theorem bm_apply (b : FVec Ideal S1x1x256x768 .f32) (mk : FVec Ideal S1x256x768 .f32) (a : Fin 256) (j : Fin 768) :
    bm b mk (ix2 a j) = b (ix4 0 0 a j) + mk (ix3 0 a j) := by
  unfold bm
  rw [addf_apply]
  refine congrArg₂ (· + ·) (shapeCast_apply _ _ _ _ ?_) (shapeCast_apply _ _ _ _ ?_)
  · rw [Shape.rowMajor_val_two, Shape.rowMajor_val_four]; show ((0 * 1 + 0) * 256 + a.val) * 768 + j.val = a.val * 768 + j.val; omega
  · rw [Shape.rowMajor_val_two, Shape.rowMajor_val_three]; show (0 * 256 + a.val) * 768 + j.val = a.val * 768 + j.val; omega

theorem sl0_apply (q k0 k1 k2 : FVec Ideal S256x128 .bf16) (b : FVec Ideal S1x1x256x768 .f32) (mk : FVec Ideal S1x256x768 .f32) (a : Fin 256) (i : Fin 3) (c : Fin 256) :
    sl0 q k0 k1 k2 b mk (ix2 a (wk i c)) = sc q (![k0, k1, k2] i) (ix2 (r2 0 a) c) + (b (ix4 0 0 a (wk i c)) + mk (ix3 0 a (wk i c))) := by
  unfold sl0
  rw [addf_apply, bm_apply]
  refine congrArg (· + _) ((extractStridedSlice_apply _ _ _ _ (ix2 (r2 0 a) (wk i c)) (fun b => match b with
    | ⟨0, _⟩ => by show 256 * 0 + a.val = 0 + a.val; omega
    | ⟨1, _⟩ => by show _ = 0 + _; exact (Nat.zero_add _).symm)).trans (sc3_apply ..))

theorem sl1_apply (q k0 k1 k2 : FVec Ideal S256x128 .bf16) (b : FVec Ideal S1x1x256x768 .f32) (mk : FVec Ideal S1x256x768 .f32) (a : Fin 256) (i : Fin 3) (c : Fin 256) :
    sl1 q k0 k1 k2 b mk (ix2 a (wk i c)) = sc q (![k0, k1, k2] i) (ix2 (r2 1 a) c) + (b (ix4 0 0 a (wk i c)) + mk (ix3 0 a (wk i c))) := by
  unfold sl1
  rw [addf_apply, bm_apply]
  refine congrArg (· + _) ((extractStridedSlice_apply _ _ _ _ (ix2 (r2 1 a) (wk i c)) (fun b => match b with
    | ⟨0, _⟩ => by show 256 * 1 + a.val = 256 + a.val; omega
    | ⟨1, _⟩ => by show _ = 0 + _; exact (Nat.zero_add _).symm)).trans (sc3_apply ..))

theorem sx0_apply (q kc : FVec Ideal S256x128 .bf16) (a c : Fin 256) : sx0 q kc (ix2 a c) = sc q kc (ix2 (r2 0 a) c) :=
  extractStridedSlice_apply _ _ _ _ (ix2 (r2 0 a) c) (fun b => match b with
    | ⟨0, _⟩ => by show 256 * 0 + a.val = 0 + a.val; omega
    | ⟨1, _⟩ => by show _ = 0 + _; exact (Nat.zero_add _).symm)

theorem sx1_apply (q kc : FVec Ideal S256x128 .bf16) (a c : Fin 256) : sx1 q kc (ix2 a c) = sc q kc (ix2 (r2 1 a) c) :=
  extractStridedSlice_apply _ _ _ _ (ix2 (r2 1 a) c) (fun b => match b with
    | ⟨0, _⟩ => by show 256 * 1 + a.val = 256 + a.val; omega
    | ⟨1, _⟩ => by show _ = 0 + _; exact (Nat.zero_add _).symm)

/-- Reading a column of row values broadcast along a row. -/
theorem col768 (x : FVec Ideal S256x1 .f32) (a : Fin 256) (j : Fin 768) : broadcastTo S256x768 x broadcasts_S256x1_S256x768 (ix2 a j) = x (ix2 a 0) :=
  broadcastTo_apply _ _ _ _ (fun b => match b with
    | ⟨0, _⟩ => rfl
    | ⟨1, _⟩ => rfl)
theorem col256 (x : FVec Ideal S256x1 .f32) (a : Fin 256) (j : Fin 256) : broadcastTo S256x256 x broadcasts_S256x1_S256x256 (ix2 a j) = x (ix2 a 0) :=
  broadcastTo_apply _ _ _ _ (fun b => match b with
    | ⟨0, _⟩ => rfl
    | ⟨1, _⟩ => rfl)
theorem col128 (x : FVec Ideal S256x1 .f32) (a : Fin 256) (j : Fin 128) : broadcastTo S256x128 x broadcasts_S256x1_S256x128 (ix2 a j) = x (ix2 a 0) :=
  broadcastTo_apply _ _ _ _ (fun b => match b with
    | ⟨0, _⟩ => rfl
    | ⟨1, _⟩ => rfl)
theorem col1 (x : FVec Ideal S256 .f32) (a : Fin 256) : shapeCast S256x1 x shapeCasts_S256_S256x1 (ix2 a 0) = x (ix1 a) :=
  shapeCast_apply _ _ _ _ (by rw [Shape.rowMajor_val_two, Shape.rowMajor_val_one]; show a.val = a.val * 1 + 0; omega)

theorem ninf : Ideal.ofBits .f32 0xFF800000#32 = (⊥ : EReal) := by simp [Ideal.ofBits, Ideal.ieee]

theorem mx_apply (l : FVec Ideal S256x768 .f32) (x : FVec Ideal S256x256 .f32) (a : Fin 256) :
    mx l x (ix2 a 0) = max ((Finset.univ : Finset (Fin 768)).fold max (⊥ : EReal) fun j => l (ix2 a j)) ((Finset.univ : Finset (Fin 256)).fold max (⊥ : EReal) fun j => x (ix2 a j)) := by
  unfold mx
  rw [maximumf_apply, col1, col1]
  refine congrArg₂ max ((Ideal.multiReduction_maximumf_single _ _ _ _ _ _).trans ?_) ((Ideal.multiReduction_maximumf_single _ _ _ _ _ _).trans ?_)
  · rw [show (FloatOps.ofBits .f32 0xFF800000#32 : Ideal .f32) = (⊥ : EReal) from ninf]
    refine congrArg (Finset.fold max (⊥ : EReal) · (Finset.univ : Finset (Fin 768))) (funext fun k => congrArg l (funext fun b => ?_))
    match b with
    | ⟨0, _⟩ => rfl
    | ⟨1, _⟩ => rfl
  · rw [show (FloatOps.ofBits .f32 0xFF800000#32 : Ideal .f32) = (⊥ : EReal) from ninf]
    refine congrArg (Finset.fold max (⊥ : EReal) · (Finset.univ : Finset (Fin 256))) (funext fun k => congrArg x (funext fun b => ?_))
    match b with
    | ⟨0, _⟩ => rfl
    | ⟨1, _⟩ => rfl

theorem den_apply (l : FVec Ideal S256x768 .f32) (x : FVec Ideal S256x256 .f32) (a : Fin 256) :
    den l x (ix2 a 0) = (∑ j : Fin 768, el l x (ix2 a j)) + ∑ j : Fin 256, ex l x (ix2 a j) := by
  unfold den
  rw [addf_apply, col1, col1]
  refine congrArg₂ (· + ·) ((Ideal.multiReduction_add_single _ _ _ _ _ _).trans ?_) ((Ideal.multiReduction_add_single _ _ _ _ _ _).trans ?_)
  · refine Finset.sum_congr rfl fun k _ => congrArg (el l x) (funext fun b => ?_)
    match b with
    | ⟨0, _⟩ => rfl
    | ⟨1, _⟩ => rfl
  · refine Finset.sum_congr rfl fun k _ => congrArg (ex l x) (funext fun b => ?_)
    match b with
    | ⟨0, _⟩ => rfl
    | ⟨1, _⟩ => rfl

theorem sum768 (f : Fin 768 → EReal) : ∑ j, f j = ∑ i : Fin 3, ∑ c : Fin 256, f (wk i c) := by
  rw [← Finset.sum_product', Finset.univ_product_univ, ← Equiv.sum_comp (finProdFinEquiv : Fin 3 × Fin 256 ≃ Fin (3 * 256))]
  refine Finset.sum_congr rfl fun p _ => congrArg f (Fin.ext ?_)
  show p.2.val + 256 * p.1.val = 256 * p.1.val + p.2.val
  omega

theorem el_apply (l : FVec Ideal S256x768 .f32) (x : FVec Ideal S256x256 .f32) (a : Fin 256) (j : Fin 768) :
    el l x (ix2 a j) = Ideal.exp (l (ix2 a j) - mx l x (ix2 a 0)) := by
  show Ideal.exp (l (ix2 a j) - _) = _
  rw [col768]
theorem ex_apply (l : FVec Ideal S256x768 .f32) (x : FVec Ideal S256x256 .f32) (a : Fin 256) (j : Fin 256) :
    ex l x (ix2 a j) = Ideal.exp (x (ix2 a j) - mx l x (ix2 a 0)) := by
  show Ideal.exp (x (ix2 a j) - _) = _
  rw [col256]

/-- The row's largest score is a real number: the context scores are. -/
theorem mx_real (l : FVec Ideal S256x768 .f32) (x : FVec Ideal S256x256 .f32) (a : Fin 256) (hl : ∀ j, l (ix2 a j) ≠ ⊤)
    (X : Fin 256 → ℝ) (hx : ∀ c, x (ix2 a c) = (X c : EReal)) : ∃ m : ℝ, mx l x (ix2 a 0) = (m : EReal) := by
  rw [mx_apply]
  have h1 : (Finset.univ : Finset (Fin 768)).fold max (⊥ : EReal) (fun j => l (ix2 a j)) ≠ ⊤ := fold_max_ne_top _ _ _ bot_ne_top fun j _ => hl j
  have h2 : (Finset.univ : Finset (Fin 256)).fold max (⊥ : EReal) (fun j => x (ix2 a j)) ≠ ⊤ := fold_max_ne_top _ _ _ bot_ne_top fun j _ => by rw [hx]; exact EReal.coe_ne_top _
  have h3 : (Finset.univ : Finset (Fin 256)).fold max (⊥ : EReal) (fun j => x (ix2 a j)) ≠ ⊥ := fold_max_ne_bot _ _ _ (Finset.mem_univ (0 : Fin 256)) (by rw [hx]; exact EReal.coe_ne_bot _)
  refine ⟨_, (EReal.coe_toReal ?_ ?_).symm⟩
  · exact (max_lt (lt_top_iff_ne_top.mpr h1) (lt_top_iff_ne_top.mpr h2)).ne
  · exact (lt_max_of_lt_right (bot_lt_iff_ne_bot.mpr h3)).ne'

theorem e2_apply (l0 l1 : FVec Ideal S256x768 .f32) (x0 x1 : FVec Ideal S256x256 .f32) (h : Fin 2) (a : Fin 256) (j : Fin 768) :
    e2 l0 l1 x0 x1 (ix2 (r2 h a) j) = el (![l0, l1] h) (![x0, x1] h) (ix2 a j) := by
  unfold e2
  match h with
  | ⟨0, _⟩ =>
    exact (concatenate_pair_apply_left (s₁ := S256x768) (s₂ := S256x768) _ _ _ _ (ix2 (r2 0 a) j) rfl (ix2 (n0 := 256) a j) (fun b => match b with
      | ⟨0, _⟩ => by show a.val = 256 * 0 + a.val; omega
      | ⟨1, _⟩ => rfl))
  | ⟨1, _⟩ =>
    exact (concatenate_pair_apply_right (s₁ := S256x768) (s₂ := S256x768) _ _ _ _ (ix2 (r2 1 a) j) rfl rfl (ix2 (n0 := 256) a j) (fun b => match b with
      | ⟨0, _⟩ => fun hb => absurd rfl hb
      | ⟨1, _⟩ => fun _ => rfl) (by show a.val + 256 = 256 * 1 + a.val; omega))

theorem ec2_apply (l0 l1 : FVec Ideal S256x768 .f32) (x0 x1 : FVec Ideal S256x256 .f32) (h : Fin 2) (a : Fin 256) (j : Fin 256) :
    ec2 l0 l1 x0 x1 (ix2 (r2 h a) j) = ex (![l0, l1] h) (![x0, x1] h) (ix2 a j) := by
  unfold ec2
  match h with
  | ⟨0, _⟩ =>
    exact (concatenate_pair_apply_left (s₁ := S256x256) (s₂ := S256x256) _ _ _ _ (ix2 (r2 0 a) j) rfl (ix2 (n0 := 256) a j) (fun b => match b with
      | ⟨0, _⟩ => by show a.val = 256 * 0 + a.val; omega
      | ⟨1, _⟩ => rfl))
  | ⟨1, _⟩ =>
    exact (concatenate_pair_apply_right (s₁ := S256x256) (s₂ := S256x256) _ _ _ _ (ix2 (r2 1 a) j) rfl rfl (ix2 (n0 := 256) a j) (fun b => match b with
      | ⟨0, _⟩ => fun hb => absurd rfl hb
      | ⟨1, _⟩ => fun _ => rfl) (by show a.val + 256 = 256 * 1 + a.val; omega))

theorem pv_apply (e : FVec Ideal S512x256 .bf16) (v : FVec Ideal S256x128 .bf16) (r : Fin 512) (l : Fin 128) :
    pv e v (ix2 r l) = ∑ c : Fin 256, e (ix2 r c) * v (ix2 c l) := by
  refine (Ideal.matmul_plain_apply none _ _ _ r l).trans ?_
  rw [show (constant (⟨2, ![512, 128]⟩ : Shape) .f32 0x00000000#32 : FVec Ideal (⟨2, ![512, 128]⟩ : Shape) .f32) (ix2 r l) = (0 : EReal) from Ideal.ofBits_zero_f32, zero_add]

theorem acc_apply (e : FVec Ideal S512x768 .bf16) (ec : FVec Ideal S512x256 .bf16) (v0 v1 v2 vc : FVec Ideal S256x128 .bf16) (r : Fin 512) (l : Fin 128) :
    acc e ec v0 v1 v2 vc (ix2 r l) = (((∑ c : Fin 256, ec (ix2 r c) * vc (ix2 c l)) + ∑ c : Fin 256, e (ix2 r (wk 0 c)) * v0 (ix2 c l))
      + ∑ c : Fin 256, e (ix2 r (wk 1 c)) * v1 (ix2 c l)) + ∑ c : Fin 256, e (ix2 r (wk 2 c)) * v2 (ix2 c l) := by
  unfold acc
  rw [addf_apply, addf_apply, addf_apply, pv_apply, pv_apply, pv_apply, pv_apply]
  refine congrArg₂ (· + ·) (congrArg₂ (· + ·) (congrArg₂ (· + ·) rfl ?_) ?_) ?_ <;>
    refine Finset.sum_congr rfl fun c _ => congrArg (· * _) (extractStridedSlice_apply _ _ _ _ _ (fun b => match b with
      | ⟨0, _⟩ => (Nat.zero_add _).symm
      | ⟨1, _⟩ => ?_))
  · show 256 * 0 + c.val = 0 + c.val; omega
  · show 256 * 1 + c.val = 256 + c.val; omega
  · show 256 * 2 + c.val = 512 + c.val; omega

theorem fin_apply (A : FVec Ideal S512x128 .f32) (d0 d1 : FVec Ideal S256x1 .f32) (a : Fin 256) (h : Fin 2) (d : Fin 64) :
    fin A d0 d1 (ix2 a (ln h d)) = Ideal.div (A (ix2 (r2 h a) (ln h d))) (![d0, d1] h (ix2 a 0)) := by
  unfold fin
  rw [truncf_apply, select_apply, low_apply]
  match h with
  | ⟨0, _⟩ =>
    rw [if_pos (by show 64 * 0 + d.val < 64; omega)]
    refine (select_one _ _).trans ?_
    rw [divf_apply, col128]
    exact congrArg (Ideal.div · _) (extractStridedSlice_apply _ _ _ _ _ (fun b => match b with
      | ⟨0, _⟩ => by show 256 * 0 + a.val = 0 + a.val; omega
      | ⟨1, _⟩ => (Nat.zero_add _).symm))
  | ⟨1, _⟩ =>
    rw [if_neg (by show ¬ (64 * 1 + d.val < 64); omega)]
    refine (select_zero _ _).trans ?_
    rw [divf_apply, col128]
    exact congrArg (Ideal.div · _) (extractStridedSlice_apply _ _ _ _ _ (fun b => match b with
      | ⟨0, _⟩ => by show 256 * 1 + a.val = 256 + a.val; omega
      | ⟨1, _⟩ => (Nat.zero_add _).symm))

/-- The score of a window key: the dot product plus the bias and the row mask. -/
def wscore (Q : S256x128.Idx → ℝ) (K : Fin 3 → S256x128.Idx → ℝ) (b : FVec Ideal S1x1x256x768 .f32) (mk : FVec Ideal S1x256x768 .f32)
    (h : Fin 2) (a : Fin 256) (i : Fin 3) (c : Fin 256) : EReal :=
  (dot64 Q (K i) h a c : EReal) + (b (ix4 0 0 a (wk i c)) + mk (ix3 0 a (wk i c)))

/-- One entry of a pair's block: the weighted mean of the values over window and context. -/
theorem pairVal_apply (Q : S256x128.Idx → ℝ) (K V : Fin 3 → S256x128.Idx → ℝ) (KC VC : S256x128.Idx → ℝ)
    (b : Fin 2 → FVec Ideal S1x1x256x768 .f32) (mk : FVec Ideal S1x256x768 .f32)
    (hb : ∀ h a j, b h (ix4 0 0 a j) ≠ ⊤) (hm : ∀ a j, mk (ix3 0 a j) ≠ ⊤) (a : Fin 256) (h : Fin 2) (d : Fin 64) :
    pairVal (F := Ideal) (fun i => (Q i : EReal)) (fun i => (K 0 i : EReal)) (fun i => (K 1 i : EReal)) (fun i => (K 2 i : EReal)) (fun i => (KC i : EReal))
      (fun i => (V 0 i : EReal)) (fun i => (V 1 i : EReal)) (fun i => (V 2 i : EReal)) (fun i => (VC i : EReal)) (b 0) (b 1) mk (ix2 a (ln h d))
      = ((((∑ i : Fin 3, ∑ c : Fin 256, wt (wscore Q K (b h) mk h a i c) * V i (ix2 c (ln h d))) + ∑ c : Fin 256, Real.exp (dot64 Q KC h a c) * VC (ix2 c (ln h d)))
        / ((∑ i : Fin 3, ∑ c : Fin 256, wt (wscore Q K (b h) mk h a i c)) + ∑ c : Fin 256, Real.exp (dot64 Q KC h a c)) : ℝ) : EReal) := by
  unfold pairVal
  rw [fin_apply, acc_apply]
  simp only [e2_apply, ec2_apply]
  generalize hL0 : sl0 (F := Ideal) (fun i => (Q i : EReal)) (fun i => (K 0 i : EReal)) (fun i => (K 1 i : EReal)) (fun i => (K 2 i : EReal)) (b 0) mk = L0
  generalize hL1 : sl1 (F := Ideal) (fun i => (Q i : EReal)) (fun i => (K 0 i : EReal)) (fun i => (K 1 i : EReal)) (fun i => (K 2 i : EReal)) (b 1) mk = L1
  generalize hX0 : sx0 (F := Ideal) (fun i => (Q i : EReal)) (fun i => (KC i : EReal)) = X0
  generalize hX1 : sx1 (F := Ideal) (fun i => (Q i : EReal)) (fun i => (KC i : EReal)) = X1
  have hK : ∀ i : Fin 3, (![fun j => (K 0 j : EReal), fun j => (K 1 j : EReal), fun j => (K 2 j : EReal)] : Fin 3 → S256x128.Idx → EReal) i = fun j => (K i j : EReal) := fun i => by
    match i with
    | ⟨0, _⟩ => rfl
    | ⟨1, _⟩ => rfl
    | ⟨2, _⟩ => rfl
  have hl : ∀ (i : Fin 3) (c : Fin 256), (![L0, L1] : Fin 2 → FVec Ideal S256x768 .f32) h (ix2 a (wk i c)) = wscore Q K (b h) mk h a i c := fun i c => by
    match h with
    | ⟨0, _⟩ =>
      show L0 _ = _
      rw [← hL0, sl0_apply]
      refine congrArg (· + _) ?_
      rw [← sc_apply]
      exact congrArg (fun k => sc (F := Ideal) (fun i => (Q i : EReal)) k (ix2 (r2 0 a) c)) (hK i)
    | ⟨1, _⟩ =>
      show L1 _ = _
      rw [← hL1, sl1_apply]
      refine congrArg (· + _) ?_
      rw [← sc_apply]
      exact congrArg (fun k => sc (F := Ideal) (fun i => (Q i : EReal)) k (ix2 (r2 1 a) c)) (hK i)
  have hx : ∀ c : Fin 256, (![X0, X1] : Fin 2 → FVec Ideal S256x256 .f32) h (ix2 a c) = (dot64 Q KC h a c : EReal) := fun c => by
    match h with
    | ⟨0, _⟩ => show X0 _ = _; rw [← hX0, sx0_apply, sc_apply]; rfl
    | ⟨1, _⟩ => show X1 _ = _; rw [← hX1, sx1_apply, sc_apply]; rfl
  have hd : (![den L0 X0, den L1 X1] : Fin 2 → FVec Ideal S256x1 .f32) h = den ((![L0, L1] : Fin 2 → FVec Ideal S256x768 .f32) h) ((![X0, X1] : Fin 2 → FVec Ideal S256x256 .f32) h) := by
    match h with
    | ⟨0, _⟩ => rfl
    | ⟨1, _⟩ => rfl
  rw [hd, den_apply, sum768]
  generalize (![L0, L1] : Fin 2 → FVec Ideal S256x768 .f32) h = L at hl ⊢
  generalize (![X0, X1] : Fin 2 → FVec Ideal S256x256 .f32) h = X at hx ⊢
  have hs : ∀ i c, wscore Q K (b h) mk h a i c ≠ ⊤ := fun i c => by
    unfold wscore
    exact EReal.add_ne_top (EReal.coe_ne_top _) (EReal.add_ne_top (hb h a _) (hm a _))
  have hLt : ∀ j, L (ix2 a j) ≠ ⊤ := fun j => by
    have e : j = wk ⟨j.val / 256, by omega⟩ ⟨j.val % 256, by omega⟩ := Fin.ext (by show j.val = 256 * (j.val / 256) + j.val % 256; omega)
    rw [e, hl]; exact hs _ _
  obtain ⟨m, hmx⟩ := mx_real L X a hLt _ hx
  have he : ∀ i c, el L X (ix2 a (wk i c)) = ((wt (wscore Q K (b h) mk h a i c) * Real.exp (-m) : ℝ) : EReal) := fun i c => by
    rw [el_apply, hmx, hl, exp_sub (hs i c)]
  have hex : ∀ c, ex L X (ix2 a c) = ((Real.exp (dot64 Q KC h a c) * Real.exp (-m) : ℝ) : EReal) := fun c => by
    rw [ex_apply, hmx, hx, exp_sub (EReal.coe_ne_top _), wt_coe]
  simp only [he, hex, ← EReal.coe_mul, ← coe_sum, ← EReal.coe_add]
  have hE : Real.exp (-m) ≠ 0 := (Real.exp_pos _).ne'
  have hpos : 0 < (∑ i : Fin 3, ∑ c : Fin 256, wt (wscore Q K (b h) mk h a i c)) + ∑ c : Fin 256, Real.exp (dot64 Q KC h a c) :=
    add_pos_of_nonneg_of_pos (Finset.sum_nonneg fun i _ => Finset.sum_nonneg fun c _ => wt_nonneg _) (Finset.sum_pos (fun c _ => Real.exp_pos _) ⟨0, Finset.mem_univ _⟩)
  have hden : (∑ i : Fin 3, ∑ c : Fin 256, wt (wscore Q K (b h) mk h a i c) * Real.exp (-m)) + ∑ c : Fin 256, Real.exp (dot64 Q KC h a c) * Real.exp (-m)
      = ((∑ i : Fin 3, ∑ c : Fin 256, wt (wscore Q K (b h) mk h a i c)) + ∑ c : Fin 256, Real.exp (dot64 Q KC h a c)) * Real.exp (-m) := by
    simp only [← Finset.sum_mul]; ring
  rw [hden, div_coe _ _ (mul_ne_zero hpos.ne' hE)]
  refine congrArg (fun r : ℝ => (r : EReal)) (Eq.trans ?_ (scaled_quotient _ _ _ hE))
  refine congrArg (· / _) ?_
  have r : ∀ w v : ℝ, w * Real.exp (-m) * v = w * v * Real.exp (-m) := fun w v => by ring
  simp only [r]
  rw [Fin.sum_univ_three]
  simp only [← Finset.sum_mul, ← add_mul]
  refine congrArg (· * _) ?_
  ac_rfl

end Cert.KernelIdeal.Block
end
-- ==== Proof.Gather.lean ====
module
public import Idealize.ShloMosaic.Lib.ValueIdx
@[expose] public section
namespace Cert.GatherAt
open Idealize.ShloMosaic Idealize.ShloMosaic.ValueIdx

/-! ## A gather without batching axes, read at an index -/

variable {s si t : Shape} (d : GatherDims s si t) {α : Type} {w : ℕ}

/-- The element a gather reads, its coordinates given as start plus offset. -/
theorem gather_at (hb : d.operandBatchingDims = []) (x : s.Idx → α) (idx : IVec si w) (y : t.Idx) (z : s.Idx)
    (h : ∀ a, d.start y idx a + d.offCoord y a = (z a).val) : Host.gather d x idx y = x z := by
  unfold Host.gather
  refine congrArg x (funext fun a => Fin.ext ?_)
  show d.start y idx a + d.batchCoord y a + d.offCoord y a = _
  rw [GatherDims.batchCoord_eq_zero _ _ _ (by rw [hb]; exact List.not_mem_nil), Nat.add_zero]
  exact h a

/-- On an axis no start index names, only the offset counts. -/
theorem axis_off (idx : IVec si w) (y : t.Idx) (a : Fin s.rank) (h : a ∉ d.startIndexMap) :
    d.start y idx a + d.offCoord y a = d.offCoord y a := by
  unfold GatherDims.start
  rw [dif_neg h, Nat.zero_add]

/-- On a collapsed axis, only the start counts. -/
theorem axis_start (idx : IVec si w) (y : t.Idx) (a : Fin s.rank) (h : a ∉ d.sKept) :
    d.start y idx a + d.offCoord y a = d.start y idx a := by
  rw [GatherDims.offCoord_eq_zero _ _ _ h, Nat.add_zero]

end Cert.GatherAt
-- ==== Proof.Host.lean ====
module
public import proofs.«01_k».proof.Proof.Windows
public import proofs.«01_k».proof.Proof.Tables
public import proofs.«01_k».proof.Proof.BlockIdeal
public import proofs.«01_k».proof.Proof.Gather
public import Idealize.ShloMosaic.Lib.ValueIdxRank6
@[expose] public section
noncomputable section
namespace Cert.KernelIdeal.HostSide
open Cert.KernelIdeal Cert.KernelIdeal.Gen Cert.Tables Cert.GatherAt Idealize.ShloMosaic Idealize.ShloMosaic.TcCoe Idealize.SL.Sem Idealize.ShloMosaic.ValueIdx

/-! ## The two gathers of the bias, read at an index -/

section
variable {F : FTy → Type} [FloatOps F]

theorem gather_row (x : Vec F S4x8x15x31 .f32) (idx : IVec S4x12x1 32) (l : Fin 4) (h : Fin 8) (j : Fin 4) (s : Fin 12) (e : Fin 31)
    (r : Fin 15) (hr : min (idx (ix3 j s 0)).toInt.toNat 14 = r.val) :
    Host.gather gather_S4x8x15x31_S4x12x1_S4x8x4x12x31_014_2_n_n_2_2_48131 x idx (ix5 l h j s e) = x (ix4 l h r e) := by
  refine gather_at _ rfl _ _ _ _ fun a => ?_
  match a with
  | ⟨0, _⟩ => refine (axis_off _ _ _ _ (by decide +revert)).trans ?_; unfold GatherDims.offCoord; exact (dif_pos (by decide +revert)).trans rfl
  | ⟨1, _⟩ => refine (axis_off _ _ _ _ (by decide +revert)).trans ?_; unfold GatherDims.offCoord; exact (dif_pos (by decide +revert)).trans rfl
  | ⟨2, _⟩ =>
    refine (axis_start _ _ _ _ (by decide +revert)).trans ?_
    unfold GatherDims.start
    refine (dif_pos (by decide +revert)).trans (Eq.trans ?_ hr)
    refine congrArg (fun u : S4x12x1.Idx => min (idx u).toInt.toNat 14) (funext fun b => Fin.ext ?_)
    match b with
    | ⟨0, _⟩ => rfl
    | ⟨1, _⟩ => rfl
    | ⟨2, _⟩ => rfl
  | ⟨3, _⟩ => refine (axis_off _ _ _ _ (by decide +revert)).trans ?_; unfold GatherDims.offCoord; exact (dif_pos (by decide +revert)).trans rfl

theorem gather_col (x : Vec F S4x8x4x12x31 .f32) (idx : IVec S64x64x1 32) (l : Fin 4) (h : Fin 8) (j : Fin 4) (s : Fin 12) (p q : Fin 64)
    (e : Fin 31) (hr : min (idx (ix3 p q 0)).toInt.toNat 30 = e.val) :
    Host.gather gather_S4x8x4x12x31_S64x64x1_S4x8x4x12x64x64_0123_4_n_n_4_2_484121 x idx (ix6 l h j s p q) = x (ix5 l h j s e) := by
  refine gather_at _ rfl _ _ _ _ fun a => ?_
  match a with
  | ⟨0, _⟩ => refine (axis_off _ _ _ _ (by decide +revert)).trans ?_; unfold GatherDims.offCoord; exact (dif_pos (by decide +revert)).trans rfl
  | ⟨1, _⟩ => refine (axis_off _ _ _ _ (by decide +revert)).trans ?_; unfold GatherDims.offCoord; exact (dif_pos (by decide +revert)).trans rfl
  | ⟨2, _⟩ => refine (axis_off _ _ _ _ (by decide +revert)).trans ?_; unfold GatherDims.offCoord; exact (dif_pos (by decide +revert)).trans rfl
  | ⟨3, _⟩ => refine (axis_off _ _ _ _ (by decide +revert)).trans ?_; unfold GatherDims.offCoord; exact (dif_pos (by decide +revert)).trans rfl
  | ⟨4, _⟩ =>
    refine (axis_start _ _ _ _ (by decide +revert)).trans ?_
    unfold GatherDims.start
    refine (dif_pos (by decide +revert)).trans (Eq.trans ?_ hr)
    refine congrArg (fun u : S64x64x1.Idx => min (idx u).toInt.toNat 30) (funext fun b => Fin.ext ?_)
    match b with
    | ⟨0, _⟩ => rfl
    | ⟨1, _⟩ => rfl
    | ⟨2, _⟩ => rfl

variable (m : (ℓ : Loc nD τ sig) → Buf (Elt F) ℓ)

/-- The relative position bias gathered by row and by column offset. -/
def picked (r : Vec F S4x8x15x31 .f32) : Vec F S4x8x4x12x64x64 .f32 :=
  Host.gather gather_S4x8x4x12x31_S64x64x1_S4x8x4x12x64x64_0123_4_n_n_4_2_484121
    (Host.gather gather_S4x8x15x31_S4x12x1_S4x8x4x12x31_014_2_n_n_2_2_48131 r
      (broadcastInDim S4x12x1 ![0, 1] bcast_S4x12_S4x12x1_0_1 fun i => lit0 (S4x12.rowMajor i)))
    (broadcastInDim S64x64x1 ![0, 1] bcast_S64x64_S64x64x1_0_1 fun i => lit1 (S64x64.rowMajor i))

/-- The column mask: zero on the columns attended to, minus infinity elsewhere. -/
def colMask : Vec F S64x64 .f32 :=
  select (fun i => lit2 (S64x64.rowMajor i)) (broadcastInDim S64x64 ![] bcast_S_S64x64 (constant S_ .f32 0x00000000#32))
    (broadcastInDim S64x64 ![] bcast_S_S64x64 (constant S_ .f32 0xFF800000#32))

/-- The bias of the kernel's window. -/
def biasBase (r : Vec F S4x8x15x31 .f32) : Vec F S4x8x256x768 .f32 :=
  shapeCast S4x8x256x768
    (addf (transpose S4x8x4x64x12x64 [0, 1, 2, 4, 3, 5] (picked r) transposes_S4x8x4x12x64x64_S4x8x4x64x12x64_0_1_2_4_3_5)
      (broadcastInDim S4x8x4x64x12x64 ![0, 1, 2, 3, 4, 5] bcast_S1x1x1x64x1x64_S4x8x4x64x12x64_0_1_2_3_4_5
        (broadcastInDim S1x1x1x64x1x64 ![3, 5] bcast_S64x64_S1x1x1x64x1x64_3_5 colMask)))
    shapeCasts_S4x8x4x64x12x64_S4x8x256x768

/-- The row masks of the kernel's window. -/
def rowMask : Vec F S4x256x768 .f32 :=
  shapeCast S4x256x768
    (broadcastInDim S4x4x64x12x64 ![0, 1, 2, 3, 4] bcast_S4x4x1x12x1_S4x4x64x12x64_0_1_2_3_4
      (broadcastInDim S4x4x1x12x1 ![0, 1, 3] bcast_S4x4x12_S4x4x1x12x1_0_1_3 fun i => FloatOps.ofBits .f32 (lit3 (S4x4x12.rowMajor i))))
    shapeCasts_S4x4x64x12x64_S4x256x768

theorem v8_eq (c : Dev nD) :
    (V m c main_v8 : Vec F S4x8x256x768 .f32) = biasBase (m ((c : Thread nD τ).loc main_arg1)) := by
  unfold V
  simp only [hostOps0, hostOps0_1, hostOps0_2, hostOps0_3, hostOps0_4, hostOps0_5, List.flatten_cons, List.flatten_nil, List.append_nil, List.cons_append, List.nil_append]
  after_results_simp
  rfl
theorem v11_eq (c : Dev nD) :
    (V m c main_v11 : Vec F S4x256x768 .f32) = rowMask := by
  unfold V
  simp only [hostOps0, hostOps0_1, hostOps0_2, hostOps0_3, hostOps0_4, hostOps0_5, List.flatten_cons, List.flatten_nil, List.append_nil, List.cons_append, List.nil_append]
  after_results_simp
  rfl
end

/-! ## The bias and the row masks at an index, over the extended reals -/

/-- Window row `s` of tile row `j` sits `s + 3 - j` rows down the bias table. -/
theorem picked_apply (r : Vec Ideal S4x8x15x31 .f32) (l : Fin 4) (h : Fin 8) (j : Fin 4) (s : Fin 12) (p q : Fin 64)
    (u : Fin 15) (e : Fin 31) (hu : u.val = s.val + 3 - j.val) (he : e.val = colOff p.val q.val) :
    picked (F := Ideal) r (ix6 l h j s p q) = r (ix4 l h u e) := by
  have e1 : (S64x64.rowMajor (ix2 p q)).val = p.val * 64 + q.val := Shape.rowMajor_val_two _
  have e0 : (S4x12.rowMajor (ix2 j s)).val = j.val * 12 + s.val := Shape.rowMajor_val_two _
  have hc : min ((broadcastInDim S64x64x1 ![0, 1] bcast_S64x64_S64x64x1_0_1 fun i => lit1 (S64x64.rowMajor i)) (ix3 p q 0)).toInt.toNat 30 = e.val := by
    rw [broadcastInDim_apply _ _ _ (ix3 p q 0) (ix2 p q) (by intro a; match a with | ⟨0, _⟩ => rfl | ⟨1, _⟩ => rfl)]
    have t1 : (lit1 (S64x64.rowMajor (ix2 p q))).toInt.toNat = colOff p.val q.val := (lit1_eq _).trans (congrArg₂ colOff
      (by show (S64x64.rowMajor (ix2 p q)).val / 64 = p.val; omega) (by show (S64x64.rowMajor (ix2 p q)).val % 64 = q.val; omega))
    exact (congrArg (fun v => min v 30) t1).trans (by omega)
  have hr : min ((broadcastInDim S4x12x1 ![0, 1] bcast_S4x12_S4x12x1_0_1 fun i => lit0 (S4x12.rowMajor i)) (ix3 j s 0)).toInt.toNat 14 = u.val := by
    rw [broadcastInDim_apply _ _ _ (ix3 j s 0) (ix2 j s) (by intro a; match a with | ⟨0, _⟩ => rfl | ⟨1, _⟩ => rfl)]
    have t0 : (lit0 (S4x12.rowMajor (ix2 j s))).toInt.toNat = s.val + 3 - j.val := (lit0_eq _).trans
      (by show (S4x12.rowMajor (ix2 j s)).val % 12 + 3 - (S4x12.rowMajor (ix2 j s)).val / 12 = _; omega)
    exact (congrArg (fun v => min v 14) t0).trans (by omega)
  unfold picked
  rw [gather_col _ _ l h j s p q e hc, gather_row _ _ l h j s e u hr]

/-- The column mask is zero on the columns attended to and minus infinity elsewhere. -/
theorem colMask_apply (p q : Fin 64) : colMask (F := Ideal) (ix2 p q) = if colIn p.val q.val then (0 : EReal) else ⊥ := by
  have e1 : (S64x64.rowMajor (ix2 p q)).val = p.val * 64 + q.val := Shape.rowMajor_val_two _
  have t2 : lit2 (S64x64.rowMajor (ix2 p q)) = if colIn p.val q.val then 1#1 else 0#1 := by
    refine (lit2_eq _).trans ?_
    show (if colIn ((S64x64.rowMajor (ix2 p q)).val / 64) ((S64x64.rowMajor (ix2 p q)).val % 64) then 1#1 else 0#1) = _
    rw [show (S64x64.rowMajor (ix2 p q)).val / 64 = p.val by omega, show (S64x64.rowMajor (ix2 p q)).val % 64 = q.val by omega]
  unfold colMask
  rw [select_apply]
  refine (congrArg (fun b => Scalar.select b _ _) t2).trans ?_
  split
  · exact (select_one _ _).trans Ideal.ofBits_zero_f32
  · exact (select_zero _ _).trans Block.ninf

/-- The bias at head `h`, tile row `j`, query column `p`, window row `s`, key column `q`. -/
theorem biasBase_apply (r : Vec Ideal S4x8x15x31 .f32) (l : Fin 4) (h : Fin 8) (j : Fin 4) (s : Fin 12) (p q : Fin 64)
    (u : Fin 15) (e : Fin 31) (hu : u.val = s.val + 3 - j.val) (he : e.val = colOff p.val q.val)
    (a : Fin 256) (k : Fin 768) (ha : a.val = j.val * 64 + p.val) (hk : k.val = s.val * 64 + q.val) :
    biasBase (F := Ideal) r (ix4 l h a k) = r (ix4 l h u e) + (if colIn p.val q.val then (0 : EReal) else ⊥) := by
  unfold biasBase
  rw [shapeCast_apply _ _ _ (ix6 l h j p s q) (by
    rw [Shape.rowMajor_val_succ, Shape.rowMajor_val_five, Shape.rowMajor_val_four]
    have hn : Shape.numel ⟨5, fun a : Fin 5 => (![4, 8, 4, 64, 12, 64] : Fin 6 → ℕ) a.succ⟩ = 1572864 := by decide
    show l.val * Shape.numel ⟨5, fun a : Fin 5 => (![4, 8, 4, 64, 12, 64] : Fin 6 → ℕ) a.succ⟩ + ((((h.val * 4 + j.val) * 64 + p.val) * 12 + s.val) * 64 + q.val)
      = ((l.val * 8 + h.val) * 256 + a.val) * 768 + k.val
    rw [hn]; omega)]
  show _ + _ = _
  rw [transpose_apply _ _ _ (ix6 l h j p s q) (ix6 l h j s p q) (by intro b; match b with | ⟨0, _⟩ => rfl | ⟨1, _⟩ => rfl | ⟨2, _⟩ => rfl | ⟨3, _⟩ => rfl | ⟨4, _⟩ => rfl | ⟨5, _⟩ => rfl),
    picked_apply r l h j s p q u e hu he,
    broadcastInDim_apply _ _ _ (ix6 l h j p s q) (ix6 0 0 0 p 0 q) (by intro b; match b with | ⟨0, _⟩ => rfl | ⟨1, _⟩ => rfl | ⟨2, _⟩ => rfl | ⟨3, _⟩ => rfl | ⟨4, _⟩ => rfl | ⟨5, _⟩ => rfl),
    broadcastInDim_apply _ _ _ (ix6 0 0 0 p 0 q) (ix2 p q) (by intro b; match b with | ⟨0, _⟩ => rfl | ⟨1, _⟩ => rfl),
    colMask_apply]

/-- The row mask at pattern `c`, tile row `j`, window row `s`. -/
theorem rowMask_apply (c : Fin 4) (j : Fin 4) (s : Fin 12) (p q : Fin 64)
    (a : Fin 256) (k : Fin 768) (ha : a.val = j.val * 64 + p.val) (hk : k.val = s.val * 64 + q.val) :
    rowMask (F := Ideal) (ix3 c a k) = if winIn c.val j.val s.val then (0 : EReal) else ⊥ := by
  have e1 : (S4x4x12.rowMajor (ix3 c j s)).val = (c.val * 4 + j.val) * 12 + s.val := Shape.rowMajor_val_three _
  unfold rowMask
  rw [shapeCast_apply _ _ _ (ix5 c j p s q) (by
    rw [Shape.rowMajor_val_five, Shape.rowMajor_val_three]
    show ((((c.val * 4 + j.val) * 64 + p.val) * 12 + s.val) * 64 + q.val) = (c.val * 256 + a.val) * 768 + k.val
    omega),
    broadcastInDim_apply _ _ _ (ix5 c j p s q) (ix5 c j 0 s 0) (by intro b; match b with | ⟨0, _⟩ => rfl | ⟨1, _⟩ => rfl | ⟨2, _⟩ => rfl | ⟨3, _⟩ => rfl | ⟨4, _⟩ => rfl),
    broadcastInDim_apply _ _ _ (ix5 c j 0 s 0) (ix3 c j s) (by intro b; match b with | ⟨0, _⟩ => rfl | ⟨1, _⟩ => rfl | ⟨2, _⟩ => rfl)]
  have t3 : lit3 (S4x4x12.rowMajor (ix3 c j s)) = if winIn c.val j.val s.val then 0x00000000#32 else 0xFF800000#32 := by
    refine (lit3_eq _).trans ?_
    show (if winIn ((S4x4x12.rowMajor (ix3 c j s)).val / 48) ((S4x4x12.rowMajor (ix3 c j s)).val / 12 % 4) ((S4x4x12.rowMajor (ix3 c j s)).val % 12) then _ else _) = _
    rw [show (S4x4x12.rowMajor (ix3 c j s)).val / 48 = c.val by omega, show (S4x4x12.rowMajor (ix3 c j s)).val / 12 % 4 = j.val by omega,
      show (S4x4x12.rowMajor (ix3 c j s)).val % 12 = s.val by omega]
  refine (congrArg (FloatOps.ofBits (F := Ideal) .f32) t3).trans ?_
  split
  · exact Ideal.ofBits_zero_f32
  · exact Block.ninf

end Cert.KernelIdeal.HostSide
-- ==== Proof.Spec.lean ====
module
public import proofs.«01_k».proof.KernelIdeal
public import proofs.«01_k».proof.Proof.Tables
public import proofs.«01_k».proof.Proof.Softmax
public import Idealize.ShloMosaic.Lib.ValueIdx
@[expose] public section
noncomputable section
namespace Cert.Spec
open Cert.Tables Cert.Softmax Idealize.ShloMosaic Idealize.ShloMosaic.ValueIdx

/-! ## The neighbourhood attention, written on real numbers

`Y` holds the projected tokens: 1024 context rows (256 for each of four batches), then 16384 latent rows (4096 for
each batch, a 64 by 64 grid). Queries, keys and values begin at columns 5120, 5632 and 6144, 64 columns for each of
eight heads. `B` is the relative position bias. -/

/-- The projected tokens. -/
abbrev Tok := (⟨2, ![17408, 6784]⟩ : Shape).Idx → ℝ
/-- The table of biases. -/
abbrev Bias := (⟨4, ![4, 8, 15, 31]⟩ : Shape).Idx → ℝ

/-- An entry of the tokens, by numbers. -/
def ent (Y : Tok) (r c : ℕ) : ℝ := if h : r < 17408 ∧ c < 6784 then Y (ix2 ⟨r, h.1⟩ ⟨c, h.2⟩) else 0

theorem ent_of (Y : Tok) (r : Fin 17408) (c : Fin 6784) (r' c' : ℕ) (hr : r.val = r') (hc : c.val = c') : Y (ix2 r c) = ent Y r' c' := by
  subst hr hc
  rw [ent, dif_pos ⟨r.isLt, c.isLt⟩]

/-- The scaled product of a query and a key. -/
def dotS (Y : Tok) (h : Fin 8) (rq rk : ℕ) : ℝ := (∑ d : Fin 64, ent Y rq (5120 + 64 * h.val + d.val) * ent Y rk (5632 + 64 * h.val + d.val)) * (1 / 8)
/-- A value. -/
def val (Y : Tok) (h : Fin 8) (rk : ℕ) (d : Fin 64) : ℝ := ent Y rk (6144 + 64 * h.val + d.val)
/-- The row of latent `k` of batch `b`. -/
abbrev lat (b k : ℕ) : ℕ := 1024 + 4096 * b + k
/-- The bias of query position `n` against key position `k`. -/
def bias (B : Bias) (h : Fin 8) (n k : ℕ) : ℝ :=
  B (ix4 0 h ⟨rowOff (n / 64) (k / 64), by unfold rowOff; omega⟩ ⟨colOff (n % 64) (k % 64), by unfold colOff; omega⟩)
/-- Key position `k` lies in the neighbourhood of query position `n`. -/
abbrev near (n k : ℕ) : Prop := rowIn (n / 64) (k / 64) ∧ colIn (n % 64) (k % 64)
/-- The weight of a latent key: zero outside the neighbourhood. -/
def latW (Y : Tok) (B : Bias) (h : Fin 8) (b n k : ℕ) : ℝ :=
  if near n k then Real.exp (dotS Y h (lat b n) (lat b k) + bias B h n k) else 0
/-- The weight of a context key. -/
def ctxW (Y : Tok) (h : Fin 8) (r b c : ℕ) : ℝ := Real.exp (dotS Y h r (256 * b + c))
/-- The result at a latent query. -/
def outLat (Y : Tok) (B : Bias) (h : Fin 8) (b n : ℕ) (d : Fin 64) : ℝ :=
  ((∑ k : Fin 4096, latW Y B h b n k.val * val Y h (lat b k.val) d) + ∑ c : Fin 256, ctxW Y h (lat b n) b c.val * val Y h (256 * b + c.val) d)
    / ((∑ k : Fin 4096, latW Y B h b n k.val) + ∑ c : Fin 256, ctxW Y h (lat b n) b c.val)
/-- The result at a context query. -/
def outCtx (Y : Tok) (h : Fin 8) (b i : ℕ) (d : Fin 64) : ℝ :=
  (∑ c : Fin 256, ctxW Y h (256 * b + i) b c.val * val Y h (256 * b + c.val) d) / ∑ c : Fin 256, ctxW Y h (256 * b + i) b c.val
/-- The result at row `r`. -/
def out (Y : Tok) (B : Bias) (r : ℕ) (h : Fin 8) (d : Fin 64) : ℝ :=
  if r < 1024 then outCtx Y h (r / 256) (r % 256) d else outLat Y B h ((r - 1024) / 4096) ((r - 1024) % 4096) d

/-! ## The sum over 4096 positions, tile by tile -/

/-- 4096 positions are 16 tiles of 256. -/
theorem sum_tiles (f : ℕ → ℝ) : ∑ k : Fin 4096, f k.val = ∑ u : Fin 16, ∑ c : Fin 256, f (256 * u.val + c.val) := by
  rw [← Fintype.sum_prod_type' (fun (u : Fin 16) (c : Fin 256) => f (256 * u.val + c.val))]
  refine (Fintype.sum_equiv (finProdFinEquiv (m := 16) (n := 256)) _ _ fun x => ?_).symm
  show f (256 * x.1.val + x.2.val) = f (x.2.val + 256 * x.1.val)
  rw [Nat.add_comm]

/-- If only the tiles `u - 1`, `u` and `u + 1` count, and `g` lists them, then the sum over all positions is the sum of `g`. -/
theorem sum_window (f : ℕ → ℝ) (u : ℕ) (hu : u < 16) (g : Fin 3 → Fin 256 → ℝ)
    (hg : ∀ (i : Fin 3) (c : Fin 256), 1 ≤ u + i.val → u + i.val < 17 → g i c = f (256 * (u + i.val - 1) + c.val))
    (hz : ∀ (i : Fin 3) (c : Fin 256), (u + i.val < 1 ∨ 17 ≤ u + i.val) → g i c = 0)
    (hf : ∀ (w : Fin 16) (c : Fin 256), (w.val + 1 < u ∨ u + 1 < w.val) → f (256 * w.val + c.val) = 0) :
    ∑ k : Fin 4096, f k.val = ∑ i : Fin 3, ∑ c : Fin 256, g i c := by
  rw [sum_tiles]
  have h1 : ∀ w : Fin 16, (∑ c : Fin 256, f (256 * w.val + c.val)) = ∑ i : Fin 3, if u + i.val = w.val + 1 then ∑ c : Fin 256, g i c else 0 := by
    intro w
    by_cases hw : w.val + 1 < u ∨ u + 1 < w.val
    · rw [Finset.sum_eq_zero fun c _ => hf w c hw]
      exact (Finset.sum_eq_zero fun i _ => if_neg (by omega)).symm
    · rw [Finset.sum_eq_single (⟨w.val + 1 - u, by omega⟩ : Fin 3) (fun i _ hi => if_neg fun h => hi (Fin.ext (by show i.val = w.val + 1 - u; omega))) (fun h => absurd (Finset.mem_univ _) h),
        if_pos (by show u + (w.val + 1 - u) = w.val + 1; omega)]
      refine Finset.sum_congr rfl fun c _ => ?_
      rw [hg _ c (by show 1 ≤ u + (w.val + 1 - u); omega) (by show u + (w.val + 1 - u) < 17; omega)]
      exact congrArg f (by show _ = 256 * (u + (w.val + 1 - u) - 1) + c.val; omega)
  rw [Finset.sum_congr rfl fun w _ => h1 w, Finset.sum_comm]
  refine Finset.sum_congr rfl fun i _ => ?_
  by_cases hi : u + i.val < 1 ∨ 17 ≤ u + i.val
  · rw [Finset.sum_eq_zero fun w _ => if_neg (by omega)]
    exact (Finset.sum_eq_zero fun c _ => hz i c hi).symm
  · rw [Finset.sum_eq_single (⟨u + i.val - 1, by omega⟩ : Fin 16) (fun w _ hw => if_neg fun h => hw (Fin.ext (by show w.val = u + i.val - 1; omega))) (fun h => absurd (Finset.mem_univ _) h)]
    exact if_pos (by show u + i.val = u + i.val - 1 + 1; omega)

end Cert.Spec
-- ==== Proof.KernelValue.lean ====
module
public import proofs.«01_k».proof.Proof.Host
public import proofs.«01_k».proof.Proof.Spec
@[expose] public section
noncomputable section
namespace Cert.KernelIdeal.KernelValue
open Cert.KernelIdeal Cert.KernelIdeal.Gen Cert.KernelIdeal.Block Cert.KernelIdeal.Windows Cert.KernelIdeal.HostSide Cert.Tables Cert.Softmax Cert.Spec
open Idealize.ShloMosaic Idealize.ShloMosaic.TcCoe Idealize.SL.Sem Idealize.ShloMosaic.ValueIdx

/-! ## What a grid point's pair of heads holds, as the specification says it -/

variable (Y : Tok) (B : Bias)

/-- Head `h` of pair `p`. -/
def hd (p : Fin 4) (h : Fin 2) : Fin 8 := ⟨2 * p.val + h.val, by omega⟩

/-- A 256 by 128 block of the tokens. -/
def blkR (r0 c0 : ℕ) : S256x128.Idx → ℝ := fun x => ent Y (r0 * 256 + (x 0).val) (c0 + (x 1).val)

theorem dot64_blk (p : Fin 4) (h : Fin 2) (rq rk : ℕ) (a c : Fin 256) :
    dot64 (blkR Y rq (5120 + 128 * p.val)) (blkR Y rk (5632 + 128 * p.val)) h a c = dotS Y (hd p h) (rq * 256 + a.val) (rk * 256 + c.val) := by
  unfold dot64 dotS
  refine congrArg (· * _) (Finset.sum_congr rfl fun d _ => congrArg₂ (· * ·) ?_ ?_)
  · exact congrArg (ent Y _) (by show 5120 + 128 * p.val + (64 * h.val + d.val) = 5120 + 64 * (2 * p.val + h.val) + d.val; omega)
  · exact congrArg (ent Y _) (by show 5632 + 128 * p.val + (64 * h.val + d.val) = 5632 + 64 * (2 * p.val + h.val) + d.val; omega)

theorem val_blk (p : Fin 4) (h : Fin 2) (rk : ℕ) (c : Fin 256) (d : Fin 64) :
    blkR Y rk (6144 + 128 * p.val) (ix2 c (ln h d)) = val Y (hd p h) (rk * 256 + c.val) d :=
  congrArg (ent Y _) (by show 6144 + 128 * p.val + (64 * h.val + d.val) = 6144 + 64 * (2 * p.val + h.val) + d.val; omega)

/-- The bias of window key `c` of tile `i` for query `a`. -/
def wbias (h : Fin 8) (a : Fin 256) (i : Fin 3) (c : Fin 256) : ℝ :=
  B (ix4 0 h ⟨4 * i.val + c.val / 64 + 3 - a.val / 64, by omega⟩ ⟨colOff (a.val % 64) (c.val % 64), by unfold colOff; omega⟩)

theorem bias_entry (h : Fin 8) (a : Fin 256) (i : Fin 3) (c : Fin 256) :
    biasBase (F := Ideal) (fun x => (B x : EReal)) (ix4 0 h a (wk i c))
      = (wbias B h a i c : EReal) + (if colIn (a.val % 64) (c.val % 64) then (0 : EReal) else ⊥) :=
  biasBase_apply (fun x => (B x : EReal)) 0 h ⟨a.val / 64, by omega⟩ ⟨4 * i.val + c.val / 64, by omega⟩ ⟨a.val % 64, by omega⟩ ⟨c.val % 64, by omega⟩ _ _ rfl rfl
    a (wk i c) (by show a.val = a.val / 64 * 64 + a.val % 64; omega) (by show 256 * i.val + c.val = (4 * i.val + c.val / 64) * 64 + c.val % 64; omega)

theorem mask_entry (g : Fin 4) (a : Fin 256) (i : Fin 3) (c : Fin 256) :
    rowMask (F := Ideal) (ix3 g a (wk i c)) = if winIn g.val (a.val / 64) (4 * i.val + c.val / 64) then (0 : EReal) else ⊥ :=
  rowMask_apply g ⟨a.val / 64, by omega⟩ ⟨4 * i.val + c.val / 64, by omega⟩ ⟨a.val % 64, by omega⟩ ⟨c.val % 64, by omega⟩
    a (wk i c) (by show a.val = a.val / 64 * 64 + a.val % 64; omega) (by show 256 * i.val + c.val = (4 * i.val + c.val / 64) * 64 + c.val % 64; omega)

/-- Every window key is key `c` of some tile. -/
theorem exists_wk (l : Fin 768) : ∃ i c, l = wk i c :=
  ⟨⟨l.val / 256, by omega⟩, ⟨l.val % 256, by omega⟩, Fin.ext (by show l.val = 256 * (l.val / 256) + l.val % 256; omega)⟩

/-- The weight of a window key. -/
def winW (t : Fin cfg0.N) (p : Fin 4) (h : Fin 2) (a : Fin 256) (i : Fin 3) (c : Fin 256) : ℝ :=
  if colIn (a.val % 64) (c.val % 64) ∧ winIn (pat t) (a.val / 64) (4 * i.val + c.val / 64) then
    Real.exp (dotS Y (hd p h) (qrow t * 256 + a.val) (krow i.val t * 256 + c.val) + wbias B (hd p h) a i c)
  else 0

theorem pat_lt (t : Fin cfg0.N) : pat t < 4 := by unfold pat; split_ifs <;> omega

theorem pat_cases (t : Fin cfg0.N) (ht : jq t ≠ 0) :
    (jq t = 1 ∧ pat t = 0) ∨ (jq t = 16 ∧ pat t = 2) ∨ (jq t ≠ 1 ∧ jq t ≠ 16 ∧ pat t = 1) := by
  unfold pat
  rw [if_neg ht]
  by_cases h1 : jq t = 1
  · exact Or.inl ⟨h1, if_pos h1⟩
  · rw [if_neg h1]
    by_cases h2 : jq t = 16
    · exact Or.inr (Or.inl ⟨h2, if_pos h2⟩)
    · exact Or.inr (Or.inr ⟨h1, h2, if_neg h2⟩)

theorem wt_wscore (t : Fin cfg0.N) (p : Fin 4) (h : Fin 2) (a : Fin 256) (i : Fin 3) (c : Fin 256)
    (b : FVec Ideal S1x1x256x768 .f32) (mk : FVec Ideal S1x256x768 .f32)
    (hb : ∀ a l, b (ix4 0 0 a l) = biasBase (F := Ideal) (fun x => (B x : EReal)) (ix4 0 (hd p h) a l))
    (hm : ∀ a l, mk (ix3 0 a l) = rowMask (F := Ideal) (ix3 ⟨pat t, pat_lt t⟩ a l)) :
    wt (wscore (blkR Y (qrow t) (5120 + 128 * p.val)) (fun i => blkR Y (krow i.val t) (5632 + 128 * p.val)) b mk h a i c) = winW Y B t p h a i c := by
  unfold wscore winW
  rw [hb, hm, bias_entry, mask_entry, dot64_blk]
  by_cases h1 : colIn (a.val % 64) (c.val % 64)
  · by_cases h2 : winIn (pat t) (a.val / 64) (4 * i.val + c.val / 64)
    · rw [if_pos h1, if_pos (show winIn (⟨pat t, pat_lt t⟩ : Fin 4).val _ _ from h2), if_pos ⟨h1, h2⟩, add_zero, add_zero, ← EReal.coe_add, wt_coe]
    · rw [if_pos h1, if_neg (show ¬ winIn (⟨pat t, pat_lt t⟩ : Fin 4).val _ _ from h2), if_neg (fun h => h2 (And.right h)), EReal.add_bot, EReal.add_bot, wt_bot]
  · rw [if_neg h1, EReal.add_bot, EReal.bot_add, EReal.add_bot, wt_bot, if_neg (fun h => h1 (And.left h))]

/-- At a context tile no window key counts. -/
theorem winW_ctx (t : Fin cfg0.N) (ht : jq t = 0) (p : Fin 4) (h : Fin 2) (a : Fin 256) (i : Fin 3) (c : Fin 256) : winW Y B t p h a i c = 0 := by
  have hp : pat t = 3 := by unfold pat; rw [if_pos ht]
  unfold winW
  exact if_neg (by rintro ⟨-, h2⟩; rw [hp] at h2; unfold winIn at h2; omega)

/-- At a latent tile the window lists the weights of the specification. -/
theorem sum_winW (t : Fin cfg0.N) (ht : jq t ≠ 0) (p : Fin 4) (h : Fin 2) (a : Fin 256) (v : ℕ → ℝ) :
    ∑ k : Fin 4096, latW Y B (hd p h) (bq t) (256 * (jq t - 1) + a.val) k.val * v (lat (bq t) k.val)
      = ∑ i : Fin 3, ∑ c : Fin 256, winW Y B t p h a i c * v (krow i.val t * 256 + c.val) := by
  have hj := jq_lt t
  have ha := a.isLt
  refine sum_window (fun k => latW Y B (hd p h) (bq t) (256 * (jq t - 1) + a.val) k * v (lat (bq t) k)) (jq t - 1) (by omega)
    (fun i c => winW Y B t p h a i c * v (krow i.val t * 256 + c.val)) ?_ ?_ ?_
  · intro i c h1 h2
    have hi := i.isLt
    have hc := c.isLt
    have hk : krow i.val t * 256 + c.val = lat (bq t) (256 * (jq t - 1 + i.val - 1) + c.val) := by unfold krow lat; omega
    have hq : qrow t * 256 + a.val = lat (bq t) (256 * (jq t - 1) + a.val) := by unfold qrow lat; rw [if_neg ht]; omega
    have hn : (colIn (a.val % 64) (c.val % 64) ∧ winIn (pat t) (a.val / 64) (4 * i.val + c.val / 64))
        ↔ near (256 * (jq t - 1) + a.val) (256 * (jq t - 1 + i.val - 1) + c.val) := by
      have e1 : (256 * (jq t - 1) + a.val) % 64 = a.val % 64 := by omega
      have e2 : (256 * (jq t - 1 + i.val - 1) + c.val) % 64 = c.val % 64 := by omega
      have e3 : (256 * (jq t - 1) + a.val) / 64 = 4 * (jq t - 1) + a.val / 64 := by omega
      have e4 : (256 * (jq t - 1 + i.val - 1) + c.val) / 64 = 4 * (jq t - 1 + i.val - 1) + c.val / 64 := by omega
      have e5 : a.val / 64 < 4 := by omega
      have e6 : c.val / 64 < 4 := by omega
      unfold near
      rw [e1, e2, e3, e4, and_comm]
      refine and_congr_left' ?_
      generalize a.val / 64 = x at *
      generalize c.val / 64 = y at *
      clear hk hq e1 e2 e3 e4
      have hp := pat_cases t ht
      unfold winIn rowIn
      generalize pat t = z at *
      constructor <;> intro hh <;> omega
    show winW Y B t p h a i c * _ = latW Y B (hd p h) _ _ _ * _
    rw [← hk]
    refine congrArg (· * _) ?_
    unfold winW latW
    rw [hq, ← hk]
    refine if_congr hn (congrArg Real.exp (congrArg (fun x : ℝ => dotS Y (hd p h) (lat (bq t) (256 * (jq t - 1) + a.val)) (krow i.val t * 256 + c.val) + x) ?_)) rfl
    unfold wbias bias
    refine congrArg B (congrArg₂ (ix4 0 (hd p h)) (Fin.ext ?_) (Fin.ext ?_))
    · show 4 * i.val + c.val / 64 + 3 - a.val / 64 = min ((256 * (jq t - 1 + i.val - 1) + c.val) / 64 + 7 - (256 * (jq t - 1) + a.val) / 64) 14
      omega
    · show colOff _ _ = colOff _ _
      exact congrArg₂ colOff (by omega) (by omega)
  · intro i c hi
    have : ¬ winIn (pat t) (a.val / 64) (4 * i.val + c.val / 64) := by
      have hi' := i.isLt
      have hc := c.isLt
      have hp := pat_cases t ht
      unfold winIn
      omega
    show winW Y B t p h a i c * _ = 0
    unfold winW
    rw [if_neg (fun h => this h.2), zero_mul]
  · intro w c hw
    have : ¬ near (256 * (jq t - 1) + a.val) (256 * w.val + c.val) := by
      have hc := c.isLt
      unfold near rowIn
      omega
    show latW Y B (hd p h) _ _ _ * _ = 0
    unfold latW
    rw [if_neg this, zero_mul]

/-- One entry of a pair's block is the specification's value at its row, head and lane. -/
theorem pair_value (t : Fin cfg0.N) (p : Fin 4) (b : Fin 2 → FVec Ideal S1x1x256x768 .f32) (mk : FVec Ideal S1x256x768 .f32)
    (hb : ∀ h a l, b h (ix4 0 0 a l) = biasBase (F := Ideal) (fun x => (B x : EReal)) (ix4 0 (hd p h) a l))
    (hm : ∀ a l, mk (ix3 0 a l) = rowMask (F := Ideal) (ix3 ⟨pat t, pat_lt t⟩ a l)) (a : Fin 256) (h : Fin 2) (d : Fin 64) :
    pairVal (F := Ideal) (fun i => (blkR Y (qrow t) (5120 + 128 * p.val) i : EReal))
      (fun i => (blkR Y (krow 0 t) (5632 + 128 * p.val) i : EReal)) (fun i => (blkR Y (krow 1 t) (5632 + 128 * p.val) i : EReal))
      (fun i => (blkR Y (krow 2 t) (5632 + 128 * p.val) i : EReal)) (fun i => (blkR Y (bq t) (5632 + 128 * p.val) i : EReal))
      (fun i => (blkR Y (krow 0 t) (6144 + 128 * p.val) i : EReal)) (fun i => (blkR Y (krow 1 t) (6144 + 128 * p.val) i : EReal))
      (fun i => (blkR Y (krow 2 t) (6144 + 128 * p.val) i : EReal)) (fun i => (blkR Y (bq t) (6144 + 128 * p.val) i : EReal))
      (b 0) (b 1) mk (ix2 a (ln h d))
      = (out Y B (qrow t * 256 + a.val) (hd p h) d : EReal) := by
  refine (pairVal_apply (blkR Y (qrow t) (5120 + 128 * p.val)) (fun i => blkR Y (krow i.val t) (5632 + 128 * p.val))
    (fun i => blkR Y (krow i.val t) (6144 + 128 * p.val)) (blkR Y (bq t) (5632 + 128 * p.val)) (blkR Y (bq t) (6144 + 128 * p.val)) b mk ?_ ?_ a h d).trans ?_
  · intro h a l
    obtain ⟨i, c, rfl⟩ := exists_wk l
    rw [hb, bias_entry]
    split
    · rw [add_zero]; exact EReal.coe_ne_top _
    · rw [EReal.add_bot]; exact bot_ne_top
  · intro a l
    obtain ⟨i, c, rfl⟩ := exists_wk l
    rw [hm, mask_entry]
    split
    · exact EReal.zero_ne_top
    · exact bot_ne_top
  · refine congrArg Real.toEReal ?_
    have hbq := bq_lt t
    have hj := jq_lt t
    have ha := a.isLt
    simp only [wt_wscore Y B t p h a _ _ (b h) mk (hb h) hm, dot64_blk, val_blk]
    by_cases ht : jq t = 0
    · simp only [winW_ctx Y B t ht, zero_mul, Finset.sum_const_zero, zero_add]
      have hq : qrow t = bq t := by unfold qrow; rw [if_pos ht]
      rw [hq]
      unfold out
      rw [if_pos (by omega), show (bq t * 256 + a.val) / 256 = bq t by omega, show (bq t * 256 + a.val) % 256 = a.val by omega]
      unfold outCtx ctxW
      rw [Nat.mul_comm (bq t) 256]
    · have hq : qrow t * 256 + a.val = lat (bq t) (256 * (jq t - 1) + a.val) := by unfold qrow lat; rw [if_neg ht]; omega
      have h1 := sum_winW Y B t ht p h a (fun r => val Y (hd p h) r d)
      have h2 := sum_winW Y B t ht p h a (fun _ => 1)
      simp only [mul_one] at h2
      rw [← h1, ← h2, hq]
      unfold out
      rw [if_neg (by unfold lat; omega), show (lat (bq t) (256 * (jq t - 1) + a.val) - 1024) / 4096 = bq t by unfold lat; omega,
        show (lat (bq t) (256 * (jq t - 1) + a.val) - 1024) % 4096 = 256 * (jq t - 1) + a.val by unfold lat; omega]
      unfold outLat ctxW
      rw [Nat.mul_comm (bq t) 256]

end Cert.KernelIdeal.KernelValue
-- ==== Proof.Array.lean ====
module
public import proofs.«01_k».proof.Proof.KernelValue
public import proofs.«01_k».proof.Proof.Gen.KernelIdeal.Value
@[expose] public section
noncomputable section
namespace Cert.KernelIdeal.Array
open Cert.KernelIdeal Cert.KernelIdeal.Gen Cert.KernelIdeal.Value Cert.KernelIdeal.Block Cert.KernelIdeal.Windows Cert.KernelIdeal.HostSide Cert.KernelIdeal.KernelValue Cert.Spec
open Idealize.ShloMosaic Idealize.ShloMosaic.TcCoe Idealize.SL.Sem Idealize.ShloMosaic.ValueIdx

/-! ## The kernel's result array -/

variable (Y : Tok) (B : Bias)

/-- The specified result at row `r` and column `k`. -/
def outAt (r k : ℕ) (hk : k < 512) : ℝ := out Y B r ⟨k / 64, by omega⟩ ⟨k % 64, by omega⟩

/-- The specified result array. -/
def G : FVec Ideal S17408x512 .bf16 := fun x => (outAt Y B (x 0).val (x 1).val (x 1).isLt : EReal)

/-- The specified block of grid point `t`. -/
def Gb (t : Fin cfg0.N) : FVec Ideal S256x512 .bf16 := fun x => (outAt Y B (qrow t * 256 + (x 0).val) (x 1).val (x 1).isLt : EReal)

variable (m : (ℓ : Loc nD τ sig) → Buf (Elt Ideal) ℓ) (c : Dev nD)
variable (hY : (m ((c : Thread nD τ).loc main_arg0) : FVec Ideal S17408x6784 .bf16) = fun i => (Y i : EReal))
variable (hB : (m ((c : Thread nD τ).loc main_arg1) : FVec Ideal S4x8x15x31 .f32) = fun i => (B i : EReal))

theorem qrow_lt (t : Fin cfg0.N) : qrow t < 68 := by
  have h0 := bq_lt t
  have h1 := jq_lt t
  unfold qrow
  split_ifs <;> omega

theorem krow_lt (i : ℕ) (t : Fin cfg0.N) : krow i t < 68 := by
  have h0 := bq_lt t
  have h1 := jq_lt t
  unfold krow
  omega

/-- The 128 lanes at `off` of a 512-lane block that reads the tokens at row block `r0` and column `c0`. -/
theorem lanes_blk (r0 c0 : ℕ) (hr0 : r0 < 68) (hc0 : c0 + 512 ≤ 6784) (x : FVec Ideal S256x512 .bf16)
    (hx : ∀ (a : Fin 256) (l : Fin 512) (r : Fin 17408) (k : Fin 6784), r.val = r0 * 256 + a.val → k.val = c0 + l.val → x (ix2 a l) = (Y (ix2 r k) : EReal))
    (p : Fin 4) (off : ℕ) (hoff : off = 128 * p.val) (inb) :
    (View.ld (Val := Elt Ideal) (e' := .bf16) x (Rect.unit (s := S256x512) ![0, off] S256x128.size inb) : FVec Ideal S256x128 .bf16)
      = fun i => (blkR Y r0 (c0 + 128 * p.val) i : EReal) := by
  funext i
  obtain ⟨a, l, rfl⟩ : ∃ (a : Fin 256) (l : Fin 128), i = (ix2 a l : S256x128.Idx) := ⟨i 0, i 1, by
    funext y
    match y with
    | ⟨0, _⟩ => rfl
    | ⟨1, _⟩ => rfl⟩
  refine (lanes_at (F := Ideal) off x inb a l ⟨off + l.val, by omega⟩ rfl).trans ?_
  refine (hx a _ ⟨r0 * 256 + a.val, by omega⟩ ⟨c0 + (off + l.val), by omega⟩ rfl rfl).trans ?_
  refine congrArg _ ((ent_of Y _ _ _ _ rfl rfl).trans ?_)
  show ent Y (r0 * 256 + a.val) (c0 + (off + l.val)) = ent Y (r0 * 256 + a.val) (c0 + 128 * p.val + l.val)
  exact congrArg (ent Y _) (by omega)

/-- One head's bias block of a grid point. -/
theorem bias_blk (t : Fin cfg0.N) (h : Fin 8) (off : ℕ) (ho : off = h.val) (inb) (a : Fin 256) (l : Fin 768) :
    (View.ld (Val := Elt Ideal) (e' := .f32) (iblk m c 9 t : Vec Ideal S1x8x256x768 .f32)
      (Rect.unit (s := S1x8x256x768) ![0, off, 0, 0] S1x1x256x768.size inb) : FVec Ideal S1x1x256x768 .f32) (ix4 0 0 a l)
      = biasBase (F := Ideal) (m ((c : Thread nD τ).loc main_arg1)) (ix4 0 h a l) := by
  refine (View.ld_unit_apply_of (Val := Elt Ideal) (e := .f32) (iblk m c 9 t : Vec Ideal S1x8x256x768 .f32) _ _ inb (ix4 0 0 a l) (ix4 0 h a l) ?_).trans ?_
  · intro y
    match y with
    | ⟨0, _⟩ => rfl
    | ⟨1, _⟩ => exact ho.symm
    | ⟨2, _⟩ => show a.val = 0 + a.val; omega
    | ⟨3, _⟩ => show l.val = 0 + l.val; omega
  · rw [i9_eq, v8_eq]

include hY hB in
/-- One pair of heads of one grid point. -/
theorem piece (t : Fin cfg0.N) (p : Fin 4) (off o0 o1 : ℕ) (hoff : off = 128 * p.val) (h0 : o0 = (hd p 0).val) (h1 : o1 = (hd p 1).val) (i1 i2 i3)
    (x : (Rect.unit (s := S256x512) ![0, off] S256x128.size i1).shape.Idx) :
    pairVal (F := Ideal)
      (View.ld (Val := Elt Ideal) (e' := .bf16) (X0_0 m c t : FVec Ideal S256x512 .bf16) (Rect.unit (s := S256x512) ![0, off] S256x128.size i1))
      (View.ld (Val := Elt Ideal) (e' := .bf16) (X0_1 m c t : FVec Ideal S256x512 .bf16) (Rect.unit (s := S256x512) ![0, off] S256x128.size i1))
      (View.ld (Val := Elt Ideal) (e' := .bf16) (X0_2 m c t : FVec Ideal S256x512 .bf16) (Rect.unit (s := S256x512) ![0, off] S256x128.size i1))
      (View.ld (Val := Elt Ideal) (e' := .bf16) (X0_3 m c t : FVec Ideal S256x512 .bf16) (Rect.unit (s := S256x512) ![0, off] S256x128.size i1))
      (View.ld (Val := Elt Ideal) (e' := .bf16) (X0_4 m c t : FVec Ideal S256x512 .bf16) (Rect.unit (s := S256x512) ![0, off] S256x128.size i1))
      (View.ld (Val := Elt Ideal) (e' := .bf16) (X0_5 m c t : FVec Ideal S256x512 .bf16) (Rect.unit (s := S256x512) ![0, off] S256x128.size i1))
      (View.ld (Val := Elt Ideal) (e' := .bf16) (X0_6 m c t : FVec Ideal S256x512 .bf16) (Rect.unit (s := S256x512) ![0, off] S256x128.size i1))
      (View.ld (Val := Elt Ideal) (e' := .bf16) (X0_7 m c t : FVec Ideal S256x512 .bf16) (Rect.unit (s := S256x512) ![0, off] S256x128.size i1))
      (View.ld (Val := Elt Ideal) (e' := .bf16) (X0_8 m c t : FVec Ideal S256x512 .bf16) (Rect.unit (s := S256x512) ![0, off] S256x128.size i1))
      (View.ld (Val := Elt Ideal) (e' := .f32) (iblk m c 9 t : Vec Ideal S1x8x256x768 .f32) (Rect.unit (s := S1x8x256x768) ![0, o0, 0, 0] S1x1x256x768.size i2))
      (View.ld (Val := Elt Ideal) (e' := .f32) (iblk m c 9 t : Vec Ideal S1x8x256x768 .f32) (Rect.unit (s := S1x8x256x768) ![0, o1, 0, 0] S1x1x256x768.size i3))
      (iblk m c 10 t : Vec Ideal S1x256x768 .f32) x
    = Gb Y B t ((Rect.unit (s := S256x512) ![0, off] S256x128.size i1).emb x) := by
  have hq := qrow_lt t
  rw [lanes_blk Y (qrow t) 5120 (qrow_lt t) (by omega) _ (fun a l r k hr hk => (x0_eq m c t a l r k hr (by omega)).trans (congrFun hY _)) p off hoff,
    lanes_blk Y (krow 0 t) 5632 (krow_lt 0 t) (by omega) _ (fun a l r k hr hk => (x1_eq m c t a l r k hr (by omega)).trans (congrFun hY _)) p off hoff,
    lanes_blk Y (krow 1 t) 5632 (krow_lt 1 t) (by omega) _ (fun a l r k hr hk => (x2_eq m c t a l r k hr (by omega)).trans (congrFun hY _)) p off hoff,
    lanes_blk Y (krow 2 t) 5632 (krow_lt 2 t) (by omega) _ (fun a l r k hr hk => (x3_eq m c t a l r k hr (by omega)).trans (congrFun hY _)) p off hoff,
    lanes_blk Y (bq t) 5632 (by have := bq_lt t; omega) (by omega) _ (fun a l r k hr hk => (x4_eq m c t a l r k hr (by omega)).trans (congrFun hY _)) p off hoff,
    lanes_blk Y (krow 0 t) 6144 (krow_lt 0 t) (by omega) _ (fun a l r k hr hk => (x5_eq m c t a l r k hr (by omega)).trans (congrFun hY _)) p off hoff,
    lanes_blk Y (krow 1 t) 6144 (krow_lt 1 t) (by omega) _ (fun a l r k hr hk => (x6_eq m c t a l r k hr (by omega)).trans (congrFun hY _)) p off hoff,
    lanes_blk Y (krow 2 t) 6144 (krow_lt 2 t) (by omega) _ (fun a l r k hr hk => (x7_eq m c t a l r k hr (by omega)).trans (congrFun hY _)) p off hoff,
    lanes_blk Y (bq t) 6144 (by have := bq_lt t; omega) (by omega) _ (fun a l r k hr hk => (x8_eq m c t a l r k hr (by omega)).trans (congrFun hY _)) p off hoff]
  obtain ⟨a, l, rfl⟩ : ∃ (a : Fin 256) (l : Fin 128), x = ix2 a l := ⟨x 0, x 1, by
    funext y
    match y with
    | ⟨0, _⟩ => rfl
    | ⟨1, _⟩ => rfl⟩
  obtain ⟨h, d, rfl⟩ : ∃ (h : Fin 2) (d : Fin 64), l = ln h d := ⟨⟨l.val / 64, by omega⟩, ⟨l.val % 64, by omega⟩, Fin.ext (by show l.val = 64 * (l.val / 64) + l.val % 64; omega)⟩
  refine (pair_value Y B t p ![_, _] _ ?_ ?_ a h d).trans ?_
  · intro h a l
    have e := bias_blk m c t (hd p h)
    rw [hB] at e
    match h with
    | ⟨0, _⟩ => exact e o0 h0 i2 a l
    | ⟨1, _⟩ => exact e o1 h1 i3 a l
  · intro a l
    rw [i10_eq m c t 0 a l ⟨pat t, pat_lt t⟩ rfl, v11_eq]
  · unfold Gb outAt
    have e0 : ((Rect.unit (s := S256x512) ![0, off] S256x128.size i1).emb (ix2 a (ln h d)) 0).val = a.val := by
      show 0 + 1 * a.val = a.val; omega
    have e1 : ((Rect.unit (s := S256x512) ![0, off] S256x128.size i1).emb (ix2 a (ln h d)) 1).val = off + (64 * h.val + d.val) := by
      show off + 1 * (64 * h.val + d.val) = _; omega
    refine congrArg _ ?_
    refine congr (congrArg₂ (out Y B) (congrArg (qrow t * 256 + ·) e0.symm) (Fin.ext ?_)) (Fin.ext ?_)
    · refine Eq.trans ?_ (congrArg (· / 64) e1).symm
      show 2 * p.val + h.val = (off + (64 * h.val + d.val)) / 64
      omega
    · refine Eq.trans ?_ (congrArg (· % 64) e1).symm
      show d.val = (off + (64 * h.val + d.val)) % 64
      omega

include hY hB in
/-- What a grid point writes back is its block of the specified array. -/
theorem flushed_eq (t : Fin cfg0.N) : (dats m 0 c).flushed 11 t = ((cfg0.win 11).blk t).view.read (Elt Ideal) (G Y B) := by
  rw [flushed11_A, out_eq]
  funext j
  rw [View.read_apply]
  obtain ⟨f0, f1⟩ := index11 t
  have hr : ((cfg0.win 11).blk t).view.emb j = (ix2 (⟨qrow t * 256 + (j 0).val, by have := qrow_lt t; have := (j 0).isLt; change (j 0).val < 256 at this; omega⟩ : Fin 17408) (j 1 : Fin 512) : S17408x512.Idx) := by
    funext x
    apply Fin.ext
    match x with
    | ⟨0, _⟩ => show win0_11.index t 0 * 256 + 1 * (j 0).val = _; rw [f0]; show _ = qrow t * 256 + (j 0).val; omega
    | ⟨1, _⟩ => show win0_11.index t 1 * 512 + 1 * (j 1).val = (j 1).val; rw [f1]; omega
  rw [hr]
  show View.canon (Val := Elt Ideal) (e := .bf16) _ (j : S256x512.Idx) = Gb Y B t j
  refine View.canon_apply_of_pieces (Val := Elt Ideal) (e := .bf16) (Gb Y B t) _ ?_ j ?_
  · intro q hq
    simp only [List.mem_cons, List.not_mem_nil, or_false] at hq
    rcases hq with rfl | rfl | rfl | rfl
    · exact piece Y B m c hY hB t 3 384 6 7 rfl rfl rfl _ _ _
    · exact piece Y B m c hY hB t 2 256 4 5 rfl rfl rfl _ _ _
    · exact piece Y B m c hY hB t 1 128 2 3 rfl rfl rfl _ _ _
    · exact piece Y B m c hY hB t 0 0 0 1 rfl rfl rfl _ _ _
  · have hm : ∀ (off : ℕ) (inb) (_ : off ≤ (j 1).val) (_ : (j 1).val < off + 128), (j : S256x512.Idx) ∈ (Rect.unit (s := S256x512) ![0, off] S256x128.size inb).set := by
      intro off inb h1 h2
      have e : (j : S256x512.Idx) = (Rect.unit (s := S256x512) ![0, off] S256x128.size inb).emb (ix2 (j 0 : Fin 256) (⟨(j 1).val - off, by omega⟩ : Fin 128)) := by
        funext x
        apply Fin.ext
        match x with
        | ⟨0, _⟩ => show (j 0).val = 0 + 1 * (j 0).val; omega
        | ⟨1, _⟩ => show (j 1).val = off + 1 * ((j 1).val - off); omega
      rw [e]
      exact LoadRect.idx_mem (Rect.unit (s := S256x512) ![0, off] S256x128.size inb).toLoadRect _
    have hj : (j 1).val < 512 := (j 1).isLt
    by_cases c3 : 384 ≤ (j 1).val
    · exact ⟨_, List.mem_cons_self .., hm 384 inb_S256x512_S256x128_0_384 c3 (by omega)⟩
    by_cases c2 : 256 ≤ (j 1).val
    · exact ⟨_, List.mem_cons_of_mem _ (List.mem_cons_self ..), hm 256 inb_S256x512_S256x128_0_256 c2 (by omega)⟩
    by_cases c1 : 128 ≤ (j 1).val
    · exact ⟨_, List.mem_cons_of_mem _ (List.mem_cons_of_mem _ (List.mem_cons_self ..)), hm 128 inb_S256x512_S256x128_0_128 c1 (by omega)⟩
    · exact ⟨_, List.mem_cons_of_mem _ (List.mem_cons_of_mem _ (List.mem_cons_of_mem _ (List.mem_cons_self ..))), hm 0 inb_S256x512_S256x128_0_0 (by omega) (by omega)⟩

theorem row_point : ∀ b : Fin 68, ∃ t : Fin cfg0.N, win0_11.index t 0 = b.val :=
  (by decide +kernel : ∀ b : Fin 68, ∃ t : Fin grid0.N, win0_11.index t 0 = b.val)

/-- Every place of the result lies in some grid point's block. -/
theorem covered (i : S17408x512.Idx) : ∃ t : Fin cfg0.N, (cfg0.win 11).flush t = true ∧ i ∈ ((cfg0.win 11).blk t).view.set := by
  have hi : (i 0).val < 17408 := (i 0).isLt
  obtain ⟨t, ht⟩ := row_point ⟨(i 0).val / 256, by omega⟩
  refine ⟨t, flush0_11 t, ?_⟩
  have e : i = ((cfg0.win 11).blk t).view.emb (ix2 (⟨(i 0).val % 256, by omega⟩ : Fin 256) (i 1 : Fin 512)) := by
    funext x
    apply Fin.ext
    match x with
    | ⟨0, _⟩ => show (i 0).val = win0_11.index t 0 * 256 + 1 * ((i 0).val % 256); rw [ht]; show _ = (i 0).val / 256 * 256 + _; omega
    | ⟨1, _⟩ => show (i 1).val = win0_11.index t 1 * 512 + 1 * (i 1).val; rw [(index11 t).2]; omega
  rw [e]
  exact View.emb_mem_set _ _

include hY hB in
/-- The result array after the kernel's run. -/
theorem final : (dats m 0 c).arrAt 11 cfg0.N = G Y B :=
  (dats m 0 c).arrAt_eq_of_cover 11 (G Y B) (fun t _ => flushed_eq Y B m c hY hB t) covered

end Cert.KernelIdeal.Array
end
-- ==== Proof.RefTables.lean ====
module
public import proofs.«01_k».proof.Proof.Gen.ReferenceIdeal.Read
public import proofs.«01_k».proof.Proof.Tables
public import proofs.«01_k».proof.Proof.Gather
@[expose] public section
noncomputable section
namespace Cert.ReferenceIdeal.RefTables
open Cert.ReferenceIdeal Cert.ReferenceIdeal.Gen Cert.ReferenceIdeal.Read Cert.Tables Cert.GatherAt
open Idealize.ShloMosaic Idealize.ShloMosaic.ValueIdx

/-! ## The reference's tables of rows and columns -/

variable {F : FTy → Type} [FloatOps F]

theorem row_word : ∀ rq rk : Fin 64,
    IntOp.andi (IntOp.cmpi .sge (BitVec.ofNat 32 rk.val) (IntOp.minsi 56#32 (IntOp.maxsi 0#32 (IntOp.subi (BitVec.ofNat 32 rq.val) 4#32))))
      (IntOp.cmpi .slt (BitVec.ofNat 32 rk.val) (IntOp.addi (IntOp.minsi 56#32 (IntOp.maxsi 0#32 (IntOp.subi (BitVec.ofNat 32 rq.val) 4#32))) 8#32))
    = if rowIn rq.val rk.val then 1#1 else 0#1 := by decide +kernel

theorem col_word : ∀ rq rk : Fin 64,
    IntOp.andi (IntOp.cmpi .sge (BitVec.ofNat 32 rk.val) (IntOp.minsi 48#32 (IntOp.maxsi 0#32 (IntOp.subi (BitVec.ofNat 32 rq.val) 8#32))))
      (IntOp.cmpi .slt (BitVec.ofNat 32 rk.val) (IntOp.addi (IntOp.minsi 48#32 (IntOp.maxsi 0#32 (IntOp.subi (BitVec.ofNat 32 rq.val) 8#32))) 16#32))
    = if colIn rq.val rk.val then 1#1 else 0#1 := by decide +kernel

theorem row_off_word : ∀ rq rk : Fin 64,
    (IntOp.minsi 14#32 (IntOp.maxsi 0#32 (IntOp.addi (IntOp.subi (BitVec.ofNat 32 rk.val) (BitVec.ofNat 32 rq.val)) 7#32))).toInt.toNat
    = rowOff rq.val rk.val := by decide +kernel

theorem col_off_word : ∀ rq rk : Fin 64,
    (IntOp.minsi 30#32 (IntOp.maxsi 0#32 (IntOp.addi (IntOp.subi (BitVec.ofNat 32 rk.val) (BitVec.ofNat 32 rq.val)) 15#32))).toInt.toNat
    = colOff rq.val rk.val := by decide +kernel

theorem row_start_apply (rq : Fin 64) (i : S64.Idx) (hi : (i 0).val = rq.val) :
    val_main_v30 (F := F) i = IntOp.minsi 56#32 (IntOp.maxsi 0#32 (IntOp.subi (BitVec.ofNat 32 rq.val) 4#32)) := by
  rw [← hi]; rfl

theorem row_in (rq rk : Fin 64) : val_main_v46 (F := F) (ix2 rq rk) = if rowIn rq.val rk.val then 1#1 else 0#1 := by
  refine Eq.trans ?_ (row_word rq rk)
  simp only [val_main_v46_apply, val_main_v38_apply, val_main_v45_apply, val_main_v36_apply, val_main_v37_apply, val_main_v43_apply, val_main_v44_apply,
    val_main_v34_apply, val_main_v35_apply, val_main_v39_apply, val_main_v42_apply, val_main_v40_apply]
  rfl

theorem col_in (rq rk : Fin 64) : val_main_v59 (F := F) (ix2 rq rk) = if colIn rq.val rk.val then 1#1 else 0#1 := by
  refine Eq.trans ?_ (col_word rq rk)
  simp only [val_main_v59_apply, val_main_v51_apply, val_main_v58_apply, val_main_v49_apply, val_main_v50_apply, val_main_v56_apply, val_main_v57_apply,
    val_main_v47_apply, val_main_v48_apply, val_main_v52_apply, val_main_v55_apply, val_main_v53_apply]
  rfl

theorem row_off (rq rk : Fin 64) : (val_main_v67 (F := F) (ix2 rq rk)).toInt.toNat = rowOff rq.val rk.val := by
  refine Eq.trans ?_ (row_off_word rq rk)
  simp only [val_main_v67_apply, val_main_call2_v2_apply, val_main_v66_apply, val_main_v64_apply, val_main_v62_apply, val_main_v63_apply,
    val_main_v60_apply, val_main_v61_apply]
  rfl

theorem col_off (rq rk : Fin 64) : (val_main_v75 (F := F) (ix2 rq rk)).toInt.toNat = colOff rq.val rk.val := by
  refine Eq.trans ?_ (col_off_word rq rk)
  simp only [val_main_v75_apply, val_main_call3_v2_apply, val_main_v74_apply, val_main_v72_apply, val_main_v70_apply, val_main_v71_apply,
    val_main_v68_apply, val_main_v69_apply]
  rfl

theorem gather_row (x : Vec F S8x15x31 .f32) (idx : IVec S64x64x1 32) (h : Fin 8) (p q : Fin 64) (e : Fin 31)
    (r : Fin 15) (hr : min (idx (ix3 p q 0)).toInt.toNat 14 = r.val) :
    Host.gather gather_S8x15x31_S64x64x1_S8x64x64x31_03_1_n_n_1_2_8131 x idx (ix4 h p q e) = x (ix3 h r e) := by
  refine gather_at _ rfl _ _ _ _ fun a => ?_
  match a with
  | ⟨0, _⟩ => refine (axis_off _ _ _ _ (by decide +revert)).trans ?_; unfold GatherDims.offCoord; exact (dif_pos (by decide +revert)).trans rfl
  | ⟨1, _⟩ =>
    refine (axis_start _ _ _ _ (by decide +revert)).trans ?_
    unfold GatherDims.start
    refine (dif_pos (by decide +revert)).trans (Eq.trans ?_ hr)
    refine congrArg (fun u : S64x64x1.Idx => min (idx u).toInt.toNat 14) (funext fun b => Fin.ext ?_)
    match b with
    | ⟨0, _⟩ => rfl
    | ⟨1, _⟩ => rfl
    | ⟨2, _⟩ => rfl
  | ⟨2, _⟩ => refine (axis_off _ _ _ _ (by decide +revert)).trans ?_; unfold GatherDims.offCoord; exact (dif_pos (by decide +revert)).trans rfl

theorem gather_col (x : Vec F S8x64x64x31 .f32) (idx : IVec S64x64x1 32) (h : Fin 8) (j s : Fin 64) (p q : Fin 64)
    (e : Fin 31) (hr : min (idx (ix3 p q 0)).toInt.toNat 30 = e.val) :
    Host.gather gather_S8x64x64x31_S64x64x1_S8x64x64x64x64_012_3_n_n_3_2_864641 x idx (ix5 h j s p q) = x (ix4 h j s e) := by
  refine gather_at _ rfl _ _ _ _ fun a => ?_
  match a with
  | ⟨0, _⟩ => refine (axis_off _ _ _ _ (by decide +revert)).trans ?_; unfold GatherDims.offCoord; exact (dif_pos (by decide +revert)).trans rfl
  | ⟨1, _⟩ => refine (axis_off _ _ _ _ (by decide +revert)).trans ?_; unfold GatherDims.offCoord; exact (dif_pos (by decide +revert)).trans rfl
  | ⟨2, _⟩ => refine (axis_off _ _ _ _ (by decide +revert)).trans ?_; unfold GatherDims.offCoord; exact (dif_pos (by decide +revert)).trans rfl
  | ⟨3, _⟩ =>
    refine (axis_start _ _ _ _ (by decide +revert)).trans ?_
    unfold GatherDims.start
    refine (dif_pos (by decide +revert)).trans (Eq.trans ?_ hr)
    refine congrArg (fun u : S64x64x1.Idx => min (idx u).toInt.toNat 30) (funext fun b => Fin.ext ?_)
    match b with
    | ⟨0, _⟩ => rfl
    | ⟨1, _⟩ => rfl
    | ⟨2, _⟩ => rfl

end Cert.ReferenceIdeal.RefTables
end
-- ==== Proof.RefScores.lean ====
module
public import proofs.«01_k».proof.Proof.RefTables
public import proofs.«01_k».proof.Proof.Spec
@[expose] public section
noncomputable section
namespace Cert.ReferenceIdeal.RefScores
open Cert.ReferenceIdeal Cert.ReferenceIdeal.Gen Cert.ReferenceIdeal.Read Cert.ReferenceIdeal.RefTables Cert.Tables Cert.Softmax Cert.Spec
open Idealize.ShloMosaic Idealize.ShloMosaic.ValueIdx

/-! ## The reference's queries, keys, values and scores on finite arguments -/

variable (Y : Tok) (B : Bias)

/-- The tokens as an argument. -/
abbrev yv : FVec Ideal S17408x6784 .bf16 := fun i => (Y i : EReal)
/-- The bias table as an argument. -/
abbrev bv : FVec Ideal S4x8x15x31 .f32 := fun i => (B i : EReal)

theorem ix2_eta (i : S17408x6784.Idx) : i = ix2 (i 0 : Fin 17408) (i 1 : Fin 6784) := by
  funext y
  match y with
  | ⟨0, _⟩ => rfl
  | ⟨1, _⟩ => rfl

theorem yv_at (i : S17408x6784.Idx) (r c : ℕ) (hr : (i 0).val = r) (hc : (i 1).val = c) : yv Y i = (ent Y r c : EReal) :=
  congrArg _ ((congrArg Y (ix2_eta i)).trans (ent_of Y _ _ r c hr hc))

theorem q_ctx (b : Fin 4) (h : Fin 8) (c : Fin 256) (d : Fin 64) :
    val_main_v6 (F := Ideal) (yv Y) (ix4 b h c d) = (ent Y (256 * b.val + c.val) (5120 + 64 * h.val + d.val) : EReal) := by
  rw [val_main_v6_apply, val_main_v5_apply, val_main_v4_apply]
  refine (congrArg (FloatOps.extf (F := Ideal) .f32 bitsLt_bf16_f32) (by rw [val_main_v3_apply, val_main_v0_apply])).trans ?_
  refine yv_at Y _ _ _ ?_ ?_
  · show (((b.val * 256 + c.val) * 8 + h.val) * 64 + d.val) / 512 = _; omega
  · show 5120 + (((b.val * 256 + c.val) * 8 + h.val) * 64 + d.val) % 512 = _; omega

theorem k_ctx (b : Fin 4) (h : Fin 8) (c : Fin 256) (d : Fin 64) :
    val_main_v10 (F := Ideal) (yv Y) (ix4 b h c d) = (ent Y (256 * b.val + c.val) (5632 + 64 * h.val + d.val) : EReal) := by
  rw [val_main_v10_apply, val_main_v9_apply, val_main_v8_apply]
  refine (congrArg (FloatOps.extf (F := Ideal) .f32 bitsLt_bf16_f32) (by rw [val_main_v7_apply, val_main_v1_apply])).trans ?_
  refine yv_at Y _ _ _ ?_ ?_
  · show (((b.val * 256 + c.val) * 8 + h.val) * 64 + d.val) / 512 = _; omega
  · show 5632 + (((b.val * 256 + c.val) * 8 + h.val) * 64 + d.val) % 512 = _; omega

theorem v_ctx (b : Fin 4) (h : Fin 8) (c : Fin 256) (d : Fin 64) :
    val_main_v14 (F := Ideal) (yv Y) (ix4 b h c d) = (val Y h (256 * b.val + c.val) d : EReal) := by
  rw [val_main_v14_apply, val_main_v13_apply, val_main_v12_apply]
  refine (congrArg (FloatOps.extf (F := Ideal) .f32 bitsLt_bf16_f32) (by rw [val_main_v11_apply, val_main_v2_apply])).trans ?_
  refine yv_at Y _ _ _ ?_ ?_
  · show (((b.val * 256 + c.val) * 8 + h.val) * 64 + d.val) / 512 = _; omega
  · show 6144 + (((b.val * 256 + c.val) * 8 + h.val) * 64 + d.val) % 512 = _; omega

theorem q_lat (b : Fin 4) (h : Fin 8) (n : Fin 4096) (d : Fin 64) :
    val_main_v18 (F := Ideal) (yv Y) (ix4 b h n d) = (ent Y (lat b.val n.val) (5120 + 64 * h.val + d.val) : EReal) := by
  rw [val_main_v18_apply, val_main_v17_apply, val_main_v16_apply]
  refine (congrArg (FloatOps.extf (F := Ideal) .f32 bitsLt_bf16_f32) (by rw [val_main_v15_apply, val_main_v0_apply])).trans ?_
  refine yv_at Y _ _ _ ?_ ?_
  · show 1024 + (((b.val * 4096 + n.val) * 8 + h.val) * 64 + d.val) / 512 = 1024 + 4096 * b.val + n.val; omega
  · show 5120 + (((b.val * 4096 + n.val) * 8 + h.val) * 64 + d.val) % 512 = _; omega

theorem k_lat (b : Fin 4) (h : Fin 8) (n : Fin 4096) (d : Fin 64) :
    val_main_v22 (F := Ideal) (yv Y) (ix4 b h n d) = (ent Y (lat b.val n.val) (5632 + 64 * h.val + d.val) : EReal) := by
  rw [val_main_v22_apply, val_main_v21_apply, val_main_v20_apply]
  refine (congrArg (FloatOps.extf (F := Ideal) .f32 bitsLt_bf16_f32) (by rw [val_main_v19_apply, val_main_v1_apply])).trans ?_
  refine yv_at Y _ _ _ ?_ ?_
  · show 1024 + (((b.val * 4096 + n.val) * 8 + h.val) * 64 + d.val) / 512 = 1024 + 4096 * b.val + n.val; omega
  · show 5632 + (((b.val * 4096 + n.val) * 8 + h.val) * 64 + d.val) % 512 = _; omega

theorem v_lat (b : Fin 4) (h : Fin 8) (n : Fin 4096) (d : Fin 64) :
    val_main_v26 (F := Ideal) (yv Y) (ix4 b h n d) = (val Y h (lat b.val n.val) d : EReal) := by
  rw [val_main_v26_apply, val_main_v25_apply, val_main_v24_apply]
  refine (congrArg (FloatOps.extf (F := Ideal) .f32 bitsLt_bf16_f32) (by rw [val_main_v23_apply, val_main_v2_apply])).trans ?_
  refine yv_at Y _ _ _ ?_ ?_
  · show 1024 + (((b.val * 4096 + n.val) * 8 + h.val) * 64 + d.val) / 512 = 1024 + 4096 * b.val + n.val; omega
  · show 6144 + (((b.val * 4096 + n.val) * 8 + h.val) * 64 + d.val) % 512 = _; omega

theorem eighth : Ideal.ofBits .f32 0x3E000000#32 = ((1 / 8 : ℝ) : EReal) := by
  simp [Ideal.ofBits, Ideal.ieee, -EReal.coe_mul]; norm_num

theorem dot_scaled (f g : Fin 64 → ℝ) (S : EReal) (hS : S = ∑ d, (f d : EReal) * (g d : EReal)) :
    S * Ideal.ofBits .f32 0x3E000000#32 = (((∑ d, f d * g d) * (1 / 8) : ℝ) : EReal) := by
  rw [hS, eighth, EReal.coe_mul, coe_sum]
  simp only [EReal.coe_mul]

theorem s_lat_dot (b : Fin 4) (h : Fin 8) (n k : Fin 4096) :
    val_main_v90 (F := Ideal) (yv Y) (ix4 b h n k) = (dotS Y h (lat b.val n.val) (lat b.val k.val) : EReal) := by
  rw [val_main_v90_apply, val_main_v89_apply]
  refine dot_scaled (fun d => ent Y (lat b.val n.val) (5120 + 64 * h.val + d.val)) (fun d => ent Y (lat b.val k.val) (5632 + 64 * h.val + d.val)) _ ?_
  rw [val_main_v88_apply]
  refine Finset.sum_congr rfl fun d _ => ?_
  rw [← q_lat, ← k_lat]
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem s_ctx_dot (b : Fin 4) (h : Fin 8) (n : Fin 4096) (c : Fin 256) :
    val_main_v96 (F := Ideal) (yv Y) (ix4 b h n c) = (dotS Y h (lat b.val n.val) (256 * b.val + c.val) : EReal) := by
  rw [val_main_v96_apply, val_main_v95_apply]
  refine dot_scaled (fun d => ent Y (lat b.val n.val) (5120 + 64 * h.val + d.val)) (fun d => ent Y (256 * b.val + c.val) (5632 + 64 * h.val + d.val)) _ ?_
  rw [val_main_v94_apply]
  refine Finset.sum_congr rfl fun d _ => ?_
  rw [← q_lat, ← k_ctx]
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem s_ctx_ctx (b : Fin 4) (h : Fin 8) (n c : Fin 256) :
    val_main_v116 (F := Ideal) (yv Y) (ix4 b h n c) = (dotS Y h (256 * b.val + n.val) (256 * b.val + c.val) : EReal) := by
  rw [val_main_v116_apply, val_main_v115_apply]
  refine dot_scaled (fun d => ent Y (256 * b.val + n.val) (5120 + 64 * h.val + d.val)) (fun d => ent Y (256 * b.val + c.val) (5632 + 64 * h.val + d.val)) _ ?_
  rw [val_main_v114_apply]
  refine Finset.sum_congr rfl fun d _ => ?_
  rw [← q_ctx, ← k_ctx]
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-! ### The bias of the latents -/

theorem layer_bias (h : Fin 8) (r : Fin 15) (c : Fin 31) : val_main_v77 (F := Ideal) (bv B) (ix3 h r c) = (B (ix4 0 h r c) : EReal) := by
  rw [val_main_v77_apply, val_main_v76_apply]
  refine congrArg (fun i => (B i : EReal)) (funext fun a => Fin.ext ?_)
  match a with
  | ⟨0, _⟩ => rfl
  | ⟨1, _⟩ => show ((h.val * 15 + r.val) * 31 + c.val) / 465 % 8 = h.val; omega
  | ⟨2, _⟩ => show ((h.val * 15 + r.val) * 31 + c.val) / 31 % 15 = r.val; omega
  | ⟨3, _⟩ => show ((h.val * 15 + r.val) * 31 + c.val) % 31 = c.val; omega

theorem taken (h : Fin 8) (rq rk cq ck : Fin 64) (u : Fin 15) (e : Fin 31) (hu : u.val = rowOff rq.val rk.val) (he : e.val = colOff cq.val ck.val) :
    val_main_v79 (F := Ideal) (bv B) (ix5 h rq rk cq ck) = (B (ix4 0 h u e) : EReal) := by
  unfold val_main_v79
  have i5 : idx_main_call5_v0 (ix3 cq ck 0) = (ix2 cq ck : S64x64.Idx) := by
    funext a
    match a with
    | ⟨0, _⟩ => rfl
    | ⟨1, _⟩ => rfl
  have i4 : idx_main_call4_v0 (ix3 rq rk 0) = (ix2 rq rk : S64x64.Idx) := by
    funext a
    match a with
    | ⟨0, _⟩ => rfl
    | ⟨1, _⟩ => rfl
  rw [gather_col (F := Ideal) _ _ h rq rk cq ck e (by rw [val_main_call5_v0_apply, i5, col_off, he]; unfold colOff; omega)]
  unfold val_main_v78
  rw [gather_row (F := Ideal) _ _ h rq rk e u (by rw [val_main_call4_v0_apply, i4, row_off, hu]; unfold rowOff; omega)]
  exact layer_bias B h u e

theorem ninf32 : Ideal.ofBits .f32 0xFF800000#32 = (⊥ : EReal) := by simp [Ideal.ofBits, Ideal.ieee]

theorem mask_bit (h : Fin 8) (rq rk cq ck : Fin 64) :
    val_main_call6_v1 (F := Ideal) (ix5 h rq rk cq ck) = if rowIn rq.val rk.val ∧ colIn cq.val ck.val then 1#1 else 0#1 := by
  rw [val_main_call6_v1_apply, val_main_v84_apply, val_main_v82_apply, val_main_v83_apply, val_main_v80_apply, val_main_v81_apply]
  have er := row_in (F := Ideal) rq rk
  have ec := col_in (F := Ideal) cq ck
  refine (congrArg₂ IntOp.andi ((congrArg _ ?_).trans er) ((congrArg _ ?_).trans ec)).trans ?_
  · funext a
    match a with
    | ⟨0, _⟩ => rfl
    | ⟨1, _⟩ => rfl
  · funext a
    match a with
    | ⟨0, _⟩ => rfl
    | ⟨1, _⟩ => rfl
  · by_cases h1 : rowIn rq.val rk.val
    · by_cases h2 : colIn cq.val ck.val
      · rw [if_pos h1, if_pos h2, if_pos ⟨h1, h2⟩]; rfl
      · rw [if_pos h1, if_neg h2, if_neg (fun h => h2 h.2)]; rfl
    · by_cases h2 : colIn cq.val ck.val
      · rw [if_neg h1, if_pos h2, if_neg (fun h => h1 h.1)]; rfl
      · rw [if_neg h1, if_neg h2, if_neg (fun h => h1 h.1)]; rfl

theorem bias_at (h : Fin 8) (n k : Fin 4096) :
    val_main_v87 (F := Ideal) (bv B) (ix3 h n k) = if near n.val k.val then (bias B h n.val k.val : EReal) else ⊥ := by
  have e : idx_main_v86 (idx_main_v87 (ix3 h n k))
      = (ix5 h (⟨n.val / 64, by omega⟩ : Fin 64) (⟨k.val / 64, by omega⟩ : Fin 64) (⟨n.val % 64, by omega⟩ : Fin 64) (⟨k.val % 64, by omega⟩ : Fin 64) : S8x64x64x64x64.Idx) := by
    funext a
    apply Fin.ext
    match a with
    | ⟨0, _⟩ => show ((h.val * 4096 + n.val) * 4096 + k.val) / 16777216 = h.val; omega
    | ⟨1, _⟩ => show ((h.val * 4096 + n.val) * 4096 + k.val) / 262144 % 64 = n.val / 64; omega
    | ⟨2, _⟩ => show ((h.val * 4096 + n.val) * 4096 + k.val) / 64 % 64 = k.val / 64; omega
    | ⟨3, _⟩ => show ((h.val * 4096 + n.val) * 4096 + k.val) / 4096 % 64 = n.val % 64; omega
    | ⟨4, _⟩ => show ((h.val * 4096 + n.val) * 4096 + k.val) % 64 = k.val % 64; omega
  rw [val_main_v87_apply, val_main_v86_apply, e, val_main_v85_apply, mask_bit,
    taken B h _ _ _ _ ⟨rowOff (n.val / 64) (k.val / 64), by unfold rowOff; omega⟩ ⟨colOff (n.val % 64) (k.val % 64), by unfold colOff; omega⟩ rfl rfl]
  by_cases hn : near n.val k.val
  · rw [if_pos hn, if_pos (show rowIn (n.val / 64) (k.val / 64) ∧ colIn (n.val % 64) (k.val % 64) from hn), select_one]; rfl
  · rw [if_neg hn, if_neg (show ¬ (rowIn (n.val / 64) (k.val / 64) ∧ colIn (n.val % 64) (k.val % 64)) from hn), select_zero, val_main_call6_v2_apply]
    exact ninf32

/-- A latent score. -/
def latS (h : Fin 8) (b n k : ℕ) : EReal := if near n k then ((dotS Y h (lat b n) (lat b k) + bias B h n k : ℝ) : EReal) else ⊥

theorem s_lat (b : Fin 4) (h : Fin 8) (n k : Fin 4096) : val_main_v93 (F := Ideal) (yv Y) (bv B) (ix4 b h n k) = latS Y B h b.val n.val k.val := by
  have e : idx_main_v91 (idx_main_v92 (ix4 b h n k)) = (ix3 h n k : S8x4096x4096.Idx) := by
    funext a
    match a with
    | ⟨0, _⟩ => rfl
    | ⟨1, _⟩ => rfl
    | ⟨2, _⟩ => rfl
  rw [val_main_v93_apply, s_lat_dot, val_main_v92_apply, val_main_v91_apply, e, bias_at]
  unfold latS
  by_cases hn : near n.val k.val
  · rw [if_pos hn, if_pos hn, EReal.coe_add]; rfl
  · rw [if_neg hn, if_neg hn]; exact EReal.add_bot _

theorem latS_ne_top (h : Fin 8) (b n k : ℕ) : latS Y B h b n k ≠ ⊤ := by
  unfold latS
  by_cases hn : near n k
  · rw [if_pos hn]; exact EReal.coe_ne_top _
  · rw [if_neg hn]; exact bot_ne_top

theorem wt_latS (h : Fin 8) (b n k : ℕ) : wt (latS Y B h b n k) = latW Y B h b n k := by
  unfold latS latW
  by_cases hn : near n k
  · rw [if_pos hn, if_pos hn, wt_coe]
  · rw [if_neg hn, if_neg hn, wt_bot]

end Cert.ReferenceIdeal.RefScores
end
-- ==== Proof.RefOut.lean ====
module
public import proofs.«01_k».proof.Proof.RefScores
@[expose] public section
noncomputable section
namespace Cert.ReferenceIdeal.RefOut
open Cert.ReferenceIdeal Cert.ReferenceIdeal.Gen Cert.ReferenceIdeal.Read Cert.ReferenceIdeal.RefScores Cert.Tables Cert.Softmax Cert.Spec
open Idealize.ShloMosaic Idealize.ShloMosaic.ValueIdx

/-! ## The reference's result on finite arguments -/

variable (Y : Tok) (B : Bias)

/-- The greatest score, from minus infinity. -/
def top {n : ℕ} (s : Fin n → EReal) : EReal := max (⊥ : EReal) ((Finset.univ : Finset (Fin n)).fold max (⊥ : EReal) s)

theorem top_real {n : ℕ} (s : Fin n → EReal) (hT : ∀ k, s k ≠ ⊤) (k0 : Fin n) (hB : s k0 ≠ ⊥) : ∃ r : ℝ, top s = (r : EReal) := by
  have h1 : top s ≠ ⊤ := by
    unfold top
    rw [bot_sup_eq]
    exact fold_max_ne_top _ _ _ bot_ne_top (fun k _ => hT k)
  have h2 : top s ≠ ⊥ := by
    unfold top
    rw [bot_sup_eq]
    exact fold_max_ne_bot _ _ _ (Finset.mem_univ k0) hB
  exact ⟨(top s).toReal, (EReal.coe_toReal h1 h2).symm⟩

/-- A softmax entry is the weight over the sum of the weights. -/
theorem soft {n : ℕ} (s : Fin n → EReal) (hT : ∀ k, s k ≠ ⊤) (k0 : Fin n) (hB : s k0 ≠ ⊥) (k : Fin n) :
    Ideal.div (Ideal.exp (s k - top s)) (0 + ∑ j, Ideal.exp (s j - top s)) = ((wt (s k) / ∑ j, wt (s j) : ℝ) : EReal) := by
  obtain ⟨r, hr⟩ := top_real s hT k0 hB
  have hs : ∑ j, Ideal.exp (s j - top s) = (((∑ j, wt (s j)) * Real.exp (-r) : ℝ) : EReal) := by
    rw [Finset.sum_mul, coe_sum]
    exact Finset.sum_congr rfl fun j _ => by rw [hr, exp_sub (hT j)]
  have hp : 0 < ∑ j, wt (s j) := Finset.sum_pos' (fun j _ => wt_nonneg _) ⟨k0, Finset.mem_univ _, wt_pos hB⟩
  have he := (Real.exp_pos (-r)).ne'
  rw [zero_add, hs, hr, exp_sub (hT k), div_coe _ _ (mul_ne_zero hp.ne' he), scaled_quotient _ _ _ he]

theorem zero32 : Ideal.ofBits .f32 0x00000000#32 = (0 : EReal) := by simp [Ideal.ofBits, Ideal.ieee]

/-! ### Context queries -/

/-- The scores of a context query. -/
def cs (b : Fin 4) (h : Fin 8) (n : Fin 256) : Fin 256 → EReal := fun c => (dotS Y h (256 * b.val + n.val) (256 * b.val + c.val) : EReal)

theorem red_c : S4x8x256x256.Reduces [3] S4x8x256 := by decide

theorem max_c (b : Fin 4) (h : Fin 8) (n : Fin 256) : val_main_v119 (F := Ideal) (yv Y) (ix3 b h n) = top (cs Y b h n) := by
  rw [val_main_v119_apply]
  refine congrArg₂ max ((val_main_v118_apply (F := Ideal) _).trans ninf32) ?_
  unfold val_main_v117
  refine (Host.reduce_eq_fold_single FloatOps.maximumf _ _ reducesTo_S4x8x256x256_S4x8x256_d3 red_c h_S_ _).trans ?_
  rw [show val_main_cst_19 (F := Ideal) (Shape.Idx.first h_S_) = (⊥ : EReal) from ninf32]
  refine congrArg (Finset.fold max (⊥ : EReal) · (Finset.univ : Finset (Fin 256))) (funext fun c => ?_)
  refine Eq.trans (congrArg (val_main_v116 (F := Ideal) (yv Y)) (funext fun a => ?_)) (s_ctx_ctx Y b h n c)
  match a with
  | ⟨0, _⟩ => rfl
  | ⟨1, _⟩ => rfl
  | ⟨2, _⟩ => rfl
  | ⟨3, _⟩ => rfl

theorem exp_c (b : Fin 4) (h : Fin 8) (n c : Fin 256) :
    val_main_v123 (F := Ideal) (yv Y) (ix4 b h n c) = Ideal.exp (cs Y b h n c - top (cs Y b h n)) := by
  have e : val_main_v122 (F := Ideal) (yv Y) (ix4 b h n c) = cs Y b h n c - top (cs Y b h n) := by
    have e2 : val_main_v121 (F := Ideal) (yv Y) (ix4 b h n c) = top (cs Y b h n) := by
      rw [val_main_v121_apply, val_main_v120_apply]
      refine Eq.trans (congrArg (val_main_v119 (F := Ideal) (yv Y)) (funext fun a => ?_)) (max_c Y b h n)
      match a with
      | ⟨0, _⟩ => rfl
      | ⟨1, _⟩ => rfl
      | ⟨2, _⟩ => rfl
    rw [val_main_v122_apply, s_ctx_ctx, e2]
    rfl
  rw [val_main_v123_apply, e]
  rfl

theorem prob_c (b : Fin 4) (h : Fin 8) (n c : Fin 256) :
    val_main_v127 (F := Ideal) (yv Y) (ix4 b h n c)
      = ((ctxW Y h (256 * b.val + n.val) b.val c.val / ∑ j : Fin 256, ctxW Y h (256 * b.val + n.val) b.val j.val : ℝ) : EReal) := by
  have e := soft (cs Y b h n) (fun k => EReal.coe_ne_top _) 0 (EReal.coe_ne_bot _) c
  have hw : ∀ c, wt (cs Y b h n c) = ctxW Y h (256 * b.val + n.val) b.val c.val := fun c => wt_coe _
  simp only [hw] at e
  refine Eq.trans ?_ e
  rw [val_main_v127_apply, exp_c, val_main_v126_apply, val_main_v125_apply, val_main_v124_apply]
  refine congrArg (Ideal.div _) (congrArg₂ (· + ·) zero32 (Finset.sum_congr rfl fun j _ => ?_))
  refine Eq.trans (congrArg _ (funext fun a => ?_)) (exp_c Y b h n j)
  match a with
  | ⟨0, _⟩ => rfl
  | ⟨1, _⟩ => rfl
  | ⟨2, _⟩ => rfl
  | ⟨3, _⟩ => rfl

theorem out_c (b : Fin 4) (h : Fin 8) (n : Fin 256) (d : Fin 64) :
    val_main_v128 (F := Ideal) (yv Y) (ix4 b h n d) = (outCtx Y h b.val n.val d : EReal) := by
  rw [val_main_v128_apply]
  unfold outCtx
  rw [Finset.sum_div, coe_sum]
  refine Finset.sum_congr rfl fun c _ => ?_
  rw [mul_div_right_comm, EReal.coe_mul, ← prob_c, ← v_ctx]
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-! ### Latent queries -/

/-- The scores of a latent query: its latents, then its context. -/
def ls (b : Fin 4) (h : Fin 8) (n : Fin 4096) : Fin 4352 → EReal := fun k =>
  if k.val < 4096 then latS Y B h b.val n.val k.val else (dotS Y h (lat b.val n.val) (256 * b.val + (k.val - 4096)) : EReal)

theorem ls_ne_top (b : Fin 4) (h : Fin 8) (n : Fin 4096) (k : Fin 4352) : ls Y B b h n k ≠ ⊤ := by
  unfold ls
  by_cases hk : k.val < 4096
  · rw [if_pos hk]; exact latS_ne_top Y B h _ _ _
  · rw [if_neg hk]; exact EReal.coe_ne_top _

theorem ls_lat (b : Fin 4) (h : Fin 8) (n k : Fin 4096) : ls Y B b h n ⟨k.val, by omega⟩ = latS Y B h b.val n.val k.val := if_pos k.isLt

theorem ls_ctx (b : Fin 4) (h : Fin 8) (n : Fin 4096) (c : Fin 256) :
    ls Y B b h n ⟨4096 + c.val, by omega⟩ = (dotS Y h (lat b.val n.val) (256 * b.val + c.val) : EReal) := by
  unfold ls
  rw [if_neg (show ¬ 4096 + c.val < 4096 by omega)]
  refine congrArg _ (congrArg (dotS Y h _) ?_)
  show 256 * b.val + (4096 + c.val - 4096) = _
  omega

theorem score_l (b : Fin 4) (h : Fin 8) (n : Fin 4096) (k : Fin 4352) :
    val_main_v97 (F := Ideal) (yv Y) (bv B) (ix4 b h n k) = ls Y B b h n k := by
  unfold val_main_v97 ls
  by_cases hk : k.val < 4096
  · rw [if_pos hk]
    refine Eq.trans (concatenate_pair_apply_left (s₁ := S4x8x4096x4096) (s₂ := S4x8x4096x256) (t := S4x8x4096x4352) 3 _ _ concatenates_S4x8x4096x4096_S4x8x4096x256_S4x8x4096x4352_d3
      (ix4 b h n k) rfl (ix4 b h n (⟨k.val, hk⟩ : Fin 4096)) (fun a => ?_)) (s_lat Y B b h n ⟨k.val, hk⟩)
    match a with
    | ⟨0, _⟩ => rfl
    | ⟨1, _⟩ => rfl
    | ⟨2, _⟩ => rfl
    | ⟨3, _⟩ => rfl
  · rw [if_neg hk]
    refine Eq.trans (concatenate_pair_apply_right (s₁ := S4x8x4096x4096) (s₂ := S4x8x4096x256) (t := S4x8x4096x4352) 3 _ _ concatenates_S4x8x4096x4096_S4x8x4096x256_S4x8x4096x4352_d3
      (ix4 b h n k) rfl rfl (ix4 b h n (⟨k.val - 4096, by omega⟩ : Fin 256)) (fun a ha => ?_) (by show k.val - 4096 + 4096 = k.val; omega))
      (s_ctx_dot Y b h n ⟨k.val - 4096, by omega⟩)
    match a with
    | ⟨0, _⟩ => rfl
    | ⟨1, _⟩ => rfl
    | ⟨2, _⟩ => rfl
    | ⟨3, _⟩ => exact absurd rfl ha

theorem red_l : S4x8x4096x4352.Reduces [3] S4x8x4096 := by decide

theorem max_l (b : Fin 4) (h : Fin 8) (n : Fin 4096) : val_main_v100 (F := Ideal) (yv Y) (bv B) (ix3 b h n) = top (ls Y B b h n) := by
  rw [val_main_v100_apply]
  refine congrArg₂ max ((val_main_v99_apply (F := Ideal) _).trans ninf32) ?_
  unfold val_main_v98
  refine (Host.reduce_eq_fold_single FloatOps.maximumf _ _ reducesTo_S4x8x4096x4352_S4x8x4096_d3 red_l h_S_ _).trans ?_
  rw [show val_main_cst_15 (F := Ideal) (Shape.Idx.first h_S_) = (⊥ : EReal) from ninf32]
  refine congrArg (Finset.fold max (⊥ : EReal) · (Finset.univ : Finset (Fin 4352))) (funext fun c => ?_)
  refine Eq.trans (congrArg (val_main_v97 (F := Ideal) (yv Y) (bv B)) (funext fun a => ?_)) (score_l Y B b h n c)
  match a with
  | ⟨0, _⟩ => rfl
  | ⟨1, _⟩ => rfl
  | ⟨2, _⟩ => rfl
  | ⟨3, _⟩ => rfl

theorem exp_l (b : Fin 4) (h : Fin 8) (n : Fin 4096) (k : Fin 4352) :
    val_main_v104 (F := Ideal) (yv Y) (bv B) (ix4 b h n k) = Ideal.exp (ls Y B b h n k - top (ls Y B b h n)) := by
  have e : val_main_v103 (F := Ideal) (yv Y) (bv B) (ix4 b h n k) = ls Y B b h n k - top (ls Y B b h n) := by
    have e2 : val_main_v102 (F := Ideal) (yv Y) (bv B) (ix4 b h n k) = top (ls Y B b h n) := by
      rw [val_main_v102_apply, val_main_v101_apply]
      refine Eq.trans (congrArg (val_main_v100 (F := Ideal) (yv Y) (bv B)) (funext fun a => ?_)) (max_l Y B b h n)
      match a with
      | ⟨0, _⟩ => rfl
      | ⟨1, _⟩ => rfl
      | ⟨2, _⟩ => rfl
    rw [val_main_v103_apply, score_l, e2]
    rfl
  rw [val_main_v104_apply, e]
  rfl

/-- The sum of a latent query's weights. -/
def tot (b : Fin 4) (h : Fin 8) (n : Fin 4096) : ℝ :=
  (∑ k : Fin 4096, latW Y B h b.val n.val k.val) + ∑ c : Fin 256, ctxW Y h (lat b.val n.val) b.val c.val

theorem sum_ls (b : Fin 4) (h : Fin 8) (n : Fin 4096) : ∑ k, wt (ls Y B b h n k) = tot Y B b h n := by
  refine (Fin.sum_univ_add (a := 4096) (b := 256) (fun k : Fin (4096 + 256) => wt (ls Y B b h n k))).trans ?_
  refine congrArg₂ (· + ·) (Finset.sum_congr rfl fun k _ => ?_) (Finset.sum_congr rfl fun c _ => ?_)
  · exact (congrArg wt (ls_lat Y B b h n k)).trans (wt_latS Y B h _ _ _)
  · exact (congrArg wt (ls_ctx Y B b h n c)).trans (wt_coe _)

theorem prob_l (b : Fin 4) (h : Fin 8) (n : Fin 4096) (k : Fin 4352) :
    val_main_v108 (F := Ideal) (yv Y) (bv B) (ix4 b h n k) = ((wt (ls Y B b h n k) / tot Y B b h n : ℝ) : EReal) := by
  have e := soft (ls Y B b h n) (ls_ne_top Y B b h n) ⟨4096 + (0 : Fin 256).val, by omega⟩ (by rw [ls_ctx]; exact EReal.coe_ne_bot _) k
  rw [sum_ls] at e
  refine Eq.trans ?_ e
  rw [val_main_v108_apply, exp_l, val_main_v107_apply, val_main_v106_apply, val_main_v105_apply]
  refine congrArg (Ideal.div _) (congrArg₂ (· + ·) zero32 (Finset.sum_congr rfl fun j _ => ?_))
  refine Eq.trans (congrArg _ (funext fun a => ?_)) (exp_l Y B b h n j)
  match a with
  | ⟨0, _⟩ => rfl
  | ⟨1, _⟩ => rfl
  | ⟨2, _⟩ => rfl
  | ⟨3, _⟩ => rfl

theorem prob_lat (b : Fin 4) (h : Fin 8) (n k : Fin 4096) :
    val_main_v109 (F := Ideal) (yv Y) (bv B) (ix4 b h n k) = ((latW Y B h b.val n.val k.val / tot Y B b h n : ℝ) : EReal) := by
  rw [val_main_v109_apply]
  refine Eq.trans (congrArg _ (funext fun a => ?_)) ((prob_l Y B b h n ⟨k.val, by omega⟩).trans ?_)
  · match a with
    | ⟨0, _⟩ => rfl
    | ⟨1, _⟩ => rfl
    | ⟨2, _⟩ => rfl
    | ⟨3, _⟩ => rfl
  · rw [ls_lat, wt_latS]

theorem prob_ctx (b : Fin 4) (h : Fin 8) (n : Fin 4096) (c : Fin 256) :
    val_main_v111 (F := Ideal) (yv Y) (bv B) (ix4 b h n c) = ((ctxW Y h (lat b.val n.val) b.val c.val / tot Y B b h n : ℝ) : EReal) := by
  rw [val_main_v111_apply]
  refine Eq.trans (congrArg _ (funext fun a => ?_)) ((prob_l Y B b h n ⟨4096 + c.val, by omega⟩).trans ?_)
  · match a with
    | ⟨0, _⟩ => rfl
    | ⟨1, _⟩ => rfl
    | ⟨2, _⟩ => rfl
    | ⟨3, _⟩ => rfl
  · rw [ls_ctx, wt_coe]; rfl

theorem out_l (b : Fin 4) (h : Fin 8) (n : Fin 4096) (d : Fin 64) :
    val_main_v113 (F := Ideal) (yv Y) (bv B) (ix4 b h n d) = (outLat Y B h b.val n.val d : EReal) := by
  rw [val_main_v113_apply]
  have ht : outLat Y B h b.val n.val d = (∑ k : Fin 4096, latW Y B h b.val n.val k.val / tot Y B b h n * val Y h (lat b.val k.val) d)
      + ∑ c : Fin 256, ctxW Y h (lat b.val n.val) b.val c.val / tot Y B b h n * val Y h (256 * b.val + c.val) d := by
    unfold outLat
    rw [add_div, Finset.sum_div, Finset.sum_div]
    simp only [mul_div_right_comm]
    rfl
  rw [ht, EReal.coe_add, coe_sum, coe_sum]
  refine congrArg₂ (· + ·) ?_ ?_
  · rw [val_main_v110_apply]
    refine Finset.sum_congr rfl fun k _ => ?_
    rw [EReal.coe_mul, ← prob_lat, ← v_lat]
    refine congrArg₂ (· * ·) (congrArg _ (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  · rw [val_main_v112_apply]
    refine Finset.sum_congr rfl fun c _ => ?_
    rw [EReal.coe_mul, ← prob_ctx, ← v_ctx]
    refine congrArg₂ (· * ·) (congrArg _ (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl

/-- The reference's result, place by place. -/
theorem result (r : Fin 17408) (c : Fin 512) :
    val_main_v134 (F := Ideal) (yv Y) (bv B) (ix2 r c) = (out Y B r.val ⟨c.val / 64, by omega⟩ ⟨c.val % 64, by omega⟩ : EReal) := by
  rw [val_main_v134_apply]
  refine (show FloatOps.truncf (F := Ideal) .bf16 bitsLt_bf16_f32 _ = _ from rfl : _ = val_main_v133 (F := Ideal) (yv Y) (bv B) (ix2 r c)).trans ?_
  unfold val_main_v133 out
  by_cases hr : r.val < 1024
  · rw [if_pos hr]
    refine Eq.trans (concatenate_pair_apply_left (s₁ := S1024x512) (s₂ := S16384x512) (t := S17408x512) 0 _ _ concatenates_S1024x512_S16384x512_S17408x512_d0
      (ix2 r c) rfl (ix2 (⟨r.val, hr⟩ : Fin 1024) c) (fun a => ?_)) ?_
    · match a with
      | ⟨0, _⟩ => rfl
      | ⟨1, _⟩ => rfl
    rw [val_main_v130_apply, val_main_v129_apply]
    refine Eq.trans (congrArg _ (funext fun a => Fin.ext ?_)) (out_c Y ⟨r.val / 256, by omega⟩ ⟨c.val / 64, by omega⟩ ⟨r.val % 256, by omega⟩ ⟨c.val % 64, by omega⟩)
    match a with
    | ⟨0, _⟩ => show (r.val * 512 + c.val) / 131072 = r.val / 256; omega
    | ⟨1, _⟩ => show (r.val * 512 + c.val) / 64 % 8 = c.val / 64; omega
    | ⟨2, _⟩ => show (r.val * 512 + c.val) / 512 % 256 = r.val % 256; omega
    | ⟨3, _⟩ => show (r.val * 512 + c.val) % 64 = c.val % 64; omega
  · rw [if_neg hr]
    refine Eq.trans (concatenate_pair_apply_right (s₁ := S1024x512) (s₂ := S16384x512) (t := S17408x512) 0 _ _ concatenates_S1024x512_S16384x512_S17408x512_d0
      (ix2 r c) rfl rfl (ix2 (⟨r.val - 1024, by omega⟩ : Fin 16384) c) (fun a ha => ?_) (by show r.val - 1024 + 1024 = r.val; omega)) ?_
    · match a with
      | ⟨0, _⟩ => exact absurd rfl ha
      | ⟨1, _⟩ => rfl
    rw [val_main_v132_apply, val_main_v131_apply]
    refine Eq.trans (congrArg _ (funext fun a => Fin.ext ?_)) (out_l Y B ⟨(r.val - 1024) / 4096, by omega⟩ ⟨c.val / 64, by omega⟩ ⟨(r.val - 1024) % 4096, by omega⟩ ⟨c.val % 64, by omega⟩)
    match a with
    | ⟨0, _⟩ => show ((r.val - 1024) * 512 + c.val) / 2097152 = (r.val - 1024) / 4096; omega
    | ⟨1, _⟩ => show ((r.val - 1024) * 512 + c.val) / 64 % 8 = c.val / 64; omega
    | ⟨2, _⟩ => show ((r.val - 1024) * 512 + c.val) / 512 % 4096 = (r.val - 1024) % 4096; omega
    | ⟨3, _⟩ => show ((r.val - 1024) * 512 + c.val) % 64 = c.val % 64; omega

end Cert.ReferenceIdeal.RefOut
end
-- ==== Proof.Finite.lean ====
module
public import proofs.«01_k».proof.Pre_finite
public import Idealize.ShloMosaic.PureOps.Ideal
public import Idealize.ShloMosaic.PureOps.Ideal.Laws
public import Idealize.ShloMosaic.Lib.ReduceAll
@[expose] public section
noncomputable section
namespace Cert.Pre_finite.Decode
open Cert.Pre_finite Idealize.ShloMosaic

/-! ## What the precondition says -/

instance facts : Cert.Pre_finite.Facts where
  bcast_S_S17408x6784 := by decide
  reducesTo_S17408x6784_S_d0_1 := by decide
  h_S_ := by decide
  bcast_S_S4x8x15x31 := by decide
  reducesTo_S4x8x15x31_S_d0_1_2_3 := by decide

instance : Subsingleton S_.Idx := ⟨fun a b => funext fun i => i.elim0⟩

theorem inf_bf16 : Ideal.ofBits .bf16 0x7F80#16 = (⊤ : EReal) := by simp [Ideal.ofBits, Ideal.ieee]
theorem inf_f32 : Ideal.ofBits .f32 0x7F800000#32 = (⊤ : EReal) := by simp [Ideal.ofBits, Ideal.ieee]

theorem real_of_abs (x : EReal) (h : max x (-x) < ⊤) : ∃ r : ℝ, x = (r : EReal) := by
  induction x with
  | bot => exact absurd h (by simp)
  | top => exact absurd h (by simp)
  | coe r => exact ⟨r, rfl⟩

theorem both (a b : BitVec 1) (h : IntOp.andi a b = 1#1) : a = 1#1 ∧ b = 1#1 := by
  revert h
  revert a b
  decide

/-- Under the precondition both arguments hold real numbers. -/
theorem reals (x : FVec Ideal S17408x6784 .bf16) (y : FVec Ideal S4x8x15x31 .f32) (h : Cert.Pre_finite.fn (F := Ideal) x y = fun _ => 1#1) :
    (∃ Y : S17408x6784.Idx → ℝ, x = fun i => (Y i : EReal)) ∧ ∃ B : S4x8x15x31.Idx → ℝ, y = fun i => (B i : EReal) := by
  have h0 := congrFun h (Shape.Idx.first Facts.h_S_)
  dsimp only [Cert.Pre_finite.fn] at h0
  obtain ⟨hx, hy⟩ := both _ _ h0
  have ex : ∀ i, ∃ r : ℝ, x i = (r : EReal) := fun i => by
    have e := Host.reduce_andi_all _ _ _ _ _ hx i
    refine real_of_abs (x i) ?_
    have e' : BitVec.ofBool (decide (max (x i) (-x i) < Ideal.ofBits .bf16 0x7F80#16)) = 1#1 := e
    rw [inf_bf16] at e'
    by_contra hn
    rw [decide_eq_false hn] at e'
    exact absurd e' (by decide)
  have ey : ∀ i, ∃ r : ℝ, y i = (r : EReal) := fun i => by
    have e := Host.reduce_andi_all _ _ _ _ _ hy i
    refine real_of_abs (y i) ?_
    have e' : BitVec.ofBool (decide (max (y i) (-y i) < Ideal.ofBits .f32 0x7F800000#32)) = 1#1 := e
    rw [inf_f32] at e'
    by_contra hn
    rw [decide_eq_false hn] at e'
    exact absurd e' (by decide)
  exact ⟨⟨fun i => (ex i).choose, funext fun i => (ex i).choose_spec⟩, ⟨fun i => (ey i).choose, funext fun i => (ey i).choose_spec⟩⟩

end Cert.Pre_finite.Decode
end
-- ==== Proof.ExpertsBody.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.ExpertsIdeal.Body

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two prefetched tables as the body reads them -/

/-- The table of experts and the table holding the number of used tiles. -/
abbrev expertsM : Memref sig .tc .smem S42 .i32 := Memref.whole main_arg0
abbrev countM : Memref sig .tc .smem S1 .i32 := Memref.whole main_arg1

/-- Half of a table's buffer, held at `f`; the pipeline keeps the other half. -/
abbrev TableBuf (c : Dev nD) {S : Shape} {e : EltTy} (M : Memref sig .tc .smem S e) : Type := Buf (Elt F) (M.view.loc (c : Thread nD τ))
abbrev half (c : Dev nD) {S : Shape} {e : EltTy} (M : Memref sig .tc .smem S e) (f : TableBuf (F := F) c M) : sProp 𝕄 :=
  M.view.loc (c : Thread nD τ) ↦{fullShare.right} f

/-- The number of used tiles, as the body reads it. -/
abbrev count (c : Dev nD) (nu : TableBuf (F := F) c countM) : BitVec 32 :=
  View.readAt (Elt F) countM.view (Rect.unit ![0] S1.size inb_S1_S1_0).toLoadRect nu (Shape.Idx.first (by decide))

/-- The body's own test for the first column step of a tile. -/
abbrev atFirst (i : grid0.Coords) : Prop :=
  Scalar.cmpi .ne (Scalar.extui (Scalar.cmpi .eq (BitVec.ofNat 32 (i 1).val) 0#32)) 0#32 = 1#1

/-- What the body does to the output block `y` and the scratch block `s`, by cases of its four tests: the first column
step of a used tile, a later one, the first step of an unused tile, and a later one. -/
def Step (i : grid0.Coords) (n : BitVec 32) (x : Vec F S1024x1024 .f32) (w1 w3 : Vec F S1x1x1024x512 .f32) (w2 : Vec F S1x1x512x1024 .f32)
    (y : Vec F S1024x1024 .f32) (s : Vec F S1024x1024 .bf16) (y' : Vec F S1024x1024 .f32) (s' : Vec F S1024x1024 .bf16) : Prop :=
  (k0_cond1 i n = 1#1 ∧ atFirst i ∧ k0_cond3 i = 1#1 ∧ ¬k0_cond4 i = 1#1 ∧ ¬k0_cond5 i n = 1#1 ∧ y' = k0_pay2 (k0_pay1 x) w1 w3 w2 ∧ s' = k0_pay1 x)
  ∨ (k0_cond1 i n = 1#1 ∧ ¬atFirst i ∧ ¬k0_cond3 i = 1#1 ∧ k0_cond4 i = 1#1 ∧ ¬k0_cond5 i n = 1#1 ∧ y' = k0_pay3 s w1 w3 w2 y ∧ s' = s)
  ∨ (¬k0_cond1 i n = 1#1 ∧ atFirst i ∧ k0_cond3 i = 1#1 ∧ ¬k0_cond4 i = 1#1 ∧ k0_cond5 i n = 1#1 ∧ y' = k0_pay4 ∧ s' = s)
  ∨ (¬k0_cond1 i n = 1#1 ∧ ¬atFirst i ∧ ¬k0_cond3 i = 1#1 ∧ k0_cond4 i = 1#1 ∧ ¬k0_cond5 i n = 1#1 ∧ y' = y ∧ s' = s)

set_option maxHeartbeats 2000000 in
theorem run (c : Dev nD) (i : grid0.Coords)
    (a4 : Memref sig .tc .vmem S1024x1024 .f32) (h4 : a4.IsWhole) (a5 : Memref sig .tc .vmem S1x1x1024x512 .f32) (h5 : a5.IsWhole)
    (a6 : Memref sig .tc .vmem S1x1x1024x512 .f32) (h6 : a6.IsWhole) (a7 : Memref sig .tc .vmem S1x1x512x1024 .f32) (h7 : a7.IsWhole)
    (a8 : Memref sig .tc .vmem S1024x1024 .f32) (h8 : a8.IsWhole) (a9 : Memref sig .tc .vmem S1024x1024 .bf16) (h9 : a9.IsWhole)
    (x : Vec F S1024x1024 .f32) (w1 w3 : Vec F S1x1x1024x512 .f32) (w2 : Vec F S1x1x512x1024 .f32)
    (y y' : Vec F S1024x1024 .f32) (s s' : Vec F S1024x1024 .bf16)
    (te : TableBuf (F := F) c expertsM) (nu : TableBuf (F := F) c countM) (hs : Step i (count c nu) x w1 w3 w2 y s y' s')
    (E : Set ℕ) (K : PUnit → sProp 𝕄) :
    iprop(owns (c : Thread nD τ) a4 fullShare x ∗ owns (c : Thread nD τ) a5 fullShare w1 ∗ owns (c : Thread nD τ) a6 fullShare w3
        ∗ owns (c : Thread nD τ) a7 fullShare w2 ∗ owns (c : Thread nD τ) a8 fullShare y ∗ owns (c : Thread nD τ) a9 fullShare s
        ∗ half c expertsM te ∗ half c countM nu
        ∗ (iprop(owns (c : Thread nD τ) a4 fullShare x ∗ owns (c : Thread nD τ) a5 fullShare w1 ∗ owns (c : Thread nD τ) a6 fullShare w3
            ∗ owns (c : Thread nD τ) a7 fullShare w2 ∗ owns (c : Thread nD τ) a8 fullShare y' ∗ owns (c : Thread nD τ) a9 fullShare s'
            ∗ half c expertsM te ∗ half c countM nu) -∗ K ⟨⟩))
      ⊢ wp frame (wpE (defs₀ (F := F)) Variants.none c none) E
          (cc0_moe_ffn i expertsM (Memref.isWhole_whole _) countM (Memref.isWhole_whole _) a4 h4 a5 h5 a6 h6 a7 h7 a8 h8 a9 h9) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS⟩, HT0, HT1, Hk⟩
  obtain rfl := h4.eq_unread hf0; obtain rfl := h5.eq_unread hf1; obtain rfl := h6.eq_unread hf2; obtain rfl := h7.eq_unread hf3
  obtain rfl := h8.eq_unread hf4; obtain rfl := h9.eq_unread hf5
  rcases hs with ⟨g1, g2, g3, g4, g5, rfl, rfl⟩ | ⟨g1, g2, g3, g4, g5, rfl, rfl⟩ | ⟨g1, g2, g3, g4, g5, rfl, rfl⟩ | ⟨g1, g2, g3, g4, g5, rfl, rfl⟩
  all_goals
    sl_exec (disch := first | sl_exact g1 | sl_exact g2 | sl_exact g3 | sl_exact g4 | sl_exact g5)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
  · isplitl [H4]
    · iexists _; isplitr; swap; · iexact H4
      ipureintro
      refine (View.read_writes_full _ _ _ _ _).trans ?_
      refine congr (congr (congr (congrArg k0_pay2 ((View.readCov_full a9.view _ _ _ _).trans (congrArg k0_pay1 ((View.readAt_full _ _ _).trans (h4.read_unread _))))) ?_) ?_) ?_
      · exact (View.readAt_full _ _ _).trans (h5.read_unread _)
      · exact (View.readAt_full _ _ _).trans (h6.read_unread _)
      · exact (View.readAt_full _ _ _).trans (h7.read_unread _)
    isplitl [HS]
    · iexists _; isplitr; swap; · iexact HS
      ipureintro
      exact (View.read_writes_full _ _ _ _ _).trans (congrArg k0_pay1 ((View.readAt_full _ _ _).trans (h4.read_unread _)))
    isplitl [HT0]; · iexact HT0
    iexact HT1
  · isplitl [H4]
    · iexists _; isplitr; swap; · iexact H4
      ipureintro
      refine (View.read_writes_full _ _ _ _ _).trans ?_
      refine congr (congr (congr (congr (congrArg k0_pay3 ((View.readAt_full _ _ _).trans (h9.read_unread _))) ?_) ?_) ?_) ((View.readAt_full _ _ _).trans (h8.read_unread _))
      · exact (View.readAt_full _ _ _).trans (h5.read_unread _)
      · exact (View.readAt_full _ _ _).trans (h6.read_unread _)
      · exact (View.readAt_full _ _ _).trans (h7.read_unread _)
    isplitl [HS]
    · iexists _; isplitr; swap; · iexact HS
      ipureintro
      exact h9.read_unread _
    isplitl [HT0]; · iexact HT0
    iexact HT1
  · isplitl [H4]
    · iexists _; isplitr; swap; · iexact H4
      ipureintro
      exact View.read_writes_full _ _ _ _ _
    isplitl [HS]
    · iexists _; isplitr; swap; · iexact HS
      ipureintro
      exact h9.read_unread _
    isplitl [HT0]; · iexact HT0
    iexact HT1
  · isplitl [H4]
    · iexists _; isplitr; swap; · iexact H4
      ipureintro
      exact h8.read_unread _
    isplitl [HS]
    · iexists _; isplitr; swap; · iexact HS
      ipureintro
      exact h9.read_unread _
    isplitl [HT0]; · iexact HT0
    iexact HT1

end Cert.ExpertsIdeal.Body
end
-- ==== Proof.ExpertsSteps.lean ====
module

public import proofs.«01_k».proof.Proof.ExpertsBody

@[expose] public section

set_option maxRecDepth 16384

noncomputable section

namespace Cert.ExpertsIdeal.Steps

open Cert.ExpertsIdeal Cert.ExpertsIdeal.Gen Cert.ExpertsIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The body's tests, in terms of the point -/

theorem tile_val (t : Fin grid0.N) : (grid0.coords t 0).val = t.val / 7 := by
  have ht : t.val < 294 := Nat.lt_of_lt_of_eq t.isLt N_0
  have e : (grid0.coords t 0).val = t.val / 7 % 42 := Pipeline.Grid.coords_val t 0 (by decide) rfl
  omega

theorem col_val (t : Fin grid0.N) : (grid0.coords t 1).val = t.val % 7 := by
  have e : (grid0.coords t 1).val = t.val / 1 % 7 := Pipeline.Grid.coords_val t 1 (by decide) rfl
  omega

theorem atFirst_iff (t : Fin grid0.N) : atFirst (grid0.coords t) ↔ t.val % 7 = 0 := by
  simp only [atFirst, col_val]
  word_cmp

theorem cond3_iff (t : Fin grid0.N) : k0_cond3 (grid0.coords t) = 1#1 ↔ t.val % 7 = 0 := by
  simp only [k0_cond3, col_val]
  word_cmp

theorem cond4_iff (t : Fin grid0.N) : k0_cond4 (grid0.coords t) = 1#1 ↔ ¬t.val % 7 = 0 := by
  simp only [k0_cond4, col_val]
  word_cmp

/-- Whether the tile of a point is one of the `n` used tiles. -/
def used (n : BitVec 32) (t : ℕ) : Prop := BitVec.slt (BitVec.ofNat 32 (t / 7)) n = true

instance (n : BitVec 32) (t : ℕ) : Decidable (used n t) := inferInstanceAs (Decidable (_ = true))

theorem cond1_iff (n : BitVec 32) (t : Fin grid0.N) : k0_cond1 (grid0.coords t) n = 1#1 ↔ used n t.val := by
  simp only [k0_cond1, tile_val, used, Scalar.cmpi, Scalar.extui, IntOp.cmpi]
  generalize BitVec.slt (BitVec.ofNat 32 (t.val / 7)) n = b
  revert b; decide

theorem cond5_iff (n : BitVec 32) (t : Fin grid0.N) : k0_cond5 (grid0.coords t) n = 1#1 ↔ ¬used n t.val ∧ t.val % 7 = 0 := by
  have e1 : BitVec.sle n (BitVec.ofNat 32 (t.val / 7)) = !BitVec.slt (BitVec.ofNat 32 (t.val / 7)) n := by
    simp only [BitVec.sle, BitVec.slt, ← Int.not_lt, decide_not]
  have e2 : (BitVec.ofNat 32 (t.val % 7) == 0#32) = decide (t.val % 7 = 0) := by
    rw [Bool.eq_iff_iff, beq_iff_eq, decide_eq_true_iff, ← BitVec.toNat_inj, BitVec.toNat_ofNat]
    simp only [BitVec.toNat_zero]
    omega
  rw [← decide_eq_true_iff (p := t.val % 7 = 0)]
  simp only [k0_cond5, tile_val, col_val, used, Scalar.cmpi, Scalar.extui, Scalar.andi, IntOp.cmpi, e1, e2]
  generalize BitVec.slt (BitVec.ofNat 32 (t.val / 7)) n = b
  generalize decide (t.val % 7 = 0) = d
  revert b d; decide

theorem count_eq (c : Dev nD) (pf : pre0.Contents (Elt F)) : count (F := F) c (pf 1) = pf.atD 1 ![0] := by
  rfl

variable (m : (ℓ : Loc nD τ sig) → Buf (Elt F) ℓ)

/-! ## The launch's memory -/

/-- A buffer as the call finds it. -/
abbrev V (c : Dev nD) (b : Ref sig .tc) : Buf (Elt F) ((c : Thread nD τ).loc b) := m ((c : Thread nD τ).loc b)

/-- The two tables as the call finds them. -/
def tables : pre0.Contents (Elt F) := fun j => V m (0 : Dev nD) (pre0.ref j)

theorem V_tables (c : Dev nD) (j : Fin 2) : V m c (pre0.ref j) = tables m j := by
  obtain rfl : c = 0 := Subsingleton.elim _ _; rfl

/-- The tables keep every window inside its array. -/
abbrev Ok : Prop := ok0 (F := F) (tables m)
abbrev adm (hO : Ok m) : (pcfg0 (F := F)).Adm := ⟨tables m, hO⟩
abbrev cfgM (hO : Ok m) : Pipeline.Cfg sig Λ₀ := cfg0 (adm m hO)

/-- The number of used tiles. -/
abbrev num : BitVec 32 := (tables m).atD 1 ![0]

theorem tables_held (c : Dev nD) : (Pipeline.ΦT pre0 (tables m) c : sProp 𝕄) = iprop(half c expertsM (tables m 0) ∗ half c countM (tables m 1)) := by
  unfold Pipeline.ΦT Pipeline.prefHeld
  rw [show (Finset.univ : Finset (Fin 2)) = insert (0 : Fin 2) {(1 : Fin 2)} from by decide, bigSep_insert (by decide), bigSep_singleton]
  rfl

abbrev scratch : Memref sig .tc .vmem S1024x1024 .bf16 := Memref.whole cc0_scratch0

theorem scoped_held (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

/-! ## Blocks, and what the output block holds -/

variable (hO : Ok m) (c : Dev nD)

/-- The block of window `w` at a point. -/
def blk (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem size_N : (cfgM m hO).N = 294 := N_0

/-- The first point of the tile of a point. -/
def start (t : Fin (cfgM m hO).N) : Fin (cfgM m hO).N := ⟨7 * (t.val / 7), by have := t.isLt; omega⟩

/-- The rows of a tile in the scratch block, as the first point of the tile stored them. -/
def rows (t : Fin (cfgM m hO).N) : Vec F S1024x1024 .bf16 := k0_pay1 (blk m hO c 0 (start m hO t))

/-- The contributions of the column steps of a used tile up to a point, added in order. -/
def acc : (k : ℕ) → (h : k < (cfgM m hO).N) → Vec F S1024x1024 .f32
  | 0, h => k0_pay2 (rows m hO c ⟨0, h⟩) (blk m hO c 1 ⟨0, h⟩) (blk m hO c 2 ⟨0, h⟩) (blk m hO c 3 ⟨0, h⟩)
  | k + 1, h =>
    if (k + 1) % 7 = 0 then k0_pay2 (rows m hO c ⟨k + 1, h⟩) (blk m hO c 1 ⟨k + 1, h⟩) (blk m hO c 2 ⟨k + 1, h⟩) (blk m hO c 3 ⟨k + 1, h⟩)
    else k0_pay3 (rows m hO c ⟨k + 1, h⟩) (blk m hO c 1 ⟨k + 1, h⟩) (blk m hO c 2 ⟨k + 1, h⟩) (blk m hO c 3 ⟨k + 1, h⟩) (acc k (Nat.lt_of_succ_lt h))

theorem acc_first (t : Fin (cfgM m hO).N) (h0 : t.val % 7 = 0) :
    acc m hO c t.val t.isLt = k0_pay2 (k0_pay1 (blk m hO c 0 t)) (blk m hO c 1 t) (blk m hO c 2 t) (blk m hO c 3 t) := by
  have e : start m hO t = t := Fin.ext (by show 7 * (t.val / 7) = t.val; omega)
  obtain ⟨k, hk⟩ := t
  cases k with
  | zero => rw [acc, rows, e]
  | succ k => rw [acc, if_pos h0, rows, e]

theorem acc_later (t : Fin (cfgM m hO).N) (h0 : ¬t.val % 7 = 0) :
    acc m hO c t.val t.isLt = k0_pay3 (rows m hO c t) (blk m hO c 1 t) (blk m hO c 2 t) (blk m hO c 3 t)
      (acc m hO c (t.val - 1) (Nat.lt_of_le_of_lt (Nat.sub_le _ _) t.isLt)) := by
  obtain ⟨k, hk⟩ := t
  cases k with
  | zero => exact absurd rfl h0
  | succ k => rw [acc, if_neg h0]; rfl

/-- What the output block holds after a point: the sum so far in a used tile, zeros in an unused one. -/
def outAt (t : Fin (cfgM m hO).N) : Vec F S1024x1024 .f32 :=
  if used (num m) t.val then acc m hO c t.val t.isLt else k0_pay4

/-! ## The proof data -/

/-- Inside a used tile the scratch block holds the tile's rows. -/
def Carried (n : ℕ) (a : Vec F S1024x1024 .bf16) : Prop :=
  ∀ h : n < (cfgM m hO).N, ¬n % 7 = 0 → used (num m) n → a = rows m hO c ⟨n, h⟩

def dats (_ : Fin 1) (c : Dev nD) : Dat τ (Elt F) Unit ℕ (UR sig nD τ) ℕ (cfgM m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => outAt m hO c t
  Φ t := iprop((∃ a, ⌜Carried m hO c t.val a⌝ ∗ owns (c : Thread nD τ) scratch fullShare a) ∗ (∃ r, prngReg c r)
    ∗ half c expertsM (tables m 0) ∗ half c countM (tables m 1))
  q _ := fullShare
  owed _ := 0

theorem A_eq (c : Dev nD) (w : Fin (cfgM m hO).W) : (dats m hO 0 c).A w = V m c (Pipeline.arrRef spec0 w) := by
  dsimp only [dats]

theorem after_0 (t : Fin (cfgM m hO).N) : (dats m hO 0 c).after 0 t = blk m hO c 0 t := by dsimp only [dats]; rfl
theorem after_1 (t : Fin (cfgM m hO).N) : (dats m hO 0 c).after 1 t = blk m hO c 1 t := by dsimp only [dats]; rfl
theorem after_2 (t : Fin (cfgM m hO).N) : (dats m hO 0 c).after 2 t = blk m hO c 2 t := by dsimp only [dats]; rfl
theorem after_3 (t : Fin (cfgM m hO).N) : (dats m hO 0 c).after 3 t = blk m hO c 3 t := by dsimp only [dats]; rfl
theorem after_4 (t : Fin (cfgM m hO).N) : (dats m hO 0 c).after 4 t = outAt m hO c t := by dsimp only [dats]; rfl

theorem before_0 (t : Fin (cfgM m hO).N) (d) : (dats m hO 0 c).before 0 t d = blk m hO c 0 t :=
  ((dats m hO 0 c).before_in_eq_fetched 0 rfl (fun _ => rfl) (fun _ _ _ => rfl)
    (fun t => by rw [after_0]; unfold Dat.blockOf blk; rw [A_eq]; try rfl) t d).trans (by unfold Dat.fetched Dat.blockOf blk; rw [A_eq]; try rfl)
theorem before_1 (t : Fin (cfgM m hO).N) (d) : (dats m hO 0 c).before 1 t d = blk m hO c 1 t :=
  ((dats m hO 0 c).before_in_eq_fetched 1 rfl (fun _ => rfl) (fun _ _ _ => rfl)
    (fun t => by rw [after_1]; unfold Dat.blockOf blk; rw [A_eq]; try rfl) t d).trans (by unfold Dat.fetched Dat.blockOf blk; rw [A_eq]; try rfl)
theorem before_2 (t : Fin (cfgM m hO).N) (d) : (dats m hO 0 c).before 2 t d = blk m hO c 2 t :=
  ((dats m hO 0 c).before_in_eq_fetched 2 rfl (fun _ => rfl) (fun _ _ _ => rfl)
    (fun t => by rw [after_2]; unfold Dat.blockOf blk; rw [A_eq]; try rfl) t d).trans (by unfold Dat.fetched Dat.blockOf blk; rw [A_eq]; try rfl)
theorem before_3 (t : Fin (cfgM m hO).N) (d) : (dats m hO 0 c).before 3 t d = blk m hO c 3 t :=
  ((dats m hO 0 c).before_in_eq_fetched 3 rfl (fun _ => rfl) (fun _ _ _ => rfl)
    (fun t => by rw [after_3]; unfold Dat.blockOf blk; rw [A_eq]; try rfl) t d).trans (by unfold Dat.fetched Dat.blockOf blk; rw [A_eq]; try rfl)

/-! ## The output block between points -/

theorem flush_iff (t : Fin (cfgM m hO).N) : ((cfgM m hO).win 4).flush t = true ↔ t.val % 7 = 6 :=
  (fun t => Pipeline.Window.flushOf_reads cc0_transform_4 reads0_4 hreads0_4 0 (by decide) (by decide)
    (Pipeline.Window.sep_of_coord cc0_transform_4 0 0 (fun _ => rfl) (by decide)) (P := 7) (m := 6) (by decide) rfl t
    : ∀ t : Fin grid0.N, Pipeline.Window.flushOf grid0 true cc0_transform_4 t = true ↔ t.val % 7 = 6) t

theorem idle_iff (t : Fin (cfgM m hO).N) : (cfgM m hO).idle 4 ((cfgM m hO).grid.coords t) = true ↔ ¬used (num m) t.val ∧ ¬t.val % 7 = 0 := by
  have h1 := cond1_iff (num m) t
  have h3 := cond3_iff t
  have h4 := cond4_iff t
  have h5 := cond5_iff (num m) t
  show (!(k0_cond1 (grid0.coords t) (num m) == 1#1 && k0_cond3 (grid0.coords t) == 1#1)
      && !(k0_cond1 (grid0.coords t) (num m) == 1#1 && k0_cond4 (grid0.coords t) == 1#1)
      && !(k0_cond5 (grid0.coords t) (num m) == 1#1)) = true ↔ _
  simp only [Bool.and_eq_true, Bool.not_eq_true', Bool.and_eq_false_iff, beq_eq_false_iff_ne, ne_eq, h1, h3, h4, h5]
  by_cases u : used (num m) t.val <;> by_cases z : t.val % 7 = 0 <;> simp [u, z]

theorem used_pred (n : BitVec 32) (t : ℕ) (h : ¬t % 7 = 0) : used n (t - 1) ↔ used n t := by
  unfold used; rw [show (t - 1) / 7 = t / 7 by omega]

theorem fresh_iff (n : ℕ) (hn : n ≤ (cfgM m hO).N) : (cfgM m hO).fresh 4 n = decide (n % 7 = 0) := by
  refine Cfg.fresh_tab (cfgM m hO) 4 (fun n => decide (n % 7 = 0)) rfl (fun t => ?_) n hn
  have hf := flush_iff m hO t
  have hi := idle_iff m hO t
  show decide ((t.val + 1) % 7 = 0) = (((cfgM m hO).win 4).flush t || ((cfgM m hO).idle 4 ((cfgM m hO).grid.coords t) && decide (t.val % 7 = 0)))
  rw [Bool.eq_iff_iff, Bool.or_eq_true, Bool.and_eq_true, decide_eq_true_iff, decide_eq_true_iff, hf, hi]
  constructor
  · intro h; left; omega
  · rintro (h | ⟨⟨_, h⟩, h'⟩)
    · omega
    · exact absurd h' h

theorem before_4 (t : Fin (cfgM m hO).N) (d) (h : ¬t.val % 7 = 0) :
    (dats m hO 0 c).before 4 t d = outAt m hO c ⟨t.val - 1, Nat.lt_of_le_of_lt (Nat.sub_le _ _) t.isLt⟩ := by
  refine ((dats m hO 0 c).before_out_traj 4 rfl (fun _ _ => rfl) (fun t ht hi hf => ?_) t.val t rfl d).trans ?_
  · obtain ⟨hu, h7⟩ := (idle_iff m hO t).mp hi
    rw [after_4, after_4, outAt, outAt, if_neg hu, if_neg (fun h => hu ((used_pred _ _ h7).mp h))]
  · rw [fresh_iff m hO t.val t.isLt.le, if_neg (by simpa using h), after_4]

end Cert.ExpertsIdeal.Steps
end
-- ==== Proof.ExpertsFrame.lean ====
module

public import proofs.«01_k».proof.Proof.ExpertsSteps
public import Idealize.ShloMosaic.Lib.Claim

@[expose] public section

set_option maxRecDepth 16384

noncomputable section

namespace Cert.ExpertsIdeal.Steps

open Cert.ExpertsIdeal Cert.ExpertsIdeal.Gen Cert.ExpertsIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (c : Dev nD)

/-! ## One point -/

/-- What the body makes of the output block and the scratch block at a point, whichever case the point is in. -/
theorem step_at (t : Fin (cfgM m hO).N) (d) (a : Vec F S1024x1024 .bf16) (ha : Carried m hO c t.val a) :
    ∃ a', Step (grid0.coords t) (count c (tables m 1)) (blk m hO c 0 t) (blk m hO c 1 t) (blk m hO c 2 t) (blk m hO c 3 t)
        ((dats m hO 0 c).before 4 t d) a (outAt m hO c t) a'
      ∧ Carried m hO c (t.val + 1) a' := by
  rw [count_eq c (tables m)]
  have c1 := cond1_iff (num m) t
  have c3 := cond3_iff t
  have c4 := cond4_iff t
  have c5 := cond5_iff (num m) t
  have cf := atFirst_iff t
  by_cases u : used (num m) t.val
  · by_cases z : t.val % 7 = 0
    · refine ⟨k0_pay1 (blk m hO c 0 t), .inl ⟨c1.mpr u, cf.mpr z, c3.mpr z, fun h => c4.mp h z, fun h => (c5.mp h).1 u, ?_, rfl⟩, ?_⟩
      · rw [outAt, if_pos u, acc_first m hO c t z]
      · intro h _ _
        unfold rows
        refine congrArg (fun s => k0_pay1 (blk m hO c 0 s)) (Fin.ext ?_)
        show t.val = 7 * ((t.val + 1) / 7)
        omega
    · have e := ha t.isLt z u
      refine ⟨a, .inr (.inl ⟨c1.mpr u, fun h => z (cf.mp h), fun h => z (c3.mp h), c4.mpr z, fun h => (c5.mp h).1 u, ?_, rfl⟩), ?_⟩
      · rw [before_4 m hO c t d z, outAt, if_pos u, outAt, if_pos ((used_pred _ _ z).mpr u), acc_later m hO c t z, e]
      · intro h z' _
        rw [e]
        unfold rows
        refine congrArg (fun s => k0_pay1 (blk m hO c 0 s)) (Fin.ext ?_)
        show 7 * (t.val / 7) = 7 * ((t.val + 1) / 7)
        omega
  · have hnext : Carried m hO c (t.val + 1) a := by
      intro h z' u'
      exact absurd ((used_pred (num m) (t.val + 1) z').mpr u') u
    by_cases z : t.val % 7 = 0
    · refine ⟨a, .inr (.inr (.inl ⟨fun h => u (c1.mp h), cf.mpr z, c3.mpr z, fun h => c4.mp h z, c5.mpr ⟨u, z⟩, ?_, rfl⟩)), hnext⟩
      rw [outAt, if_neg u]
    · refine ⟨a, .inr (.inr (.inr ⟨fun h => u (c1.mp h), fun h => z (cf.mp h), fun h => z (c3.mp h), c4.mpr z, fun h => z (c5.mp h).2, ?_, rfl⟩)), hnext⟩
      rw [before_4 m hO c t d z, outAt, if_neg u, outAt, if_neg (fun h => u ((used_pred _ _ z).mp h))]

/-! ## The body at a point, on the blocks the pipeline stages -/

abbrev st0 (t : Fin (cfgM m hO).N) : Memref sig .tc .vmem S1024x1024 .f32 := spec0_0.stage ((cfgM m hO).slots t 0)
abbrev st1 (t : Fin (cfgM m hO).N) : Memref sig .tc .vmem S1x1x1024x512 .f32 := spec0_1.stage ((cfgM m hO).slots t 1)
abbrev st2 (t : Fin (cfgM m hO).N) : Memref sig .tc .vmem S1x1x1024x512 .f32 := spec0_2.stage ((cfgM m hO).slots t 2)
abbrev st3 (t : Fin (cfgM m hO).N) : Memref sig .tc .vmem S1x1x512x1024 .f32 := spec0_3.stage ((cfgM m hO).slots t 3)
abbrev st4 (t : Fin (cfgM m hO).N) : Memref sig .tc .vmem S1024x1024 .f32 := spec0_4.stage ((cfgM m hO).slots t 4)

abbrev bodyAt (t : Fin (cfgM m hO).N) : Prog (TpuEff nD τ sig (Elt F) Λ₀ .tc) PUnit :=
  cc0_moe_ffn (grid0.coords t) expertsM (Memref.isWhole_whole _) countM (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4)) scratch (Memref.isWhole_whole _)

def before (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d)))

def afterwards (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t)

/-- The output block at what the proof data say is what the point must leave, idle or not. -/
theorem leaves_4 (t : Fin (cfgM m hO).N) :
    owns (c : Thread nD τ) (st4 m hO t) fullShare (outAt m hO c t) ⊢ ((dats m hO 0 c).leavesExact 4 t : sProp 𝕄) := by
  cases hi : (cfgM m hO).idle 4 ((cfgM m hO).grid.coords t)
  · unfold Dat.leavesExact
    rw [hi, after_4]
    exact .rfl
  · cases hf : ((cfgM m hO).win 4).flush t
    · rw [Dat.leavesExact_idle _ 4 t hi hf]
      obtain ⟨hu, h7⟩ := (idle_iff m hO t).mp hi
      have e : outAt m hO c t = outAt m hO c ⟨t.val - 1, Nat.lt_of_le_of_lt (Nat.sub_le _ _) t.isLt⟩ := by
        rw [outAt, outAt, if_neg hu, if_neg (fun h => hu ((used_pred _ _ h7).mp h))]
      replace e := e.trans (before_4 m hO c t (outAt m hO c t) h7).symm
      refine (Entails.of_eq (congrArg (owns (c : Thread nD τ) (st4 m hO t) fullShare) e)).trans ?_
      iintro H
      iexists (outAt m hO c t)
      iexact H
    · unfold Dat.leavesExact
      rw [hi, hf, after_4]
      exact .rfl

set_option maxHeartbeats 1000000 in
theorem point (t : Fin (cfgM m hO).N) :
    before m hO c t ⊢ wp frame (wpE (defs₀ (F := F)) Variants.none c none) Set.univ (bodyAt m hO t) (fun _ => afterwards m hO c t) := by
  unfold before afterwards bodyAt
  simp only [before_0, before_1, before_2, before_3]
  rw [show (dats m hO 0 c).owesAt () t.succ = (dats m hO 0 c).owesAt () t.castSucc from rfl]
  rw [show (dats m hO 0 c).leavesExact 0 t = owns (c : Thread nD τ) (st0 m hO t) fullShare (blk m hO c 0 t) from rfl,
    show (dats m hO 0 c).leavesExact 1 t = owns (c : Thread nD τ) (st1 m hO t) fullShare (blk m hO c 1 t) from rfl,
    show (dats m hO 0 c).leavesExact 2 t = owns (c : Thread nD τ) (st2 m hO t) fullShare (blk m hO c 2 t) from rfl,
    show (dats m hO 0 c).leavesExact 3 t = owns (c : Thread nD τ) (st3 m hO t) fullShare (blk m hO c 3 t) from rfl]
  rw [show (dats m hO 0 c).Φ t.castSucc = iprop((∃ a, ⌜Carried m hO c t.val a⌝ ∗ owns (c : Thread nD τ) scratch fullShare a)
      ∗ (∃ r, prngReg c r) ∗ half c expertsM (tables m 0) ∗ half c countM (tables m 1)) from rfl,
    show (dats m hO 0 c).Φ t.succ = iprop((∃ a, ⌜Carried m hO c (t.val + 1) a⌝ ∗ owns (c : Thread nD τ) scratch fullShare a)
      ∗ (∃ r, prngReg c r) ∗ half c expertsM (tables m 0) ∗ half c countM (tables m 1)) from rfl]
  iintro ⟨⟨⟨%a, %ha, HS⟩, Hg, HT0, HT1⟩, Ho, ⟨%d0, H0⟩, ⟨%d1, H1⟩, ⟨%d2, H2⟩, ⟨%d3, H3⟩, ⟨%d4, H4⟩⟩
  obtain ⟨a', hs, ha'⟩ := step_at m hO c t d4 a ha
  iapply (run c (grid0.coords t) _ _ _ _ _ _ _ _ _ _ _ _ _ _ _ _ _ _ _ _ (tables m 0) (tables m 1) hs Set.univ _)
  isplitl [H0]; · iexact H0
  isplitl [H1]; · iexact H1
  isplitl [H2]; · iexact H2
  isplitl [H3]; · iexact H3
  isplitl [H4]; · iexact H4
  isplitl [HS]; · iexact HS
  isplitl [HT0]; · iexact HT0
  isplitl [HT1]; · iexact HT1
  iintro ⟨H0, H1, H2, H3, H4, HS, HT0, HT1⟩
  isplitl [HS Hg HT0 HT1]
  · isplitl [HS]
    · iexists a'; isplitr; · ipureintro; exact ha'
      iexact HS
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  iapply (leaves_4 m hO c t)
  iexact H4

theorem body_row (t : Fin (cfgM m hO).N) :
    defs₀ (F := F) .tc (cfgM m hO).body ((cfgM m hO).bodyArgs t ((cfgM m hO).slots t)) = bodyAt m hO t := by
  unfold defs₀; rw [Defs.onTc_tc]

theorem every_point : BodyObligation (dats (F := F) m hO 0 c) (defs₀ (F := F)) Variants.none () Set.univ := fun t => by
  rw [bigSep_W0, bigSep_W0, body_row m hO]
  exact triple_restated (point m hO c t) rfl .rfl fun _ => .rfl

/-! ## The launch -/

theorem main_is_call (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
theorem launched : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (every_point m hO c).loose) (hshare := fun c => (dats m hO 0 c).share_full fun _ => rfl)
    (howed := fun _ _ => rfl) (V := V m) (hmain := main_is_call m Variants.none) (hA := A_eq m hO) (hpf := V_tables m)
    (hin := fun c => by
      rw [show (dats m hO 0 c).Φ 0 = iprop((∃ a, ⌜Carried m hO c 0 a⌝ ∗ owns (c : Thread nD τ) scratch fullShare a)
        ∗ (∃ r, prngReg c r) ∗ half c expertsM (tables m 0) ∗ half c countM (tables m 1)) from rfl]
      refine (Entails.of_eq (congrArg₂ BIBase.sep (scoped_held (F := F) c) (tables_held m c))).trans ?_
      iintro ⟨⟨⟨%a, HS⟩, Hg⟩, HT0, HT1⟩
      isplitl [HS]
      · iexists a; isplitr
        · ipureintro; intro _ h _; exact absurd rfl h
        iexact HS
      isplitl [Hg]; · iexact Hg
      isplitl [HT0]; · iexact HT0
      iexact HT1)
    (hout := fun c => by
      refine BIBase.Entails.trans ?_ (Entails.of_eq (scoped_held (F := F) c).symm)
      rw [show (dats m hO 0 c).Φ (Fin.last (cfgM m hO).N) = iprop((∃ a, ⌜Carried m hO c (cfgM m hO).N a⌝ ∗ owns (c : Thread nD τ) scratch fullShare a)
        ∗ (∃ r, prngReg c r) ∗ half c expertsM (tables m 0) ∗ half c countM (tables m 1)) from rfl]
      iintro ⟨⟨%a, %ha, HS⟩, Hg, HT0, HT1⟩
      isplitl [HS]
      · iexists a; iexact HS
      iexact Hg)

/-- The run: the counters return to zero, the arguments are unchanged, and the result is the written-back blocks. -/
theorem outcome : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r (h : _ ∧ _) => ⟨fun c => ⟨(h.1 c).1 4, ?_, ?_, ?_, ?_, ?_, ?_⟩, h.2⟩) (launched m ρ hO)
  · exact (h.1 c).2 main_arg0 (by decide : main_arg0 ∈ Pipeline.restRefs sig spec0)
  · exact (h.1 c).2 main_arg1 (by decide : main_arg1 ∈ Pipeline.restRefs sig spec0)
  · exact ((h.1 c).1 0).trans ((dats m hO 0 c).arrAt_in 0 rfl _)
  · exact ((h.1 c).1 1).trans ((dats m hO 0 c).arrAt_in 1 rfl _)
  · exact ((h.1 c).1 2).trans ((dats m hO 0 c).arrAt_in 2 rfl _)
  · exact ((h.1 c).1 3).trans ((dats m hO 0 c).arrAt_in 3 rfl _)

end Cert.ExpertsIdeal.Steps
end
-- ==== Proof.ExpertsRange.lean ====
module

public import proofs.«01_k».proof.Proof.ExpertsFrame
public import proofs.«01_k».proof.Proof.Gen.Pre_routed
public import Idealize.ShloMosaic.Lib.ValueIdx

@[expose] public section

set_option maxRecDepth 16384

noncomputable section

namespace Cert.ExpertsIdeal.Range

open Cert.ExpertsIdeal Cert.ExpertsIdeal.Gen Cert.ExpertsIdeal.Steps
open Idealize.ShloMosaic Idealize.ShloMosaic.TcCoe Idealize.SL.Sem Idealize.ShloMosaic.ValueIdx

variable {F : FTy → Type} [FloatOps F]

/-! ## Words as numbers -/

theorem slt_small (a b : BitVec 32) (ha : a.toNat < 2 ^ 31) (hb : b.toNat < 2 ^ 31) : BitVec.slt a b = decide (a.toNat < b.toNat) := by
  have ea : a.toInt = (a.toNat : ℤ) := BitVec.toInt_eq_toNat_of_lt (by omega)
  have eb : b.toInt = (b.toNat : ℤ) := BitVec.toInt_eq_toNat_of_lt (by omega)
  simp only [BitVec.slt, ea, eb, Nat.cast_lt]

/-- A word between zero and a small bound, as the precondition's two signed tests say it. -/
theorem bounded (a : BitVec 32) (k : BitVec 32) (hk : k.toNat < 2 ^ 31) (h : IntOp.andi (IntOp.cmpi .sge a 0#32) (IntOp.cmpi .slt a k) = 1#1) :
    a.toNat < k.toNat := by
  simp only [IntOp.cmpi, IntOp.andi] at h
  have h0 : BitVec.sle 0#32 a = true := by
    by_contra hn; rw [Bool.not_eq_true] at hn; rw [hn] at h; revert h; generalize BitVec.slt a k = b; revert b; decide
  have h1 : BitVec.slt a k = true := by
    by_contra hn; rw [Bool.not_eq_true] at hn; rw [hn] at h; revert h; generalize BitVec.sle 0#32 a = b; revert b; decide
  have ek : k.toInt = (k.toNat : ℤ) := BitVec.toInt_eq_toNat_of_lt (by omega)
  simp only [BitVec.sle, decide_eq_true_eq, BitVec.slt, ek] at h0 h1
  rw [show (0#32).toInt = 0 from rfl] at h0
  rw [BitVec.toInt_eq_toNat_cond] at h0 h1
  have := a.isLt
  split at h0 <;> split at h1 <;> omega

theorem counted (a : BitVec 32) (h : IntOp.andi (IntOp.cmpi .sge a 1#32) (IntOp.cmpi .sle a 42#32) = 1#1) :
    1 ≤ a.toNat ∧ a.toNat ≤ 42 := by
  simp only [IntOp.cmpi, IntOp.andi] at h
  have h0 : BitVec.sle 1#32 a = true := by
    by_contra hn; rw [Bool.not_eq_true] at hn; rw [hn] at h; revert h; generalize BitVec.sle a 42#32 = b; revert b; decide
  have h1 : BitVec.sle a 42#32 = true := by
    by_contra hn; rw [Bool.not_eq_true] at hn; rw [hn] at h; revert h; generalize BitVec.sle 1#32 a = b; revert b; decide
  simp only [BitVec.sle, decide_eq_true_eq] at h0 h1
  rw [show (1#32).toInt = 1 from rfl] at h0
  rw [show (42#32).toInt = 42 from rfl] at h1
  rw [BitVec.toInt_eq_toNat_cond] at h0 h1
  have := a.isLt
  split at h0 <;> split at h1 <;> omega

/-! ## The two tables in range -/

/-- Every tile's word names one of the 8 experts and the count is between 1 and 42. -/
def Words (te : S42.Idx → BitVec 32) (nu : S1.Idx → BitVec 32) : Prop :=
  (∀ i, (te i).toNat < 8) ∧ ∀ i, 1 ≤ (nu i).toNat ∧ (nu i).toNat ≤ 42

theorem words_of_routed (x0 x1 x2 x3 x4 x5) (h : (Cert.Pre_routed.fn (F := F) x0 x1 x2 x3 x4 x5).1 = (fun _ => 1#1)
    ∧ (Cert.Pre_routed.fn (F := F) x0 x1 x2 x3 x4 x5).2 = (fun _ => 1#1)) : Words x0 x1 :=
  ⟨fun i => bounded (x0 i) 8#32 (by decide) (congrFun h.1 i), fun i => counted (x1 i) (congrFun h.2 i)⟩

abbrev word (pf : pre0.Contents (Elt F)) (k : Fin 42) : BitVec 32 := (show S42.Idx → BitVec 32 from pf 0) (ix1 k)
abbrev total (pf : pre0.Contents (Elt F)) : BitVec 32 := (show S1.Idx → BitVec 32 from pf 1) (ix1 0)

theorem idx_S1 (j : S1.Idx) : j = ix1 0 := funext fun a => by
  obtain rfl : a = 0 := Subsingleton.elim _ _
  exact Subsingleton.elim (α := Fin 1) _ _

theorem total_at (pf : pre0.Contents (Elt F)) (r) (h) : (pf.at 1 r h : BitVec 32) = total pf :=
  congrArg (show S1.Idx → BitVec 32 from pf 1) (idx_S1 _)

theorem total_eq (pf : pre0.Contents (Elt F)) : (pf.atD 1 ![0] : BitVec 32) = total pf := by
  rw [show (pf.atD 1 ![0] : BitVec 32) = (show S1.Idx → BitVec 32 from pf 1) (fun a => ⟨(![0] : Fin 1 → ℕ) a, by decide +revert⟩) from rfl]
  exact congrArg (show S1.Idx → BitVec 32 from pf 1) (idx_S1 _)

theorem idx_S42 (j : S42.Idx) (k : Fin 42) (h : (j 0).val = k.val) : j = ix1 k := funext fun a => by
  obtain rfl : a = 0 := Subsingleton.elim _ _
  exact Fin.ext h

theorem word_at (pf : pre0.Contents (Elt F)) (i : grid0.Coords) :
    (pf.at 0 (Rect.unit (s := S42) (k0_off1 i) S1.size (k0_off1_inb i)) numel1_S1 : BitVec 32) = word pf (i 0) := by
  refine congrArg (show S42.Idx → BitVec 32 from pf 0) (idx_S42 _ (i 0) ?_)
  refine (Rect.emb_apply (Rect.unit (s := S42) (k0_off1 i) S1.size (k0_off1_inb i)) _ (0 : Fin 1)).trans ?_
  have h : k0_off1 i 0 = (i 0).val := congrFun (k0_off1_eq i) 0
  generalize Shape.Idx.first _ = j
  have hj : (j (0 : Fin 1)).val < 1 := (j (0 : Fin 1)).isLt
  show k0_off1 i 0 + 1 * (j (0 : Fin 1)).val = (i 0).val
  omega

theorem tile_number (i : grid0.Coords) : (BitVec.ofNat 32 (i 0).val).toNat = (i 0).val := by
  have h0 : (i 0).val < 42 := (i 0).isLt
  rw [BitVec.toNat_ofNat]; omega

/-- The row block a point reads: its own in a used tile, the last used one in any other. -/
theorem row (n : BitVec 32) (h : 1 ≤ n.toNat ∧ n.toNat ≤ 42) (i : grid0.Coords) :
    (Scalar.minsi (BitVec.ofNat 32 (i 0).val) (Scalar.subi n 1#32)).toNat = min (i 0).val (n.toNat - 1) := by
  have h0 : (i 0).val < 42 := (i 0).isLt
  have e1 : (n - 1#32).toNat = n.toNat - 1 := by
    rw [BitVec.toNat_sub]; simp only [BitVec.toNat_ofNat]; omega
  have e0 := tile_number i
  show (if BitVec.slt _ (n - 1#32) = true then _ else n - 1#32).toNat = _
  rw [slt_small _ _ (by omega) (by omega), e1, e0]
  by_cases hlt : (i 0).val < n.toNat - 1
  · rw [decide_eq_true hlt, if_pos rfl, e0]; omega
  · rw [decide_eq_false hlt, if_neg (by decide), e1]; omega

theorem map_x (pf : pre0.Contents (Elt F)) (h : 1 ≤ (total pf).toNat ∧ (total pf).toNat ≤ 42) (i : grid0.Coords) :
    cc0_transform_0 inb_S1_S1_0 numel1_S1 pf i = ![min (i 0).val ((total pf).toNat - 1), 0] := by
  rw [← row _ h i, ← total_at pf (Rect.unit (s := S1) ![0] S1.size inb_S1_S1_0) numel1_S1]
  rfl

/-- The column block a point reads: its own in a used tile, the last in any other. -/
theorem column (n : BitVec 32) (h : n.toNat ≤ 42) (i : grid0.Coords) :
    (Scalar.select (Scalar.cmpi .slt (BitVec.ofNat 32 (i 0).val) n) (BitVec.ofNat 32 (i 1).val) 6#32).toNat
      = if (i 0).val < n.toNat then (i 1).val else 6 := by
  have h0 : (i 0).val < 42 := (i 0).isLt
  have h1 : (i 1).val < 7 := (i 1).isLt
  have e0 := tile_number i
  simp only [Scalar.cmpi, IntOp.cmpi, slt_small _ _ (show (BitVec.ofNat 32 (i 0).val).toNat < 2 ^ 31 by omega) (show n.toNat < 2 ^ 31 by omega), e0]
  by_cases hlt : (i 0).val < n.toNat
  · rw [if_pos hlt, decide_eq_true hlt]
    show (BitVec.ofNat 32 (i 1).val).toNat = _
    rw [BitVec.toNat_ofNat]; omega
  · rw [if_neg hlt, decide_eq_false hlt]; rfl

theorem map_w1 (pf : pre0.Contents (Elt F)) (h : (total pf).toNat ≤ 42) (i : grid0.Coords) :
    cc0_transform_1 k0_off1_inb numel1_S1 inb_S1_S1_0 pf i
      = ![0, (word pf (i 0)).toNat, 0, if (i 0).val < (total pf).toNat then (i 1).val else 6] := by
  rw [← column _ h i, ← word_at pf i, ← total_at pf (Rect.unit (s := S1) ![0] S1.size inb_S1_S1_0) numel1_S1]
  rfl

theorem map_w3 (pf : pre0.Contents (Elt F)) (h : (total pf).toNat ≤ 42) (i : grid0.Coords) :
    cc0_transform_2 k0_off1_inb numel1_S1 inb_S1_S1_0 pf i
      = ![0, (word pf (i 0)).toNat, 0, if (i 0).val < (total pf).toNat then (i 1).val else 6] := map_w1 pf h i

theorem map_w2 (pf : pre0.Contents (Elt F)) (h : (total pf).toNat ≤ 42) (i : grid0.Coords) :
    cc0_transform_3 k0_off1_inb numel1_S1 inb_S1_S1_0 pf i
      = ![0, (word pf (i 0)).toNat, if (i 0).val < (total pf).toNat then (i 1).val else 6, 0] := by
  rw [← column _ h i, ← word_at pf i, ← total_at pf (Rect.unit (s := S1) ![0] S1.size inb_S1_S1_0) numel1_S1]
  rfl

/-- With the tables in range every block lies in its array. -/
theorem ok (pf : pre0.Contents (Elt F)) (h : Words (pf 0) (pf 1)) : ok0 pf := by
  have hn : 1 ≤ (total pf).toNat ∧ (total pf).toNat ≤ 42 := h.2 _
  have col : ∀ i : grid0.Coords, (if (i 0).val < (total pf).toNat then (i 1).val else 6) < 7 := fun i => by
    have h1 : (i 1).val < 7 := (i 1).isLt
    split <;> omega
  have exp : ∀ i : grid0.Coords, (word pf (i 0)).toNat < 8 := fun i => h.1 _
  refine ⟨fun i => ⟨?_, .inl rfl⟩, fun i => ⟨?_, .inl rfl⟩, fun i => ⟨?_, .inl rfl⟩, fun i => ⟨?_, .inl rfl⟩⟩
  · rw [map_x pf hn]
    intro a
    have h0 : (i 0).val < 42 := (i 0).isLt
    match a with
    | ⟨0, _⟩ => show (min (i 0).val ((total pf).toNat - 1) + 1) * 1024 ≤ 43008; omega
    | ⟨1, _⟩ => show (0 + 1) * 1024 ≤ 1024; omega
  · rw [map_w1 pf hn.2]
    have := col i; have := exp i
    intro a
    match a with
    | ⟨0, _⟩ => show (0 + 1) * 1 ≤ 2; omega
    | ⟨1, _⟩ => show ((word pf (i 0)).toNat + 1) * 1 ≤ 8; omega
    | ⟨2, _⟩ => show (0 + 1) * 1024 ≤ 1024; omega
    | ⟨3, _⟩ => show ((if (i 0).val < (total pf).toNat then (i 1).val else 6) + 1) * 512 ≤ 3584; omega
  · rw [map_w3 pf hn.2]
    have := col i; have := exp i
    intro a
    match a with
    | ⟨0, _⟩ => show (0 + 1) * 1 ≤ 2; omega
    | ⟨1, _⟩ => show ((word pf (i 0)).toNat + 1) * 1 ≤ 8; omega
    | ⟨2, _⟩ => show (0 + 1) * 1024 ≤ 1024; omega
    | ⟨3, _⟩ => show ((if (i 0).val < (total pf).toNat then (i 1).val else 6) + 1) * 512 ≤ 3584; omega
  · rw [map_w2 pf hn.2]
    have := col i; have := exp i
    intro a
    match a with
    | ⟨0, _⟩ => show (0 + 1) * 1 ≤ 2; omega
    | ⟨1, _⟩ => show ((word pf (i 0)).toNat + 1) * 1 ≤ 8; omega
    | ⟨2, _⟩ => show ((if (i 0).val < (total pf).toNat then (i 1).val else 6) + 1) * 512 ≤ 3584; omega
    | ⟨3, _⟩ => show (0 + 1) * 1024 ≤ 1024; omega

/-- A tile is used where its number is below the count. -/
theorem used_iff (n : BitVec 32) (h : n.toNat ≤ 42) (t : ℕ) (ht : t < 294) : used n t ↔ t / 7 < n.toNat := by
  have e : (BitVec.ofNat 32 (t / 7)).toNat = t / 7 := by rw [BitVec.toNat_ofNat]; omega
  unfold used
  rw [slt_small _ _ (by omega) (by omega), e, decide_eq_true_iff]

end Cert.ExpertsIdeal.Range
end
-- ==== Proof.ExpertsQuiet.lean ====
module

public import proofs.«01_k».proof.Proof.ExpertsRange
public import proofs.«01_k».proof.Proof.Gen.Experts.Launch

@[expose] public section

set_option maxRecDepth 16384

noncomputable section

namespace Cert.ExpertsQuiet

open Idealize.ShloMosaic Idealize.ShloMosaic.TcCoe Idealize.SL.Sem
open Cert.ExpertsIdeal.Range (Words)

/-! ## The experts' call leaves its arguments alone and its counters at zero

The two printed forms of the call have the same text, so the statement about the one is the statement about the other. -/

open Cert.ExpertsIdeal in
def QuietIdeal : Prop :=
  ∀ {F : FTy → Type} [FloatOps F] (m : (ℓ : Loc nD τ sig) → Buf (Elt F) ℓ) (ρ : Dev nD → PrngReg),
    (∀ c : Dev nD, Words (m ((c.tc : Thread nD τ).loc main_arg0)) (m ((c.tc : Thread nD τ).loc main_arg1))) →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

open Cert.Experts in
def Quiet : Prop :=
  ∀ {F : FTy → Type} [FloatOps F] (m : (ℓ : Loc nD τ sig) → Buf (Elt F) ℓ) (ρ : Dev nD → PrngReg),
    (∀ c : Dev nD, Words (m ((c.tc : Thread nD τ).loc main_arg0)) (m ((c.tc : Thread nD τ).loc main_arg1))) →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem quietIdeal : QuietIdeal := fun m ρ h =>
  (θ_run _ _ _).mono (fun _ k => ⟨fun c => (k.1 c).2, k.2⟩) (Cert.ExpertsIdeal.Steps.outcome m ρ (Cert.ExpertsIdeal.Range.ok _ (h 0)))

theorem same_statement : QuietIdeal = Quiet := by chain_rfl

theorem quiet : Quiet := same_statement.mp (quietIdeal : QuietIdeal)

end Cert.ExpertsQuiet
end
-- ==== Proof.ExpertsSpec.lean ====
module

public import Idealize.ShloMosaic.PureOps.Ideal
public import Idealize.ShloMosaic.PureOps.Ideal.Laws
public import Idealize.ShloMosaic.Lib.ValueIdx

@[expose] public section

noncomputable section

namespace Cert.ExpertsSpec

open Idealize.ShloMosaic Idealize.ShloMosaic.ValueIdx

/-! ## The experts' feed-forward, as a function of the arguments

Rows come in tiles of 1024. A row of a used tile goes through the gated feed-forward of the expert its tile names; a row
past the used tiles is zero. -/

abbrev Tiles := (⟨1, ![42]⟩ : Shape).Idx → BitVec 32
abbrev Count := (⟨1, ![1]⟩ : Shape).Idx → BitVec 32
abbrev Rows := (⟨2, ![43008, 1024]⟩ : Shape).Idx → EReal
abbrev Inner := (⟨4, ![2, 8, 1024, 3584]⟩ : Shape).Idx → EReal
abbrev Outer := (⟨4, ![2, 8, 3584, 1024]⟩ : Shape).Idx → EReal

/-- A row times a column of an expert's inner weights. -/
def proj (x : Rows) (w : Inner) (e : Fin 8) (r : Fin 43008) (k : Fin 3584) : EReal := ∑ d : Fin 1024, x (ix2 r d) * w (ix4 0 e d k)

/-- The hidden value: the gate through `z ↦ z / (1 + exp (-z))`, times the other projection. -/
def hidden (x : Rows) (w1 w3 : Inner) (e : Fin 8) (r : Fin 43008) (k : Fin 3584) : EReal :=
  proj x w1 e r k * Ideal.logistic (proj x w1 e r k) * proj x w3 e r k

/-- One expert's output. -/
def expert (x : Rows) (w1 w3 : Inner) (w2 : Outer) (e : Fin 8) (r : Fin 43008) (j : Fin 1024) : EReal :=
  ∑ k : Fin 3584, hidden x w1 w3 e r k * w2 (ix4 0 e k j)

/-- The expert a tile's word names. -/
def named (te : Tiles) (i : Fin 42) : Fin 8 := ⟨(te (ix1 i)).toNat % 8, Nat.mod_lt _ (by decide)⟩

/-- The tile of a row. -/
def tile (r : Fin 43008) : Fin 42 := ⟨r.val / 1024, by omega⟩

/-- The layer's result. -/
def result (te : Tiles) (nu : Count) (x : Rows) (w1 w3 : Inner) (w2 : Outer) : Rows := fun i =>
  if (tile (i 0)).val < (nu (ix1 0)).toNat then expert x w1 w3 w2 (named te (tile (i 0))) (i 0) (i 1) else 0

end Cert.ExpertsSpec
end
-- ==== Proof.ExpertsValue.lean ====
module

public import proofs.«01_k».proof.Proof.ExpertsRange
public import proofs.«01_k».proof.Proof.ExpertsSpec
public import Idealize.ShloMosaic.Lib.IdealHost
public import Idealize.ShloMosaic.Lib.MatmulPlain
public import Idealize.ShloMosaic.Lib.Pipeline.Value

@[expose] public section

set_option maxRecDepth 16384

noncomputable section

namespace Cert.ExpertsIdeal.Value

open Cert.ExpertsIdeal Cert.ExpertsIdeal.Gen Cert.ExpertsIdeal.Steps Cert.ExpertsIdeal.Range Cert.ExpertsSpec
open Idealize.ShloMosaic Idealize.ShloMosaic.TcCoe Idealize.SL.Sem Idealize.ShloMosaic.ValueIdx

/-! ## The payloads at an index -/

/-- A row of the scratch block times a column of a weight block. -/
def dotB (s : FVec Ideal S1024x1024 .bf16) (w : FVec Ideal S1x1x1024x512 .f32) (a : Fin 1024) (l : Fin 512) : EReal :=
  ∑ d : Fin 1024, s (ix2 a d) * w (ix4 0 0 d l)

theorem inner_apply (w : FVec Ideal S1x1x1024x512 .f32) (d : Fin 1024) (l : Fin 512) :
    shapeCast S1024x512 w shapeCasts_S1x1x1024x512_S1024x512 (ix2 d l) = w (ix4 0 0 d l) :=
  shapeCast_apply w _ (ix2 d l) (ix4 0 0 d l) (by
    rewrite [Shape.rowMajor_val_four, Shape.rowMajor_val_two]
    show ((0 * 1 + 0) * 1024 + d.val) * 512 + l.val = d.val * 512 + l.val
    omega)

theorem outer_apply (w : FVec Ideal S1x1x512x1024 .f32) (l : Fin 512) (j : Fin 1024) :
    shapeCast S512x1024 w shapeCasts_S1x1x512x1024_S512x1024 (ix2 l j) = w (ix4 0 0 l j) :=
  shapeCast_apply w _ (ix2 l j) (ix4 0 0 l j) (by
    rewrite [Shape.rowMajor_val_four, Shape.rowMajor_val_two]
    show ((0 * 1 + 0) * 512 + l.val) * 1024 + j.val = l.val * 1024 + j.val
    omega)

theorem dot_apply (s : FVec Ideal S1024x1024 .bf16) (w : FVec Ideal S1x1x1024x512 .f32) (a : Fin 1024) (l : Fin 512) :
    matmul dot_S1024x1024_S1024x512_S1024x512_1_0_0_1_n_n none s
      (truncf .bf16 (shapeCast S1024x512 w shapeCasts_S1x1x1024x512_S1024x512) bitsLt_bf16_f32) (constant (F := Ideal) S1024x512 .f32 0x00000000#32) (ix2 a l)
      = dotB s w a l := by
  refine (Ideal.matmul_plain_apply none _ _ _ a l).trans ?_
  rw [show (constant (F := Ideal) S1024x512 .f32 0x00000000#32 (ix2 a l) : EReal) = 0 from Ideal.ofBits_zero_f32, zero_add]
  unfold dotB
  exact Finset.sum_congr rfl fun d _ => congrArg (s (ix2 a d) * ·) (inner_apply w d l)

/-- The rows pass into the scratch block unchanged: a change of format is the identity. -/
theorem pay1_apply (x : FVec Ideal S1024x1024 .f32) (i : S1024x1024.Idx) : k0_pay1 (F := Ideal) x i = x i := by
  unfold k0_pay1
  rw [shapeCast_self]
  rfl

/-- One column step's contribution. -/
def stepB (s : FVec Ideal S1024x1024 .bf16) (w1 w3 : FVec Ideal S1x1x1024x512 .f32) (w2 : FVec Ideal S1x1x512x1024 .f32) (a : Fin 1024) (j : Fin 1024) : EReal :=
  ∑ l : Fin 512, dotB s w1 a l * Ideal.logistic (dotB s w1 a l) * dotB s w3 a l * w2 (ix4 0 0 l j)

theorem pay2_apply (s : FVec Ideal S1024x1024 .bf16) (w1 w3 : FVec Ideal S1x1x1024x512 .f32) (w2 : FVec Ideal S1x1x512x1024 .f32) (a j : Fin 1024) :
    k0_pay2 (F := Ideal) s w1 w3 w2 (ix2 a j) = stepB s w1 w3 w2 a j := by
  unfold k0_pay2
  refine (Ideal.matmul_plain_apply none _ _ _ a j).trans ?_
  rw [show (constant (F := Ideal) S1024x1024 .f32 0x00000000#32 (ix2 a j) : EReal) = 0 from Ideal.ofBits_zero_f32, zero_add]
  unfold stepB
  refine Finset.sum_congr rfl fun l _ => congrArg₂ (· * ·) ?_ (outer_apply w2 l j)
  rw [← dot_apply s w1 a l, ← dot_apply s w3 a l]
  rfl

theorem pay3_apply (s : FVec Ideal S1024x1024 .bf16) (w1 w3 : FVec Ideal S1x1x1024x512 .f32) (w2 : FVec Ideal S1x1x512x1024 .f32) (y : FVec Ideal S1024x1024 .f32) (a j : Fin 1024) :
    k0_pay3 (F := Ideal) s w1 w3 w2 y (ix2 a j) = y (ix2 a j) + stepB s w1 w3 w2 a j := by
  rw [← pay2_apply]
  unfold k0_pay3
  rw [shapeCast_self]
  rfl

theorem pay4_apply (i : S1024x1024.Idx) : k0_pay4 (F := Ideal) i = (0 : EReal) := Ideal.ofBits_zero_f32

/-! ## The blocks of a used tile -/

variable (m : (ℓ : Loc nD τ sig) → Buf (Elt Ideal) ℓ) (hO : Ok m) (c : Dev nD)

abbrev teOf : Tiles := m ((c : Thread nD τ).loc main_arg0)
abbrev nuOf : Count := m ((c : Thread nD τ).loc main_arg1)
abbrev xOf : Rows := m ((c : Thread nD τ).loc main_arg2)
abbrev w1Of : Inner := m ((c : Thread nD τ).loc main_arg3)
abbrev w3Of : Inner := m ((c : Thread nD τ).loc main_arg4)
abbrev w2Of : Outer := m ((c : Thread nD τ).loc main_arg5)

variable (hW : Words (teOf m c) (nuOf m c))

theorem total_m : total (tables m) = nuOf m c (ix1 0) := by
  obtain rfl : c = 0 := Subsingleton.elim _ _; rfl
theorem word_m (i : Fin 42) : word (tables m) i = teOf m c (ix1 i) := by
  obtain rfl : c = 0 := Subsingleton.elim _ _; rfl

include hW in
theorem named_m (i : Fin 42) : (word (tables m) i).toNat = (named (teOf m c) i).val := by
  rw [word_m m c]; exact (Nat.mod_eq_of_lt (hW.1 _)).symm

/-- The tile of a point, and its column step. -/
def tileOf (t : Fin (cfgM m hO).N) : Fin 42 := ⟨t.val / 7, by have := t.isLt; have := size_N m hO; omega⟩

theorem coord0 (t : Fin (cfgM m hO).N) : grid0.coords t 0 = tileOf m hO t := Fin.ext (tile_val t)

/-- The weights' block of a point of a used tile. -/
theorem weight_index (t : Fin (cfgM m hO).N) (ht : t.val / 7 < (nuOf m c (ix1 0)).toNat) (hW : Words (teOf m c) (nuOf m c)) :
    cc0_transform_1 k0_off1_inb numel1_S1 inb_S1_S1_0 (tables m) (grid0.coords t) = ![0, (named (teOf m c) (tileOf m hO t)).val, 0, t.val % 7] := by
  have h0 : (grid0.coords t 0).val = t.val / 7 := tile_val t
  have h1 : (grid0.coords t 1).val = t.val % 7 := col_val t
  have hn := hW.2 (ix1 0)
  rw [map_w1 (tables m) (by rw [total_m m c]; exact hn.2), total_m m c, coord0 m hO t, named_m m c hW, h1]
  exact congrArg (fun v : ℕ => (![0, (named (teOf m c) (tileOf m hO t)).val, 0, v] : Fin 4 → ℕ)) (if_pos ht)

include hW in
theorem blk_x (t : Fin (cfgM m hO).N) (ht : t.val / 7 < (nuOf m c (ix1 0)).toNat) (a d : Fin 1024) (r : Fin 43008) (hr : r.val = 1024 * (t.val / 7) + a.val) :
    (blk m hO c 0 t : Vec Ideal S1024x1024 .f32) (ix2 a d) = xOf m c (ix2 r d) := by
  refine (View.read_apply _ _).trans (congrArg (m ((c : Thread nD τ).loc main_arg2)) (funext fun y => Fin.ext ?_))
  have hn := hW.2 (ix1 0)
  have h0 : (grid0.coords t 0).val = t.val / 7 := tile_val t
  have e : cc0_transform_0 inb_S1_S1_0 numel1_S1 (tables m) (grid0.coords t) = ![min (t.val / 7) ((nuOf m c (ix1 0)).toNat - 1), 0] := by
    rw [map_x (tables m) (by rw [total_m m c]; exact hn), total_m m c, h0]
  match y with
  | ⟨0, _⟩ =>
    show cc0_transform_0 inb_S1_S1_0 numel1_S1 (tables m) (grid0.coords t) 0 * 1024 + 1 * a.val = r.val
    rw [e]; show min (t.val / 7) ((nuOf m c (ix1 0)).toNat - 1) * 1024 + 1 * a.val = r.val
    omega
  | ⟨1, _⟩ =>
    show cc0_transform_0 inb_S1_S1_0 numel1_S1 (tables m) (grid0.coords t) 1 * 1024 + 1 * d.val = d.val
    rw [e]; show 0 * 1024 + 1 * d.val = d.val
    omega

/-- The place in the inner weights of an entry of a point's block. -/
theorem place_inner (p : ℕ) (d : Fin 1024) (l : Fin 512) (k : Fin 3584) (hk : k.val = 512 * p + l.val) (e : Fin 8) (y : Fin 4) :
    (![0, e.val, 0, p] : Fin 4 → ℕ) y * S1x1x1024x512.size y + 1 * ((ix4 0 0 d l : S1x1x1024x512.Idx) y).val = ((ix4 0 e d k : S2x8x1024x3584.Idx) y).val := by
  match y with
  | ⟨0, _⟩ => rfl
  | ⟨1, _⟩ => show e.val * 1 + 1 * 0 = e.val; omega
  | ⟨2, _⟩ => show 0 * 1024 + 1 * d.val = d.val; omega
  | ⟨3, _⟩ => show p * 512 + 1 * l.val = k.val; omega

include hW in
theorem blk_w1 (t : Fin (cfgM m hO).N) (ht : t.val / 7 < (nuOf m c (ix1 0)).toNat) (d : Fin 1024) (l : Fin 512) (k : Fin 3584) (hk : k.val = 512 * (t.val % 7) + l.val) :
    (blk m hO c 1 t : Vec Ideal S1x1x1024x512 .f32) (ix4 0 0 d l) = w1Of m c (ix4 0 (named (teOf m c) (tileOf m hO t)) d k) := by
  refine (View.read_apply _ _).trans (congrArg (m ((c : Thread nD τ).loc main_arg3)) (funext fun y => Fin.ext ?_))
  exact (congrArg (fun f : Fin 4 → ℕ => f y * S1x1x1024x512.size y + 1 * ((ix4 0 0 d l : S1x1x1024x512.Idx) y).val) (weight_index m hO c t ht hW)).trans
    (place_inner (t.val % 7) d l k hk _ y)

include hW in
theorem blk_w3 (t : Fin (cfgM m hO).N) (ht : t.val / 7 < (nuOf m c (ix1 0)).toNat) (d : Fin 1024) (l : Fin 512) (k : Fin 3584) (hk : k.val = 512 * (t.val % 7) + l.val) :
    (blk m hO c 2 t : Vec Ideal S1x1x1024x512 .f32) (ix4 0 0 d l) = w3Of m c (ix4 0 (named (teOf m c) (tileOf m hO t)) d k) := by
  refine (View.read_apply _ _).trans (congrArg (m ((c : Thread nD τ).loc main_arg4)) (funext fun y => Fin.ext ?_))
  exact (congrArg (fun f : Fin 4 → ℕ => f y * S1x1x1024x512.size y + 1 * ((ix4 0 0 d l : S1x1x1024x512.Idx) y).val) (weight_index m hO c t ht hW)).trans
    (place_inner (t.val % 7) d l k hk _ y)

include hW in
theorem blk_w2 (t : Fin (cfgM m hO).N) (ht : t.val / 7 < (nuOf m c (ix1 0)).toNat) (l : Fin 512) (j : Fin 1024) (k : Fin 3584) (hk : k.val = 512 * (t.val % 7) + l.val) :
    (blk m hO c 3 t : Vec Ideal S1x1x512x1024 .f32) (ix4 0 0 l j) = w2Of m c (ix4 0 (named (teOf m c) (tileOf m hO t)) k j) := by
  refine (View.read_apply _ _).trans (congrArg (m ((c : Thread nD τ).loc main_arg5)) (funext fun y => Fin.ext ?_))
  have h1 : (grid0.coords t 1).val = t.val % 7 := col_val t
  have h0 : (grid0.coords t 0).val = t.val / 7 := tile_val t
  have e : cc0_transform_3 k0_off1_inb numel1_S1 inb_S1_S1_0 (tables m) (grid0.coords t) = ![0, (named (teOf m c) (tileOf m hO t)).val, t.val % 7, 0] := by
    rw [map_w2 (tables m) (by rw [total_m m c]; exact (hW.2 (ix1 0)).2), total_m m c, coord0 m hO t, named_m m c hW, h1]
    exact congrArg (fun v : ℕ => (![0, (named (teOf m c) (tileOf m hO t)).val, v, 0] : Fin 4 → ℕ)) (if_pos ht)
  refine (congrArg (fun f : Fin 4 → ℕ => f y * S1x1x512x1024.size y + 1 * ((ix4 0 0 l j : S1x1x512x1024.Idx) y).val) e).trans ?_
  match y with
  | ⟨0, _⟩ => rfl
  | ⟨1, _⟩ => show (named (teOf m c) (tileOf m hO t)).val * 1 + 1 * 0 = (named (teOf m c) (tileOf m hO t)).val; omega
  | ⟨2, _⟩ => show t.val % 7 * 512 + 1 * l.val = k.val; omega
  | ⟨3, _⟩ => show 0 * 1024 + 1 * j.val = j.val; omega

/-! ## The sum over the column steps -/

/-- The summand of hidden column `k`, zero past the last. -/
def term (e : Fin 8) (r : Fin 43008) (j : Fin 1024) (k : ℕ) : EReal :=
  if h : k < 3584 then hidden (xOf m c) (w1Of m c) (w3Of m c) e r ⟨k, h⟩ * w2Of m c (ix4 0 e ⟨k, h⟩ j) else 0

include hW in
theorem step_eq (t : Fin (cfgM m hO).N) (ht : t.val / 7 < (nuOf m c (ix1 0)).toNat) (a j : Fin 1024) (r : Fin 43008) (hr : r.val = 1024 * (t.val / 7) + a.val) :
    stepB (rows m hO c t) (blk m hO c 1 t) (blk m hO c 2 t) (blk m hO c 3 t) a j
      = ∑ l ∈ Finset.range 512, term m c (named (teOf m c) (tileOf m hO t)) r j (512 * (t.val % 7) + l) := by
  rw [Finset.sum_range]
  unfold stepB
  refine Finset.sum_congr rfl fun l _ => ?_
  have hl : 512 * (t.val % 7) + l.val < 3584 := by omega
  unfold term
  rw [dif_pos hl]
  have hs : ∀ d : Fin 1024, (rows m hO c t : Vec Ideal S1024x1024 .bf16) (ix2 a d) = xOf m c (ix2 r d) := fun d => by
    unfold rows
    refine (pay1_apply _ _).trans (blk_x m hO c hW (start m hO t) ?_ a d r ?_)
    · show 7 * (t.val / 7) / 7 < _; omega
    · show r.val = 1024 * (7 * (t.val / 7) / 7) + a.val; omega
  have g : dotB (rows m hO c t) (blk m hO c 1 t) a l = proj (xOf m c) (w1Of m c) (named (teOf m c) (tileOf m hO t)) r ⟨_, hl⟩ :=
    Finset.sum_congr rfl fun d _ => congrArg₂ (· * ·) (hs d) (blk_w1 m hO c hW t ht d l ⟨_, hl⟩ rfl)
  have u : dotB (rows m hO c t) (blk m hO c 2 t) a l = proj (xOf m c) (w3Of m c) (named (teOf m c) (tileOf m hO t)) r ⟨_, hl⟩ :=
    Finset.sum_congr rfl fun d _ => congrArg₂ (· * ·) (hs d) (blk_w3 m hO c hW t ht d l ⟨_, hl⟩ rfl)
  rw [g, u]
  exact congrArg (hidden (xOf m c) (w1Of m c) (w3Of m c) (named (teOf m c) (tileOf m hO t)) r ⟨_, hl⟩ * ·) (blk_w2 m hO c hW t ht l j ⟨_, hl⟩ rfl)

include hW in
/-- The output block after column step `p` of tile `i` holds the sum over the hidden columns so far. -/
theorem acc_eq (i : Fin 42) (hi : i.val < (nuOf m c (ix1 0)).toNat) (a j : Fin 1024) (r : Fin 43008) (hr : r.val = 1024 * i.val + a.val) :
    (p : ℕ) → (hp : p < 7) → (h : 7 * i.val + p < (cfgM m hO).N) →
      (acc m hO c (7 * i.val + p) h : Vec Ideal S1024x1024 .f32) (ix2 a j) = ∑ k ∈ Finset.range (512 * (p + 1)), term m c (named (teOf m c) i) r j k
  | 0, _, h => by
    have z : (⟨7 * i.val + 0, h⟩ : Fin (cfgM m hO).N).val % 7 = 0 := by show (7 * i.val + 0) % 7 = 0; omega
    have d : (7 * i.val + 0) / 7 = i.val := by omega
    have e := acc_first m hO c ⟨7 * i.val + 0, h⟩ z
    have s := step_eq m hO c hW ⟨7 * i.val + 0, h⟩ (by show (7 * i.val + 0) / 7 < _; omega) a j r (by show r.val = 1024 * ((7 * i.val + 0) / 7) + a.val; omega)
    have st : start m hO ⟨7 * i.val + 0, h⟩ = ⟨7 * i.val + 0, h⟩ := Fin.ext (by show 7 * ((7 * i.val + 0) / 7) = 7 * i.val + 0; omega)
    have ti : tileOf m hO ⟨7 * i.val + 0, h⟩ = i := Fin.ext d
    refine (congrFun e _).trans ((pay2_apply _ _ _ _ a j).trans ?_)
    unfold rows at s
    rw [st, ti] at s
    refine s.trans (Finset.sum_congr (by rfl) fun l _ => congrArg _ ?_)
    show 512 * ((7 * i.val + 0) % 7) + l = l
    omega
  | p + 1, hp, h => by
    have z : ¬(⟨7 * i.val + (p + 1), h⟩ : Fin (cfgM m hO).N).val % 7 = 0 := by show ¬(7 * i.val + (p + 1)) % 7 = 0; omega
    have e := acc_later m hO c ⟨7 * i.val + (p + 1), h⟩ z
    have s := step_eq m hO c hW ⟨7 * i.val + (p + 1), h⟩ (by show (7 * i.val + (p + 1)) / 7 < _; omega) a j r (by show r.val = 1024 * ((7 * i.val + (p + 1)) / 7) + a.val; omega)
    have ti : tileOf m hO ⟨7 * i.val + (p + 1), h⟩ = i := Fin.ext (by show (7 * i.val + (p + 1)) / 7 = i.val; omega)
    have ih := acc_eq i hi a j r hr p (by omega) (Nat.lt_of_succ_lt h)
    refine (congrFun e _).trans ((pay3_apply _ _ _ _ _ a j).trans ?_)
    rw [s, ti]
    refine (congrArg (· + _) ih).trans ?_
    rw [show 512 * (p + 1 + 1) = 512 * (p + 1) + 512 by omega, Finset.sum_range_add]
    refine congrArg (_ + ·) (Finset.sum_congr rfl fun l _ => congrArg _ ?_)
    show 512 * ((7 * i.val + (p + 1)) % 7) + l = 512 * (p + 1) + l
    omega

include hW in
/-- After the last column step a used tile's block holds the expert's output. -/
theorem acc_last (i : Fin 42) (hi : i.val < (nuOf m c (ix1 0)).toNat) (a j : Fin 1024) (r : Fin 43008) (hr : r.val = 1024 * i.val + a.val) (h : 7 * i.val + 6 < (cfgM m hO).N) :
    (acc m hO c (7 * i.val + 6) h : Vec Ideal S1024x1024 .f32) (ix2 a j) = expert (xOf m c) (w1Of m c) (w3Of m c) (w2Of m c) (named (teOf m c) i) r j := by
  rw [acc_eq m hO c hW i hi a j r hr 6 (by decide) h]
  show ∑ k ∈ Finset.range 3584, _ = _
  rw [Finset.sum_range]
  unfold expert
  exact Finset.sum_congr rfl fun k _ => dif_pos k.isLt

/-! ## The result array -/

/-- Where an entry of a point's output block lies in the array. -/
theorem place_out (t : Fin (cfgM m hO).N) (a j : Fin 1024) (r : Fin 43008) (hr : r.val = 1024 * (t.val / 7) + a.val) :
    (((cfgM m hO).win 4).blk t).view.emb (ix2 a j : S1024x1024.Idx) = (ix2 r j : S43008x1024.Idx) := by
  have h0 : (grid0.coords t 0).val = t.val / 7 := tile_val t
  have k0 : cc0_transform_4 (grid0.coords t) 0 = t.val / 7 := by
    show (BitVec.ofNat 32 (grid0.coords t 0).val).toNat = _
    rw [h0, BitVec.toNat_ofNat]; omega
  funext y
  apply Fin.ext
  match y with
  | ⟨0, _⟩ => show cc0_transform_4 (grid0.coords t) 0 * 1024 + 1 * a.val = r.val; rw [k0]; omega
  | ⟨1, _⟩ => show 0 * 1024 + 1 * j.val = j.val; omega

include hW in
/-- What a tile's last point writes back is its block of the specified array. -/
theorem flushed_eq (t : Fin (cfgM m hO).N) (ht : t.val % 7 = 6) :
    (dats m hO 0 c).flushed 4 t = (((cfgM m hO).win 4).blk t).view.read (Elt Ideal) (result (teOf m c) (nuOf m c) (xOf m c) (w1Of m c) (w3Of m c) (w2Of m c)) := by
  have hN := size_N m hO
  have htN := t.isLt
  have e : (dats m hO 0 c).flushed 4 t = outAt m hO c t := by
    unfold Pipeline.Dat.flushed; rw [after_4]; rfl
  rw [e]
  funext x
  obtain ⟨a, j, rfl⟩ : ∃ (a j : Fin 1024), (x : S1024x1024.Idx) = ix2 a j := ⟨x (0 : Fin 2), x (1 : Fin 2), by
    funext y
    match y with
    | ⟨0, _⟩ => rfl
    | ⟨1, _⟩ => rfl⟩
  have hr : 1024 * (t.val / 7) + a.val < 43008 := by omega
  refine Eq.trans ?_ (congrArg (result (teOf m c) (nuOf m c) (xOf m c) (w1Of m c) (w3Of m c) (w2Of m c)) (place_out m hO t a j ⟨_, hr⟩ rfl) : _ = _).symm
  have ti : tile (⟨1024 * (t.val / 7) + a.val, hr⟩ : Fin 43008) = tileOf m hO t := Fin.ext (by show (1024 * (t.val / 7) + a.val) / 1024 = t.val / 7; omega)
  have hu := used_iff (num m) (by unfold num; rw [total_eq, total_m m c]; exact (hW.2 (ix1 0)).2) t.val (by omega)
  have hn : (num m).toNat = (nuOf m c (ix1 0)).toNat := by unfold num; rw [total_eq, total_m m c]
  rw [hn] at hu
  show outAt m hO c t (ix2 a j) = (if (tile (⟨1024 * (t.val / 7) + a.val, hr⟩ : Fin 43008)).val < (nuOf m c (ix1 0)).toNat then
    expert (xOf m c) (w1Of m c) (w3Of m c) (w2Of m c) (named (teOf m c) (tile (⟨1024 * (t.val / 7) + a.val, hr⟩ : Fin 43008))) ⟨1024 * (t.val / 7) + a.val, hr⟩ j else 0 : EReal)
  rw [ti]
  unfold outAt
  by_cases h : t.val / 7 < (nuOf m c (ix1 0)).toNat
  · rw [if_pos (hu.mpr h)]
    refine Eq.trans ?_ (if_pos (show (tileOf m hO t).val < _ from h)).symm
    have e6 : t.val = 7 * (tileOf m hO t).val + 6 := by show t.val = 7 * (t.val / 7) + 6; omega
    have h6 : 7 * (tileOf m hO t).val + 6 < (cfgM m hO).N := e6 ▸ htN
    refine Eq.trans ?_ (acc_last m hO c hW (tileOf m hO t) h a j ⟨_, hr⟩ rfl h6)
    congr 2
  · rw [if_neg (fun g => h (hu.mp g))]
    refine (pay4_apply _).trans (if_neg (show ¬(tileOf m hO t).val < _ from h)).symm

/-- Every place of the result lies in the block of its tile's last point. -/
theorem covered (i : S43008x1024.Idx) : ∃ t : Fin (cfgM m hO).N, ((cfgM m hO).win 4).flush t = true ∧ i ∈ (((cfgM m hO).win 4).blk t).view.set := by
  have hN := size_N m hO
  have h0 : (i 0).val < 43008 := (i 0).isLt
  have hp : 7 * ((i 0).val / 1024) + 6 < (cfgM m hO).N := by omega
  refine ⟨⟨7 * ((i 0).val / 1024) + 6, hp⟩, (flush_iff m hO _).mpr (by show (7 * ((i 0).val / 1024) + 6) % 7 = 6; omega), ?_⟩
  have hl : (i 0).val % 1024 < 1024 := by omega
  have e := place_out m hO ⟨7 * ((i 0).val / 1024) + 6, hp⟩ ⟨(i 0).val % 1024, hl⟩ (i 1) (i 0)
    (by show (i 0).val = 1024 * ((7 * ((i 0).val / 1024) + 6) / 7) + (i 0).val % 1024; omega)
  have ii : i = (ix2 (i 0 : Fin 43008) (i 1 : Fin 1024) : S43008x1024.Idx) := by
    funext y
    match y with
    | ⟨0, _⟩ => rfl
    | ⟨1, _⟩ => rfl
  have g := View.emb_mem_set (((cfgM m hO).win 4).blk ⟨7 * ((i 0).val / 1024) + 6, hp⟩).view (ix2 (⟨(i 0).val % 1024, hl⟩ : Fin 1024) (i 1 : Fin 1024) : S1024x1024.Idx)
  rwa [e.trans ii.symm] at g

include hW in
/-- The result array after the kernel's run. -/
theorem final : (dats m hO 0 c).arrAt 4 (cfgM m hO).N = result (teOf m c) (nuOf m c) (xOf m c) (w1Of m c) (w3Of m c) (w2Of m c) :=
  (dats m hO 0 c).arrAt_eq_of_cover 4 (result (teOf m c) (nuOf m c) (xOf m c) (w1Of m c) (w3Of m c) (w2Of m c))
    (fun t ht => flushed_eq m hO c hW t ((flush_iff m hO t).mp ht)) (covered m hO)

end Cert.ExpertsIdeal.Value
end
-- ==== Proof.ExpertsRefOut.lean ====
/- The reference's result: it adds the eight experts' outputs, each kept on the rows whose word is that expert's, so a
   row's value is its own expert's output. -/
module

public import proofs.«01_k».proof.Proof.Gen.ExpertsReferenceIdeal.Read
public import proofs.«01_k».proof.Proof.ExpertsSpec
public import proofs.«01_k».proof.Proof.ExpertsRange
public import Idealize.ShloMosaic.Lib.IdealHost
public import Idealize.ShloMosaic.Lib.StackMember

@[expose] public section

set_option maxRecDepth 16384

noncomputable section

namespace Cert.ExpertsReferenceIdeal.RefOut

open Cert.ExpertsReferenceIdeal Cert.ExpertsReferenceIdeal.Gen Cert.ExpertsReferenceIdeal.Read Cert.ExpertsSpec
open Idealize.ShloMosaic Idealize.ShloMosaic.ValueIdx

/-! ## One expert's part, for any expert -/

/-- Expert `o`'s inner matrix. -/
def innerAt (o : ℕ) (h : S2x8x1024x3584.Slices ![0, o, 0, 0] S1x1x1024x3584) (w : FVec Ideal S2x8x1024x3584 .f32) : FVec Ideal S1024x3584 .f32 :=
  shapeCast _ (extractStridedSlice S1x1x1024x3584 ![0, o, 0, 0] w h) shapeCasts_S1x1x1024x3584_S1024x3584

/-- Expert `o`'s outer matrix. -/
def outerAt (o : ℕ) (h : S2x8x3584x1024.Slices ![0, o, 0, 0] S1x1x3584x1024) (w : FVec Ideal S2x8x3584x1024 .f32) : FVec Ideal S3584x1024 .f32 :=
  shapeCast _ (extractStridedSlice S1x1x3584x1024 ![0, o, 0, 0] w h) shapeCasts_S1x1x3584x1024_S3584x1024

theorem innerAt_apply (e : Fin 8) (h) (w : FVec Ideal S2x8x1024x3584 .f32) (d : Fin 1024) (k : Fin 3584) : innerAt e.val h w (ix2 d k) = w (ix4 0 e d k) := by
  refine (shapeCast_apply _ _ (ix2 d k) (ix4 0 0 d k) ?_).trans (extractStridedSlice_apply _ w h (ix4 0 0 d k) (ix4 0 e d k) ?_)
  · rewrite [Shape.rowMajor_val_four, Shape.rowMajor_val_two]
    show ((0 * 1 + 0) * 1024 + d.val) * 3584 + k.val = d.val * 3584 + k.val
    omega
  · intro a
    match a with
    | ⟨0, _⟩ => rfl
    | ⟨1, _⟩ => rfl
    | ⟨2, _⟩ => show d.val = 0 + d.val; omega
    | ⟨3, _⟩ => show k.val = 0 + k.val; omega

theorem outerAt_apply (e : Fin 8) (h) (w : FVec Ideal S2x8x3584x1024 .f32) (k : Fin 3584) (j : Fin 1024) : outerAt e.val h w (ix2 k j) = w (ix4 0 e k j) := by
  refine (shapeCast_apply _ _ (ix2 k j) (ix4 0 0 k j) ?_).trans (extractStridedSlice_apply _ w h (ix4 0 0 k j) (ix4 0 e k j) ?_)
  · rewrite [Shape.rowMajor_val_four, Shape.rowMajor_val_two]
    show ((0 * 1 + 0) * 3584 + k.val) * 1024 + j.val = k.val * 1024 + j.val
    omega
  · intro a
    match a with
    | ⟨0, _⟩ => rfl
    | ⟨1, _⟩ => rfl
    | ⟨2, _⟩ => show k.val = 0 + k.val; omega
    | ⟨3, _⟩ => show j.val = 0 + j.val; omega

/-- The rows times an inner matrix. -/
def times (x : FVec Ideal S43008x1024 .f32) (w : FVec Ideal S1024x3584 .f32) : FVec Ideal S43008x3584 .f32 :=
  Host.dotGeneral dot_S43008x1024_S1024x3584_S43008x3584_1_0_0_1_n_n none x w

theorem times_apply (x : FVec Ideal S43008x1024 .f32) (w : Inner) (e : Fin 8) (h) (r : Fin 43008) (k : Fin 3584) :
    times x (innerAt e.val h w) (ix2 r k) = proj x w e r k :=
  (StackMember.dotGeneral_plain_apply none x _ r k).trans (Finset.sum_congr rfl fun d _ => congrArg (x (ix2 r d) * ·) (innerAt_apply e h w d k))

/-- The gate applied to a projection. -/
def gated (g : FVec Ideal S43008x3584 .f32) : FVec Ideal S43008x3584 .f32 :=
  mulf g (Host.divf (val_main_call1_v4 (F := Ideal)) (addf (val_main_call1_v2 (F := Ideal)) (Host.exp (Host.negf g))))

theorem gated_apply (g : FVec Ideal S43008x3584 .f32) (i : S43008x3584.Idx) : gated g i = g i * Ideal.logistic (g i) := by
  show g i * Ideal.div (Ideal.ofBits .f32 0x3F800000#32) (Ideal.ofBits .f32 0x3F800000#32 + Ideal.exp (-(g i))) = _
  rw [Ideal.ofBits_one_f32]
  rfl

/-- Expert `o`'s output on every row. -/
def outOf (o : ℕ) (h1 : S2x8x1024x3584.Slices ![0, o, 0, 0] S1x1x1024x3584) (h2 : S2x8x3584x1024.Slices ![0, o, 0, 0] S1x1x3584x1024)
    (x : FVec Ideal S43008x1024 .f32) (w1 w3 : FVec Ideal S2x8x1024x3584 .f32) (w2 : FVec Ideal S2x8x3584x1024 .f32) : FVec Ideal S43008x1024 .f32 :=
  Host.dotGeneral dot_S43008x3584_S3584x1024_S43008x1024_1_0_0_1_n_n none (mulf (gated (times x (innerAt o h1 w1))) (times x (innerAt o h1 w3))) (outerAt o h2 w2)

theorem outOf_apply (e : Fin 8) (h1 h2) (x : Rows) (w1 w3 : Inner) (w2 : Outer) (r : Fin 43008) (j : Fin 1024) :
    outOf e.val h1 h2 x w1 w3 w2 (ix2 r j) = expert x w1 w3 w2 e r j := by
  refine (StackMember.dotGeneral_plain_apply none _ _ r j).trans (Finset.sum_congr rfl fun k _ => congrArg₂ (· * ·) ?_ (outerAt_apply e h2 w2 k j))
  show gated (times x (innerAt e.val h1 w1)) (ix2 r k) * times x (innerAt e.val h1 w3) (ix2 r k) = _
  rw [gated_apply, times_apply, times_apply]
  rfl

/-- Keep expert `o`'s output on the rows whose word is `K`. -/
def part (o : ℕ) (K : BitVec 32) (h1 : S2x8x1024x3584.Slices ![0, o, 0, 0] S1x1x1024x3584) (h2 : S2x8x3584x1024.Slices ![0, o, 0, 0] S1x1x3584x1024)
    (W : IVec S43008 32) (x : FVec Ideal S43008x1024 .f32) (w1 w3 : FVec Ideal S2x8x1024x3584 .f32) (w2 : FVec Ideal S2x8x3584x1024 .f32) : FVec Ideal S43008x1024 .f32 :=
  select (broadcastInDim S43008x1024 ![0, 1] bcast_S43008x1_S43008x1024_0_1 (broadcastInDim S43008x1 ![0] bcast_S43008_S43008x1_0
    (cmpi .eq W (broadcastInDim S43008 ![] bcast_S_S43008 (constantI S_ 32 K))))) (outOf o h1 h2 x w1 w3 w2) (val_main_call2_v2 (F := Ideal))

theorem part_apply (e : Fin 8) (K : BitVec 32) (h1 h2) (W : IVec S43008 32) (x : Rows) (w1 w3 : Inner) (w2 : Outer) (r : Fin 43008) (j : Fin 1024) :
    part e.val K h1 h2 W x w1 w3 w2 (ix2 r j) = if W (ix1 r) = K then expert x w1 w3 w2 e r j else 0 := by
  have hm : broadcastInDim S43008x1024 ![0, 1] bcast_S43008x1_S43008x1024_0_1 (broadcastInDim S43008x1 ![0] bcast_S43008_S43008x1_0
      (cmpi .eq W (broadcastInDim S43008 ![] bcast_S_S43008 (constantI S_ 32 K)))) (ix2 r j) = IntOp.cmpi .eq (W (ix1 r)) K := by
    refine (broadcastInDim_apply _ _ _ (ix2 r j) (ix2 r 0) fun a => ?_).trans ((broadcastInDim_apply _ _ _ (ix2 r 0) (ix1 r) fun a => ?_).trans ?_)
    · match a with
      | ⟨0, _⟩ => exact (if_neg (show ¬(43008 : ℕ) = 1 by decide)).symm
      | ⟨1, _⟩ => exact (if_pos rfl).symm
    · match a with
      | ⟨0, _⟩ => exact (if_neg (show ¬(43008 : ℕ) = 1 by decide)).symm
    · rfl
  show Scalar.select _ _ _ = _
  rw [hm, outOf_apply]
  show Scalar.select (IntOp.cmpi .eq (W (ix1 r)) K) (expert x w1 w3 w2 e r j) (Ideal.ofBits .f32 0x00000000#32) = _
  rw [Ideal.ofBits_zero_f32]
  by_cases h : W (ix1 r) = K
  · rw [if_pos h, h]
    simp [Scalar.select, IntOp.cmpi]
  · rw [if_neg h]
    have b : (W (ix1 r) == K) = false := beq_eq_false_iff_ne.mpr h
    simp [Scalar.select, IntOp.cmpi, b]

/-! ## The sum over the experts -/

/-- The eight parts added from the left onto zero. -/
def chain (f : Fin 8 → EReal) (W : BitVec 32) : EReal :=
  0 + (if W = 0#32 then f 0 else 0) + (if W = 1#32 then f 1 else 0) + (if W = 2#32 then f 2 else 0) + (if W = 3#32 then f 3 else 0)
    + (if W = 4#32 then f 4 else 0) + (if W = 5#32 then f 5 else 0) + (if W = 6#32 then f 6 else 0) + (if W = 7#32 then f 7 else 0)

/-- A word naming an expert keeps that expert's part alone. -/
theorem chain_named (f : Fin 8 → EReal) (e : Fin 8) : chain f (BitVec.ofNat 32 e.val) = f e := by
  fin_cases e <;> simp [chain]

/-- The word past the experts keeps none. -/
theorem chain_none (f : Fin 8 → EReal) : chain f 8#32 = 0 := by simp [chain]

variable (te : Tiles) (nu : Count) (x : Rows) (w1 w3 : Inner) (w2 : Outer)

/-- A row's word. -/
abbrev wordsOf : IVec S43008 32 := val_main_v7 (F := Ideal) te nu

theorem word_row (h : ExpertsIdeal.Range.Words te nu) (r : Fin 43008) :
    wordsOf te nu (ix1 r) = if (tile r).val < (nu (ix1 0)).toNat then te (ix1 (tile r)) else 8#32 := by
  have one : val_main_v1 (F := Ideal) nu (idx_main_v2 (ix1 (tile r))) = nu (ix1 0) := by
    unfold val_main_v1 shapeCast
    refine congrArg nu (funext fun a => ?_)
    match a with
    | ⟨0, _⟩ => exact Subsingleton.elim (α := Fin 1) _ _
  have at_tile : idx_main_v5 (idx_main_v6 (idx_main_v7 (ix1 r))) = ix1 (tile r) := by
    funext a
    match a with
    | ⟨0, _⟩ => rfl
  have hn := h.2 (ix1 0)
  have ht := (tile r).isLt
  have hb : (BitVec.ofNat 32 (tile r).val).toNat = (tile r).val := by rw [BitVec.toNat_ofNat]; omega
  have e : wordsOf te nu (ix1 r) = Scalar.select (IntOp.cmpi .slt (BitVec.ofNat 32 (tile r).val) (nu (ix1 0))) (te (ix1 (tile r))) 8#32 := by
    rw [← one]
    show val_main_v7 (F := Ideal) te nu (ix1 r) = _
    rw [val_main_v7_apply, val_main_v6_apply, val_main_v5_apply, at_tile, val_main_v4_apply, val_main_v3_apply, val_main_v2_apply, val_main_v0_apply, val_main_call0_v1_apply]
    rfl
  rw [e]
  show Scalar.select (BitVec.ofBool (BitVec.slt (BitVec.ofNat 32 (tile r).val) (nu (ix1 0)))) _ _ = _
  rw [ExpertsIdeal.Range.slt_small _ _ (by omega) (by omega), hb]
  by_cases g : (tile r).val < (nu (ix1 0)).toNat
  · rw [if_pos g, decide_eq_true g]; rfl
  · rw [if_neg g, decide_eq_false g]; rfl

/-- The reference's array is the eight experts' parts added up. -/
theorem added : val_main_v136 (F := Ideal) te nu x w1 w3 w2 = fun i =>
    0 + part 0 0#32 slices_S2x8x1024x3584_S1x1x1024x3584_0_0_0_0 slices_S2x8x3584x1024_S1x1x3584x1024_0_0_0_0 (wordsOf te nu) x w1 w3 w2 i
      + part 1 1#32 slices_S2x8x1024x3584_S1x1x1024x3584_0_1_0_0 slices_S2x8x3584x1024_S1x1x3584x1024_0_1_0_0 (wordsOf te nu) x w1 w3 w2 i
      + part 2 2#32 slices_S2x8x1024x3584_S1x1x1024x3584_0_2_0_0 slices_S2x8x3584x1024_S1x1x3584x1024_0_2_0_0 (wordsOf te nu) x w1 w3 w2 i
      + part 3 3#32 slices_S2x8x1024x3584_S1x1x1024x3584_0_3_0_0 slices_S2x8x3584x1024_S1x1x3584x1024_0_3_0_0 (wordsOf te nu) x w1 w3 w2 i
      + part 4 4#32 slices_S2x8x1024x3584_S1x1x1024x3584_0_4_0_0 slices_S2x8x3584x1024_S1x1x3584x1024_0_4_0_0 (wordsOf te nu) x w1 w3 w2 i
      + part 5 5#32 slices_S2x8x1024x3584_S1x1x1024x3584_0_5_0_0 slices_S2x8x3584x1024_S1x1x3584x1024_0_5_0_0 (wordsOf te nu) x w1 w3 w2 i
      + part 6 6#32 slices_S2x8x1024x3584_S1x1x1024x3584_0_6_0_0 slices_S2x8x3584x1024_S1x1x3584x1024_0_6_0_0 (wordsOf te nu) x w1 w3 w2 i
      + part 7 7#32 slices_S2x8x1024x3584_S1x1x1024x3584_0_7_0_0 slices_S2x8x3584x1024_S1x1x3584x1024_0_7_0_0 (wordsOf te nu) x w1 w3 w2 i := by
  rw [← Ideal.ofBits_zero_f32]
  rfl

theorem parts (r : Fin 43008) (j : Fin 1024) :
    val_main_v136 (F := Ideal) te nu x w1 w3 w2 (ix2 r j) = chain (fun e => expert x w1 w3 w2 e r j) (wordsOf te nu (ix1 r)) := by
  have p := fun (e : Fin 8) (K : BitVec 32) h1 h2 => part_apply e K h1 h2 (wordsOf te nu) x w1 w3 w2 r j
  refine (congrFun (added te nu x w1 w3 w2) (ix2 r j)).trans ?_
  exact congrArg₂ (· + ·) (congrArg₂ (· + ·) (congrArg₂ (· + ·) (congrArg₂ (· + ·) (congrArg₂ (· + ·) (congrArg₂ (· + ·) (congrArg₂ (· + ·) (congrArg (0 + ·)
    (p 0 _ _ _)) (p 1 _ _ _)) (p 2 _ _ _)) (p 3 _ _ _)) (p 4 _ _ _)) (p 5 _ _ _)) (p 6 _ _ _)) (p 7 _ _ _)

/-- The reference's array is the specified one. -/
theorem result_eq (h : ExpertsIdeal.Range.Words te nu) : val_main_v136 (F := Ideal) te nu x w1 w3 w2 = result te nu x w1 w3 w2 := by
  funext i
  obtain ⟨r, j, rfl⟩ : ∃ (r : Fin 43008) (j : Fin 1024), i = (ix2 r j : S43008x1024.Idx) := ⟨i 0, i 1, by
    funext y
    match y with
    | ⟨0, _⟩ => rfl
    | ⟨1, _⟩ => rfl⟩
  refine (parts te nu x w1 w3 w2 r j).trans ?_
  rw [word_row te nu h r]
  show _ = (if (tile r).val < (nu (ix1 0)).toNat then expert x w1 w3 w2 (named te (tile r)) r j else 0 : EReal)
  by_cases g : (tile r).val < (nu (ix1 0)).toNat
  · rw [if_pos g, if_pos g]
    have e : te (ix1 (tile r)) = BitVec.ofNat 32 (named te (tile r)).val := by
      apply BitVec.eq_of_toNat_eq
      have := h.1 (ix1 (tile r))
      rw [BitVec.toNat_ofNat]
      show (te (ix1 (tile r))).toNat = (te (ix1 (tile r))).toNat % 8 % 2 ^ 32
      omega
    rw [e]
    exact chain_named _ _
  · rw [if_neg g, if_neg g]
    exact chain_none _

end Cert.ExpertsReferenceIdeal.RefOut
end
-- ==== Proof.ExpertsSame.lean ====
/- The experts' call: its claims, from the kernel's array (Proof/ExpertsValue.lean) and the reference's
   (Proof/ExpertsRefOut.lean). -/
module

public import proofs.«01_k».proof.Defs
public import proofs.«01_k».proof.Proof.Gen.Experts
public import proofs.«01_k».proof.Proof.Gen.ExpertsIdeal
public import proofs.«01_k».proof.Proof.Gen.ExpertsReferenceIdeal
public import proofs.«01_k».proof.Proof.ExpertsQuiet
public import proofs.«01_k».proof.Proof.ExpertsValue
public import proofs.«01_k».proof.Proof.ExpertsRefOut

@[expose] public section

noncomputable section

namespace Cert.ExpertsSame

open Idealize.ShloMosaic Idealize.SL.Sem Idealize.ShloMosaic.TcCoe
open Cert.ExpertsIdeal.Range (words_of_routed)

/-- The call as printed runs, keeps its arguments, and leaves every counter at zero. -/
theorem frame : Cert.quiescent_Experts := fun m g h => ExpertsQuiet.quiet m g fun c => words_of_routed _ _ _ _ _ _ (h c)

/-- So does its idealized form. -/
theorem frame_ideal : Cert.quiescent_ExpertsIdeal := fun m g h => ExpertsQuiet.quietIdeal m g fun c => words_of_routed _ _ _ _ _ _ (h c)

/-- So does the reference: it declares no counter. -/
theorem frame_reference : Cert.quiescent_ExpertsReferenceIdeal := fun m g _ =>
  (θ_run Cert.ExpertsReferenceIdeal.defs _ _).mono (fun r h => ⟨fun c => (h c).2, Idealize.ShloMosaic.sem_eq_zero_of_no_sems (by decide) r.2⟩)
    (Cert.ExpertsReferenceIdeal.Value.run (F := Ideal) m g)

/-- The reference's array on equal arguments. -/
theorem reference_congr {x0 y0 : ExpertsSpec.Tiles} {x1 y1 : ExpertsSpec.Count} {x2 y2 : ExpertsSpec.Rows} {x3 y3 x4 y4 : ExpertsSpec.Inner} {x5 y5 : ExpertsSpec.Outer}
    (h : x0 = y0 ∧ x1 = y1 ∧ x2 = y2 ∧ x3 = y3 ∧ x4 = y4 ∧ x5 = y5) :
    ExpertsReferenceIdeal.Read.val_main_v136 (F := Ideal) x0 x1 x2 x3 x4 x5 = ExpertsReferenceIdeal.Read.val_main_v136 (F := Ideal) y0 y1 y2 y3 y4 y5 := by
  obtain ⟨rfl, rfl, rfl, rfl, rfl, rfl⟩ := h
  rfl

/-- The kernel and the reference end with the same array. -/
theorem same : Cert.algebraic_ExpertsIdeal_ExpertsReferenceIdeal := by
  intro m g m' g' hpre hargs
  have hW := fun c => words_of_routed _ _ _ _ _ _ (hpre c)
  have hO : Cert.ExpertsIdeal.Steps.Ok m := Cert.ExpertsIdeal.Range.ok _ (hW 0)
  refine ⟨fun c => (Cert.ExpertsIdeal.Steps.dats m hO 0 c).arrAt 4 (Cert.ExpertsIdeal.Steps.cfgM m hO).N,
    (θ_run _ _ _).mono (fun _ h => h.1) (Cert.ExpertsIdeal.Steps.outcome m g hO), ?_⟩
  refine (θ_run Cert.ExpertsReferenceIdeal.defs _ _).mono (fun r h c => ⟨(h c).1.trans ?_, (h c).2⟩) (Cert.ExpertsReferenceIdeal.Value.run (F := Ideal) m' g')
  refine (Cert.ExpertsReferenceIdeal.Read.val_main_v136_eq _).trans (Eq.trans ?_
    ((Cert.ExpertsReferenceIdeal.RefOut.result_eq _ _ _ _ _ _ (hW c)).trans (Cert.ExpertsIdeal.Value.final m hO c (hW c)).symm))
  exact reference_congr (hargs c)

end Cert.ExpertsSame

end
-- ==== Proof.DenseCases.lean ====
/- What a grid point of the dense feed-forward's kernel leaves in its accumulator and in its output block. -/
module

public import proofs.«01_k».proof.Proof.Gen.DenseIdeal.Frame
public import Idealize.ShloMosaic.Lib.VecWindow

@[expose] public section

set_option maxRecDepth 16384

noncomputable section

namespace Cert.DenseIdeal.Cases

open Cert.DenseIdeal Cert.DenseIdeal.Gen
open Idealize.ShloMosaic Idealize.ShloMosaic.TcCoe Idealize.SL.Sem

/-! ## What a grid point leaves, as its payloads

The first column step of a tile starts the accumulator from zero, a later one from what the step before left; the last one
also computes the output block from the accumulator. -/

variable {F : FTy → Type} [FloatOps F]

section Body

variable (c : Dev nD) (i : grid0.Coords) (a2 : Memref sig .tc .vmem S1024x1024 .bf16) (w2 : a2.IsWhole) (a3 : Memref sig .tc .vmem S1x1024x512 .f32) (w3 : a3.IsWhole)
  (a4 : Memref sig .tc .vmem S1x1024x512 .f32) (w4 : a4.IsWhole) (a5 : Memref sig .tc .vmem S1x512x1024 .f32) (w5 : a5.IsWhole) (a6 : Memref sig .tc .vmem S1024x1024 .f32) (w6 : a6.IsWhole)
  (a7 : Memref sig .tc .vmem S1x1024 .f32) (w7 : a7.IsWhole) (a8 : Memref sig .tc .vmem S1x1x1x1024 .f32) (w8 : a8.IsWhole) (a9 : Memref sig .tc .vmem S1024x1024 .f32) (w9 : a9.IsWhole)
  (a10 : Memref sig .tc .vmem S1024x1024 .f32) (w10 : a10.IsWhole)
  (x0 : Vec F S1024x1024 .bf16) (x1 : Vec F S1x1024x512 .f32) (x2 : Vec F S1x1024x512 .f32) (x3 : Vec F S1x512x1024 .f32) (x4 : Vec F S1024x1024 .f32) (x5 : Vec F S1x1024 .f32)
  (x6 : Vec F S1x1x1x1024 .f32) (s : Vec F S1024x1024 .f32)

theorem first_acc (h0 : cond0_0 i) (h1 : ¬cond0_1 i) :
    sout0_A_0 c i a2 w2 a3 w3 a4 w4 a5 w5 a6 w6 a7 w7 a8 w8 a9 w9 a10 w10 h0 h1 x0 x1 x2 x3 x4 x5 x6 = k0_pay2 x0 x1 x2 (k0_pay1 (F := F)) x3 := by
  unfold sout0_A_0
  unfold kernelRun0_A
  dsimp only
  refine (View.read_writes_full _ _ _ _ _).trans ?_
  refine congr (congr (congr (congr (congrArg k0_pay2 ((View.readAt_full _ _ _).trans (w2.read_unread _))) ((View.readAt_full _ _ _).trans (w3.read_unread _)))
    ((View.readAt_full _ _ _).trans (w4.read_unread _))) (View.readCov_full _ _ _ _ _)) ((View.readAt_full _ _ _).trans (w5.read_unread _))

theorem later_acc (h0 : ¬cond0_0 i) (h1 : ¬cond0_1 i) :
    sout0_B_0 c i a2 w2 a3 w3 a4 w4 a5 w5 a6 w6 a7 w7 a8 w8 a9 w9 a10 w10 h0 h1 x0 x1 x2 x3 x4 x5 x6 s = k0_pay2 x0 x1 x2 s x3 := by
  unfold sout0_B_0
  unfold kernelRun0_B
  dsimp only
  refine (View.read_writes_full _ _ _ _ _).trans ?_
  refine congr (congr (congr (congr (congrArg k0_pay2 ((View.readAt_full _ _ _).trans (w2.read_unread _))) ((View.readAt_full _ _ _).trans (w3.read_unread _)))
    ((View.readAt_full _ _ _).trans (w4.read_unread _))) ((View.readAt_full _ _ _).trans (w10.read_unread _))) ((View.readAt_full _ _ _).trans (w5.read_unread _))

theorem last_out (h0 : ¬cond0_0 i) (h1 : cond0_1 i) :
    out0_C_7 c i a2 w2 a3 w3 a4 w4 a5 w5 a6 w6 a7 w7 a8 w8 a9 w9 a10 w10 h0 h1 x0 x1 x2 x3 x4 x5 x6 s = k0_pay3 x4 x6 (k0_pay2 x0 x1 x2 s x3) x5 := by
  unfold out0_C_7
  unfold kernelRun0_C
  dsimp only
  refine (View.read_writes_full _ _ _ _ _).trans ?_
  refine congr (congr (congr (congrArg k0_pay3 ((View.readAt_full _ _ _).trans (w6.read_unread _))) ((View.readAt_full _ _ _).trans (w8.read_unread _)))
    ((View.readCov_full _ _ _ _ _).trans ?_)) ((View.readAt_full _ _ _).trans (w7.read_unread _))
  refine congr (congr (congr (congr (congrArg k0_pay2 ((View.readAt_full _ _ _).trans (w2.read_unread _))) ((View.readAt_full _ _ _).trans (w3.read_unread _)))
    ((View.readAt_full _ _ _).trans (w4.read_unread _))) ((View.readAt_full _ _ _).trans (w10.read_unread _))) ((View.readAt_full _ _ _).trans (w5.read_unread _))

end Body

/-! ## The contents after each point -/

variable (c : Dev nD) (m : (ℓ : Loc nD τ sig) → Buf (Elt F) ℓ)

theorem acc_first (t : Fin cfg0.N) (h : t.val % 7 = 0) :
    (outsAt0 m c t.val t.isLt).2 = k0_pay2 (iblk m c 0 t) (iblk m c 1 t) (iblk m c 2 t) (k0_pay1 (F := F)) (iblk m c 3 t) := by
  have e := congrArg Prod.snd (outsAt0_A m c t h (by omega))
  dsimp only at e
  rw [e, first_acc]

theorem acc_later (t : Fin cfg0.N) (h0 : ¬t.val % 7 = 0) (h1 : ¬t.val % 7 = 6) (g : t.val - 1 < cfg0.N) :
    (outsAt0 m c t.val t.isLt).2 = k0_pay2 (iblk m c 0 t) (iblk m c 1 t) (iblk m c 2 t) (outsAt0 m c (t.val - 1) g).2 (iblk m c 3 t) := by
  have e := congrArg Prod.snd (outsAt0_B m c t h0 h1)
  dsimp only at e
  rw [e, later_acc]

theorem out_last (t : Fin cfg0.N) (h : t.val % 7 = 6) (g : t.val - 1 < cfg0.N) :
    (outsAt0 m c t.val t.isLt).1
      = k0_pay3 (iblk m c 4 t) (iblk m c 6 t) (k0_pay2 (iblk m c 0 t) (iblk m c 1 t) (iblk m c 2 t) (outsAt0 m c (t.val - 1) g).2 (iblk m c 3 t)) (iblk m c 5 t) := by
  have e := congrArg Prod.fst (outsAt0_C m c t (by omega) h)
  dsimp only at e
  rw [e, last_out]

end Cert.DenseIdeal.Cases
end
-- ==== Proof.DenseSpec.lean ====
module

public import Idealize.ShloMosaic.PureOps.Ideal
public import Idealize.ShloMosaic.PureOps.Ideal.Laws
public import Idealize.ShloMosaic.Lib.ValueIdx

@[expose] public section

noncomputable section

namespace Cert.DenseSpec

open Idealize.ShloMosaic Idealize.ShloMosaic.ValueIdx

/-! ## The dense feed-forward, as a function of the arguments

Each row goes through the gated feed-forward; its output is normalised by its root mean square, scaled by the gain and by
its stream's gate, and added to the row's residual. -/

abbrev Rows := (⟨2, ![17408, 1024]⟩ : Shape).Idx → EReal
abbrev Inner := (⟨3, ![2, 1024, 3584]⟩ : Shape).Idx → EReal
abbrev Outer := (⟨3, ![2, 3584, 1024]⟩ : Shape).Idx → EReal
abbrev Gain := (⟨2, ![1, 1024]⟩ : Shape).Idx → EReal
abbrev Mods := (⟨4, ![8, 6, 1, 1024]⟩ : Shape).Idx → EReal

/-- A row times a column of the inner weights. -/
def proj (h : Rows) (w : Inner) (r : Fin 17408) (k : Fin 3584) : EReal := ∑ d : Fin 1024, h (ix2 r d) * w (ix3 0 d k)

/-- The hidden value: the gate through `z ↦ z / (1 + exp (-z))`, times the other projection. -/
def hidden (h : Rows) (w1 w3 : Inner) (r : Fin 17408) (k : Fin 3584) : EReal :=
  proj h w1 r k * Ideal.logistic (proj h w1 r k) * proj h w3 r k

/-- The feed-forward's output. -/
def ff (h : Rows) (w1 w3 : Inner) (w2 : Outer) (r : Fin 17408) (j : Fin 1024) : EReal :=
  ∑ k : Fin 3584, hidden h w1 w3 r k * w2 (ix3 0 k j)

/-- One over the root of a row's mean square, the mean raised by the small constant. -/
def scale (y : Fin 1024 → EReal) : EReal :=
  Ideal.rsqrt (Ideal.div (∑ j, y j * y j) (Ideal.ofBits .f32 0x44800000#32) + Ideal.ofBits .f32 0x358637BD#32)

/-- The modulation's stream of a row: the first 1024 rows belong to the context, the rest to four clips of 4096. -/
def stream (r : Fin 17408) : Fin 8 := ⟨if r.val < 1024 then 4 else (r.val - 1024) / 4096, by split_ifs <;> omega⟩

/-- A row's value, from its feed-forward output. -/
def finish (x : EReal) (gate : EReal) (y : Fin 1024 → EReal) (g : EReal) (j : Fin 1024) : EReal := x + gate * (y j * scale y * g)

/-- The layer's result. -/
def result (h : Rows) (w1 w3 : Inner) (w2 : Outer) (x : Rows) (g : Gain) (t : Mods) : Rows := fun i =>
  finish (x i) (t (ix4 (stream (i 0)) 5 0 (i 1))) (ff h w1 w3 w2 (i 0)) (g (ix2 0 (i 1))) (i 1)

end Cert.DenseSpec
end
-- ==== Proof.DenseValue.lean ====
/- The dense feed-forward's kernel ends with the specified array: the accumulator gathers the hidden columns step by
   step, and a tile's last step normalises it, gates it and adds the residual. -/
module

public import proofs.«01_k».proof.Proof.DenseCases
public import proofs.«01_k».proof.Proof.DenseSpec
public import Idealize.ShloMosaic.Lib.IdealHost
public import Idealize.ShloMosaic.Lib.MatmulPlain
public import Idealize.ShloMosaic.Lib.Pipeline.Value

@[expose] public section

set_option maxRecDepth 16384

noncomputable section

namespace Cert.DenseIdeal.Outcome

open Cert.DenseIdeal Cert.DenseIdeal.Gen Cert.DenseIdeal.Cases Cert.DenseSpec
open Idealize.ShloMosaic Idealize.ShloMosaic.TcCoe Idealize.SL.Sem Idealize.ShloMosaic.ValueIdx

/-! ## The payloads at an index -/

/-- A row of a block times a column of a weight block. -/
def dotB (s : FVec Ideal S1024x1024 .bf16) (w : FVec Ideal S1x1024x512 .f32) (a : Fin 1024) (l : Fin 512) : EReal :=
  ∑ d : Fin 1024, s (ix2 a d) * w (ix3 0 d l)

theorem inner_apply (w : FVec Ideal S1x1024x512 .f32) (d : Fin 1024) (l : Fin 512) :
    shapeCast S1024x512 w shapeCasts_S1x1024x512_S1024x512 (ix2 d l) = w (ix3 0 d l) :=
  shapeCast_apply w _ (ix2 d l) (ix3 0 d l) (by
    rewrite [Shape.rowMajor_val_three, Shape.rowMajor_val_two]
    show (0 * 1024 + d.val) * 512 + l.val = d.val * 512 + l.val
    omega)

theorem outer_apply (w : FVec Ideal S1x512x1024 .f32) (l : Fin 512) (j : Fin 1024) :
    shapeCast S512x1024 w shapeCasts_S1x512x1024_S512x1024 (ix2 l j) = w (ix3 0 l j) :=
  shapeCast_apply w _ (ix2 l j) (ix3 0 l j) (by
    rewrite [Shape.rowMajor_val_three, Shape.rowMajor_val_two]
    show (0 * 512 + l.val) * 1024 + j.val = l.val * 1024 + j.val
    omega)

theorem dot_apply (s : FVec Ideal S1024x1024 .bf16) (w : FVec Ideal S1x1024x512 .f32) (a : Fin 1024) (l : Fin 512) :
    matmul dot_S1024x1024_S1024x512_S1024x512_1_0_0_1_n_n none s
      (truncf .bf16 (shapeCast S1024x512 w shapeCasts_S1x1024x512_S1024x512) bitsLt_bf16_f32) (constant (F := Ideal) S1024x512 .f32 0x00000000#32) (ix2 a l)
      = dotB s w a l := by
  refine (Ideal.matmul_plain_apply none _ _ _ a l).trans ?_
  rw [show (constant (F := Ideal) S1024x512 .f32 0x00000000#32 (ix2 a l) : EReal) = 0 from Ideal.ofBits_zero_f32, zero_add]
  unfold dotB
  exact Finset.sum_congr rfl fun d _ => congrArg (s (ix2 a d) * ·) (inner_apply w d l)

/-- One column step's contribution. -/
def stepB (s : FVec Ideal S1024x1024 .bf16) (w1 w3 : FVec Ideal S1x1024x512 .f32) (w2 : FVec Ideal S1x512x1024 .f32) (a j : Fin 1024) : EReal :=
  ∑ l : Fin 512, dotB s w1 a l * Ideal.logistic (dotB s w1 a l) * dotB s w3 a l * w2 (ix3 0 l j)

theorem pay1_apply (i : S1024x1024.Idx) : k0_pay1 (F := Ideal) i = (0 : EReal) := by
  unfold k0_pay1
  rw [shapeCast_self]
  exact Ideal.ofBits_zero_f32

theorem pay2_apply (s : FVec Ideal S1024x1024 .bf16) (w1 w3 : FVec Ideal S1x1024x512 .f32) (y : FVec Ideal S1024x1024 .f32) (w2 : FVec Ideal S1x512x1024 .f32) (a j : Fin 1024) :
    k0_pay2 (F := Ideal) s w1 w3 y w2 (ix2 a j) = y (ix2 a j) + stepB s w1 w3 w2 a j := by
  unfold k0_pay2
  rw [shapeCast_self]
  refine congrArg (y (ix2 a j) + ·) ((Ideal.matmul_plain_apply none _ _ _ a j).trans ?_)
  rw [show (constant (F := Ideal) S1024x1024 .f32 0x00000000#32 (ix2 a j) : EReal) = 0 from Ideal.ofBits_zero_f32, zero_add]
  unfold stepB
  refine Finset.sum_congr rfl fun l _ => congrArg₂ (· * ·) ?_ (outer_apply w2 l j)
  rw [← dot_apply s w1 a l, ← dot_apply s w3 a l]
  rfl

/-- A row's sum of squares, as the body takes it. -/
theorem squares_apply (y : FVec Ideal S1024x1024 .f32) (a : Fin 1024) :
    multiReduction .add [1] S1024 (mulf y y) 0x00000000#32 reduces_S1024x1024_S1024 (.inl rfl) rfl (ix1 a) = ∑ j : Fin 1024, y (ix2 a j) * y (ix2 a j) := by
  refine (Ideal.multiReduction_add_single (mulf y y) _ reduces_S1024x1024_S1024 _ _ (ix1 a)).trans (Finset.sum_congr rfl fun j _ => ?_)
  have e : (reduces_S1024x1024_S1024.lift (ix1 a) j : S1024x1024.Idx) = ix2 a j := by
    funext b
    match b with
    | ⟨0, _⟩ => rfl
    | ⟨1, _⟩ => rfl
  rw [e]
  rfl

theorem pay3_apply (x : FVec Ideal S1024x1024 .f32) (t : FVec Ideal S1x1x1x1024 .f32) (y : FVec Ideal S1024x1024 .f32) (g : FVec Ideal S1x1024 .f32) (a j : Fin 1024) :
    k0_pay3 (F := Ideal) x t y g (ix2 a j) = finish (x (ix2 a j)) (t (ix4 0 0 0 j)) (fun k => y (ix2 a k)) (g (ix2 0 j)) j := by
  unfold k0_pay3 finish scale
  refine congrArg (x (ix2 a j) + ·) (congrArg₂ (· * ·) ?_ (congrArg₂ (· * ·) (congrArg (y (ix2 a j) * ·) ?_) ?_))
  · refine (broadcastTo_apply _ _ (ix2 a j) (ix2 0 j) fun b => ?_).trans (shapeCast_apply t _ (ix2 0 j) (ix4 0 0 0 j) ?_)
    · match b with
      | ⟨0, _⟩ => rfl
      | ⟨1, _⟩ => exact (if_neg (show ¬(1024 : ℕ) = 1 by decide)).symm
    · rewrite [Shape.rowMajor_val_four, Shape.rowMajor_val_two]
      show ((0 * 1 + 0) * 1 + 0) * 1024 + j.val = 0 * 1024 + j.val
      omega
  · refine (broadcastTo_apply _ _ (ix2 a j) (ix2 a 0) fun b => ?_).trans ?_
    · match b with
      | ⟨0, _⟩ => exact (if_neg (show ¬(1024 : ℕ) = 1 by decide)).symm
      | ⟨1, _⟩ => rfl
    · refine congrArg (fun z : EReal => Ideal.rsqrt (Ideal.div z (Ideal.ofBits .f32 0x44800000#32) + Ideal.ofBits .f32 0x358637BD#32)) ?_
      refine (shapeCast_apply _ shapeCasts_S1024_S1024x1 (ix2 a 0) (ix1 a) ?_).trans (squares_apply y a)
      rewrite [Shape.rowMajor_val_one, Shape.rowMajor_val_two]
      show a.val = a.val * 1 + 0
      omega
  · refine broadcastTo_apply _ _ (ix2 a j) (ix2 0 j) fun b => ?_
    match b with
    | ⟨0, _⟩ => rfl
    | ⟨1, _⟩ => exact (if_neg (show ¬(1024 : ℕ) = 1 by decide)).symm

/-! ## The blocks of a point -/

variable (m : (ℓ : Loc nD τ sig) → Buf (Elt Ideal) ℓ) (c : Dev nD)

abbrev hOf : Rows := m ((c : Thread nD τ).loc main_arg0)
abbrev w1Of : Inner := m ((c : Thread nD τ).loc main_arg1)
abbrev w3Of : Inner := m ((c : Thread nD τ).loc main_arg2)
abbrev w2Of : Outer := m ((c : Thread nD τ).loc main_arg3)
abbrev xOf : Rows := m ((c : Thread nD τ).loc main_arg4)
abbrev gOf : Gain := m ((c : Thread nD τ).loc main_arg5)
abbrev tOf : Mods := m ((c : Thread nD τ).loc main_arg6)

theorem tile_val (t : Fin grid0.N) : (grid0.coords t 0).val = t.val / 7 := by
  have ht : t.val < 119 := Nat.lt_of_lt_of_eq t.isLt N_0
  have e : (grid0.coords t 0).val = t.val / 7 % 17 := Pipeline.Grid.coords_val t 0 (by decide) rfl
  omega

theorem col_val (t : Fin grid0.N) : (grid0.coords t 1).val = t.val % 7 := by
  have e : (grid0.coords t 1).val = t.val / 1 % 7 := Pipeline.Grid.coords_val t 1 (by decide) rfl
  omega

/-- A coordinate's word is the coordinate. -/
theorem word_val (v k : ℕ) (h : v = k) (hk : k < 2 ^ 32) : (BitVec.ofNat 32 v).toNat = k := by
  rw [h, BitVec.toNat_ofNat]
  exact Nat.mod_eq_of_lt hk

theorem row_word (t : Fin cfg0.N) : (BitVec.ofNat 32 (grid0.coords t 0).val).toNat = t.val / 7 :=
  word_val _ _ (tile_val t) (by have ht : t.val < 119 := Nat.lt_of_lt_of_eq t.isLt N_0; omega)

theorem col_word (t : Fin cfg0.N) : (BitVec.ofNat 32 (grid0.coords t 1).val).toNat = t.val % 7 :=
  word_val _ _ (col_val t) (by omega)

theorem blk_h (t : Fin cfg0.N) (a d : Fin 1024) (r : Fin 17408) (hr : r.val = 1024 * (t.val / 7) + a.val) :
    (iblk m c 0 t : Vec Ideal S1024x1024 .bf16) (ix2 a d) = hOf m c (ix2 r d) := by
  refine (View.read_apply _ _).trans (congrArg (m ((c : Thread nD τ).loc main_arg0)) (funext fun y => Fin.ext ?_))
  match y with
  | ⟨0, _⟩ =>
    show (BitVec.ofNat 32 (grid0.coords t 0).val).toNat * 1024 + 1 * a.val = r.val
    rw [row_word]; omega
  | ⟨1, _⟩ => show 0 * 1024 + 1 * d.val = d.val; omega

theorem blk_w1 (t : Fin cfg0.N) (d : Fin 1024) (l : Fin 512) (k : Fin 3584) (hk : k.val = 512 * (t.val % 7) + l.val) :
    (iblk m c 1 t : Vec Ideal S1x1024x512 .f32) (ix3 0 d l) = w1Of m c (ix3 0 d k) := by
  refine (View.read_apply _ _).trans (congrArg (m ((c : Thread nD τ).loc main_arg1)) (funext fun y => Fin.ext ?_))
  match y with
  | ⟨0, _⟩ => rfl
  | ⟨1, _⟩ => show 0 * 1024 + 1 * d.val = d.val; omega
  | ⟨2, _⟩ =>
    show (BitVec.ofNat 32 (grid0.coords t 1).val).toNat * 512 + 1 * l.val = k.val
    rw [col_word]; omega

theorem blk_w3 (t : Fin cfg0.N) (d : Fin 1024) (l : Fin 512) (k : Fin 3584) (hk : k.val = 512 * (t.val % 7) + l.val) :
    (iblk m c 2 t : Vec Ideal S1x1024x512 .f32) (ix3 0 d l) = w3Of m c (ix3 0 d k) := by
  refine (View.read_apply _ _).trans (congrArg (m ((c : Thread nD τ).loc main_arg2)) (funext fun y => Fin.ext ?_))
  match y with
  | ⟨0, _⟩ => rfl
  | ⟨1, _⟩ => show 0 * 1024 + 1 * d.val = d.val; omega
  | ⟨2, _⟩ =>
    show (BitVec.ofNat 32 (grid0.coords t 1).val).toNat * 512 + 1 * l.val = k.val
    rw [col_word]; omega

theorem blk_w2 (t : Fin cfg0.N) (l : Fin 512) (j : Fin 1024) (k : Fin 3584) (hk : k.val = 512 * (t.val % 7) + l.val) :
    (iblk m c 3 t : Vec Ideal S1x512x1024 .f32) (ix3 0 l j) = w2Of m c (ix3 0 k j) := by
  refine (View.read_apply _ _).trans (congrArg (m ((c : Thread nD τ).loc main_arg3)) (funext fun y => Fin.ext ?_))
  match y with
  | ⟨0, _⟩ => rfl
  | ⟨1, _⟩ =>
    show (BitVec.ofNat 32 (grid0.coords t 1).val).toNat * 512 + 1 * l.val = k.val
    rw [col_word]; omega
  | ⟨2, _⟩ => show 0 * 1024 + 1 * j.val = j.val; omega

theorem blk_x (t : Fin cfg0.N) (a j : Fin 1024) (r : Fin 17408) (hr : r.val = 1024 * (t.val / 7) + a.val) :
    (iblk m c 4 t : Vec Ideal S1024x1024 .f32) (ix2 a j) = xOf m c (ix2 r j) := by
  refine (View.read_apply _ _).trans (congrArg (m ((c : Thread nD τ).loc main_arg4)) (funext fun y => Fin.ext ?_))
  match y with
  | ⟨0, _⟩ =>
    show (BitVec.ofNat 32 (grid0.coords t 0).val).toNat * 1024 + 1 * a.val = r.val
    rw [row_word]; omega
  | ⟨1, _⟩ => show 0 * 1024 + 1 * j.val = j.val; omega

theorem blk_g (t : Fin cfg0.N) (j : Fin 1024) : (iblk m c 5 t : Vec Ideal S1x1024 .f32) (ix2 0 j) = gOf m c (ix2 0 j) := by
  refine (View.read_apply _ _).trans (congrArg (m ((c : Thread nD τ).loc main_arg5)) (funext fun y => Fin.ext ?_))
  match y with
  | ⟨0, _⟩ => rfl
  | ⟨1, _⟩ => show 0 * 1024 + 1 * j.val = j.val; omega

/-- The modulation's stream of a tile, as the index map computes it. -/
theorem stream_word : ∀ i : Fin 17, cc0_transform_6 (fun a => match a with | ⟨0, _⟩ => i | ⟨1, _⟩ => (0 : Fin 7)) 0 = if i.val < 1 then 4 else (i.val - 1) / 4 := by
  decide

theorem stream_map (t : Fin cfg0.N) : cc0_transform_6 (grid0.coords t) 0 = if t.val / 7 < 1 then 4 else (t.val / 7 - 1) / 4 := by
  have e := stream_word (grid0.coords t 0)
  rw [tile_val] at e
  exact e

theorem blk_t (t : Fin cfg0.N) (a j : Fin 1024) (r : Fin 17408) (hr : r.val = 1024 * (t.val / 7) + a.val) :
    (iblk m c 6 t : Vec Ideal S1x1x1x1024 .f32) (ix4 0 0 0 j) = tOf m c (ix4 (stream r) 5 0 j) := by
  refine (View.read_apply _ _).trans (congrArg (m ((c : Thread nD τ).loc main_arg6)) (funext fun y => Fin.ext ?_))
  match y with
  | ⟨0, _⟩ =>
    show cc0_transform_6 (grid0.coords t) 0 * 1 + 1 * 0 = if r.val < 1024 then 4 else (r.val - 1024) / 4096
    rw [stream_map]
    split_ifs <;> omega
  | ⟨1, _⟩ => rfl
  | ⟨2, _⟩ => rfl
  | ⟨3, _⟩ => show 0 * 1024 + 1 * j.val = j.val; omega

/-! ## The sum over the column steps -/

/-- The summand of hidden column `k`, zero past the last. -/
def term (r : Fin 17408) (j : Fin 1024) (k : ℕ) : EReal :=
  if h : k < 3584 then DenseSpec.hidden (hOf m c) (w1Of m c) (w3Of m c) r ⟨k, h⟩ * w2Of m c (ix3 0 ⟨k, h⟩ j) else 0

theorem step_eq (t : Fin cfg0.N) (a j : Fin 1024) (r : Fin 17408) (hr : r.val = 1024 * (t.val / 7) + a.val) :
    stepB (iblk m c 0 t) (iblk m c 1 t) (iblk m c 2 t) (iblk m c 3 t) a j = ∑ l ∈ Finset.range 512, term m c r j (512 * (t.val % 7) + l) := by
  rw [Finset.sum_range]
  unfold stepB
  refine Finset.sum_congr rfl fun l _ => ?_
  have hl : 512 * (t.val % 7) + l.val < 3584 := by omega
  unfold term
  rw [dif_pos hl]
  have g : dotB (iblk m c 0 t) (iblk m c 1 t) a l = proj (hOf m c) (w1Of m c) r ⟨_, hl⟩ :=
    Finset.sum_congr rfl fun d _ => congrArg₂ (· * ·) (blk_h m c t a d r hr) (blk_w1 m c t d l ⟨_, hl⟩ rfl)
  have u : dotB (iblk m c 0 t) (iblk m c 2 t) a l = proj (hOf m c) (w3Of m c) r ⟨_, hl⟩ :=
    Finset.sum_congr rfl fun d _ => congrArg₂ (· * ·) (blk_h m c t a d r hr) (blk_w3 m c t d l ⟨_, hl⟩ rfl)
  rw [g, u]
  exact congrArg (DenseSpec.hidden (hOf m c) (w1Of m c) (w3Of m c) r ⟨_, hl⟩ * ·) (blk_w2 m c t l j ⟨_, hl⟩ rfl)

/-- The accumulator after column step `p` of tile `i`, the last step left out, holds the sum over the hidden columns so far. -/
theorem acc_eq (i : Fin 17) (a j : Fin 1024) (r : Fin 17408) (hr : r.val = 1024 * i.val + a.val) :
    (p : ℕ) → (hp : p < 6) → (h : 7 * i.val + p < cfg0.N) →
      ((outsAt0 m c (7 * i.val + p) h).2 : Vec Ideal S1024x1024 .f32) (ix2 a j) = ∑ k ∈ Finset.range (512 * (p + 1)), term m c r j k
  | 0, _, h => by
    have e := acc_first c m ⟨7 * i.val + 0, h⟩ (by show (7 * i.val + 0) % 7 = 0; omega)
    have s := step_eq m c ⟨7 * i.val + 0, h⟩ a j r (by show r.val = 1024 * ((7 * i.val + 0) / 7) + a.val; omega)
    refine (congrFun e _).trans ((pay2_apply _ _ _ _ _ a j).trans ?_)
    rw [pay1_apply, zero_add]
    refine s.trans (Finset.sum_congr (by rfl) fun l _ => congrArg _ ?_)
    show 512 * ((7 * i.val + 0) % 7) + l = l
    omega
  | p + 1, hp, h => by
    have e := acc_later c m ⟨7 * i.val + (p + 1), h⟩ (by show ¬(7 * i.val + (p + 1)) % 7 = 0; omega) (by show ¬(7 * i.val + (p + 1)) % 7 = 6; omega) (Nat.lt_of_succ_lt h)
    have s := step_eq m c ⟨7 * i.val + (p + 1), h⟩ a j r (by show r.val = 1024 * ((7 * i.val + (p + 1)) / 7) + a.val; omega)
    have ih := acc_eq i a j r hr p (by omega) (Nat.lt_of_succ_lt h)
    refine (congrFun e _).trans ((pay2_apply _ _ _ _ _ a j).trans ?_)
    rw [s]
    refine (congrArg (· + _) ih).trans ?_
    rw [show 512 * (p + 1 + 1) = 512 * (p + 1) + 512 by omega, Finset.sum_range_add]
    refine congrArg (_ + ·) (Finset.sum_congr rfl fun l _ => congrArg _ ?_)
    show 512 * ((7 * i.val + (p + 1)) % 7) + l = 512 * (p + 1) + l
    omega

/-- The accumulator of a tile's last step holds the feed-forward's output. -/
theorem acc_last (t : Fin cfg0.N) (ht : t.val % 7 = 6) (g : t.val - 1 < cfg0.N) (a j : Fin 1024) (r : Fin 17408) (hr : r.val = 1024 * (t.val / 7) + a.val) :
    k0_pay2 (F := Ideal) (iblk m c 0 t) (iblk m c 1 t) (iblk m c 2 t) (outsAt0 m c (t.val - 1) g).2 (iblk m c 3 t) (ix2 a j)
      = ff (hOf m c) (w1Of m c) (w3Of m c) (w2Of m c) r j := by
  have hN : t.val < 119 := Nat.lt_of_lt_of_eq t.isLt N_0
  have ih : ((outsAt0 m c (t.val - 1) g).2 : Vec Ideal S1024x1024 .f32) (ix2 a j) = ∑ k ∈ Finset.range (512 * (5 + 1)), term m c r j k := by
    have e : t.val - 1 = 7 * (t.val / 7) + 5 := by omega
    have q := acc_eq m c ⟨t.val / 7, by omega⟩ a j r hr 5 (by decide) (show 7 * (t.val / 7) + 5 < cfg0.N from e ▸ g)
    simp only [e]
    exact q
  refine (pay2_apply _ _ _ _ _ a j).trans ?_
  rw [step_eq m c t a j r hr]
  refine (congrArg (· + _) ih).trans ?_
  have z : ∑ l ∈ Finset.range 512, term m c r j (512 * (t.val % 7) + l) = ∑ l ∈ Finset.range 512, term m c r j (512 * (5 + 1) + l) := by rw [ht]
  rw [z, ← Finset.sum_range_add]
  show ∑ k ∈ Finset.range 3584, _ = _
  rw [Finset.sum_range]
  unfold ff
  exact Finset.sum_congr rfl fun k _ => dif_pos k.isLt

/-! ## The result array -/

/-- The specified array. -/
abbrev spec : Rows := result (hOf m c) (w1Of m c) (w3Of m c) (w2Of m c) (xOf m c) (gOf m c) (tOf m c)

/-- Where an entry of a point's output block lies in the array. -/
theorem place_out (t : Fin cfg0.N) (a j : Fin 1024) (r : Fin 17408) (hr : r.val = 1024 * (t.val / 7) + a.val) :
    ((cfg0.win 7).blk t).view.emb (ix2 a j : S1024x1024.Idx) = (ix2 r j : S17408x1024.Idx) := by
  funext y
  apply Fin.ext
  match y with
  | ⟨0, _⟩ =>
    show (BitVec.ofNat 32 (grid0.coords t 0).val).toNat * 1024 + 1 * a.val = r.val
    rw [row_word]; omega
  | ⟨1, _⟩ => show 0 * 1024 + 1 * j.val = j.val; omega

/-- What a tile's last point writes back is its block of the specified array. -/
theorem flushed_eq (t : Fin cfg0.N) (ht : t.val % 7 = 6) :
    (dats m 0 c).flushed 7 t = ((cfg0.win 7).blk t).view.read (Elt Ideal) (spec m c) := by
  have hN : t.val < 119 := Nat.lt_of_lt_of_eq t.isLt N_0
  have g : t.val - 1 < cfg0.N := Nat.lt_of_le_of_lt (Nat.sub_le _ _) t.isLt
  have e : (dats m 0 c).flushed 7 t = (outsAt0 m c t.val t.isLt).1 := by
    unfold Pipeline.Dat.flushed; rw [after0_7]; rfl
  rw [e, out_last c m t ht g]
  funext x
  obtain ⟨a, j, rfl⟩ : ∃ (a j : Fin 1024), (x : S1024x1024.Idx) = ix2 a j := ⟨x (0 : Fin 2), x (1 : Fin 2), by
    funext y
    match y with
    | ⟨0, _⟩ => rfl
    | ⟨1, _⟩ => rfl⟩
  have hr : 1024 * (t.val / 7) + a.val < 17408 := by omega
  refine Eq.trans ?_ (congrArg (spec m c) (place_out t a j ⟨_, hr⟩ rfl) : _ = _).symm
  refine (pay3_apply _ _ _ _ a j).trans ?_
  have y : (fun k : Fin 1024 => k0_pay2 (F := Ideal) (iblk m c 0 t) (iblk m c 1 t) (iblk m c 2 t) (outsAt0 m c (t.val - 1) g).2 (iblk m c 3 t) (ix2 a k))
      = ff (hOf m c) (w1Of m c) (w3Of m c) (w2Of m c) ⟨_, hr⟩ := funext fun k => acc_last m c t ht g a k ⟨_, hr⟩ rfl
  rw [y]
  exact congr (congrFun (congr (congrArg finish (blk_x m c t a j ⟨_, hr⟩ rfl)) (blk_t m c t a j ⟨_, hr⟩ rfl)) _) (blk_g m c t j) |> fun h => congrFun h j

/-- Every place of the result lies in the block of its tile's last point. -/
theorem covered (i : S17408x1024.Idx) : ∃ t : Fin cfg0.N, (cfg0.win 7).flush t = true ∧ i ∈ ((cfg0.win 7).blk t).view.set := by
  have h0 : (i 0).val < 17408 := (i 0).isLt
  have hp : 7 * ((i 0).val / 1024) + 6 < cfg0.N := Nat.lt_of_lt_of_eq (show 7 * ((i 0).val / 1024) + 6 < 119 by omega) N_0.symm
  refine ⟨⟨7 * ((i 0).val / 1024) + 6, hp⟩, (flush0_7 _).mpr (by show (7 * ((i 0).val / 1024) + 6) % 7 = 6; omega), ?_⟩
  have hl : (i 0).val % 1024 < 1024 := by omega
  have e := place_out ⟨7 * ((i 0).val / 1024) + 6, hp⟩ ⟨(i 0).val % 1024, hl⟩ (i 1) (i 0)
    (by show (i 0).val = 1024 * ((7 * ((i 0).val / 1024) + 6) / 7) + (i 0).val % 1024; omega)
  have ii : i = (ix2 (i 0 : Fin 17408) (i 1 : Fin 1024) : S17408x1024.Idx) := by
    funext y
    match y with
    | ⟨0, _⟩ => rfl
    | ⟨1, _⟩ => rfl
  have g := View.emb_mem_set ((cfg0.win 7).blk ⟨7 * ((i 0).val / 1024) + 6, hp⟩).view (ix2 (⟨(i 0).val % 1024, hl⟩ : Fin 1024) (i 1 : Fin 1024) : S1024x1024.Idx)
  rwa [e.trans ii.symm] at g

/-- The result array after the kernel's run. -/
theorem final : (dats m 0 c).arrAt 7 cfg0.N = spec m c :=
  (dats m 0 c).arrAt_eq_of_cover 7 (spec m c) (fun t ht => flushed_eq m c t ((flush0_7 t).mp ht)) covered

/-- The run ends with the specified array and the arguments as they were. -/
theorem run (g : Dev nD → PrngReg) : θ_run defs (onTc (τ := τ) (main (F := Ideal))) ⟨m, fun _ => 0, g⟩ fun r => ∀ c : Dev nD,
    r.2.mem ((c.tc : Thread nD τ).loc main_v0) = spec m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c => by
    have k : ∀ w : Fin cfg0.W, (cfg0.win w).isOut = false → r.2.mem ((c.tc : Thread nD τ).loc (Pipeline.arrRef spec0 w)) = V m c (Pipeline.arrRef spec0 w) := fun w hw =>
      ((h c).1 w).trans (((dats m 0 c).arrAt_in w hw _).trans (A_eq m c w))
    exact ⟨((h c).1 7).trans (final m c), k 0 rfl, k 1 rfl, k 2 rfl, k 3 rfl, k 4 rfl, k 5 rfl, k 6 rfl⟩) (run_main m g)

end Cert.DenseIdeal.Outcome
end
-- ==== Proof.DenseRefOut.lean ====
/- The reference's result, read at an index: the specified array. -/
module

public import proofs.«01_k».proof.Proof.Gen.DenseReferenceIdeal.Read
public import proofs.«01_k».proof.Proof.DenseSpec
public import Idealize.ShloMosaic.Lib.IdealHost
public import Idealize.ShloMosaic.Lib.StackMember

@[expose] public section

set_option maxRecDepth 16384

noncomputable section

namespace Cert.DenseReferenceIdeal.RefOut

open Cert.DenseReferenceIdeal Cert.DenseReferenceIdeal.Gen Cert.DenseReferenceIdeal.Read Cert.DenseSpec
open Idealize.ShloMosaic Idealize.ShloMosaic.ValueIdx

/-- The first layer's matrix among the inner weights. -/
theorem inner_apply (w : Inner) (d : Fin 1024) (k : Fin 3584) : val_main_v2 (F := Ideal) w (ix2 d k) = w (ix3 0 d k) := by
  unfold val_main_v2 val_main_v1
  refine (shapeCast_apply _ _ (ix2 d k) (ix3 0 d k) ?_).trans (extractStridedSlice_apply _ w _ (ix3 0 d k) (ix3 0 d k) ?_)
  · rewrite [Shape.rowMajor_val_three, Shape.rowMajor_val_two]
    show (0 * 1024 + d.val) * 3584 + k.val = d.val * 3584 + k.val
    omega
  · intro a
    match a with
    | ⟨0, _⟩ => rfl
    | ⟨1, _⟩ => show d.val = 0 + d.val; omega
    | ⟨2, _⟩ => show k.val = 0 + k.val; omega

/-- The first layer's matrix among the outer weights. -/
theorem outer_apply (w : Outer) (k : Fin 3584) (j : Fin 1024) : val_main_v10 (F := Ideal) w (ix2 k j) = w (ix3 0 k j) := by
  unfold val_main_v10 val_main_v9
  refine (shapeCast_apply _ _ (ix2 k j) (ix3 0 k j) ?_).trans (extractStridedSlice_apply _ w _ (ix3 0 k j) (ix3 0 k j) ?_)
  · rewrite [Shape.rowMajor_val_three, Shape.rowMajor_val_two]
    show (0 * 3584 + k.val) * 1024 + j.val = k.val * 1024 + j.val
    omega
  · intro a
    match a with
    | ⟨0, _⟩ => rfl
    | ⟨1, _⟩ => show k.val = 0 + k.val; omega
    | ⟨2, _⟩ => show j.val = 0 + j.val; omega

theorem proj_apply (h : Rows) (w : Inner) (r : Fin 17408) (k : Fin 3584) : val_main_v3 (F := Ideal) h w (ix2 r k) = proj h w r k :=
  (StackMember.dotGeneral_plain_apply none _ _ r k).trans (Finset.sum_congr rfl fun d _ => congrArg (h (ix2 r d) * ·) (inner_apply w d k))

theorem proj3_apply (h : Rows) (w : Inner) (r : Fin 17408) (k : Fin 3584) : val_main_v7 (F := Ideal) h w (ix2 r k) = proj h w r k :=
  proj_apply h w r k

theorem hidden_apply (h : Rows) (w1 w3 : Inner) (r : Fin 17408) (k : Fin 3584) : val_main_v8 (F := Ideal) h w1 w3 (ix2 r k) = DenseSpec.hidden h w1 w3 r k := by
  unfold DenseSpec.hidden
  rw [← proj_apply, ← proj3_apply]
  show val_main_v3 (F := Ideal) h w1 (ix2 r k) * Ideal.div (Ideal.ofBits .f32 0x3F800000#32) (Ideal.ofBits .f32 0x3F800000#32 + Ideal.exp (-(val_main_v3 (F := Ideal) h w1 (ix2 r k)))) * _ = _
  rw [Ideal.ofBits_one_f32]
  rfl

theorem ff_apply (h : Rows) (w1 w3 : Inner) (w2 : Outer) (r : Fin 17408) (j : Fin 1024) : val_main_v11 (F := Ideal) h w1 w3 w2 (ix2 r j) = ff h w1 w3 w2 r j :=
  (StackMember.dotGeneral_plain_apply none _ _ r j).trans (Finset.sum_congr rfl fun k _ => congrArg₂ (· * ·) (hidden_apply h w1 w3 r k) (outer_apply w2 k j))

/-- A row's mean of squares. -/
theorem squares_apply (h : Rows) (w1 w3 : Inner) (w2 : Outer) (r : Fin 17408) :
    val_main_v13 (F := Ideal) h w1 w3 w2 (ix1 r) = ∑ j, ff h w1 w3 w2 r j * ff h w1 w3 w2 r j := by
  refine (val_main_v13_apply h w1 w3 w2 (ix1 r)).trans ?_
  rw [show val_main_cst (F := Ideal) (Shape.Idx.first h_S_) = (0 : EReal) from Ideal.ofBits_zero_f32, zero_add]
  refine Finset.sum_congr rfl fun j _ => ?_
  have e : (idx_main_v13 (ix1 r) j : S17408x1024.Idx) = ix2 r j := by
    funext y
    match y with
    | ⟨0, _⟩ => rfl
    | ⟨1, _⟩ => rfl
  rw [e, val_main_v12_apply, ff_apply]
  rfl

theorem scale_apply (h : Rows) (w1 w3 : Inner) (w2 : Outer) (r : Fin 17408) (j : Fin 1024) :
    val_main_v20 (F := Ideal) h w1 w3 w2 (ix2 r j) = scale (ff h w1 w3 w2 r) := by
  rw [val_main_v20_apply, val_main_v19_apply, val_main_v18_apply, val_main_v16_apply, val_main_v14_apply]
  have e : (idx_main_v14 (idx_main_v20 (ix2 r j)) : S17408.Idx) = ix1 r := by
    funext y
    match y with
    | ⟨0, _⟩ => rfl
  rw [e, squares_apply]
  rfl

/-- A row's gate is its stream's. -/
theorem gate_apply (t : Mods) (r : Fin 17408) (j : Fin 1024) : val_main_v31 (F := Ideal) t (ix2 r j) = t (ix4 (stream r) 5 0 j) := by
  unfold val_main_v31
  by_cases hr : r.val < 1024
  · refine (concatenate_pair_apply_left (s₁ := S1024x1024) (s₂ := S16384x1024) _ _ _ _ (ix2 r j) rfl (ix2 (⟨r.val, hr⟩ : Fin 1024) j) (fun b => match b with
      | ⟨0, _⟩ => rfl
      | ⟨1, _⟩ => rfl)).trans ?_
    rw [val_main_v26_apply, val_main_v25_apply, val_main_v24_apply]
    refine congrArg t (funext fun y => Fin.ext ?_)
    match y with
    | ⟨0, _⟩ => exact (if_pos hr).symm
    | ⟨1, _⟩ => rfl
    | ⟨2, _⟩ => rfl
    | ⟨3, _⟩ => show (0 * 1024 + j.val) % 1024 = j.val; omega
  · refine (concatenate_pair_apply_right (s₁ := S1024x1024) (s₂ := S16384x1024) _ _ _ _ (ix2 r j) rfl rfl (ix2 (⟨r.val - 1024, by omega⟩ : Fin 16384) j) (fun b => match b with
      | ⟨0, _⟩ => fun hb => absurd rfl hb
      | ⟨1, _⟩ => fun _ => rfl) (by show r.val - 1024 + 1024 = r.val; omega)).trans ?_
    rw [val_main_v30_apply, val_main_v29_apply, val_main_v28_apply, val_main_v27_apply]
    have hj := j.isLt
    refine congrArg t (funext fun y => Fin.ext ?_)
    match y with
    | ⟨0, _⟩ =>
      refine Eq.trans ?_ (if_neg hr).symm
      show ((((r.val - 1024) * 1024 + j.val) / 4194304 * 1 + 0) * 1024 + ((r.val - 1024) * 1024 + j.val) % 1024) / 1024 = (r.val - 1024) / 4096
      omega
    | ⟨1, _⟩ => rfl
    | ⟨2, _⟩ => rfl
    | ⟨3, _⟩ =>
      show ((((r.val - 1024) * 1024 + j.val) / 4194304 * 1 + 0) * 1024 + ((r.val - 1024) * 1024 + j.val) % 1024) % 1024 = j.val
      omega

/-- The reference's array is the specified one. -/
theorem result_eq (h : Rows) (w1 w3 : Inner) (w2 : Outer) (x : Rows) (g : Gain) (t : Mods) :
    val_main_v33 (F := Ideal) h w1 w3 w2 x g t = result h w1 w3 w2 x g t := by
  funext i
  obtain ⟨r, j, rfl⟩ : ∃ (r : Fin 17408) (j : Fin 1024), i = ix2 r j := ⟨i 0, i 1, by
    funext y
    match y with
    | ⟨0, _⟩ => rfl
    | ⟨1, _⟩ => rfl⟩
  rw [val_main_v33_apply, val_main_v32_apply, val_main_v23_apply, val_main_v21_apply, val_main_v22_apply, gate_apply, scale_apply, ff_apply]
  have e : (idx_main_v22 (ix2 r j) : S1x1024.Idx) = ix2 0 j := by
    funext y
    match y with
    | ⟨0, _⟩ => rfl
    | ⟨1, _⟩ => rfl
  rw [e]
  rfl

end Cert.DenseReferenceIdeal.RefOut
end
-- ==== Proof.DenseSame.lean ====
/- The dense feed-forward's call: its claims, from the generated frames, the kernel's array (Proof/DenseValue.lean) and
   the reference's (Proof/DenseRefOut.lean). -/
module

public import proofs.«01_k».proof.Defs
public import proofs.«01_k».proof.Proof.Gen.Dense
public import proofs.«01_k».proof.Proof.Gen.Dense.Frame
public import proofs.«01_k».proof.Proof.Gen.DenseIdeal
public import proofs.«01_k».proof.Proof.Gen.DenseReferenceIdeal
public import proofs.«01_k».proof.Proof.Gen.DenseReferenceIdeal.Run
public import proofs.«01_k».proof.Proof.DenseValue
public import proofs.«01_k».proof.Proof.DenseRefOut

@[expose] public section

noncomputable section

namespace Cert.DenseSame

open Idealize.ShloMosaic Idealize.SL.Sem Idealize.ShloMosaic.TcCoe

/-- The call as printed runs, keeps its arguments, and leaves every counter at zero. -/
theorem frame : Cert.quiescent_Dense := fun m g _ => Cert.Dense.Gen.frame m g

/-- So does its idealized form. -/
theorem frame_ideal : Cert.quiescent_DenseIdeal := fun m g _ => Cert.DenseIdeal.Gen.frame m g

/-- And its reference, which declares no counter. -/
theorem frame_reference : Cert.quiescent_DenseReferenceIdeal := fun m g _ =>
  (θ_run Cert.DenseReferenceIdeal.defs _ _).mono (fun r h => ⟨fun c => (h c).2, Idealize.ShloMosaic.sem_eq_zero_of_no_sems (by decide) r.2⟩)
    (Cert.DenseReferenceIdeal.Value.run (F := Ideal) m g)

/-- The specified array on equal arguments. -/
theorem result_congr {x0 y0 x4 y4 : DenseSpec.Rows} {x1 y1 x2 y2 : DenseSpec.Inner} {x3 y3 : DenseSpec.Outer} {x5 y5 : DenseSpec.Gain} {x6 y6 : DenseSpec.Mods}
    (h : x0 = y0 ∧ x1 = y1 ∧ x2 = y2 ∧ x3 = y3 ∧ x4 = y4 ∧ x5 = y5 ∧ x6 = y6) :
    DenseSpec.result x0 x1 x2 x3 x4 x5 x6 = DenseSpec.result y0 y1 y2 y3 y4 y5 y6 := by
  obtain ⟨rfl, rfl, rfl, rfl, rfl, rfl, rfl⟩ := h
  rfl

/-- The kernel and the reference end with the same array. -/
theorem same : Cert.algebraic_DenseIdeal_DenseReferenceIdeal := by
  intro m g m' g' _ hargs
  refine ⟨fun c => Cert.DenseIdeal.Outcome.spec m c, Cert.DenseIdeal.Outcome.run m g, ?_⟩
  refine (θ_run Cert.DenseReferenceIdeal.defs _ _).mono (fun r h c => ⟨(h c).1.trans ?_, (h c).2⟩) (Cert.DenseReferenceIdeal.Value.run (F := Ideal) m' g')
  refine (Cert.DenseReferenceIdeal.Read.val_main_v33_eq _ _).trans ((Cert.DenseReferenceIdeal.RefOut.result_eq _ _ _ _ _ _ _).trans ?_)
  exact result_congr (hargs c)

end Cert.DenseSame

end
-- ==== Proof.ProjectionBody.lean ====
/- What a grid point of the input projection's kernel leaves in its output block: one piece for each run of columns. -/
module

public import proofs.«01_k».proof.Proof.Gen.ProjectionIdeal.Frame
public import Idealize.ShloMosaic.Lib.VecWindow
public import Idealize.ShloMosaic.Lib.Pipeline.Value

@[expose] public section

set_option maxRecDepth 16384

noncomputable section

namespace Cert.ProjectionIdeal.Body

open Cert.ProjectionIdeal Cert.ProjectionIdeal.Gen
open Idealize.ShloMosaic Idealize.ShloMosaic.TcCoe Idealize.SL.Sem

variable {F : FTy → Type} [FloatOps F]

/-- A run of 1024 columns of the weight block. -/
abbrev cols (x6 : Vec F S1x1024x6784 .bf16) (o : ℕ) (inb : ∀ a, (![0, 0, o] : Fin 3 → ℕ) a + S1x1024x1024.size a ≤ S1x1024x6784.size a) : Vec F S1x1024x1024 .bf16 :=
  View.ld x6 (Rect.unit (s := S1x1024x6784) ![0, 0, o] S1x1024x1024.size inb)

/-- The first 1024 columns: queries and keys, rotated. -/
def turnedCols (s : FVec F S256x1024 .bf16) (w : FVec F S1x1024x1024 .bf16) (x4 x5 : Vec F S256x128 .f32) : FVec F S256x1024 .bf16 :=
  k0_pay10 (matmul dot_S256x1024_S1024x1024_S256x1024_1_0_0_1_n_n none s (shapeCast S1024x1024 w shapeCasts_S1x1024x1024_S1024x1024) (constant S256x1024 .f32 0x00000000#32))
    (iota .tc S256x1024 32 [1] iota_S256x1024_d1_w32) (k0_pay8 x4) (k0_pay9 x5) 64#32 0#32

theorem out_eq (c : Dev nD) (i : grid0.Coords) (a1 : Memref sig .tc .vmem S256x1024 .f32) (w1 : a1.IsWhole) (a2 : Memref sig .tc .vmem S1x1024 .f32) (w2 : a2.IsWhole)
    (a3 : Memref sig .tc .vmem S1x1x1x1024 .f32) (w3 : a3.IsWhole) (a4 : Memref sig .tc .vmem S1x1x1x1024 .f32) (w4 : a4.IsWhole) (a5 : Memref sig .tc .vmem S256x128 .f32) (w5 : a5.IsWhole)
    (a6 : Memref sig .tc .vmem S256x128 .f32) (w6 : a6.IsWhole) (a7 : Memref sig .tc .vmem S1x1024x6784 .bf16) (w7 : a7.IsWhole) (a8 : Memref sig .tc .vmem S256x6784 .bf16) (w8 : a8.IsWhole)
    (x0 : Vec F S256x1024 .f32) (x1 : Vec F S1x1024 .f32) (x2 : Vec F S1x1x1x1024 .f32) (x3 : Vec F S1x1x1x1024 .f32) (x4 : Vec F S256x128 .f32) (x5 : Vec F S256x128 .f32) (x6 : Vec F S1x1024x6784 .bf16) :
    out0_A_7 c i a1 w1 a2 w2 a3 w3 a4 w4 a5 w5 a6 w6 a7 w7 a8 w8 x0 x1 x2 x3 x4 x5 x6 =
    View.canon [
      ⟨Rect.unit (s := S256x6784) ![0, 6144] S256x640.size inb_S256x6784_S256x640_0_6144,
        k0_pay5 (k0_pay6 x0 x1 x3 x2) (View.ld x6 (Rect.unit (s := S1x1024x6784) ![0, 0, 6144] S1x1024x640.size inb_S1x1024x6784_S1x1024x640_0_0_6144))⟩,
      ⟨Rect.unit (s := S256x6784) ![0, 5120] S256x1024.size inb_S256x6784_S256x1024_0_5120, k0_pay11 (k0_pay6 x0 x1 x3 x2) (cols x6 5120 inb_S1x1024x6784_S1x1024x1024_0_0_5120)⟩,
      ⟨Rect.unit (s := S256x6784) ![0, 4096] S256x1024.size inb_S256x6784_S256x1024_0_4096, k0_pay11 (k0_pay6 x0 x1 x3 x2) (cols x6 4096 inb_S1x1024x6784_S1x1024x1024_0_0_4096)⟩,
      ⟨Rect.unit (s := S256x6784) ![0, 3072] S256x1024.size inb_S256x6784_S256x1024_0_3072, k0_pay11 (k0_pay6 x0 x1 x3 x2) (cols x6 3072 inb_S1x1024x6784_S1x1024x1024_0_0_3072)⟩,
      ⟨Rect.unit (s := S256x6784) ![0, 2048] S256x1024.size inb_S256x6784_S256x1024_0_2048, k0_pay11 (k0_pay6 x0 x1 x3 x2) (cols x6 2048 inb_S1x1024x6784_S1x1024x1024_0_0_2048)⟩,
      ⟨Rect.unit (s := S256x6784) ![0, 1024] S256x1024.size inb_S256x6784_S256x1024_0_1024, k0_pay11 (k0_pay6 x0 x1 x3 x2) (cols x6 1024 inb_S1x1024x6784_S1x1024x1024_0_0_1024)⟩,
      ⟨Rect.unit (s := S256x6784) ![0, 0] S256x1024.size inb_S256x6784_S256x1024_0_0, turnedCols (k0_pay6 x0 x1 x3 x2) (cols x6 0 inb_S1x1024x6784_S1x1024x1024_0_0_0) x4 x5⟩] := by
  unfold out0_A_7
  rw [View.read_writes_eq_canon _ _ _ (cover0_A_7 c i a1 w1 a2 w2 a3 w3 a4 w4 a5 w5 a6 w6 a7 w7 a8 w8 x0 x1 x2 x3 x4 x5 x6)]
  unfold kernelRun0_A
  dsimp only
  sl_unfold_words
  simp only [View.readAt_eq_ld, Memref.IsWhole.read_unread]
  rw [View.ld_unit_zero (off := ![0, 0]) (by decide) _ x0, View.ld_unit_zero (off := ![0, 0]) (by decide) _ x1, View.ld_unit_zero (off := ![0, 0, 0, 0]) (by decide) _ x2,
    View.ld_unit_zero (off := ![0, 0, 0, 0]) (by decide) _ x3, View.ld_unit_zero (off := ![0, 0]) (by decide) _ x4, View.ld_unit_zero (off := ![0, 0]) (by decide) _ x5]
  rfl

end Cert.ProjectionIdeal.Body
end
-- ==== Proof.ProjectionSpec.lean ====
module

public import Idealize.ShloMosaic.PureOps.Ideal
public import Idealize.ShloMosaic.PureOps.Ideal.Laws
public import Idealize.ShloMosaic.Lib.ValueIdx

@[expose] public section

noncomputable section

namespace Cert.ProjectionSpec

open Idealize.ShloMosaic Idealize.ShloMosaic.ValueIdx

/-! ## The input projection, as a function of the arguments

Each row is normalised by its root mean square, scaled by the gain, modulated by its stream's scale and shift, and
multiplied by the weights. The first 512 columns (queries) and the next 512 (keys) are rotated, in pairs 32 columns apart,
by the cosine and sine tables at the row's token; the queries are scaled once more. -/

abbrev Rows := (⟨2, ![17408, 1024]⟩ : Shape).Idx → EReal
abbrev Gain := (⟨2, ![1, 1024]⟩ : Shape).Idx → EReal
abbrev Mods := (⟨4, ![8, 6, 1, 1024]⟩ : Shape).Idx → EReal
abbrev Turns := (⟨2, ![4352, 128]⟩ : Shape).Idx → EReal
abbrev Weights := (⟨3, ![4, 1024, 6784]⟩ : Shape).Idx → EReal
abbrev Out := (⟨2, ![17408, 6784]⟩ : Shape).Idx → EReal

/-- One over the root of a row's mean square, the mean raised by the small constant. -/
def scale (y : Fin 1024 → EReal) : EReal :=
  Ideal.rsqrt (Ideal.div (∑ j, y j * y j) (Ideal.ofBits .f32 0x44800000#32) + Ideal.ofBits .f32 0x358637BD#32)

/-- A row's entry after the norm and the modulation. -/
def shifted (y : Fin 1024 → EReal) (g up down : EReal) (d : Fin 1024) : EReal :=
  y d * scale y * g * (Ideal.ofBits .f32 0x3F800000#32 + up) + down

/-- The modulation's stream of a row: the first 1024 rows belong to the context, the rest to four clips of 4096. -/
def stream (r : Fin 17408) : Fin 8 := ⟨if r.val < 1024 then 4 else (r.val - 1024) / 4096, by split_ifs <;> omega⟩

/-- The rotation tables' row of a row: the context's 256 tokens first, then a clip's 4096. -/
def token (r : Fin 17408) : Fin 4352 := ⟨if r.val < 1024 then r.val % 256 else 256 + (r.val - 1024) % 4096, by split_ifs <;> omega⟩

/-- The projection of a row, before the rotation. -/
def proj (x : Rows) (g : Gain) (t : Mods) (w : Weights) (r : Fin 17408) (k : Fin 6784) : EReal :=
  ∑ d : Fin 1024, shifted (fun j => x (ix2 r j)) (g (ix2 0 d)) (t (ix4 (stream r) 1 0 d)) (t (ix4 (stream r) 0 0 d)) d * w (ix3 0 d k)

/-- The column a column is rotated with. -/
def other (k : Fin 6784) : Fin 6784 := ⟨if k.val % 64 < 32 then k.val + 32 else k.val - 32, by split_ifs <;> omega⟩

/-- A row's rotated values, of a projected row `p` and the token's cosines and sines. -/
def turned (p : Fin 6784 → EReal) (c s : Fin 128 → EReal) (k : Fin 6784) : EReal :=
  p k * c ⟨k.val % 128, by omega⟩ + p (other k) * s ⟨k.val % 128, by omega⟩

/-- A row's result: queries rotated and scaled, keys rotated, the rest as projected. -/
def finish (p : Fin 6784 → EReal) (c s : Fin 128 → EReal) (k : Fin 6784) : EReal :=
  if k.val < 512 then turned p c s k * Ideal.ofBits .f32 0x3DB504F3#32 else if k.val < 1024 then turned p c s k else p k

/-- The layer's projection. -/
def result (x : Rows) (g : Gain) (t : Mods) (c s : Turns) (w : Weights) : Out := fun i =>
  finish (proj x g t w (i 0)) (fun l => c (ix2 (token (i 0)) l)) (fun l => s (ix2 (token (i 0)) l)) (i 1)

end Cert.ProjectionSpec
end
-- ==== Proof.ProjectionValue.lean ====
/- The input projection's kernel ends with the specified array: each grid point fills its block of 256 rows in seven runs
   of columns. -/
module

public import proofs.«01_k».proof.Proof.ProjectionBody
public import proofs.«01_k».proof.Proof.ProjectionSpec
public import proofs.«01_k».proof.Proof.Gen.ProjectionIdeal.Value
public import Idealize.ShloMosaic.Lib.IdealHost
public import Idealize.ShloMosaic.Lib.MatmulPlain
public import Idealize.ShloMosaic.Lib.KernelVsHost
public import Idealize.ShloMosaic.Lib.WordCmp
public import Idealize.ShloMosaic.Lib.Pipeline.Value
public import Idealize.ShloMosaic.Lib.Pipeline.ValueKit.Tiles

@[expose] public section

set_option maxRecDepth 16384

noncomputable section

namespace Cert.ProjectionIdeal.Outcome

open Cert.ProjectionIdeal Cert.ProjectionIdeal.Gen Cert.ProjectionIdeal.Value Cert.ProjectionIdeal.Body Cert.ProjectionSpec
open Idealize.ShloMosaic Idealize.ShloMosaic.TcCoe Idealize.SL.Sem Idealize.ShloMosaic.ValueIdx Idealize.ShloMosaic.WordCmp

/-! ## The payloads at an index -/

/-- A row's sum of squares, as the body takes it. -/
theorem squares_apply (y : FVec Ideal S256x1024 .f32) (a : Fin 256) :
    multiReduction .add [1] S256 (mulf y y) 0x00000000#32 reduces_S256x1024_S256 (.inl rfl) rfl (ix1 a) = ∑ j : Fin 1024, y (ix2 a j) * y (ix2 a j) := by
  refine (Ideal.multiReduction_add_single (mulf y y) _ reduces_S256x1024_S256 _ _ (ix1 a)).trans (Finset.sum_congr rfl fun j _ => ?_)
  have e : (reduces_S256x1024_S256.lift (ix1 a) j : S256x1024.Idx) = ix2 a j := by
    funext b
    match b with
    | ⟨0, _⟩ => rfl
    | ⟨1, _⟩ => rfl
  rw [e]
  rfl

theorem lane_apply (t : FVec Ideal S1x1x1x1024 .f32) (d : Fin 1024) : shapeCast S1x1024 t shapeCasts_S1x1x1x1024_S1x1024 (ix2 0 d) = t (ix4 0 0 0 d) :=
  shapeCast_apply t _ (ix2 0 d) (ix4 0 0 0 d) (by
    rewrite [Shape.rowMajor_val_four, Shape.rowMajor_val_two]
    show ((0 * 1 + 0) * 1 + 0) * 1024 + d.val = 0 * 1024 + d.val
    omega)

theorem down_apply (t : FVec Ideal S1x1024 .f32) (a : Fin 256) (d : Fin 1024) : broadcastTo S256x1024 t broadcasts_S1x1024_S256x1024 (ix2 a d) = t (ix2 0 d) :=
  broadcastTo_apply _ _ (ix2 a d) (ix2 0 d) fun b => match b with
    | ⟨0, _⟩ => rfl
    | ⟨1, _⟩ => (if_neg (show ¬(1024 : ℕ) = 1 by decide)).symm

/-- The body's modulated rows. -/
theorem pay6_apply (x : FVec Ideal S256x1024 .f32) (g : FVec Ideal S1x1024 .f32) (u v : FVec Ideal S1x1x1x1024 .f32) (a : Fin 256) (d : Fin 1024) :
    k0_pay6 (F := Ideal) x g u v (ix2 a d) = shifted (fun j => x (ix2 a j)) (g (ix2 0 d)) (u (ix4 0 0 0 d)) (v (ix4 0 0 0 d)) d := by
  unfold k0_pay6 shifted scale
  refine congrArg₂ (fun y z : EReal => y + z) (congrArg₂ (fun y z : EReal => y * z) (congrArg₂ (fun y z : EReal => y * z) (congrArg (fun z : EReal => x (ix2 a d) * z) ?_) ?_) ?_) ?_
  · refine (broadcastTo_apply _ _ (ix2 a d) (ix2 a 0) fun b => ?_).trans ?_
    · match b with
      | ⟨0, _⟩ => exact (if_neg (show ¬(256 : ℕ) = 1 by decide)).symm
      | ⟨1, _⟩ => rfl
    · refine congrArg (fun z : EReal => Ideal.rsqrt (Ideal.div z (Ideal.ofBits .f32 0x44800000#32) + Ideal.ofBits .f32 0x358637BD#32)) ?_
      refine (shapeCast_apply _ shapeCasts_S256_S256x1 (ix2 a 0) (ix1 a) ?_).trans (squares_apply x a)
      rewrite [Shape.rowMajor_val_one, Shape.rowMajor_val_two]
      show a.val = a.val * 1 + 0
      omega
  · exact down_apply g a d
  · refine (down_apply _ a d).trans ?_
    exact congrArg (fun z : EReal => Ideal.ofBits .f32 0x3F800000#32 + z) (lane_apply u d)
  · exact (down_apply _ a d).trans (lane_apply v d)

/-- A row of the block times a run of the weights' columns. -/
theorem dot_apply (s : FVec Ideal S256x1024 .bf16) (w : FVec Ideal S1x1024x1024 .bf16) (a : Fin 256) (l : Fin 1024) :
    matmul dot_S256x1024_S1024x1024_S256x1024_1_0_0_1_n_n none s (shapeCast S1024x1024 w shapeCasts_S1x1024x1024_S1024x1024)
      (constant (F := Ideal) S256x1024 .f32 0x00000000#32) (ix2 a l) = ∑ d : Fin 1024, s (ix2 a d) * w (ix3 0 d l) := by
  refine (Ideal.matmul_plain_apply none _ _ _ a l).trans ?_
  rw [show (constant (F := Ideal) S256x1024 .f32 0x00000000#32 (ix2 a l) : EReal) = 0 from Ideal.ofBits_zero_f32, zero_add]
  refine Finset.sum_congr rfl fun d _ => congrArg (fun z : EReal => s (ix2 a d) * z) (shapeCast_apply w _ (ix2 d l) (ix3 0 d l) ?_)
  rewrite [Shape.rowMajor_val_three, Shape.rowMajor_val_two]
  show (0 * 1024 + d.val) * 1024 + l.val = d.val * 1024 + l.val
  omega

theorem pay11_apply (s : FVec Ideal S256x1024 .bf16) (w : FVec Ideal S1x1024x1024 .bf16) (a : Fin 256) (l : Fin 1024) :
    k0_pay11 (F := Ideal) s w (ix2 a l) = ∑ d : Fin 1024, s (ix2 a d) * w (ix3 0 d l) :=
  dot_apply s w a l

theorem pay5_apply (s : FVec Ideal S256x1024 .bf16) (w : FVec Ideal S1x1024x640 .bf16) (a : Fin 256) (l : Fin 640) :
    k0_pay5 (F := Ideal) s w (ix2 a l) = ∑ d : Fin 1024, s (ix2 a d) * w (ix3 0 d l) := by
  refine (Ideal.matmul_plain_apply none _ _ _ a l).trans ?_
  rw [show (constant (F := Ideal) S256x640 .f32 0x00000000#32 (ix2 a l) : EReal) = 0 from Ideal.ofBits_zero_f32, zero_add]
  refine Finset.sum_congr rfl fun d _ => congrArg (fun z : EReal => s (ix2 a d) * z) (shapeCast_apply w _ (ix2 d l) (ix3 0 d l) ?_)
  rewrite [Shape.rowMajor_val_three, Shape.rowMajor_val_two]
  show (0 * 1024 + d.val) * 640 + l.val = d.val * 640 + l.val
  omega

/-! ## The rotation at an index -/

theorem repeat_apply (x : FVec Ideal S256x128 .f32) (a : Fin 256) (l : Fin 1024) : k0_pay8 (F := Ideal) x (ix2 a l) = x (ix2 a ⟨l.val % 128, by omega⟩) := by
  unfold k0_pay8
  exact concatenate_replicate_apply (t := S256x1024) (s₁ := S256x128) 1 8 x concatenates_S256x128_S256x128_S256x128_S256x128_S256x128_S256x128_S256x128_S256x128_S256x1024_d1 rfl
    (ix2 a l) (ix2 a ⟨l.val % 128, by omega⟩) rfl fun b => match b with
      | ⟨0, _⟩ => fun _ => rfl
      | ⟨1, _⟩ => fun hb => absurd rfl hb

theorem repeat2_apply (x : FVec Ideal S256x128 .f32) (a : Fin 256) (l : Fin 1024) : k0_pay9 (F := Ideal) x (ix2 a l) = x (ix2 a ⟨l.val % 128, by omega⟩) :=
  repeat_apply x a l

/-- The body's test of a column: whether it lies in the first half of its 64. -/
def half (l : BitVec 32) : BitVec 1 :=
  IntOp.cmpi .slt (Scalar.select (IntOp.andi (IntOp.xori (IntOp.cmpi .slt (IntOp.remsi .vector l 64#32) 0#32) (IntOp.cmpi .slt (64#32) 0#32)) (IntOp.cmpi .ne (IntOp.remsi .vector l 64#32) 0#32))
    (IntOp.addi (IntOp.remsi .vector l 64#32) 64#32) (IntOp.remsi .vector l 64#32)) 32#32

set_option maxHeartbeats 1000000 in
theorem half_word : ∀ l : Fin 1024, half (BitVec.ofNat 32 l.val) = BitVec.ofBool (decide (l.val % 64 < 32)) := by
  decide +kernel

theorem query_word : ∀ l : Fin 1024, IntOp.cmpi .slt (BitVec.ofNat 32 l.val) 512#32 = BitVec.ofBool (decide (l.val < 512)) := by
  decide +kernel

/-- The rotation's partner of a column, among the first 1024. -/
theorem partner_apply (p : FVec Ideal S256x1024 .f32) (a : Fin 256) (l l' : Fin 1024) (h : l'.val = if l.val % 64 < 32 then l.val + 32 else l.val - 32) :
    Scalar.select (half (BitVec.ofNat 32 l.val)) (dynamicRotate 1 992#32 none p rotates_S256x1024_d1 (ix2 a l)) (dynamicRotate 1 32#32 none p rotates_S256x1024_d1 (ix2 a l)) = p (ix2 a l') := by
  have hl := l.isLt
  rw [half_word, select_decide]
  split_ifs at h ⊢ with c
  · refine dynamicRotate_apply 1 _ p _ (ix2 a l) (ix2 a l') fun b => ?_
    match b with
    | ⟨0, _⟩ => rfl
    | ⟨1, _⟩ => show l'.val = (l.val + 1024 - 992 % 1024) % 1024; omega
  · refine dynamicRotate_apply 1 _ p _ (ix2 a l) (ix2 a l') fun b => ?_
    match b with
    | ⟨0, _⟩ => rfl
    | ⟨1, _⟩ => show l'.val = (l.val + 1024 - 32 % 1024) % 1024; omega

/-- The rotated columns. -/
theorem pay10_apply (p : FVec Ideal S256x1024 .f32) (c s : FVec Ideal S256x1024 .f32) (a : Fin 256) (l l' : Fin 1024) (h : l'.val = if l.val % 64 < 32 then l.val + 32 else l.val - 32) :
    k0_pay10 (F := Ideal) p (iota .tc S256x1024 32 [1] iota_S256x1024_d1_w32) c s 64#32 0#32 (ix2 a l)
      = if l.val < 512 then (p (ix2 a l) * c (ix2 a l) + p (ix2 a l') * s (ix2 a l)) * Ideal.ofBits .f32 0x3DB504F3#32
        else p (ix2 a l) * c (ix2 a l) + p (ix2 a l') * s (ix2 a l) := by
  have hi : (iota .tc S256x1024 32 [1] iota_S256x1024_d1_w32 : IVec S256x1024 32) (ix2 a l) = BitVec.ofNat 32 l.val := by
    rw [iota_at]
    show BitVec.ofNat 32 (0 * 1024 + l.val) = _
    rw [Nat.zero_mul, Nat.zero_add]
  rw [← partner_apply p a l l' h, ← select_decide (l.val < 512), ← query_word, ← hi]
  rfl

/-! ## The blocks of a point -/

variable (m : (ℓ : Loc nD τ sig) → Buf (Elt Ideal) ℓ) (c : Dev nD)

abbrev xOf : Rows := m ((c : Thread nD τ).loc main_arg0)
abbrev gOf : Gain := m ((c : Thread nD τ).loc main_arg1)
abbrev tOf : Mods := m ((c : Thread nD τ).loc main_arg2)
abbrev cOf : Turns := m ((c : Thread nD τ).loc main_arg3)
abbrev sOf : Turns := m ((c : Thread nD τ).loc main_arg4)
abbrev wOf : Weights := m ((c : Thread nD τ).loc main_arg5)

theorem point_val (t : Fin grid0.N) : (grid0.coords t 0).val = t.val := by
  have ht : t.val < 68 := Nat.lt_of_lt_of_eq t.isLt N_0
  have e : (grid0.coords t 0).val = t.val / 1 % 68 := Pipeline.Grid.coords_val t 0 (by decide) rfl
  omega

theorem row_word (t : Fin cfg0.N) : (BitVec.ofNat 32 (grid0.coords t 0).val).toNat = t.val := by
  have ht : t.val < 68 := Nat.lt_of_lt_of_eq t.isLt N_0
  rw [point_val t, BitVec.toNat_ofNat]
  omega

theorem blk_x (t : Fin cfg0.N) (a : Fin 256) (d : Fin 1024) (r : Fin 17408) (hr : r.val = 256 * t.val + a.val) :
    (iblk m c 0 t : Vec Ideal S256x1024 .f32) (ix2 a d) = xOf m c (ix2 r d) := by
  refine (View.read_apply _ _).trans (congrArg (m ((c : Thread nD τ).loc main_arg0)) (funext fun y => Fin.ext ?_))
  match y with
  | ⟨0, _⟩ =>
    show (BitVec.ofNat 32 (grid0.coords t 0).val).toNat * 256 + 1 * a.val = r.val
    rw [row_word]; omega
  | ⟨1, _⟩ => show 0 * 1024 + 1 * d.val = d.val; omega

theorem blk_g (t : Fin cfg0.N) (d : Fin 1024) : (iblk m c 1 t : Vec Ideal S1x1024 .f32) (ix2 0 d) = gOf m c (ix2 0 d) := by
  refine (View.read_apply _ _).trans (congrArg (m ((c : Thread nD τ).loc main_arg1)) (funext fun y => Fin.ext ?_))
  match y with
  | ⟨0, _⟩ => rfl
  | ⟨1, _⟩ => show 0 * 1024 + 1 * d.val = d.val; omega

/-- The modulation's stream of a point, as the index maps compute it. -/
theorem stream_word : ∀ i : Fin 68, cc0_transform_2 (fun a => match a with | ⟨0, _⟩ => i) 0 = (if i.val < 4 then 4 else (i.val - 4) / 16)
    ∧ cc0_transform_3 (fun a => match a with | ⟨0, _⟩ => i) 0 = if i.val < 4 then 4 else (i.val - 4) / 16 := by
  decide

theorem token_word : ∀ i : Fin 68, cc0_transform_4 (fun a => match a with | ⟨0, _⟩ => i) 0 = (if i.val < 4 then 0 else 1 + (i.val - 4) % 16)
    ∧ cc0_transform_5 (fun a => match a with | ⟨0, _⟩ => i) 0 = if i.val < 4 then 0 else 1 + (i.val - 4) % 16 := by
  decide

theorem stream_map (t : Fin cfg0.N) : cc0_transform_2 (grid0.coords t) 0 = (if t.val < 4 then 4 else (t.val - 4) / 16)
    ∧ cc0_transform_3 (grid0.coords t) 0 = if t.val < 4 then 4 else (t.val - 4) / 16 := by
  have e := stream_word (grid0.coords t 0)
  rw [point_val] at e
  exact e

theorem token_map (t : Fin cfg0.N) : cc0_transform_4 (grid0.coords t) 0 = (if t.val < 4 then 0 else 1 + (t.val - 4) % 16)
    ∧ cc0_transform_5 (grid0.coords t) 0 = if t.val < 4 then 0 else 1 + (t.val - 4) % 16 := by
  have e := token_word (grid0.coords t 0)
  rw [point_val] at e
  exact e

theorem blk_down (t : Fin cfg0.N) (a : Fin 256) (d : Fin 1024) (r : Fin 17408) (hr : r.val = 256 * t.val + a.val) :
    (iblk m c 2 t : Vec Ideal S1x1x1x1024 .f32) (ix4 0 0 0 d) = tOf m c (ix4 (stream r) 0 0 d) := by
  refine (View.read_apply _ _).trans (congrArg (m ((c : Thread nD τ).loc main_arg2)) (funext fun y => Fin.ext ?_))
  match y with
  | ⟨0, _⟩ =>
    show cc0_transform_2 (grid0.coords t) 0 * 1 + 1 * 0 = if r.val < 1024 then 4 else (r.val - 1024) / 4096
    rw [(stream_map t).1]
    split_ifs <;> omega
  | ⟨1, _⟩ => rfl
  | ⟨2, _⟩ => rfl
  | ⟨3, _⟩ => show 0 * 1024 + 1 * d.val = d.val; omega

theorem blk_up (t : Fin cfg0.N) (a : Fin 256) (d : Fin 1024) (r : Fin 17408) (hr : r.val = 256 * t.val + a.val) :
    (iblk m c 3 t : Vec Ideal S1x1x1x1024 .f32) (ix4 0 0 0 d) = tOf m c (ix4 (stream r) 1 0 d) := by
  refine (View.read_apply _ _).trans (congrArg (m ((c : Thread nD τ).loc main_arg2)) (funext fun y => Fin.ext ?_))
  match y with
  | ⟨0, _⟩ =>
    show cc0_transform_3 (grid0.coords t) 0 * 1 + 1 * 0 = if r.val < 1024 then 4 else (r.val - 1024) / 4096
    rw [(stream_map t).2]
    split_ifs <;> omega
  | ⟨1, _⟩ => rfl
  | ⟨2, _⟩ => rfl
  | ⟨3, _⟩ => show 0 * 1024 + 1 * d.val = d.val; omega

theorem blk_cos (t : Fin cfg0.N) (a : Fin 256) (l : Fin 128) (r : Fin 17408) (hr : r.val = 256 * t.val + a.val) :
    (iblk m c 4 t : Vec Ideal S256x128 .f32) (ix2 a l) = cOf m c (ix2 (token r) l) := by
  refine (View.read_apply _ _).trans (congrArg (m ((c : Thread nD τ).loc main_arg3)) (funext fun y => Fin.ext ?_))
  match y with
  | ⟨0, _⟩ =>
    show cc0_transform_4 (grid0.coords t) 0 * 256 + 1 * a.val = if r.val < 1024 then r.val % 256 else 256 + (r.val - 1024) % 4096
    rw [(token_map t).1]
    split_ifs <;> omega
  | ⟨1, _⟩ => show 0 * 128 + 1 * l.val = l.val; omega

theorem blk_sin (t : Fin cfg0.N) (a : Fin 256) (l : Fin 128) (r : Fin 17408) (hr : r.val = 256 * t.val + a.val) :
    (iblk m c 5 t : Vec Ideal S256x128 .f32) (ix2 a l) = sOf m c (ix2 (token r) l) := by
  refine (View.read_apply _ _).trans (congrArg (m ((c : Thread nD τ).loc main_arg4)) (funext fun y => Fin.ext ?_))
  match y with
  | ⟨0, _⟩ =>
    show cc0_transform_5 (grid0.coords t) 0 * 256 + 1 * a.val = if r.val < 1024 then r.val % 256 else 256 + (r.val - 1024) % 4096
    rw [(token_map t).2]
    split_ifs <;> omega
  | ⟨1, _⟩ => show 0 * 128 + 1 * l.val = l.val; omega

theorem blk_w (t : Fin cfg0.N) (d : Fin 1024) (k : Fin 6784) : (iblk m c 6 t : Vec Ideal S1x1024x6784 .bf16) (ix3 0 d k) = wOf m c (ix3 0 d k) := by
  refine (View.read_apply _ _).trans (congrArg (m ((c : Thread nD τ).loc main_arg5)) (funext fun y => Fin.ext ?_))
  match y with
  | ⟨0, _⟩ => rfl
  | ⟨1, _⟩ => show 0 * 1024 + 1 * d.val = d.val; omega
  | ⟨2, _⟩ => show 0 * 6784 + 1 * k.val = k.val; omega

/-! ## The runs of columns -/

/-- The body's modulated rows, of the arguments. -/
theorem rows_eq (t : Fin cfg0.N) (a : Fin 256) (d : Fin 1024) (r : Fin 17408) (hr : r.val = 256 * t.val + a.val) :
    k0_pay6 (F := Ideal) (iblk m c 0 t) (iblk m c 1 t) (iblk m c 3 t) (iblk m c 2 t) (ix2 a d)
      = shifted (fun j => xOf m c (ix2 r j)) (gOf m c (ix2 0 d)) (tOf m c (ix4 (stream r) 1 0 d)) (tOf m c (ix4 (stream r) 0 0 d)) d := by
  refine (pay6_apply _ _ _ _ a d).trans ?_
  rw [show (fun j => (iblk m c 0 t : Vec Ideal S256x1024 .f32) (ix2 a j)) = fun j => xOf m c (ix2 r j) from funext fun j => blk_x m c t a j r hr,
    blk_g, blk_up m c t a d r hr, blk_down m c t a d r hr]

/-- A projected row of the arguments. -/
abbrev projOf (r : Fin 17408) : Fin 6784 → EReal := proj (xOf m c) (gOf m c) (tOf m c) (wOf m c) r

/-- The sum one column of a run takes is the projection's. -/
theorem sum_eq (t : Fin cfg0.N) (a : Fin 256) (r : Fin 17408) (hr : r.val = 256 * t.val + a.val) (k : Fin 6784) (w : Fin 1024 → EReal)
    (hw : ∀ d, w d = (iblk m c 6 t : Vec Ideal S1x1024x6784 .bf16) (ix3 0 d k)) :
    ∑ d : Fin 1024, k0_pay6 (F := Ideal) (iblk m c 0 t) (iblk m c 1 t) (iblk m c 3 t) (iblk m c 2 t) (ix2 a d) * w d = projOf m c r k :=
  Finset.sum_congr rfl fun d _ => congrArg₂ (fun y z : EReal => y * z) (rows_eq m c t a d r hr) ((hw d).trans (blk_w m c t d k))

/-- A run of the weight block's columns, read at an index. -/
theorem run_at (x : Vec Ideal S1x1024x6784 .bf16) (o n : ℕ) (inb) (d : Fin 1024) (l : Fin n) (k : Fin 6784) (hk : k.val = o + l.val) :
    (View.ld (Val := Elt Ideal) (e' := .bf16) x (Rect.unit (s := S1x1024x6784) ![0, 0, o] ![1, 1024, n] inb) : (⟨3, ![1, 1024, n]⟩ : Shape).Idx → EReal) (ix3 0 d l) = x (ix3 0 d k) := by
  refine View.ld_unit_apply_of (Val := Elt Ideal) (e := .bf16) x _ _ inb _ _ ?_
  intro y
  match y with
  | ⟨0, _⟩ => rfl
  | ⟨1, _⟩ => show d.val = 0 + d.val; omega
  | ⟨2, _⟩ => exact hk

/-- The specified array. -/
abbrev spec : Out := result (xOf m c) (gOf m c) (tOf m c) (cOf m c) (sOf m c) (wOf m c)

/-- The specified block of a grid point. -/
def block (t : Fin cfg0.N) : FVec Ideal S256x6784 .bf16 := fun y =>
  spec m c (ix2 (⟨256 * t.val + (y 0).val, by
    have ht : t.val < 68 := Nat.lt_of_lt_of_eq t.isLt N_0
    have h0 : (y 0).val < 256 := (y 0).isLt
    omega⟩ : Fin 17408) (y 1 : Fin 6784))

theorem block_apply (t : Fin cfg0.N) (y : S256x6784.Idx) (r : Fin 17408) (k : Fin 6784) (h0 : r.val = 256 * t.val + (y 0).val) (h1 : k.val = (y 1).val) :
    block m c t y = spec m c (ix2 r k) :=
  congrArg₂ (fun (r : Fin 17408) (k : Fin 6784) => spec m c (ix2 r k)) (Fin.ext h0.symm) (Fin.ext h1.symm)

theorem row_lt (t : Fin cfg0.N) (a : Fin 256) : 256 * t.val + a.val < 17408 := by
  have ht : t.val < 68 := Nat.lt_of_lt_of_eq t.isLt N_0
  omega

/-- A run of 1024 columns past the keys. -/
theorem piece (t : Fin cfg0.N) (o : ℕ) (ho : 1024 ≤ o) (hn : o + 1024 ≤ 6784) (i1 i2) (y : (Rect.unit (s := S256x6784) ![0, o] S256x1024.size i1).shape.Idx) :
    k0_pay11 (F := Ideal) (k0_pay6 (F := Ideal) (iblk m c 0 t) (iblk m c 1 t) (iblk m c 3 t) (iblk m c 2 t)) (cols (F := Ideal) (iblk m c 6 t) o i2) y
      = block m c t ((Rect.unit (s := S256x6784) ![0, o] S256x1024.size i1).emb y) := by
  obtain ⟨a, l, rfl⟩ : ∃ (a : Fin 256) (l : Fin 1024), y = ix2 a l := ⟨y 0, y 1, by
    funext b
    match b with
    | ⟨0, _⟩ => rfl
    | ⟨1, _⟩ => rfl⟩
  refine Eq.trans ?_ (block_apply m c t _ ⟨_, row_lt t a⟩ ⟨o + l.val, by omega⟩ ?_ ?_).symm
  · refine (pay11_apply _ _ a l).trans ((sum_eq m c t a ⟨_, row_lt t a⟩ rfl ⟨o + l.val, by omega⟩ _ fun d => run_at _ o 1024 i2 d l _ rfl).trans ?_)
    refine ((if_neg ?_).trans (if_neg ?_)).symm
    · show ¬o + l.val < 512; omega
    · show ¬o + l.val < 1024; omega
  · show 256 * t.val + a.val = 256 * t.val + (0 + 1 * a.val); omega
  · show o + l.val = o + 1 * l.val; omega

/-- The last run, of 640 columns. -/
theorem piece_last (t : Fin cfg0.N) (i1 i2) (y : (Rect.unit (s := S256x6784) ![0, 6144] S256x640.size i1).shape.Idx) :
    k0_pay5 (F := Ideal) (k0_pay6 (F := Ideal) (iblk m c 0 t) (iblk m c 1 t) (iblk m c 3 t) (iblk m c 2 t))
      (View.ld (Val := Elt Ideal) (e' := .bf16) (iblk m c 6 t : Vec Ideal S1x1024x6784 .bf16) (Rect.unit (s := S1x1024x6784) ![0, 0, 6144] S1x1024x640.size i2)) y
      = block m c t ((Rect.unit (s := S256x6784) ![0, 6144] S256x640.size i1).emb y) := by
  obtain ⟨a, l, rfl⟩ : ∃ (a : Fin 256) (l : Fin 640), y = ix2 a l := ⟨y 0, y 1, by
    funext b
    match b with
    | ⟨0, _⟩ => rfl
    | ⟨1, _⟩ => rfl⟩
  refine Eq.trans ?_ (block_apply m c t _ ⟨_, row_lt t a⟩ ⟨6144 + l.val, by omega⟩ ?_ ?_).symm
  · refine (pay5_apply _ _ a l).trans ((sum_eq m c t a ⟨_, row_lt t a⟩ rfl ⟨6144 + l.val, by omega⟩ _ fun d => run_at _ 6144 640 i2 d l _ rfl).trans ?_)
    refine ((if_neg ?_).trans (if_neg ?_)).symm
    · show ¬6144 + l.val < 512; omega
    · show ¬6144 + l.val < 1024; omega
  · show 256 * t.val + a.val = 256 * t.val + (0 + 1 * a.val); omega
  · show 6144 + l.val = 6144 + 1 * l.val; omega

/-- The first run, of the queries and keys. -/
theorem piece_first (t : Fin cfg0.N) (i1 i2) (y : (Rect.unit (s := S256x6784) ![0, 0] S256x1024.size i1).shape.Idx) :
    turnedCols (F := Ideal) (k0_pay6 (F := Ideal) (iblk m c 0 t) (iblk m c 1 t) (iblk m c 3 t) (iblk m c 2 t)) (cols (F := Ideal) (iblk m c 6 t) 0 i2) (iblk m c 4 t) (iblk m c 5 t) y
      = block m c t ((Rect.unit (s := S256x6784) ![0, 0] S256x1024.size i1).emb y) := by
  obtain ⟨a, l, rfl⟩ : ∃ (a : Fin 256) (l : Fin 1024), y = ix2 a l := ⟨y 0, y 1, by
    funext b
    match b with
    | ⟨0, _⟩ => rfl
    | ⟨1, _⟩ => rfl⟩
  have hl := l.isLt
  have h32 : (if l.val % 64 < 32 then l.val + 32 else l.val - 32) < 1024 := by split_ifs <;> omega
  refine Eq.trans ?_ (block_apply m c t _ ⟨_, row_lt t a⟩ ⟨l.val, by omega⟩ ?_ ?_).symm
  · unfold turnedCols
    refine (pay10_apply _ _ _ a l ⟨_, h32⟩ rfl).trans ?_
    rw [dot_apply, dot_apply, repeat_apply, repeat2_apply, blk_cos m c t a _ ⟨_, row_lt t a⟩ rfl, blk_sin m c t a _ ⟨_, row_lt t a⟩ rfl,
      sum_eq m c t a ⟨_, row_lt t a⟩ rfl ⟨l.val, by omega⟩ _ fun d => run_at _ 0 1024 i2 d l _ (Nat.zero_add _).symm,
      sum_eq m c t a ⟨_, row_lt t a⟩ rfl ⟨_, Nat.lt_trans h32 (by decide)⟩ _ fun d => run_at _ 0 1024 i2 d ⟨_, h32⟩ _ (Nat.zero_add _).symm]
    show _ = finish (projOf m c ⟨_, row_lt t a⟩) _ _ (⟨l.val, by omega⟩ : Fin 6784)
    unfold finish
    exact if_congr Iff.rfl rfl (if_pos hl).symm
  · show 256 * t.val + a.val = 256 * t.val + (0 + 1 * a.val); omega
  · show l.val = 0 + 1 * l.val; omega

/-! ## The result array -/

/-- Where an entry of a point's output block lies in the array. -/
theorem place_out (t : Fin cfg0.N) (y : S256x6784.Idx) (r : Fin 17408) (hr : r.val = 256 * t.val + (y 0).val) :
    ((cfg0.win 7).blk t).view.emb y = (ix2 r (y 1 : Fin 6784) : S17408x6784.Idx) := by
  funext b
  apply Fin.ext
  match b with
  | ⟨0, _⟩ =>
    show (BitVec.ofNat 32 (grid0.coords t 0).val).toNat * 256 + 1 * (y 0).val = r.val
    rw [row_word]; omega
  | ⟨1, _⟩ => show 0 * 6784 + 1 * (y 1).val = (y 1).val; omega

/-- A column of the block lies in the run that starts at most its width before it. -/
theorem mem_run (j : S256x6784.Idx) (o n : ℕ) (inb) (h1 : o ≤ (j 1).val) (h2 : (j 1).val < o + n) :
    j ∈ (Rect.unit (s := S256x6784) ![0, o] ![256, n] inb).set := by
  have e : j = (Rect.unit (s := S256x6784) ![0, o] ![256, n] inb).emb (ix2 (j 0 : Fin 256) (⟨(j 1).val - o, by omega⟩ : Fin n)) := by
    funext x
    apply Fin.ext
    match x with
    | ⟨0, _⟩ => show (j 0).val = 0 + 1 * (j 0).val; omega
    | ⟨1, _⟩ => show (j 1).val = o + 1 * ((j 1).val - o); omega
  rw [e]
  exact LoadRect.idx_mem (Rect.unit (s := S256x6784) ![0, o] ![256, n] inb).toLoadRect _

/-- What a grid point writes back is its block of the specified array. -/
theorem flushed_eq (t : Fin cfg0.N) : (dats m 0 c).flushed 7 t = ((cfg0.win 7).blk t).view.read (Elt Ideal) (spec m c) := by
  rw [flushed7_A, out_eq]
  funext j
  rw [View.read_apply]
  refine Eq.trans ?_ (congrArg (spec m c) (place_out t j ⟨_, row_lt t (j 0)⟩ rfl) : _ = _).symm
  show View.canon (Val := Elt Ideal) (e := .bf16) _ (j : S256x6784.Idx) = block m c t j
  refine View.canon_apply_of_pieces (Val := Elt Ideal) (e := .bf16) (block m c t) _ ?_ j ?_
  · intro q hq
    simp only [List.mem_cons, List.not_mem_nil, or_false] at hq
    rcases hq with rfl | rfl | rfl | rfl | rfl | rfl | rfl
    · exact piece_last m c t inb_S256x6784_S256x640_0_6144 _
    · exact piece m c t 5120 (by decide) (by decide) inb_S256x6784_S256x1024_0_5120 _
    · exact piece m c t 4096 (by decide) (by decide) inb_S256x6784_S256x1024_0_4096 _
    · exact piece m c t 3072 (by decide) (by decide) inb_S256x6784_S256x1024_0_3072 _
    · exact piece m c t 2048 (by decide) (by decide) inb_S256x6784_S256x1024_0_2048 _
    · exact piece m c t 1024 (by decide) (by decide) inb_S256x6784_S256x1024_0_1024 _
    · exact piece_first m c t inb_S256x6784_S256x1024_0_0 _
  · have hj : (j 1).val < 6784 := (j 1).isLt
    by_cases c6 : 6144 ≤ (j 1).val
    · exact ⟨_, .head _, mem_run j 6144 640 inb_S256x6784_S256x640_0_6144 c6 (by omega)⟩
    by_cases c5 : 5120 ≤ (j 1).val
    · exact ⟨_, .tail _ (.head _), mem_run j 5120 1024 inb_S256x6784_S256x1024_0_5120 c5 (by omega)⟩
    by_cases c4 : 4096 ≤ (j 1).val
    · exact ⟨_, .tail _ (.tail _ (.head _)), mem_run j 4096 1024 inb_S256x6784_S256x1024_0_4096 c4 (by omega)⟩
    by_cases c3 : 3072 ≤ (j 1).val
    · exact ⟨_, .tail _ (.tail _ (.tail _ (.head _))), mem_run j 3072 1024 inb_S256x6784_S256x1024_0_3072 c3 (by omega)⟩
    by_cases c2 : 2048 ≤ (j 1).val
    · exact ⟨_, .tail _ (.tail _ (.tail _ (.tail _ (.head _)))), mem_run j 2048 1024 inb_S256x6784_S256x1024_0_2048 c2 (by omega)⟩
    by_cases c1 : 1024 ≤ (j 1).val
    · exact ⟨_, .tail _ (.tail _ (.tail _ (.tail _ (.tail _ (.head _))))), mem_run j 1024 1024 inb_S256x6784_S256x1024_0_1024 c1 (by omega)⟩
    · exact ⟨_, .tail _ (.tail _ (.tail _ (.tail _ (.tail _ (.tail _ (.head _)))))), mem_run j 0 1024 inb_S256x6784_S256x1024_0_0 (by omega) (by omega)⟩

/-- Every place of the result lies in a point's block. -/
theorem covered (i : S17408x6784.Idx) : ∃ t : Fin cfg0.N, (cfg0.win 7).flush t = true ∧ i ∈ ((cfg0.win 7).blk t).view.set := by
  have h0 : (i 0).val < 17408 := (i 0).isLt
  have hp : (i 0).val / 256 < cfg0.N := Nat.lt_of_lt_of_eq (show (i 0).val / 256 < 68 by omega) N_0.symm
  refine ⟨⟨(i 0).val / 256, hp⟩, flush0_7 _, ?_⟩
  have hl : (i 0).val % 256 < 256 := by omega
  have e := place_out ⟨(i 0).val / 256, hp⟩ (ix2 (⟨(i 0).val % 256, hl⟩ : Fin 256) (i 1 : Fin 6784)) (i 0)
    (by show (i 0).val = 256 * ((i 0).val / 256) + (i 0).val % 256; omega)
  have ii : i = (ix2 (i 0 : Fin 17408) (i 1 : Fin 6784) : S17408x6784.Idx) := by
    funext y
    match y with
    | ⟨0, _⟩ => rfl
    | ⟨1, _⟩ => rfl
  have g := View.emb_mem_set ((cfg0.win 7).blk ⟨(i 0).val / 256, hp⟩).view (ix2 (⟨(i 0).val % 256, hl⟩ : Fin 256) (i 1 : Fin 6784) : S256x6784.Idx)
  rwa [e.trans ii.symm] at g

/-- The result array after the kernel's run. -/
theorem final : (dats m 0 c).arrAt 7 cfg0.N = spec m c :=
  (dats m 0 c).arrAt_eq_of_cover 7 (spec m c) (fun t _ => flushed_eq m c t) covered

/-- The run ends with the specified array and the arguments as they were. -/
theorem run (g : Dev nD → PrngReg) : θ_run defs (onTc (τ := τ) (main (F := Ideal))) ⟨m, fun _ => 0, g⟩ fun r => ∀ c : Dev nD,
    r.2.mem ((c.tc : Thread nD τ).loc main_v0) = spec m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => ⟨(h c).1.trans (final m c), (h c).2⟩) (run_blocks m g)

end Cert.ProjectionIdeal.Outcome
end
-- ==== Proof.ProjectionRefOut.lean ====
/- The reference's result, read at an index: the specified array. -/
module

public import proofs.«01_k».proof.Proof.Gen.ProjectionReferenceIdeal.Read
public import proofs.«01_k».proof.Proof.ProjectionSpec
public import Idealize.ShloMosaic.Lib.IdealHost
public import Idealize.ShloMosaic.Lib.StackMember
public import Idealize.ShloMosaic.Lib.Pipeline.Value

@[expose] public section

set_option maxRecDepth 16384

noncomputable section

namespace Cert.ProjectionReferenceIdeal.RefOut

open Cert.ProjectionReferenceIdeal Cert.ProjectionReferenceIdeal.Gen Cert.ProjectionReferenceIdeal.Read Cert.ProjectionSpec
open Idealize.ShloMosaic Idealize.ShloMosaic.ValueIdx

/-! ## The modulated rows -/

/-- One component of the modulation, spread over the rows. -/
def spread (z : FVec Ideal S8x1x1024 .f32) : FVec Ideal S17408x1024 .f32 :=
  concatenate S17408x1024 0
    [⟨S1024x1024, broadcastInDim S1024x1024 ![0, 1] bcast_S1x1024_S1024x1024_0_1
        (shapeCast S1x1024 (extractStridedSlice S1x1x1024 ![4, 0, 0] z slices_S8x1x1024_S1x1x1024_4_0_0) shapeCasts_S1x1x1024_S1x1024)⟩,
     ⟨S16384x1024, shapeCast S16384x1024 (broadcastInDim S4x4096x1024 ![0, 1, 2] bcast_S4x1x1024_S4x4096x1024_0_1_2
        (extractStridedSlice S4x1x1024 ![0, 0, 0] z slices_S8x1x1024_S4x1x1024_0_0_0)) shapeCasts_S4x4096x1024_S16384x1024⟩]
    concatenates_S1024x1024_S16384x1024_S17408x1024_d0

theorem spread_apply (z : FVec Ideal S8x1x1024 .f32) (r : Fin 17408) (j : Fin 1024) : spread z (ix2 r j) = z (ix3 (stream r) 0 j) := by
  unfold spread
  by_cases hr : r.val < 1024
  · refine (concatenate_pair_apply_left (s₁ := S1024x1024) (s₂ := S16384x1024) _ _ _ _ (ix2 r j) rfl (ix2 (⟨r.val, hr⟩ : Fin 1024) j) (fun b => match b with
      | ⟨0, _⟩ => rfl
      | ⟨1, _⟩ => rfl)).trans ?_
    refine (broadcastInDim_apply _ _ _ (ix2 (⟨r.val, hr⟩ : Fin 1024) j) (ix2 0 j) (fun b => match b with
      | ⟨0, _⟩ => rfl
      | ⟨1, _⟩ => (if_neg (show ¬(1024 : ℕ) = 1 by decide)).symm)).trans ?_
    refine (shapeCast_apply _ _ (ix2 0 j) (ix3 0 0 j) ?_).trans (extractStridedSlice_apply _ z _ (ix3 0 0 j) (ix3 (stream r) 0 j) ?_)
    · rewrite [Shape.rowMajor_val_three, Shape.rowMajor_val_two]
      show (0 * 1 + 0) * 1024 + j.val = 0 * 1024 + j.val
      omega
    · intro a
      match a with
      | ⟨0, _⟩ => exact if_pos hr
      | ⟨1, _⟩ => rfl
      | ⟨2, _⟩ => show j.val = 0 + j.val; omega
  · have hq : r.val - 1024 < 16384 := by omega
    have h4 : (r.val - 1024) / 4096 < 4 := by omega
    have hm : (r.val - 1024) % 4096 < 4096 := by omega
    refine (concatenate_pair_apply_right (s₁ := S1024x1024) (s₂ := S16384x1024) _ _ _ _ (ix2 r j) rfl rfl (ix2 (⟨r.val - 1024, hq⟩ : Fin 16384) j) (fun b => match b with
      | ⟨0, _⟩ => fun hb => absurd rfl hb
      | ⟨1, _⟩ => fun _ => rfl) (by show r.val - 1024 + 1024 = r.val; omega)).trans ?_
    refine (shapeCast_apply _ _ (ix2 (⟨r.val - 1024, hq⟩ : Fin 16384) j) (ix3 (⟨_, h4⟩ : Fin 4) (⟨_, hm⟩ : Fin 4096) j) ?_).trans ?_
    · rewrite [Shape.rowMajor_val_three, Shape.rowMajor_val_two]
      show ((r.val - 1024) / 4096 * 4096 + (r.val - 1024) % 4096) * 1024 + j.val = (r.val - 1024) * 1024 + j.val
      omega
    refine (broadcastInDim_apply _ _ _ (ix3 (⟨_, h4⟩ : Fin 4) (⟨_, hm⟩ : Fin 4096) j) (ix3 (⟨_, h4⟩ : Fin 4) 0 j) (fun b => match b with
      | ⟨0, _⟩ => (if_neg (show ¬(4 : ℕ) = 1 by decide)).symm
      | ⟨1, _⟩ => rfl
      | ⟨2, _⟩ => (if_neg (show ¬(1024 : ℕ) = 1 by decide)).symm)).trans ?_
    refine extractStridedSlice_apply _ z _ (ix3 (⟨_, h4⟩ : Fin 4) 0 j) (ix3 (stream r) 0 j) ?_
    intro a
    match a with
    | ⟨0, _⟩ => exact (if_neg hr).trans (Nat.zero_add _).symm
    | ⟨1, _⟩ => rfl
    | ⟨2, _⟩ => show j.val = 0 + j.val; omega

theorem up_apply (t : Mods) (r : Fin 17408) (j : Fin 1024) : val_main_v20 (F := Ideal) t (ix2 r j) = t (ix4 (stream r) 1 0 j) := by
  refine (spread_apply (val_main_v13 (F := Ideal) t) r j).trans ?_
  rw [val_main_v13_apply, val_main_v12_apply]
  have hj := j.isLt
  refine congrArg t (funext fun y => Fin.ext ?_)
  match y with
  | ⟨0, _⟩ => show (((stream r).val * 1 + 0) * 1024 + j.val) / 1024 = (stream r).val; omega
  | ⟨1, _⟩ => rfl
  | ⟨2, _⟩ => rfl
  | ⟨3, _⟩ => show (((stream r).val * 1 + 0) * 1024 + j.val) % 1024 = j.val; omega

theorem down_apply (t : Mods) (r : Fin 17408) (j : Fin 1024) : val_main_v32 (F := Ideal) t (ix2 r j) = t (ix4 (stream r) 0 0 j) := by
  refine (spread_apply (val_main_v25 (F := Ideal) t) r j).trans ?_
  rw [val_main_v25_apply, val_main_v24_apply]
  have hj := j.isLt
  refine congrArg t (funext fun y => Fin.ext ?_)
  match y with
  | ⟨0, _⟩ => show (((stream r).val * 1 + 0) * 1024 + j.val) / 1024 = (stream r).val; omega
  | ⟨1, _⟩ => rfl
  | ⟨2, _⟩ => rfl
  | ⟨3, _⟩ => show (((stream r).val * 1 + 0) * 1024 + j.val) % 1024 = j.val; omega

/-- A row's sum of squares. -/
theorem squares_apply (x : Rows) (r : Fin 17408) : val_main_v1 (F := Ideal) x (ix1 r) = ∑ j, x (ix2 r j) * x (ix2 r j) := by
  refine (val_main_v1_apply x (ix1 r)).trans ?_
  rw [show val_main_cst (F := Ideal) (Shape.Idx.first h_S_) = (0 : EReal) from Ideal.ofBits_zero_f32, zero_add]
  refine Finset.sum_congr rfl fun j _ => ?_
  have e : (idx_main_v1 (ix1 r) j : S17408x1024.Idx) = ix2 r j := by
    funext y
    match y with
    | ⟨0, _⟩ => rfl
    | ⟨1, _⟩ => rfl
  rw [e]
  rfl

theorem scale_apply (x : Rows) (r : Fin 17408) (j : Fin 1024) : val_main_v8 (F := Ideal) x (ix2 r j) = scale fun k => x (ix2 r k) := by
  rw [val_main_v8_apply, val_main_v7_apply, val_main_v6_apply, val_main_v4_apply, val_main_v2_apply]
  have e : (idx_main_v2 (idx_main_v8 (ix2 r j)) : S17408.Idx) = ix1 r := by
    funext y
    match y with
    | ⟨0, _⟩ => rfl
  rw [e, squares_apply]
  rfl

theorem row_apply (x : Rows) (g : Gain) (t : Mods) (r : Fin 17408) (d : Fin 1024) :
    val_main_v33 (F := Ideal) x g t (ix2 r d) = shifted (fun j => x (ix2 r j)) (g (ix2 0 d)) (t (ix4 (stream r) 1 0 d)) (t (ix4 (stream r) 0 0 d)) d := by
  rw [val_main_v33_apply, val_main_v23_apply, val_main_v22_apply, val_main_v11_apply, val_main_v9_apply, val_main_v10_apply, up_apply, down_apply, scale_apply]
  have e : (idx_main_v10 (ix2 r d) : S1x1024.Idx) = ix2 0 d := by
    funext y
    match y with
    | ⟨0, _⟩ => rfl
    | ⟨1, _⟩ => rfl
  rw [e]
  rfl

/-- The first layer's matrix among the weights. -/
theorem weights_apply (w : Weights) (d : Fin 1024) (k : Fin 6784) : val_main_v36 (F := Ideal) w (ix2 d k) = w (ix3 0 d k) := by
  show val_main_v35 (F := Ideal) w (ix2 d k) = _
  unfold val_main_v35 val_main_v34
  refine (shapeCast_apply _ _ (ix2 d k) (ix3 0 d k) ?_).trans (extractStridedSlice_apply _ w _ (ix3 0 d k) (ix3 0 d k) ?_)
  · rewrite [Shape.rowMajor_val_three, Shape.rowMajor_val_two]
    show (0 * 1024 + d.val) * 6784 + k.val = d.val * 6784 + k.val
    omega
  · intro a
    match a with
    | ⟨0, _⟩ => rfl
    | ⟨1, _⟩ => show d.val = 0 + d.val; omega
    | ⟨2, _⟩ => show k.val = 0 + k.val; omega

theorem proj_apply (x : Rows) (g : Gain) (t : Mods) (w : Weights) (r : Fin 17408) (k : Fin 6784) :
    val_main_v37 (F := Ideal) x g t w (ix2 r k) = proj x g t w r k :=
  (StackMember.dotGeneral_plain_apply none _ _ r k).trans (Finset.sum_congr rfl fun d _ => congrArg₂ (· * ·) (row_apply x g t r d) (weights_apply w d k))

/-! ## The rotation -/

/-- A rotation table's row of a row. -/
theorem table_apply (c : Turns) (r : Fin 17408) (l : Fin 128) : val_main_v46 (F := Ideal) c (ix2 r l) = c (ix2 (token r) l) := by
  unfold val_main_v46
  have hl := l.isLt
  by_cases hr : r.val < 1024
  · refine (concatenate_pair_apply_left (s₁ := S1024x128) (s₂ := S16384x128) _ _ _ _ (ix2 r l) rfl (ix2 (⟨r.val, hr⟩ : Fin 1024) l) (fun b => match b with
      | ⟨0, _⟩ => rfl
      | ⟨1, _⟩ => rfl)).trans ?_
    rw [val_main_v41_apply, val_main_v40_apply, val_main_v39_apply, val_main_v38_apply]
    refine congrArg c (funext fun y => Fin.ext ?_)
    match y with
    | ⟨0, _⟩ =>
      refine Eq.trans ?_ (if_pos hr).symm
      show (r.val * 128 + l.val) / 128 % 256 = r.val % 256
      omega
    | ⟨1, _⟩ => show (r.val * 128 + l.val) % 128 = l.val; omega
  · refine (concatenate_pair_apply_right (s₁ := S1024x128) (s₂ := S16384x128) _ _ _ _ (ix2 r l) rfl rfl (ix2 (⟨r.val - 1024, by omega⟩ : Fin 16384) l) (fun b => match b with
      | ⟨0, _⟩ => fun hb => absurd rfl hb
      | ⟨1, _⟩ => fun _ => rfl) (by show r.val - 1024 + 1024 = r.val; omega)).trans ?_
    rw [val_main_v45_apply, val_main_v44_apply, val_main_v43_apply, val_main_v42_apply]
    refine congrArg c (funext fun y => Fin.ext ?_)
    match y with
    | ⟨0, _⟩ =>
      refine Eq.trans ?_ (if_neg hr).symm
      show 256 + ((r.val - 1024) * 128 + l.val) / 128 % 4096 = 256 + (r.val - 1024) % 4096
      omega
    | ⟨1, _⟩ => show ((r.val - 1024) * 128 + l.val) % 128 = l.val; omega

/-- The same, with the columns split in two halves of 64. -/
theorem turns_apply (c : Turns) (r : Fin 17408) (a : Fin 2) (e : Fin 64) (l : Fin 128) (h : l.val = a.val * 64 + e.val) :
    val_main_v47 (F := Ideal) c (ix4 r 0 a e) = c (ix2 (token r) l) := by
  unfold val_main_v47
  refine (shapeCast_apply _ _ (ix4 r 0 a e) (ix2 r l) ?_).trans (table_apply c r l)
  rewrite [Shape.rowMajor_val_two, Shape.rowMajor_val_four]
  show r.val * 128 + l.val = ((r.val * 1 + 0) * 2 + a.val) * 64 + e.val
  omega

theorem turns2_apply (c : Turns) (r : Fin 17408) (a : Fin 2) (e : Fin 64) (l : Fin 128) (h : l.val = a.val * 64 + e.val) :
    val_main_v57 (F := Ideal) c (ix4 r 0 a e) = c (ix2 (token r) l) :=
  turns_apply c r a e l h

/-- 512 columns rotated: in each 64 of them, the first 32 with the last 32. -/
def rotate (p : FVec Ideal S17408x512 .f32) (c s : FVec Ideal S17408x1x2x64 .f32) : FVec Ideal S17408x512 .f32 :=
  shapeCast S17408x512 (concatenate S17408x4x2x64 3
    [⟨S17408x4x2x32, addf
        (mulf (extractStridedSlice S17408x4x2x32 ![0, 0, 0, 0] (shapeCast S17408x4x2x64 p shapeCasts_S17408x512_S17408x4x2x64) slices_S17408x4x2x64_S17408x4x2x32_0_0_0_0)
          (broadcastInDim S17408x4x2x32 ![0, 1, 2, 3] bcast_S17408x1x2x32_S17408x4x2x32_0_1_2_3 (extractStridedSlice S17408x1x2x32 ![0, 0, 0, 0] c slices_S17408x1x2x64_S17408x1x2x32_0_0_0_0)))
        (mulf (extractStridedSlice S17408x4x2x32 ![0, 0, 0, 32] (shapeCast S17408x4x2x64 p shapeCasts_S17408x512_S17408x4x2x64) slices_S17408x4x2x64_S17408x4x2x32_0_0_0_32)
          (broadcastInDim S17408x4x2x32 ![0, 1, 2, 3] bcast_S17408x1x2x32_S17408x4x2x32_0_1_2_3 (extractStridedSlice S17408x1x2x32 ![0, 0, 0, 0] s slices_S17408x1x2x64_S17408x1x2x32_0_0_0_0)))⟩,
     ⟨S17408x4x2x32, addf
        (mulf (extractStridedSlice S17408x4x2x32 ![0, 0, 0, 0] (shapeCast S17408x4x2x64 p shapeCasts_S17408x512_S17408x4x2x64) slices_S17408x4x2x64_S17408x4x2x32_0_0_0_0)
          (broadcastInDim S17408x4x2x32 ![0, 1, 2, 3] bcast_S17408x1x2x32_S17408x4x2x32_0_1_2_3 (extractStridedSlice S17408x1x2x32 ![0, 0, 0, 32] s slices_S17408x1x2x64_S17408x1x2x32_0_0_0_32)))
        (mulf (extractStridedSlice S17408x4x2x32 ![0, 0, 0, 32] (shapeCast S17408x4x2x64 p shapeCasts_S17408x512_S17408x4x2x64) slices_S17408x4x2x64_S17408x4x2x32_0_0_0_32)
          (broadcastInDim S17408x4x2x32 ![0, 1, 2, 3] bcast_S17408x1x2x32_S17408x4x2x32_0_1_2_3 (extractStridedSlice S17408x1x2x32 ![0, 0, 0, 32] c slices_S17408x1x2x64_S17408x1x2x32_0_0_0_32)))⟩]
    concatenates_S17408x4x2x32_S17408x4x2x32_S17408x4x2x64_d3) shapeCasts_S17408x4x2x64_S17408x512

theorem part_apply (p : FVec Ideal S17408x512 .f32) (o : ℕ) (hs) (r : Fin 17408) (h : Fin 4) (a : Fin 2) (e : Fin 32) (k : Fin 512)
    (hk : k.val = (h.val * 2 + a.val) * 64 + (o + e.val)) (ho : o + e.val < 64) :
    extractStridedSlice S17408x4x2x32 ![0, 0, 0, o] (shapeCast S17408x4x2x64 p shapeCasts_S17408x512_S17408x4x2x64) hs (ix4 r h a e) = p (ix2 r k) := by
  refine (extractStridedSlice_apply _ _ hs (ix4 r h a e) (ix4 r h a (⟨o + e.val, ho⟩ : Fin 64)) fun y => ?_).trans (shapeCast_apply _ _ _ (ix2 r k) ?_)
  · match y with
    | ⟨0, _⟩ => show r.val = 0 + r.val; omega
    | ⟨1, _⟩ => show h.val = 0 + h.val; omega
    | ⟨2, _⟩ => show a.val = 0 + a.val; omega
    | ⟨3, _⟩ => rfl
  · rewrite [Shape.rowMajor_val_two, Shape.rowMajor_val_four]
    show r.val * 512 + k.val = ((r.val * 4 + h.val) * 2 + a.val) * 64 + (o + e.val)
    omega

theorem turn_apply (c : FVec Ideal S17408x1x2x64 .f32) (o : ℕ) (hs) (r : Fin 17408) (h : Fin 4) (a : Fin 2) (e : Fin 32) (ho : o + e.val < 64) :
    broadcastInDim S17408x4x2x32 ![0, 1, 2, 3] bcast_S17408x1x2x32_S17408x4x2x32_0_1_2_3 (extractStridedSlice S17408x1x2x32 ![0, 0, 0, o] c hs) (ix4 r h a e)
      = c (ix4 r 0 a (⟨o + e.val, ho⟩ : Fin 64)) := by
  refine (broadcastInDim_apply _ _ _ (ix4 r h a e) (ix4 r 0 a e) (fun b => match b with
    | ⟨0, _⟩ => (if_neg (show ¬(17408 : ℕ) = 1 by decide)).symm
    | ⟨1, _⟩ => rfl
    | ⟨2, _⟩ => (if_neg (show ¬(2 : ℕ) = 1 by decide)).symm
    | ⟨3, _⟩ => (if_neg (show ¬(32 : ℕ) = 1 by decide)).symm)).trans (extractStridedSlice_apply _ c hs (ix4 r 0 a e) (ix4 r 0 a (⟨o + e.val, ho⟩ : Fin 64)) fun y => ?_)
  match y with
  | ⟨0, _⟩ => show r.val = 0 + r.val; omega
  | ⟨1, _⟩ => rfl
  | ⟨2, _⟩ => show a.val = 0 + a.val; omega
  | ⟨3, _⟩ => rfl

/-- A rotated column: itself times its cosine, plus the column it is paired with times its sine. -/
theorem rotate_apply (p : FVec Ideal S17408x512 .f32) (c s : FVec Ideal S17408x1x2x64 .f32) (r : Fin 17408) (h : Fin 4) (a : Fin 2) (e : Fin 64) (k k' : Fin 512)
    (hk : k.val = (h.val * 2 + a.val) * 64 + e.val) (hk' : k'.val = if e.val < 32 then k.val + 32 else k.val - 32) :
    rotate p c s (ix2 r k) = p (ix2 r k) * c (ix4 r 0 a e) + p (ix2 r k') * s (ix4 r 0 a e) := by
  unfold rotate
  refine (shapeCast_apply _ _ (ix2 r k) (ix4 r h a e) ?_).trans ?_
  · rewrite [Shape.rowMajor_val_two, Shape.rowMajor_val_four]
    show ((r.val * 4 + h.val) * 2 + a.val) * 64 + e.val = r.val * 512 + k.val
    omega
  by_cases he : e.val < 32
  · rw [if_pos he] at hk'
    refine (concatenate_pair_apply_left (s₁ := S17408x4x2x32) (s₂ := S17408x4x2x32) _ _ _ _ (ix4 r h a e) rfl (ix4 r h a (⟨e.val, he⟩ : Fin 32)) (fun b => match b with
      | ⟨0, _⟩ => rfl
      | ⟨1, _⟩ => rfl
      | ⟨2, _⟩ => rfl
      | ⟨3, _⟩ => rfl)).trans ?_
    have ee : (⟨0 + e.val, by omega⟩ : Fin 64) = e := Fin.ext (Nat.zero_add _)
    have u := turn_apply c 0 slices_S17408x1x2x64_S17408x1x2x32_0_0_0_0 r h a (⟨e.val, he⟩ : Fin 32) (by show 0 + e.val < 64; omega)
    have v := turn_apply s 0 slices_S17408x1x2x64_S17408x1x2x32_0_0_0_0 r h a (⟨e.val, he⟩ : Fin 32) (by show 0 + e.val < 64; omega)
    exact congrArg₂ (fun y z : EReal => y + z)
      (congrArg₂ (fun y z : EReal => y * z) (part_apply p 0 _ r h a ⟨e.val, he⟩ k (by show k.val = _ + (0 + e.val); omega) (by show 0 + e.val < 64; omega)) (u.trans (congrArg (fun z => c (ix4 r 0 a z)) ee)))
      (congrArg₂ (fun y z : EReal => y * z) (part_apply p 32 _ r h a ⟨e.val, he⟩ k' (by show k'.val = _ + (32 + e.val); omega) (by show 32 + e.val < 64; omega)) (v.trans (congrArg (fun z => s (ix4 r 0 a z)) ee)))
  · rw [if_neg he] at hk'
    have hl : e.val - 32 < 32 := by omega
    refine (concatenate_pair_apply_right (s₁ := S17408x4x2x32) (s₂ := S17408x4x2x32) _ _ _ _ (ix4 r h a e) rfl rfl (ix4 r h a (⟨e.val - 32, hl⟩ : Fin 32)) (fun b => match b with
      | ⟨0, _⟩ => fun _ => rfl
      | ⟨1, _⟩ => fun _ => rfl
      | ⟨2, _⟩ => fun _ => rfl
      | ⟨3, _⟩ => fun hb => absurd rfl hb) (by show e.val - 32 + 32 = e.val; omega)).trans ?_
    have ee : (⟨32 + (e.val - 32), by omega⟩ : Fin 64) = e := Fin.ext (by show 32 + (e.val - 32) = e.val; omega)
    have u := turn_apply c 32 slices_S17408x1x2x64_S17408x1x2x32_0_0_0_32 r h a (⟨e.val - 32, hl⟩ : Fin 32) (by show 32 + (e.val - 32) < 64; omega)
    have v := turn_apply s 32 slices_S17408x1x2x64_S17408x1x2x32_0_0_0_32 r h a (⟨e.val - 32, hl⟩ : Fin 32) (by show 32 + (e.val - 32) < 64; omega)
    refine (congrArg₂ (fun y z : EReal => y + z)
      (congrArg₂ (fun y z : EReal => y * z) (part_apply p 0 _ r h a ⟨e.val - 32, hl⟩ k' (by show k'.val = _ + (0 + (e.val - 32)); omega) (by show 0 + (e.val - 32) < 64; omega)) (v.trans (congrArg (fun z => s (ix4 r 0 a z)) ee)))
      (congrArg₂ (fun y z : EReal => y * z) (part_apply p 32 _ r h a ⟨e.val - 32, hl⟩ k (by show k.val = _ + (32 + (e.val - 32)); omega) (by show 32 + (e.val - 32) < 64; omega)) (u.trans (congrArg (fun z => c (ix4 r 0 a z)) ee)))).trans (add_comm _ _)

/-- Rotated columns of the projection, `o` the first of the 512. -/
theorem turned_apply (c s : Turns) (p : FVec Ideal S17408x512 .f32) (q : Fin 6784 → EReal) (o : ℕ) (ho : o = 0 ∨ o = 512) (r : Fin 17408)
    (hp : ∀ (l : Fin 512) (k : Fin 6784), k.val = o + l.val → p (ix2 r l) = q k) (l : Fin 512) (k : Fin 6784) (hk : k.val = o + l.val) :
    rotate p (val_main_v47 (F := Ideal) c) (val_main_v57 (F := Ideal) s) (ix2 r l) = turned q (fun j => c (ix2 (token r) j)) (fun j => s (ix2 (token r) j)) k := by
  have hl := l.isLt
  have h32 : (if l.val % 64 < 32 then l.val + 32 else l.val - 32) < 512 := by split_ifs <;> omega
  refine (rotate_apply p _ _ r ⟨l.val / 128, by omega⟩ ⟨l.val / 64 % 2, by omega⟩ ⟨l.val % 64, by omega⟩ l ⟨_, h32⟩ (by show l.val = (l.val / 128 * 2 + l.val / 64 % 2) * 64 + l.val % 64; omega) rfl).trans ?_
  have e : k.val % 128 = l.val / 64 % 2 * 64 + l.val % 64 := by omega
  refine congrArg₂ (fun y z : EReal => y + z) (congrArg₂ (fun y z : EReal => y * z) (hp l k hk) (turns_apply c r _ _ ⟨k.val % 128, by omega⟩ e))
    (congrArg₂ (fun y z : EReal => y * z) (hp ⟨_, h32⟩ (other k) ?_) (turns2_apply s r _ _ ⟨k.val % 128, by omega⟩ e))
  show (if k.val % 64 < 32 then k.val + 32 else k.val - 32) = o + (if l.val % 64 < 32 then l.val + 32 else l.val - 32)
  split_ifs <;> omega

/-! ## The result -/

/-- The three runs of columns the reference joins. -/
abbrev pieces (x : Rows) (g : Gain) (t : Mods) (c s : Turns) (w : Weights) : List ((s : Shape) × (s.Idx → Elt Ideal .f32)) :=
  [⟨S17408x512, val_main_v79 (F := Ideal) x g t c s w⟩, ⟨S17408x512, val_main_v99 (F := Ideal) x g t c s w⟩, ⟨S17408x5760, val_main_v100 (F := Ideal) x g t w⟩]

/-- The reference's array is the specified one. -/
theorem result_eq (x : Rows) (g : Gain) (t : Mods) (c s : Turns) (w : Weights) : val_main_v102 (F := Ideal) x g t c s w = result x g t c s w := by
  funext i
  obtain ⟨r, k, rfl⟩ : ∃ (r : Fin 17408) (k : Fin 6784), i = ix2 r k := ⟨i 0, i 1, by
    funext y
    match y with
    | ⟨0, _⟩ => rfl
    | ⟨1, _⟩ => rfl⟩
  have hk := k.isLt
  show val_main_v101 (F := Ideal) x g t c s w (ix2 r k) = finish (proj x g t w r) (fun l => c (ix2 (token r) l)) (fun l => s (ix2 (token r) l)) k
  unfold val_main_v101 finish
  by_cases h1 : k.val < 512
  · refine Eq.trans ?_ (if_pos h1).symm
    refine (concatenate_apply_piece (1 : Fin S17408x6784.rank) (pieces x g t c s w) concatenates_S17408x512_S17408x512_S17408x5760_S17408x6784_d1 (ix2 r k) 0 (by decide : 0 < 3) S17408x512 (val_main_v79 (F := Ideal) x g t c s w) rfl rfl 0 rfl (ix2 r (⟨k.val, h1⟩ : Fin 512)) (fun b => match b with
      | ⟨0, _⟩ => fun _ => rfl
      | ⟨1, _⟩ => fun hb => absurd rfl hb) (by show 0 + k.val = k.val; omega)).trans ?_
    refine congrArg (fun z : EReal => z * Ideal.ofBits .f32 0x3DB504F3#32) ?_
    refine turned_apply c s (val_main_v58 (F := Ideal) x g t w) (proj x g t w r) 0 (.inl rfl) r (fun l k' h' => ?_) ⟨k.val, h1⟩ k (by show k.val = 0 + k.val; omega)
    rw [← proj_apply, val_main_v58_apply]
    refine congrArg _ (funext fun y => Fin.ext ?_)
    match y with
    | ⟨0, _⟩ => rfl
    | ⟨1, _⟩ => show l.val = k'.val; omega
  refine Eq.trans ?_ (if_neg h1).symm
  by_cases h2 : k.val < 1024
  · refine Eq.trans ?_ (if_pos h2).symm
    refine (concatenate_apply_piece (1 : Fin S17408x6784.rank) (pieces x g t c s w) concatenates_S17408x512_S17408x512_S17408x5760_S17408x6784_d1 (ix2 r k) 1 (by decide : 1 < 3) S17408x512 (val_main_v99 (F := Ideal) x g t c s w) rfl rfl 512 rfl (ix2 r (⟨k.val - 512, by omega⟩ : Fin 512)) (fun b => match b with
      | ⟨0, _⟩ => fun _ => rfl
      | ⟨1, _⟩ => fun hb => absurd rfl hb) (by show 512 + (k.val - 512) = k.val; omega)).trans ?_
    refine turned_apply c s (val_main_v80 (F := Ideal) x g t w) (proj x g t w r) 512 (.inr rfl) r (fun l k' h' => ?_) ⟨k.val - 512, by omega⟩ k (by show k.val = 512 + (k.val - 512); omega)
    rw [← proj_apply, val_main_v80_apply]
    refine congrArg _ (funext fun y => Fin.ext ?_)
    match y with
    | ⟨0, _⟩ => rfl
    | ⟨1, _⟩ => exact h'.symm
  · refine Eq.trans ?_ (if_neg h2).symm
    refine (concatenate_apply_piece (1 : Fin S17408x6784.rank) (pieces x g t c s w) concatenates_S17408x512_S17408x512_S17408x5760_S17408x6784_d1 (ix2 r k) 2 (by decide : 2 < 3) S17408x5760 (val_main_v100 (F := Ideal) x g t w) rfl rfl 1024 rfl (ix2 r (⟨k.val - 1024, by omega⟩ : Fin 5760)) (fun b => match b with
      | ⟨0, _⟩ => fun _ => rfl
      | ⟨1, _⟩ => fun hb => absurd rfl hb) (by show 1024 + (k.val - 1024) = k.val; omega)).trans ?_
    rw [← proj_apply, val_main_v100_apply]
    refine congrArg _ (funext fun y => Fin.ext ?_)
    match y with
    | ⟨0, _⟩ => rfl
    | ⟨1, _⟩ => show 1024 + (k.val - 1024) = k.val; omega

end Cert.ProjectionReferenceIdeal.RefOut
end
-- ==== Proof.ProjectionSame.lean ====
/- The input projection's call: its claims, from the generated frames, the kernel's array (Proof/ProjectionValue.lean)
   and the reference's (Proof/ProjectionRefOut.lean). -/
module

public import proofs.«01_k».proof.Defs
public import proofs.«01_k».proof.Proof.Gen.Projection
public import proofs.«01_k».proof.Proof.Gen.Projection.Frame
public import proofs.«01_k».proof.Proof.Gen.ProjectionIdeal
public import proofs.«01_k».proof.Proof.Gen.ProjectionReferenceIdeal
public import proofs.«01_k».proof.Proof.Gen.ProjectionReferenceIdeal.Run
public import proofs.«01_k».proof.Proof.ProjectionValue
public import proofs.«01_k».proof.Proof.ProjectionRefOut

@[expose] public section

noncomputable section

namespace Cert.ProjectionSame

open Idealize.ShloMosaic Idealize.SL.Sem Idealize.ShloMosaic.TcCoe

/-- The call as printed runs, keeps its arguments, and leaves every counter at zero. -/
theorem frame : Cert.quiescent_Projection := fun m g _ => Cert.Projection.Gen.frame m g

/-- So does its idealized form. -/
theorem frame_ideal : Cert.quiescent_ProjectionIdeal := fun m g _ => Cert.ProjectionIdeal.Gen.frame m g

/-- And its reference, which declares no counter. -/
theorem frame_reference : Cert.quiescent_ProjectionReferenceIdeal := fun m g _ =>
  (θ_run Cert.ProjectionReferenceIdeal.defs _ _).mono (fun r h => ⟨fun c => (h c).2, Idealize.ShloMosaic.sem_eq_zero_of_no_sems (by decide) r.2⟩)
    (Cert.ProjectionReferenceIdeal.Value.run (F := Ideal) m g)

/-- The specified array on equal arguments. -/
theorem result_congr {x0 y0 : ProjectionSpec.Rows} {x1 y1 : ProjectionSpec.Gain} {x2 y2 : ProjectionSpec.Mods} {x3 y3 x4 y4 : ProjectionSpec.Turns} {x5 y5 : ProjectionSpec.Weights}
    (h : x0 = y0 ∧ x1 = y1 ∧ x2 = y2 ∧ x3 = y3 ∧ x4 = y4 ∧ x5 = y5) :
    ProjectionSpec.result x0 x1 x2 x3 x4 x5 = ProjectionSpec.result y0 y1 y2 y3 y4 y5 := by
  obtain ⟨rfl, rfl, rfl, rfl, rfl, rfl⟩ := h
  rfl

/-- The kernel and the reference end with the same array. -/
theorem same : Cert.algebraic_ProjectionIdeal_ProjectionReferenceIdeal := by
  intro m g m' g' _ hargs
  refine ⟨fun c => Cert.ProjectionIdeal.Outcome.spec m c, Cert.ProjectionIdeal.Outcome.run m g, ?_⟩
  refine (θ_run Cert.ProjectionReferenceIdeal.defs _ _).mono (fun r h c => ⟨(h c).1.trans ?_, (h c).2⟩) (Cert.ProjectionReferenceIdeal.Value.run (F := Ideal) m' g')
  refine (Cert.ProjectionReferenceIdeal.Read.val_main_v102_eq _ _).trans ((Cert.ProjectionReferenceIdeal.RefOut.result_eq _ _ _ _ _ _).trans ?_)
  exact result_congr (hargs c)

end Cert.ProjectionSame

end
-- ==== Proof.MergeBody.lean ====
/- What a grid point of the merge's kernel leaves in its two output blocks. -/
module

public import proofs.«01_k».proof.Proof.Gen.MergeIdeal.Frame
public import Idealize.ShloMosaic.Lib.VecWindow
public import Idealize.ShloMosaic.Lib.Pipeline.Value

@[expose] public section

set_option maxRecDepth 16384

noncomputable section

namespace Cert.MergeIdeal.Body

open Cert.MergeIdeal Cert.MergeIdeal.Gen
open Idealize.ShloMosaic Idealize.ShloMosaic.TcCoe Idealize.SL.Sem

variable {F : FTy → Type} [FloatOps F]

variable (x0 x1 x2 x3 x4 : Vec F S256x1024 .bf16) (x5 : Vec F S256x512 .bf16) (x6 : Vec F S256x1024 .f32) (x7 : Vec F S1x1024 .f32) (x8 : Vec F S1x1024x1024 .bf16)
  (x9 : Vec F S1x512x1024 .bf16) (x10 : Vec F S1x1024x1024 .bf16) (x11 : Vec F S1x1024 .f32) (x12 : Vec F S1x1x1x1024 .f32) (x13 : Vec F S1x1024 .f32)
  (x14 x15 : Vec F S1x1x1x1024 .f32)

/-- The block's merged rows. -/
def rows : FVec F S256x1024 .f32 :=
  k0_pay8 (k0_pay3 x0 x1) (k0_pay4 x0 x1) (k0_pay5 x0 x1) (k0_pay6 x0 x1) (k0_pay7 x0 x1) x2 x7 x3 x8 x4 x5 x9 x10

variable (c : Dev nD) (i : grid0.Coords) (a1 : Memref sig .tc .vmem S256x1024 .bf16) (w1 : a1.IsWhole) (a2 : Memref sig .tc .vmem S256x1024 .bf16) (w2 : a2.IsWhole)
  (a3 : Memref sig .tc .vmem S256x1024 .bf16) (w3 : a3.IsWhole) (a4 : Memref sig .tc .vmem S256x1024 .bf16) (w4 : a4.IsWhole) (a5 : Memref sig .tc .vmem S256x1024 .bf16) (w5 : a5.IsWhole)
  (a6 : Memref sig .tc .vmem S256x512 .bf16) (w6 : a6.IsWhole) (a7 : Memref sig .tc .vmem S256x1024 .f32) (w7 : a7.IsWhole) (a8 : Memref sig .tc .vmem S1x1024 .f32) (w8 : a8.IsWhole)
  (a9 : Memref sig .tc .vmem S1x1024x1024 .bf16) (w9 : a9.IsWhole) (a10 : Memref sig .tc .vmem S1x512x1024 .bf16) (w10 : a10.IsWhole) (a11 : Memref sig .tc .vmem S1x1024x1024 .bf16) (w11 : a11.IsWhole)
  (a12 : Memref sig .tc .vmem S1x1024 .f32) (w12 : a12.IsWhole) (a13 : Memref sig .tc .vmem S1x1x1x1024 .f32) (w13 : a13.IsWhole) (a14 : Memref sig .tc .vmem S1x1024 .f32) (w14 : a14.IsWhole)
  (a15 : Memref sig .tc .vmem S1x1x1x1024 .f32) (w15 : a15.IsWhole) (a16 : Memref sig .tc .vmem S1x1x1x1024 .f32) (w16 : a16.IsWhole) (a17 : Memref sig .tc .vmem S256x1024 .f32) (w17 : a17.IsWhole)
  (a18 : Memref sig .tc .vmem S256x1024 .bf16) (w18 : a18.IsWhole)

theorem residual_eq :
    out0_A_16 c i a1 w1 a2 w2 a3 w3 a4 w4 a5 w5 a6 w6 a7 w7 a8 w8 a9 w9 a10 w10 a11 w11 a12 w12 a13 w13 a14 w14 a15 w15 a16 w16 a17 w17 a18 w18
      x0 x1 x2 x3 x4 x5 x6 x7 x8 x9 x10 x11 x12 x13 x14 x15 = k0_pay9 (rows x0 x1 x2 x3 x4 x5 x7 x8 x9 x10) x6 x12 x11 := by
  unfold out0_A_16
  unfold kernelRun0_A
  dsimp only
  sl_unfold_words
  refine (View.read_writes_full _ _ _ _ _).trans ?_
  simp only [View.readAt_eq_ld, Memref.IsWhole.read_unread]
  rw [View.ld_unit_zero (off := ![0, 0]) (by decide) _ x0, View.ld_unit_zero (off := ![0, 0]) (by decide) _ x1,
    View.ld_unit_zero (off := ![0, 0]) (by decide) _ x2, View.ld_unit_zero (off := ![0, 0]) (by decide) _ x3,
    View.ld_unit_zero (off := ![0, 0]) (by decide) _ x4, View.ld_unit_zero (off := ![0, 0]) (by decide) _ x5,
    View.ld_unit_zero (off := ![0, 0]) (by decide) _ x6, View.ld_unit_zero (off := ![0, 0]) (by decide) _ x7,
    View.ld_unit_zero (off := ![0, 0, 0]) (by decide) _ x8, View.ld_unit_zero (off := ![0, 0, 0]) (by decide) _ x9,
    View.ld_unit_zero (off := ![0, 0, 0]) (by decide) _ x10, View.ld_unit_zero (off := ![0, 0]) (by decide) _ x11,
    View.ld_unit_zero (off := ![0, 0, 0, 0]) (by decide) _ x12]
  rfl

theorem input_eq :
    out0_A_17 c i a1 w1 a2 w2 a3 w3 a4 w4 a5 w5 a6 w6 a7 w7 a8 w8 a9 w9 a10 w10 a11 w11 a12 w12 a13 w13 a14 w14 a15 w15 a16 w16 a17 w17 a18 w18
      x0 x1 x2 x3 x4 x5 x6 x7 x8 x9 x10 x11 x12 x13 x14 x15 = k0_pay1 (k0_pay10 (rows x0 x1 x2 x3 x4 x5 x7 x8 x9 x10) x6 x12 x11 x13) (k0_pay11 x15) x14 := by
  unfold out0_A_17
  unfold kernelRun0_A
  dsimp only
  sl_unfold_words
  refine (View.read_writes_full _ _ _ _ _).trans ?_
  simp only [View.readAt_eq_ld, Memref.IsWhole.read_unread]
  rw [View.ld_unit_zero (off := ![0, 0]) (by decide) _ x0, View.ld_unit_zero (off := ![0, 0]) (by decide) _ x1,
    View.ld_unit_zero (off := ![0, 0]) (by decide) _ x2, View.ld_unit_zero (off := ![0, 0]) (by decide) _ x3,
    View.ld_unit_zero (off := ![0, 0]) (by decide) _ x4, View.ld_unit_zero (off := ![0, 0]) (by decide) _ x5,
    View.ld_unit_zero (off := ![0, 0]) (by decide) _ x6, View.ld_unit_zero (off := ![0, 0]) (by decide) _ x7,
    View.ld_unit_zero (off := ![0, 0, 0]) (by decide) _ x8, View.ld_unit_zero (off := ![0, 0, 0]) (by decide) _ x9,
    View.ld_unit_zero (off := ![0, 0, 0]) (by decide) _ x10, View.ld_unit_zero (off := ![0, 0]) (by decide) _ x11,
    View.ld_unit_zero (off := ![0, 0, 0, 0]) (by decide) _ x12, View.ld_unit_zero (off := ![0, 0]) (by decide) _ x13,
    View.ld_unit_zero (off := ![0, 0, 0, 0]) (by decide) _ x14, View.ld_unit_zero (off := ![0, 0, 0, 0]) (by decide) _ x15]
  rfl

end Cert.MergeIdeal.Body
end
-- ==== Proof.MergeSpec.lean ====
module

public import Idealize.ShloMosaic.PureOps.Ideal
public import Idealize.ShloMosaic.PureOps.Ideal.Laws
public import Idealize.ShloMosaic.Lib.ValueIdx

@[expose] public section

noncomputable section

namespace Cert.MergeSpec

open Idealize.ShloMosaic Idealize.ShloMosaic.ValueIdx

/-! ## The merge of the mixers, as a function of the arguments

The two linear mixers' outputs are added, normalised head by head, scaled by the gain and gated; their projection and the
neighbourhood attention's are each weighted by a gate and added; the sum is projected once more, normalised, gated by its
stream's modulation and added to the residual. The second result is that residual, normalised and modulated for the
feed-forward that follows. -/

abbrev Rows := (⟨2, ![17408, 1024]⟩ : Shape).Idx → EReal
abbrev Gates := (⟨2, ![17408, 6784]⟩ : Shape).Idx → EReal
abbrev Near := (⟨2, ![17408, 512]⟩ : Shape).Idx → EReal
abbrev Gain := (⟨2, ![1, 1024]⟩ : Shape).Idx → EReal
abbrev Square := (⟨3, ![4, 1024, 1024]⟩ : Shape).Idx → EReal
abbrev Tall := (⟨3, ![4, 512, 1024]⟩ : Shape).Idx → EReal
abbrev Mods := (⟨4, ![8, 6, 1, 1024]⟩ : Shape).Idx → EReal

/-- A line of 1024 entries. -/
abbrev Line := Fin 1024 → EReal

/-- The head a column belongs to: four heads of 256. -/
def head (j : Fin 1024) : Fin 4 := ⟨j.val / 256, by omega⟩

/-- A head's columns. -/
def lane (h : Fin 4) (l : Fin 256) : Fin 1024 := ⟨256 * h.val + l.val, by omega⟩

/-- One over the root of a head's mean square, the mean raised by the small constant. -/
def headScale (o : Line) (h : Fin 4) : EReal :=
  Ideal.rsqrt (Ideal.div (∑ l, o (lane h l) * o (lane h l)) (Ideal.ofBits .f32 0x43800000#32) + Ideal.ofBits .f32 0x358637BD#32)

/-- One over the root of a row's mean square, the mean raised by the small constant. -/
def scale (z : Line) : EReal :=
  Ideal.rsqrt (Ideal.div (∑ j, z j * z j) (Ideal.ofBits .f32 0x44800000#32) + Ideal.ofBits .f32 0x358637BD#32)

/-- The linear mixers' row after the norm, the gain and the gate. -/
def gated (o g r : Line) : Line := fun j => o j * headScale o (head j) * g j * (r j * Ideal.logistic (r j))

/-- A line times a matrix. -/
def times {n : ℕ} (s : Fin n → EReal) (w : Fin n → Line) : Line := fun j => ∑ d, s d * w d j

/-- Two lines, each weighted by its gate. -/
def mixed (a b u v : Line) : Line := fun j => Ideal.logistic (a j) * u j + Ideal.logistic (b j) * v j

/-- A row of the mixers, merged and projected. -/
def merged (o g r a b : Line) (n : Fin 512 → EReal) (wb : Fin 1024 → Line) (wn : Fin 512 → Line) (wo : Fin 1024 → Line) : Line :=
  times (mixed a b (times (gated o g r) wb) (times n wn)) wo

/-- A row of the residual, with the normalised row `z` added. -/
def kept (x z p t : Line) : Line := fun j => x j + t j * (z j * scale z * p j)

/-- A row for the feed-forward: normalised and modulated. -/
def next (x q up down : Line) : Line := fun j => x j * scale x * q j * (Ideal.ofBits .f32 0x3F800000#32 + up j) + down j

/-- The modulation's stream of a row: the first 1024 rows belong to the context, the rest to four clips of 4096. -/
def stream (r : Fin 17408) : Fin 8 := ⟨if r.val < 1024 then 4 else (r.val - 1024) / 4096, by split_ifs <;> omega⟩

/-- A column of the projected gates, counted from where its gate starts. -/
def column (o : ℕ) (h : o + 1024 ≤ 6784) (j : Fin 1024) : Fin 6784 := ⟨o + j.val, by omega⟩

/-- The merged rows, of the arguments. -/
def mergedRow (f b : Rows) (y : Gates) (n : Near) (g : Gain) (wb : Square) (wn : Tall) (wo : Square) (r : Fin 17408) : Line :=
  merged (fun j => f (ix2 r j) + b (ix2 r j)) (fun j => g (ix2 0 j)) (fun j => y (ix2 r (column 2048 (by decide) j))) (fun j => y (ix2 r (column 3072 (by decide) j)))
    (fun j => y (ix2 r (column 4096 (by decide) j))) (fun d => n (ix2 r d)) (fun d j => wb (ix3 0 d j)) (fun d j => wn (ix3 0 d j)) (fun d j => wo (ix3 0 d j))

/-- The residual's rows, of the arguments. -/
def keptRow (f b : Rows) (y : Gates) (n : Near) (x : Rows) (g : Gain) (wb : Square) (wn : Tall) (wo : Square) (p : Gain) (t : Mods) (r : Fin 17408) : Line :=
  kept (fun j => x (ix2 r j)) (mergedRow f b y n g wb wn wo r) (fun j => p (ix2 0 j)) fun j => t (ix4 (stream r) 2 0 j)

/-- The first result: the residual. -/
def residual (f b : Rows) (y : Gates) (n : Near) (x : Rows) (g : Gain) (wb : Square) (wn : Tall) (wo : Square) (p : Gain) (t : Mods) : Rows := fun i =>
  keptRow f b y n x g wb wn wo p t (i 0) (i 1)

/-- The second result: the feed-forward's input. -/
def input (f b : Rows) (y : Gates) (n : Near) (x : Rows) (g : Gain) (wb : Square) (wn : Tall) (wo : Square) (p q : Gain) (t : Mods) : Rows := fun i =>
  next (keptRow f b y n x g wb wn wo p t (i 0)) (fun j => q (ix2 0 j)) (fun j => t (ix4 (stream (i 0)) 4 0 j)) (fun j => t (ix4 (stream (i 0)) 3 0 j)) (i 1)

end Cert.MergeSpec
end
-- ==== Proof.MergeValue.lean ====
/- The merge's kernel ends with the two specified arrays: each grid point fills its 256 rows of both. -/
module

public import proofs.«01_k».proof.Proof.MergeBody
public import proofs.«01_k».proof.Proof.MergeSpec
public import proofs.«01_k».proof.Proof.Gen.MergeIdeal.Value
public import Idealize.ShloMosaic.Lib.IdealHost
public import Idealize.ShloMosaic.Lib.MatmulPlain
public import Idealize.ShloMosaic.Lib.KernelVsHost
public import Idealize.ShloMosaic.Lib.Pipeline.Value

@[expose] public section

set_option maxRecDepth 16384

noncomputable section

namespace Cert.MergeIdeal.Outcome

open Cert.MergeIdeal Cert.MergeIdeal.Gen Cert.MergeIdeal.Value Cert.MergeIdeal.Body Cert.MergeSpec
open Idealize.ShloMosaic Idealize.ShloMosaic.TcCoe Idealize.SL.Sem Idealize.ShloMosaic.ValueIdx

/-! ## The norms at an index -/

/-- A row's sum of squares, as the body takes it. -/
theorem squares_apply (y : FVec Ideal S256x1024 .f32) (a : Fin 256) :
    multiReduction .add [1] S256 (mulf y y) 0x00000000#32 reduces_S256x1024_S256 (.inl rfl) rfl (ix1 a) = ∑ j : Fin 1024, y (ix2 a j) * y (ix2 a j) := by
  refine (Ideal.multiReduction_add_single (mulf y y) _ reduces_S256x1024_S256 _ _ (ix1 a)).trans (Finset.sum_congr rfl fun j _ => ?_)
  have e : (reduces_S256x1024_S256.lift (ix1 a) j : S256x1024.Idx) = ix2 a j := by
    funext b
    match b with
    | ⟨0, _⟩ => rfl
    | ⟨1, _⟩ => rfl
  rw [e]
  rfl

theorem lane_apply (t : FVec Ideal S1x1x1x1024 .f32) (d : Fin 1024) : shapeCast S1x1024 t shapeCasts_S1x1x1x1024_S1x1024 (ix2 0 d) = t (ix4 0 0 0 d) :=
  shapeCast_apply t _ (ix2 0 d) (ix4 0 0 0 d) (by
    rewrite [Shape.rowMajor_val_four, Shape.rowMajor_val_two]
    show ((0 * 1 + 0) * 1 + 0) * 1024 + d.val = 0 * 1024 + d.val
    omega)

theorem down_apply (t : FVec Ideal S1x1024 .f32) (a : Fin 256) (d : Fin 1024) : broadcastTo S256x1024 t broadcasts_S1x1024_S256x1024 (ix2 a d) = t (ix2 0 d) :=
  broadcastTo_apply _ _ (ix2 a d) (ix2 0 d) fun b => match b with
    | ⟨0, _⟩ => rfl
    | ⟨1, _⟩ => (if_neg (show ¬(1024 : ℕ) = 1 by decide)).symm

/-- A head's sum of squares, as the body takes it. -/
theorem head_squares_apply (z : FVec Ideal S256x256 .f32) (a : Fin 256) :
    multiReduction .add [1] S256 (mulf z z) 0x00000000#32 reduces_S256x256_S256 (.inl rfl) rfl (ix1 a) = ∑ l : Fin 256, z (ix2 a l) * z (ix2 a l) := by
  refine (Ideal.multiReduction_add_single (mulf z z) _ reduces_S256x256_S256 _ _ (ix1 a)).trans (Finset.sum_congr rfl fun j _ => ?_)
  have e : (reduces_S256x256_S256.lift (ix1 a) j : S256x256.Idx) = ix2 a j := by
    funext b
    match b with
    | ⟨0, _⟩ => rfl
    | ⟨1, _⟩ => rfl
  rw [e]
  rfl

/-- A head's columns, normalised. -/
def part (z : FVec Ideal S256x256 .f32) : FVec Ideal S256x256 .f32 :=
  mulf z (broadcastTo S256x256 (rsqrt (addf (divf (shapeCast S256x1 (multiReduction .add [1] S256 (mulf z z) 0x00000000#32 reduces_S256x256_S256 (.inl rfl) rfl) shapeCasts_S256_S256x1)
    (broadcast S256x1 (Scalar.ofBits .f32 0x43800000#32))) (broadcast S256x1 (Scalar.ofBits .f32 0x358637BD#32)))) broadcasts_S256x1_S256x256)

theorem part_apply (z : FVec Ideal S256x256 .f32) (o : Line) (h : Fin 4) (a l : Fin 256) (hz : ∀ l, z (ix2 a l) = o (lane h l)) :
    part z (ix2 a l) = o (lane h l) * headScale o h := by
  unfold part headScale
  refine congrArg₂ (fun y z : EReal => y * z) (hz l) ?_
  refine (broadcastTo_apply _ _ (ix2 a l) (ix2 a 0) fun b => ?_).trans ?_
  · match b with
    | ⟨0, _⟩ => exact (if_neg (show ¬(256 : ℕ) = 1 by decide)).symm
    | ⟨1, _⟩ => rfl
  · refine congrArg (fun z : EReal => Ideal.rsqrt (Ideal.div z (Ideal.ofBits .f32 0x43800000#32) + Ideal.ofBits .f32 0x358637BD#32)) ?_
    refine (shapeCast_apply _ shapeCasts_S256_S256x1 (ix2 a 0) (ix1 a) ?_).trans ((head_squares_apply z a).trans (Finset.sum_congr rfl fun l _ => by rw [hz l]))
    rewrite [Shape.rowMajor_val_one, Shape.rowMajor_val_two]
    show a.val = a.val * 1 + 0
    omega

/-- A line times the reciprocal root of its mean square. -/
theorem scaled_apply (z : FVec Ideal S256x1024 .f32) (a : Fin 256) (d : Fin 1024) :
    mulf z (broadcastTo S256x1024 (rsqrt (addf (divf (shapeCast S256x1 (multiReduction .add [1] S256 (mulf z z) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024) (ix2 a d)
      = z (ix2 a d) * scale fun j => z (ix2 a j) := by
  unfold scale
  refine congrArg (fun y : EReal => z (ix2 a d) * y) ?_
  refine (broadcastTo_apply _ _ (ix2 a d) (ix2 a 0) fun b => ?_).trans ?_
  · match b with
    | ⟨0, _⟩ => exact (if_neg (show ¬(256 : ℕ) = 1 by decide)).symm
    | ⟨1, _⟩ => rfl
  · refine congrArg (fun z : EReal => Ideal.rsqrt (Ideal.div z (Ideal.ofBits .f32 0x44800000#32) + Ideal.ofBits .f32 0x358637BD#32)) ?_
    refine (shapeCast_apply _ shapeCasts_S256_S256x1 (ix2 a 0) (ix1 a) ?_).trans (squares_apply z a)
    rewrite [Shape.rowMajor_val_one, Shape.rowMajor_val_two]
    show a.val = a.val * 1 + 0
    omega

/-! ## The merged rows at an index -/

section Payloads

variable (x0 x1 x2 x3 x4 : FVec Ideal S256x1024 .bf16) (x5 : FVec Ideal S256x512 .bf16) (x6 : FVec Ideal S256x1024 .f32) (x7 : FVec Ideal S1x1024 .f32)
  (x8 : FVec Ideal S1x1024x1024 .bf16) (x9 : FVec Ideal S1x512x1024 .bf16) (x10 : FVec Ideal S1x1024x1024 .bf16) (x11 : FVec Ideal S1x1024 .f32)
  (x12 : FVec Ideal S1x1x1x1024 .f32) (x13 : FVec Ideal S1x1024 .f32) (x14 x15 : FVec Ideal S1x1x1x1024 .f32)

/-- The four heads, each normalised. -/
abbrev parts : List ((s : Shape) × (s.Idx → Elt Ideal .f32)) :=
  [⟨S256x256, part (extractStridedSlice S256x256 ![0, 0] (k0_pay2 (F := Ideal) x0 x1) slices_S256x1024_o0_0_S256x256)⟩,
   ⟨S256x256, part (extractStridedSlice S256x256 ![0, 256] (k0_pay2 (F := Ideal) x0 x1) slices_S256x1024_o0_256_S256x256)⟩,
   ⟨S256x256, part (extractStridedSlice S256x256 ![0, 512] (k0_pay2 (F := Ideal) x0 x1) slices_S256x1024_o0_512_S256x256)⟩,
   ⟨S256x256, part (extractStridedSlice S256x256 ![0, 768] (k0_pay2 (F := Ideal) x0 x1) slices_S256x1024_o0_768_S256x256)⟩]

theorem head_apply (h : Fin 4) (hs) (a l : Fin 256) :
    (extractStridedSlice S256x256 ![0, 256 * h.val] (k0_pay2 (F := Ideal) x0 x1) hs : S256x256.Idx → EReal) (ix2 a l) = x0 (ix2 a (lane h l)) + x1 (ix2 a (lane h l)) :=
  extractStridedSlice_apply _ (k0_pay2 (F := Ideal) x0 x1) hs (ix2 a l) (ix2 a (lane h l)) fun b => match b with
    | ⟨0, _⟩ => (Nat.zero_add _).symm
    | ⟨1, _⟩ => rfl

theorem normed_apply (a : Fin 256) (j : Fin 1024) :
    concatenate S256x1024 1 (parts x0 x1) concatenates_S256x256_S256x256_S256x256_S256x256_S256x1024_d1 (ix2 a j)
      = (x0 (ix2 a j) + x1 (ix2 a j)) * headScale (fun k => x0 (ix2 a k) + x1 (ix2 a k)) (head j) := by
  have hj := j.isLt
  have key : ∀ (h : Fin 4) (hs) (l : Fin 256), 256 * h.val + l.val = j.val →
      (part (extractStridedSlice S256x256 ![0, 256 * h.val] (k0_pay2 (F := Ideal) x0 x1) hs) : S256x256.Idx → EReal) (ix2 a l)
        = (x0 (ix2 a j) + x1 (ix2 a j)) * headScale (fun k => x0 (ix2 a k) + x1 (ix2 a k)) (head j) := by
    intro h hs l e
    obtain rfl : lane h l = j := Fin.ext e
    have hl := l.isLt
    have eh : head (lane h l) = h := Fin.ext (by show (256 * h.val + l.val) / 256 = h.val; omega)
    rw [eh]
    exact part_apply _ (fun k => x0 (ix2 a k) + x1 (ix2 a k)) h a l fun l => head_apply x0 x1 h hs a l
  by_cases h0 : j.val < 256
  · refine (concatenate_apply_piece (1 : Fin S256x1024.rank) (parts x0 x1) concatenates_S256x256_S256x256_S256x256_S256x256_S256x1024_d1 (ix2 a j) 0 (by decide : 0 < 4) S256x256 _ rfl rfl 0 rfl (ix2 a (⟨j.val - 0, by omega⟩ : Fin 256)) (fun b => match b with
      | ⟨0, _⟩ => fun _ => rfl
      | ⟨1, _⟩ => fun hb => absurd rfl hb) (by show 0 + (j.val - 0) = j.val; omega)).trans ?_
    exact key 0 slices_S256x1024_o0_0_S256x256 _ (by show 0 + (j.val - 0) = j.val; omega)
  by_cases h1 : j.val < 512
  · refine (concatenate_apply_piece (1 : Fin S256x1024.rank) (parts x0 x1) concatenates_S256x256_S256x256_S256x256_S256x256_S256x1024_d1 (ix2 a j) 1 (by decide : 1 < 4) S256x256 _ rfl rfl 256 rfl (ix2 a (⟨j.val - 256, by omega⟩ : Fin 256)) (fun b => match b with
      | ⟨0, _⟩ => fun _ => rfl
      | ⟨1, _⟩ => fun hb => absurd rfl hb) (by show 256 + (j.val - 256) = j.val; omega)).trans ?_
    exact key 1 slices_S256x1024_o0_256_S256x256 _ (by show 256 + (j.val - 256) = j.val; omega)
  by_cases h2 : j.val < 768
  · refine (concatenate_apply_piece (1 : Fin S256x1024.rank) (parts x0 x1) concatenates_S256x256_S256x256_S256x256_S256x256_S256x1024_d1 (ix2 a j) 2 (by decide : 2 < 4) S256x256 _ rfl rfl 512 rfl (ix2 a (⟨j.val - 512, by omega⟩ : Fin 256)) (fun b => match b with
      | ⟨0, _⟩ => fun _ => rfl
      | ⟨1, _⟩ => fun hb => absurd rfl hb) (by show 512 + (j.val - 512) = j.val; omega)).trans ?_
    exact key 2 slices_S256x1024_o0_512_S256x256 _ (by show 512 + (j.val - 512) = j.val; omega)
  · refine (concatenate_apply_piece (1 : Fin S256x1024.rank) (parts x0 x1) concatenates_S256x256_S256x256_S256x256_S256x256_S256x1024_d1 (ix2 a j) 3 (by decide : 3 < 4) S256x256 _ rfl rfl 768 rfl (ix2 a (⟨j.val - 768, by omega⟩ : Fin 256)) (fun b => match b with
      | ⟨0, _⟩ => fun _ => rfl
      | ⟨1, _⟩ => fun hb => absurd rfl hb) (by show 768 + (j.val - 768) = j.val; omega)).trans ?_
    exact key 3 slices_S256x1024_o0_768_S256x256 _ (by show 768 + (j.val - 768) = j.val; omega)

/-- A row of the block times a matrix. -/
theorem dot_apply (s : FVec Ideal S256x1024 .bf16) (w : FVec Ideal S1x1024x1024 .bf16) (a : Fin 256) (l : Fin 1024) :
    matmul dot_S256x1024_S1024x1024_S256x1024_1_0_0_1_n_n none s (shapeCast S1024x1024 w shapeCasts_S1x1024x1024_S1024x1024)
      (constant (F := Ideal) S256x1024 .f32 0x00000000#32) (ix2 a l) = ∑ d : Fin 1024, s (ix2 a d) * w (ix3 0 d l) := by
  refine (Ideal.matmul_plain_apply none _ _ _ a l).trans ?_
  rw [show (constant (F := Ideal) S256x1024 .f32 0x00000000#32 (ix2 a l) : EReal) = 0 from Ideal.ofBits_zero_f32, zero_add]
  refine Finset.sum_congr rfl fun d _ => congrArg (fun z : EReal => s (ix2 a d) * z) (shapeCast_apply w _ (ix2 d l) (ix3 0 d l) ?_)
  rewrite [Shape.rowMajor_val_three, Shape.rowMajor_val_two]
  show (0 * 1024 + d.val) * 1024 + l.val = d.val * 1024 + l.val
  omega

theorem near_dot_apply (s : FVec Ideal S256x512 .bf16) (w : FVec Ideal S1x512x1024 .bf16) (a : Fin 256) (l : Fin 1024) :
    matmul dot_S256x512_S512x1024_S256x1024_1_0_0_1_n_n none s (shapeCast S512x1024 w shapeCasts_S1x512x1024_S512x1024)
      (constant (F := Ideal) S256x1024 .f32 0x00000000#32) (ix2 a l) = ∑ d : Fin 512, s (ix2 a d) * w (ix3 0 d l) := by
  refine (Ideal.matmul_plain_apply none _ _ _ a l).trans ?_
  rw [show (constant (F := Ideal) S256x1024 .f32 0x00000000#32 (ix2 a l) : EReal) = 0 from Ideal.ofBits_zero_f32, zero_add]
  refine Finset.sum_congr rfl fun d _ => congrArg (fun z : EReal => s (ix2 a d) * z) (shapeCast_apply w _ (ix2 d l) (ix3 0 d l) ?_)
  rewrite [Shape.rowMajor_val_three, Shape.rowMajor_val_two]
  show (0 * 512 + d.val) * 1024 + l.val = d.val * 1024 + l.val
  omega

theorem rows_apply (a : Fin 256) (j : Fin 1024) :
    rows (F := Ideal) x0 x1 x2 x3 x4 x5 x7 x8 x9 x10 (ix2 a j)
      = merged (fun k => x0 (ix2 a k) + x1 (ix2 a k)) (fun k => x7 (ix2 0 k)) (fun k => x2 (ix2 a k)) (fun k => x3 (ix2 a k)) (fun k => x4 (ix2 a k))
          (fun d => x5 (ix2 a d)) (fun d j => x8 (ix3 0 d j)) (fun d j => x9 (ix3 0 d j)) (fun d j => x10 (ix3 0 d j)) j := by
  unfold rows k0_pay8
  refine (dot_apply _ x10 a j).trans (Finset.sum_congr rfl fun d _ => congrArg (fun z : EReal => z * x10 (ix3 0 d j)) ?_)
  refine congrArg₂ (fun y z : EReal => Ideal.logistic (x3 (ix2 a d)) * y + Ideal.logistic (x4 (ix2 a d)) * z) ?_ (near_dot_apply x5 x9 a d)
  refine (dot_apply _ x8 a d).trans (Finset.sum_congr rfl fun e _ => congrArg (fun z : EReal => z * x8 (ix3 0 e d)) ?_)
  exact congrArg₂ (fun y z : EReal => y * z * (x2 (ix2 a e) * Ideal.logistic (x2 (ix2 a e)))) (normed_apply x0 x1 a e) (down_apply x7 a e)

/-- The residual's rows, of the merged ones. -/
theorem kept_apply (z : FVec Ideal S256x1024 .f32) (a : Fin 256) (j : Fin 1024) :
    k0_pay9 (F := Ideal) z x6 x12 x11 (ix2 a j) = kept (fun j => x6 (ix2 a j)) (fun j => z (ix2 a j)) (fun j => x11 (ix2 0 j)) (fun j => x12 (ix4 0 0 0 j)) j := by
  unfold k0_pay9 kept
  refine congrArg (fun y : EReal => x6 (ix2 a j) + y) ?_
  refine congrArg₂ (fun y z : EReal => y * z) ((down_apply _ a j).trans (lane_apply x12 j)) ?_
  exact congrArg₂ (fun y z : EReal => y * z) (scaled_apply z a j) (down_apply x11 a j)

/-- The feed-forward's rows, of the residual's. -/
theorem next_apply (z : FVec Ideal S256x1024 .f32) (a : Fin 256) (j : Fin 1024) :
    k0_pay1 (F := Ideal) (k0_pay10 z x6 x12 x11 x13) (k0_pay11 x15) x14 (ix2 a j)
      = next (fun j => k0_pay9 (F := Ideal) z x6 x12 x11 (ix2 a j)) (fun j => x13 (ix2 0 j)) (fun j => x15 (ix4 0 0 0 j)) (fun j => x14 (ix4 0 0 0 j)) j := by
  unfold k0_pay1 k0_pay10 k0_pay11 next
  refine congrArg₂ (fun y z : EReal => y + z) (congrArg₂ (fun y z : EReal => y * z) ?_ ?_) ((down_apply _ a j).trans (lane_apply x14 j))
  · exact congrArg₂ (fun y z : EReal => y * z) (scaled_apply (k0_pay9 (F := Ideal) z x6 x12 x11) a j) (down_apply x13 a j)
  · exact (down_apply _ a j).trans (congrArg (fun z : EReal => Ideal.ofBits .f32 0x3F800000#32 + z) (lane_apply x15 j))

end Payloads

/-! ## The blocks of a point -/

variable (m : (ℓ : Loc nD τ sig) → Buf (Elt Ideal) ℓ) (c : Dev nD)

abbrev fOf : Rows := m ((c : Thread nD τ).loc main_arg0)
abbrev bOf : Rows := m ((c : Thread nD τ).loc main_arg1)
abbrev yOf : Gates := m ((c : Thread nD τ).loc main_arg2)
abbrev nOf : Near := m ((c : Thread nD τ).loc main_arg3)
abbrev xOf : Rows := m ((c : Thread nD τ).loc main_arg4)
abbrev gOf : Gain := m ((c : Thread nD τ).loc main_arg5)
abbrev wbOf : Square := m ((c : Thread nD τ).loc main_arg6)
abbrev wnOf : Tall := m ((c : Thread nD τ).loc main_arg7)
abbrev woOf : Square := m ((c : Thread nD τ).loc main_arg8)
abbrev pOf : Gain := m ((c : Thread nD τ).loc main_arg9)
abbrev qOf : Gain := m ((c : Thread nD τ).loc main_arg10)
abbrev tOf : Mods := m ((c : Thread nD τ).loc main_arg11)

theorem point_val (t : Fin grid0.N) : (grid0.coords t 0).val = t.val := by
  have ht : t.val < 68 := Nat.lt_of_lt_of_eq t.isLt N_0
  have e : (grid0.coords t 0).val = t.val / 1 % 68 := Pipeline.Grid.coords_val t 0 (by decide) rfl
  omega

/-- The block of rows a point reads or writes is its own. -/
theorem row_word : ∀ i : Fin 68, (BitVec.ofNat 32 i.val + 0#32).toNat = i.val ∧ (BitVec.ofNat 32 i.val).toNat = i.val := by
  decide

theorem row_map (t : Fin cfg0.N) : (BitVec.ofNat 32 (grid0.coords t 0).val + 0#32).toNat = t.val ∧ (BitVec.ofNat 32 (grid0.coords t 0).val).toNat = t.val := by
  rw [point_val t]
  exact row_word ⟨t.val, Nat.lt_of_lt_of_eq t.isLt N_0⟩

/-- The modulation's stream of a point, as the index maps compute it. -/
theorem stream_word : ∀ i : Fin 68, cc0_transform_12 (fun a => match a with | ⟨0, _⟩ => i) 0 = (if i.val < 4 then 4 else (i.val - 4) / 16)
    ∧ cc0_transform_14 (fun a => match a with | ⟨0, _⟩ => i) 0 = (if i.val < 4 then 4 else (i.val - 4) / 16)
    ∧ cc0_transform_15 (fun a => match a with | ⟨0, _⟩ => i) 0 = if i.val < 4 then 4 else (i.val - 4) / 16 := by
  decide

theorem stream_map (t : Fin cfg0.N) : cc0_transform_12 (grid0.coords t) 0 = (if t.val < 4 then 4 else (t.val - 4) / 16)
    ∧ cc0_transform_14 (grid0.coords t) 0 = (if t.val < 4 then 4 else (t.val - 4) / 16)
    ∧ cc0_transform_15 (grid0.coords t) 0 = if t.val < 4 then 4 else (t.val - 4) / 16 := by
  have e := stream_word (grid0.coords t 0)
  rw [point_val] at e
  exact e

theorem blk_f (t : Fin cfg0.N) (a : Fin 256) (d : Fin 1024) (r : Fin 17408) (hr : r.val = 256 * t.val + a.val) :
    (iblk m c 0 t : Vec Ideal S256x1024 .bf16) (ix2 a d) = fOf m c (ix2 r d) := by
  refine (View.read_apply _ _).trans (congrArg (m ((c : Thread nD τ).loc main_arg0)) (funext fun y => Fin.ext ?_))
  match y with
  | ⟨0, _⟩ =>
    show (BitVec.ofNat 32 (grid0.coords t 0).val + 0#32).toNat * 256 + 1 * a.val = r.val
    rw [(row_map t).1]; omega
  | ⟨1, _⟩ => show 0 * 1024 + 1 * d.val = d.val; omega

theorem blk_b (t : Fin cfg0.N) (a : Fin 256) (d : Fin 1024) (r : Fin 17408) (hr : r.val = 256 * t.val + a.val) :
    (iblk m c 1 t : Vec Ideal S256x1024 .bf16) (ix2 a d) = bOf m c (ix2 r d) := by
  refine (View.read_apply _ _).trans (congrArg (m ((c : Thread nD τ).loc main_arg1)) (funext fun y => Fin.ext ?_))
  match y with
  | ⟨0, _⟩ =>
    show (BitVec.ofNat 32 (grid0.coords t 0).val + 0#32).toNat * 256 + 1 * a.val = r.val
    rw [(row_map t).1]; omega
  | ⟨1, _⟩ => show 0 * 1024 + 1 * d.val = d.val; omega

theorem blk_n (t : Fin cfg0.N) (a : Fin 256) (d : Fin 512) (r : Fin 17408) (hr : r.val = 256 * t.val + a.val) :
    (iblk m c 5 t : Vec Ideal S256x512 .bf16) (ix2 a d) = nOf m c (ix2 r d) := by
  refine (View.read_apply _ _).trans (congrArg (m ((c : Thread nD τ).loc main_arg3)) (funext fun y => Fin.ext ?_))
  match y with
  | ⟨0, _⟩ =>
    show (BitVec.ofNat 32 (grid0.coords t 0).val + 0#32).toNat * 256 + 1 * a.val = r.val
    rw [(row_map t).1]; omega
  | ⟨1, _⟩ => show 0 * 512 + 1 * d.val = d.val; omega

theorem blk_x (t : Fin cfg0.N) (a : Fin 256) (d : Fin 1024) (r : Fin 17408) (hr : r.val = 256 * t.val + a.val) :
    (iblk m c 6 t : Vec Ideal S256x1024 .f32) (ix2 a d) = xOf m c (ix2 r d) := by
  refine (View.read_apply _ _).trans (congrArg (m ((c : Thread nD τ).loc main_arg4)) (funext fun y => Fin.ext ?_))
  match y with
  | ⟨0, _⟩ =>
    show (BitVec.ofNat 32 (grid0.coords t 0).val + 0#32).toNat * 256 + 1 * a.val = r.val
    rw [(row_map t).1]; omega
  | ⟨1, _⟩ => show 0 * 1024 + 1 * d.val = d.val; omega

theorem blk_y2 (t : Fin cfg0.N) (a : Fin 256) (j : Fin 1024) (r : Fin 17408) (hr : r.val = 256 * t.val + a.val) :
    (X0_2 m c t : Vec Ideal S256x1024 .bf16) (ix2 a j) = yOf m c (ix2 r (column 2048 (by decide) j)) := by
  unfold X0_2 Pipeline.Window.fill
  rw [dif_pos (moved0_2 t _)]
  unfold iblk
  rw [View.read_apply]
  show V m c main_arg2 _ = m (c.tc.loc main_arg2) _
  rw [V_main_arg2]
  refine congrArg (m (c.tc.loc main_arg2)) (funext fun z => Fin.ext ?_)
  match z with
  | ⟨0, _⟩ =>
    show (BitVec.ofNat 32 (grid0.coords t 0).val + 0#32).toNat * 256 + 1 * a.val = r.val
    rw [(row_map t).1]; omega
  | ⟨1, _⟩ => show 2 * 1024 + 1 * j.val = 2048 + j.val; omega

theorem blk_y3 (t : Fin cfg0.N) (a : Fin 256) (j : Fin 1024) (r : Fin 17408) (hr : r.val = 256 * t.val + a.val) :
    (X0_3 m c t : Vec Ideal S256x1024 .bf16) (ix2 a j) = yOf m c (ix2 r (column 3072 (by decide) j)) := by
  unfold X0_3 Pipeline.Window.fill
  rw [dif_pos (moved0_3 t _)]
  unfold iblk
  rw [View.read_apply]
  show V m c main_arg2 _ = m (c.tc.loc main_arg2) _
  rw [V_main_arg2]
  refine congrArg (m (c.tc.loc main_arg2)) (funext fun z => Fin.ext ?_)
  match z with
  | ⟨0, _⟩ =>
    show (BitVec.ofNat 32 (grid0.coords t 0).val + 0#32).toNat * 256 + 1 * a.val = r.val
    rw [(row_map t).1]; omega
  | ⟨1, _⟩ => show 3 * 1024 + 1 * j.val = 3072 + j.val; omega

theorem blk_y4 (t : Fin cfg0.N) (a : Fin 256) (j : Fin 1024) (r : Fin 17408) (hr : r.val = 256 * t.val + a.val) :
    (X0_4 m c t : Vec Ideal S256x1024 .bf16) (ix2 a j) = yOf m c (ix2 r (column 4096 (by decide) j)) := by
  unfold X0_4 Pipeline.Window.fill
  rw [dif_pos (moved0_4 t _)]
  unfold iblk
  rw [View.read_apply]
  show V m c main_arg2 _ = m (c.tc.loc main_arg2) _
  rw [V_main_arg2]
  refine congrArg (m (c.tc.loc main_arg2)) (funext fun z => Fin.ext ?_)
  match z with
  | ⟨0, _⟩ =>
    show (BitVec.ofNat 32 (grid0.coords t 0).val + 0#32).toNat * 256 + 1 * a.val = r.val
    rw [(row_map t).1]; omega
  | ⟨1, _⟩ => show 4 * 1024 + 1 * j.val = 4096 + j.val; omega

theorem blk_g (t : Fin cfg0.N) (d : Fin 1024) : (iblk m c 7 t : Vec Ideal S1x1024 .f32) (ix2 0 d) = gOf m c (ix2 0 d) := by
  refine (View.read_apply _ _).trans (congrArg (m ((c : Thread nD τ).loc main_arg5)) (funext fun y => Fin.ext ?_))
  match y with
  | ⟨0, _⟩ => rfl
  | ⟨1, _⟩ => show 0 * 1024 + 1 * d.val = d.val; omega

theorem blk_p (t : Fin cfg0.N) (d : Fin 1024) : (iblk m c 11 t : Vec Ideal S1x1024 .f32) (ix2 0 d) = pOf m c (ix2 0 d) := by
  refine (View.read_apply _ _).trans (congrArg (m ((c : Thread nD τ).loc main_arg9)) (funext fun y => Fin.ext ?_))
  match y with
  | ⟨0, _⟩ => rfl
  | ⟨1, _⟩ => show 0 * 1024 + 1 * d.val = d.val; omega

theorem blk_q (t : Fin cfg0.N) (d : Fin 1024) : (iblk m c 13 t : Vec Ideal S1x1024 .f32) (ix2 0 d) = qOf m c (ix2 0 d) := by
  refine (View.read_apply _ _).trans (congrArg (m ((c : Thread nD τ).loc main_arg10)) (funext fun y => Fin.ext ?_))
  match y with
  | ⟨0, _⟩ => rfl
  | ⟨1, _⟩ => show 0 * 1024 + 1 * d.val = d.val; omega

theorem blk_wb (t : Fin cfg0.N) (d : Fin 1024) (k : Fin 1024) : (iblk m c 8 t : Vec Ideal S1x1024x1024 .bf16) (ix3 0 d k) = wbOf m c (ix3 0 d k) := by
  refine (View.read_apply _ _).trans (congrArg (m ((c : Thread nD τ).loc main_arg6)) (funext fun y => Fin.ext ?_))
  match y with
  | ⟨0, _⟩ => rfl
  | ⟨1, _⟩ => show 0 * 1024 + 1 * d.val = d.val; omega
  | ⟨2, _⟩ => show 0 * 1024 + 1 * k.val = k.val; omega

theorem blk_wn (t : Fin cfg0.N) (d : Fin 512) (k : Fin 1024) : (iblk m c 9 t : Vec Ideal S1x512x1024 .bf16) (ix3 0 d k) = wnOf m c (ix3 0 d k) := by
  refine (View.read_apply _ _).trans (congrArg (m ((c : Thread nD τ).loc main_arg7)) (funext fun y => Fin.ext ?_))
  match y with
  | ⟨0, _⟩ => rfl
  | ⟨1, _⟩ => show 0 * 512 + 1 * d.val = d.val; omega
  | ⟨2, _⟩ => show 0 * 1024 + 1 * k.val = k.val; omega

theorem blk_wo (t : Fin cfg0.N) (d : Fin 1024) (k : Fin 1024) : (iblk m c 10 t : Vec Ideal S1x1024x1024 .bf16) (ix3 0 d k) = woOf m c (ix3 0 d k) := by
  refine (View.read_apply _ _).trans (congrArg (m ((c : Thread nD τ).loc main_arg8)) (funext fun y => Fin.ext ?_))
  match y with
  | ⟨0, _⟩ => rfl
  | ⟨1, _⟩ => show 0 * 1024 + 1 * d.val = d.val; omega
  | ⟨2, _⟩ => show 0 * 1024 + 1 * k.val = k.val; omega

theorem blk_gate (t : Fin cfg0.N) (a : Fin 256) (d : Fin 1024) (r : Fin 17408) (hr : r.val = 256 * t.val + a.val) :
    (iblk m c 12 t : Vec Ideal S1x1x1x1024 .f32) (ix4 0 0 0 d) = tOf m c (ix4 (stream r) 2 0 d) := by
  refine (View.read_apply _ _).trans (congrArg (m ((c : Thread nD τ).loc main_arg11)) (funext fun y => Fin.ext ?_))
  match y with
  | ⟨0, _⟩ =>
    show cc0_transform_12 (grid0.coords t) 0 * 1 + 1 * 0 = if r.val < 1024 then 4 else (r.val - 1024) / 4096
    rw [(stream_map t).1]
    split_ifs <;> omega
  | ⟨1, _⟩ => rfl
  | ⟨2, _⟩ => rfl
  | ⟨3, _⟩ => show 0 * 1024 + 1 * d.val = d.val; omega

theorem blk_down (t : Fin cfg0.N) (a : Fin 256) (d : Fin 1024) (r : Fin 17408) (hr : r.val = 256 * t.val + a.val) :
    (iblk m c 14 t : Vec Ideal S1x1x1x1024 .f32) (ix4 0 0 0 d) = tOf m c (ix4 (stream r) 3 0 d) := by
  refine (View.read_apply _ _).trans (congrArg (m ((c : Thread nD τ).loc main_arg11)) (funext fun y => Fin.ext ?_))
  match y with
  | ⟨0, _⟩ =>
    show cc0_transform_14 (grid0.coords t) 0 * 1 + 1 * 0 = if r.val < 1024 then 4 else (r.val - 1024) / 4096
    rw [(stream_map t).2.1]
    split_ifs <;> omega
  | ⟨1, _⟩ => rfl
  | ⟨2, _⟩ => rfl
  | ⟨3, _⟩ => show 0 * 1024 + 1 * d.val = d.val; omega

theorem blk_up (t : Fin cfg0.N) (a : Fin 256) (d : Fin 1024) (r : Fin 17408) (hr : r.val = 256 * t.val + a.val) :
    (iblk m c 15 t : Vec Ideal S1x1x1x1024 .f32) (ix4 0 0 0 d) = tOf m c (ix4 (stream r) 4 0 d) := by
  refine (View.read_apply _ _).trans (congrArg (m ((c : Thread nD τ).loc main_arg11)) (funext fun y => Fin.ext ?_))
  match y with
  | ⟨0, _⟩ =>
    show cc0_transform_15 (grid0.coords t) 0 * 1 + 1 * 0 = if r.val < 1024 then 4 else (r.val - 1024) / 4096
    rw [(stream_map t).2.2]
    split_ifs <;> omega
  | ⟨1, _⟩ => rfl
  | ⟨2, _⟩ => rfl
  | ⟨3, _⟩ => show 0 * 1024 + 1 * d.val = d.val; omega

/-! ## The blocks a point writes -/

theorem row_lt (t : Fin cfg0.N) (a : Fin 256) : 256 * t.val + a.val < 17408 := by
  have ht : t.val < 68 := Nat.lt_of_lt_of_eq t.isLt N_0
  omega

/-- A line of the merge depends on its lines only. -/
theorem merged_congr {o o' g g' u u' v v' w w' : Line} {n n' : Fin 512 → EReal} {wb wb' : Fin 1024 → Line} {wn wn' : Fin 512 → Line} {wo wo' : Fin 1024 → Line}
    (ho : ∀ j, o j = o' j) (hg : ∀ j, g j = g' j) (hu : ∀ j, u j = u' j) (hv : ∀ j, v j = v' j) (hw : ∀ j, w j = w' j) (hn : ∀ d, n d = n' d)
    (hb : ∀ d j, wb d j = wb' d j) (hwn : ∀ d j, wn d j = wn' d j) (hwo : ∀ d j, wo d j = wo' d j) :
    merged o g u v w n wb wn wo = merged o' g' u' v' w' n' wb' wn' wo' := by
  obtain rfl := funext ho
  obtain rfl := funext hg
  obtain rfl := funext hu
  obtain rfl := funext hv
  obtain rfl := funext hw
  obtain rfl := funext hn
  obtain rfl := funext fun d => funext (hb d)
  obtain rfl := funext fun d => funext (hwn d)
  obtain rfl := funext fun d => funext (hwo d)
  rfl

theorem rows_eq (t : Fin cfg0.N) (a : Fin 256) (r : Fin 17408) (hr : r.val = 256 * t.val + a.val) (j : Fin 1024) :
    rows (F := Ideal) (iblk m c 0 t) (iblk m c 1 t) (X0_2 m c t) (X0_3 m c t) (X0_4 m c t) (iblk m c 5 t) (iblk m c 7 t) (iblk m c 8 t) (iblk m c 9 t) (iblk m c 10 t) (ix2 a j)
      = mergedRow (fOf m c) (bOf m c) (yOf m c) (nOf m c) (gOf m c) (wbOf m c) (wnOf m c) (woOf m c) r j :=
  (rows_apply _ _ _ _ _ _ _ _ _ _ a j).trans (congrFun (merged_congr
    (fun j => congrArg₂ (fun y z : EReal => y + z) (blk_f m c t a j r hr) (blk_b m c t a j r hr)) (fun j => blk_g m c t j)
    (fun j => blk_y2 m c t a j r hr) (fun j => blk_y3 m c t a j r hr) (fun j => blk_y4 m c t a j r hr) (fun d => blk_n m c t a d r hr)
    (fun d j => blk_wb m c t d j) (fun d j => blk_wn m c t d j) (fun d j => blk_wo m c t d j)) j)

theorem kept_congr {x x' z z' p p' t t' : Line} (hx : ∀ j, x j = x' j) (hz : ∀ j, z j = z' j) (hp : ∀ j, p j = p' j) (ht : ∀ j, t j = t' j) :
    kept x z p t = kept x' z' p' t' := by
  obtain rfl := funext hx
  obtain rfl := funext hz
  obtain rfl := funext hp
  obtain rfl := funext ht
  rfl

theorem next_congr {x x' q q' u u' v v' : Line} (hx : ∀ j, x j = x' j) (hq : ∀ j, q j = q' j) (hu : ∀ j, u j = u' j) (hv : ∀ j, v j = v' j) :
    next x q u v = next x' q' u' v' := by
  obtain rfl := funext hx
  obtain rfl := funext hq
  obtain rfl := funext hu
  obtain rfl := funext hv
  rfl

/-- A point's rows of the residual, of the arguments. -/
theorem kept_eq (t : Fin cfg0.N) (a : Fin 256) (r : Fin 17408) (hr : r.val = 256 * t.val + a.val) (j : Fin 1024) :
    k0_pay9 (F := Ideal) (rows (iblk m c 0 t) (iblk m c 1 t) (X0_2 m c t) (X0_3 m c t) (X0_4 m c t) (iblk m c 5 t) (iblk m c 7 t) (iblk m c 8 t) (iblk m c 9 t) (iblk m c 10 t)) (iblk m c 6 t) (iblk m c 12 t) (iblk m c 11 t) (ix2 a j)
      = keptRow (fOf m c) (bOf m c) (yOf m c) (nOf m c) (xOf m c) (gOf m c) (wbOf m c) (wnOf m c) (woOf m c) (pOf m c) (tOf m c) r j :=
  (kept_apply _ _ _ _ a j).trans (congrFun (kept_congr (fun j => blk_x m c t a j r hr) (fun j => rows_eq m c t a r hr j) (fun j => blk_p m c t j)
    fun j => blk_gate m c t a j r hr) j)

/-- A point's rows of the feed-forward's input, of the arguments. -/
theorem next_eq (t : Fin cfg0.N) (a : Fin 256) (r : Fin 17408) (hr : r.val = 256 * t.val + a.val) (j : Fin 1024) :
    k0_pay1 (F := Ideal) (k0_pay10 (rows (iblk m c 0 t) (iblk m c 1 t) (X0_2 m c t) (X0_3 m c t) (X0_4 m c t) (iblk m c 5 t) (iblk m c 7 t) (iblk m c 8 t) (iblk m c 9 t) (iblk m c 10 t)) (iblk m c 6 t) (iblk m c 12 t) (iblk m c 11 t) (iblk m c 13 t))
        (k0_pay11 (iblk m c 15 t)) (iblk m c 14 t) (ix2 a j)
      = next (keptRow (fOf m c) (bOf m c) (yOf m c) (nOf m c) (xOf m c) (gOf m c) (wbOf m c) (wnOf m c) (woOf m c) (pOf m c) (tOf m c) r) (fun j => qOf m c (ix2 0 j))
          (fun j => tOf m c (ix4 (stream r) 4 0 j)) (fun j => tOf m c (ix4 (stream r) 3 0 j)) j :=
  (next_apply _ _ _ _ _ _ _ a j).trans (congrFun (next_congr (fun j => kept_eq m c t a r hr j) (fun j => blk_q m c t j)
    (fun j => blk_up m c t a j r hr) fun j => blk_down m c t a j r hr) j)

/-! ## The result arrays -/

/-- The specified residual. -/
abbrev residualOf : Rows := residual (fOf m c) (bOf m c) (yOf m c) (nOf m c) (xOf m c) (gOf m c) (wbOf m c) (wnOf m c) (woOf m c) (pOf m c) (tOf m c)

/-- The specified input of the feed-forward. -/
abbrev inputOf : Rows := input (fOf m c) (bOf m c) (yOf m c) (nOf m c) (xOf m c) (gOf m c) (wbOf m c) (wnOf m c) (woOf m c) (pOf m c) (qOf m c) (tOf m c)

/-- Where an entry of a point's residual block lies in the array. -/
theorem place_residual (t : Fin cfg0.N) (a : Fin 256) (j : Fin 1024) (r : Fin 17408) (hr : r.val = 256 * t.val + a.val) :
    ((cfg0.win 16).blk t).view.emb (ix2 a j : S256x1024.Idx) = (ix2 r j : S17408x1024.Idx) := by
  funext b
  apply Fin.ext
  match b with
  | ⟨0, _⟩ =>
    show (BitVec.ofNat 32 (grid0.coords t 0).val).toNat * 256 + 1 * a.val = r.val
    rw [(row_map t).2]; omega
  | ⟨1, _⟩ => show 0 * 1024 + 1 * j.val = j.val; omega

/-- What a grid point writes back is its block of the specified array. -/
theorem residual_flushed (t : Fin cfg0.N) : (dats m 0 c).flushed 16 t = ((cfg0.win 16).blk t).view.read (Elt Ideal) (residualOf m c) := by
  rw [flushed16_A, Body.residual_eq]
  funext i
  rw [View.read_apply]
  obtain ⟨a, j, rfl⟩ : ∃ (a : Fin 256) (j : Fin 1024), i = (ix2 a j : S256x1024.Idx) := ⟨i 0, i 1, by
    funext b
    match b with
    | ⟨0, _⟩ => rfl
    | ⟨1, _⟩ => rfl⟩
  exact (kept_eq m c t a ⟨_, row_lt t a⟩ rfl j).trans (congrArg (residualOf m c) (place_residual t a j ⟨_, row_lt t a⟩ rfl) : _ = _).symm

/-- Every place of the residual lies in a point's block. -/
theorem residual_covered (i : S17408x1024.Idx) : ∃ t : Fin cfg0.N, (cfg0.win 16).flush t = true ∧ i ∈ ((cfg0.win 16).blk t).view.set := by
  have h0 : (i 0).val < 17408 := (i 0).isLt
  have hp : (i 0).val / 256 < cfg0.N := Nat.lt_of_lt_of_eq (show (i 0).val / 256 < 68 by omega) N_0.symm
  refine ⟨⟨(i 0).val / 256, hp⟩, flush0_16 _, ?_⟩
  have hl : (i 0).val % 256 < 256 := by omega
  have e := place_residual ⟨(i 0).val / 256, hp⟩ (⟨(i 0).val % 256, hl⟩ : Fin 256) (i 1 : Fin 1024) (i 0)
    (by show (i 0).val = 256 * ((i 0).val / 256) + (i 0).val % 256; omega)
  have ii : i = (ix2 (i 0 : Fin 17408) (i 1 : Fin 1024) : S17408x1024.Idx) := by
    funext y
    match y with
    | ⟨0, _⟩ => rfl
    | ⟨1, _⟩ => rfl
  have g := View.emb_mem_set ((cfg0.win 16).blk ⟨(i 0).val / 256, hp⟩).view (ix2 (⟨(i 0).val % 256, hl⟩ : Fin 256) (i 1 : Fin 1024) : S256x1024.Idx)
  rwa [e.trans ii.symm] at g

/-- The residual array after the kernel's run. -/
theorem residual_final : (dats m 0 c).arrAt 16 cfg0.N = residualOf m c :=
  (dats m 0 c).arrAt_eq_of_cover 16 (residualOf m c) (fun t _ => residual_flushed m c t) residual_covered

/-- Where an entry of a point's input block lies in the array. -/
theorem place_input (t : Fin cfg0.N) (a : Fin 256) (j : Fin 1024) (r : Fin 17408) (hr : r.val = 256 * t.val + a.val) :
    ((cfg0.win 17).blk t).view.emb (ix2 a j : S256x1024.Idx) = (ix2 r j : S17408x1024.Idx) := by
  funext b
  apply Fin.ext
  match b with
  | ⟨0, _⟩ =>
    show (BitVec.ofNat 32 (grid0.coords t 0).val).toNat * 256 + 1 * a.val = r.val
    rw [(row_map t).2]; omega
  | ⟨1, _⟩ => show 0 * 1024 + 1 * j.val = j.val; omega

/-- What a grid point writes back is its block of the specified array. -/
theorem input_flushed (t : Fin cfg0.N) : (dats m 0 c).flushed 17 t = ((cfg0.win 17).blk t).view.read (Elt Ideal) (inputOf m c) := by
  rw [flushed17_A, Body.input_eq]
  funext i
  rw [View.read_apply]
  obtain ⟨a, j, rfl⟩ : ∃ (a : Fin 256) (j : Fin 1024), i = (ix2 a j : S256x1024.Idx) := ⟨i 0, i 1, by
    funext b
    match b with
    | ⟨0, _⟩ => rfl
    | ⟨1, _⟩ => rfl⟩
  exact (next_eq m c t a ⟨_, row_lt t a⟩ rfl j).trans (congrArg (inputOf m c) (place_input t a j ⟨_, row_lt t a⟩ rfl) : _ = _).symm

/-- Every place of the input lies in a point's block. -/
theorem input_covered (i : S17408x1024.Idx) : ∃ t : Fin cfg0.N, (cfg0.win 17).flush t = true ∧ i ∈ ((cfg0.win 17).blk t).view.set := by
  have h0 : (i 0).val < 17408 := (i 0).isLt
  have hp : (i 0).val / 256 < cfg0.N := Nat.lt_of_lt_of_eq (show (i 0).val / 256 < 68 by omega) N_0.symm
  refine ⟨⟨(i 0).val / 256, hp⟩, flush0_17 _, ?_⟩
  have hl : (i 0).val % 256 < 256 := by omega
  have e := place_input ⟨(i 0).val / 256, hp⟩ (⟨(i 0).val % 256, hl⟩ : Fin 256) (i 1 : Fin 1024) (i 0)
    (by show (i 0).val = 256 * ((i 0).val / 256) + (i 0).val % 256; omega)
  have ii : i = (ix2 (i 0 : Fin 17408) (i 1 : Fin 1024) : S17408x1024.Idx) := by
    funext y
    match y with
    | ⟨0, _⟩ => rfl
    | ⟨1, _⟩ => rfl
  have g := View.emb_mem_set ((cfg0.win 17).blk ⟨(i 0).val / 256, hp⟩).view (ix2 (⟨(i 0).val % 256, hl⟩ : Fin 256) (i 1 : Fin 1024) : S256x1024.Idx)
  rwa [e.trans ii.symm] at g

/-- The input array after the kernel's run. -/
theorem input_final : (dats m 0 c).arrAt 17 cfg0.N = inputOf m c :=
  (dats m 0 c).arrAt_eq_of_cover 17 (inputOf m c) (fun t _ => input_flushed m c t) input_covered

/-- The run ends with the specified arrays and the arguments as they were. -/
theorem run (g : Dev nD → PrngReg) : θ_run defs (onTc (τ := τ) (main (F := Ideal))) ⟨m, fun _ => 0, g⟩ fun r => ∀ c : Dev nD,
    r.2.mem ((c.tc : Thread nD τ).loc main_v0_0) = residualOf m c
    ∧ r.2.mem ((c.tc : Thread nD τ).loc main_v0_1) = inputOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  (θ_run defs _ _).mono (fun r h c => ⟨(h c).1.trans (residual_final m c), (h c).2.1.trans (input_final m c), (h c).2.2⟩) (run_blocks m g)

end Cert.MergeIdeal.Outcome
end
-- ==== Proof.MergeRefOut.lean ====
/- The reference's two results, read at an index: the specified arrays. -/
module

public import proofs.«01_k».proof.Proof.Gen.MergeReferenceIdeal.Read
public import proofs.«01_k».proof.Proof.MergeSpec
public import Idealize.ShloMosaic.Lib.IdealHost
public import Idealize.ShloMosaic.Lib.StackMember
public import Idealize.ShloMosaic.Lib.Pipeline.Value

@[expose] public section

set_option maxRecDepth 16384

noncomputable section

namespace Cert.MergeReferenceIdeal.RefOut

open Cert.MergeReferenceIdeal Cert.MergeReferenceIdeal.Gen Cert.MergeReferenceIdeal.Read Cert.MergeSpec
open Idealize.ShloMosaic Idealize.ShloMosaic.ValueIdx

/-! ## The modulation -/

/-- One component of the modulation, spread over the rows. -/
def spread (z : FVec Ideal S8x1x1024 .f32) : FVec Ideal S17408x1024 .f32 :=
  concatenate S17408x1024 0
    [⟨S1024x1024, broadcastInDim S1024x1024 ![0, 1] bcast_S1x1024_S1024x1024_0_1
        (shapeCast S1x1024 (extractStridedSlice S1x1x1024 ![4, 0, 0] z slices_S8x1x1024_S1x1x1024_4_0_0) shapeCasts_S1x1x1024_S1x1024)⟩,
     ⟨S16384x1024, shapeCast S16384x1024 (broadcastInDim S4x4096x1024 ![0, 1, 2] bcast_S4x1x1024_S4x4096x1024_0_1_2
        (extractStridedSlice S4x1x1024 ![0, 0, 0] z slices_S8x1x1024_S4x1x1024_0_0_0)) shapeCasts_S4x4096x1024_S16384x1024⟩]
    concatenates_S1024x1024_S16384x1024_S17408x1024_d0

theorem spread_apply (z : FVec Ideal S8x1x1024 .f32) (r : Fin 17408) (j : Fin 1024) : spread z (ix2 r j) = z (ix3 (stream r) 0 j) := by
  unfold spread
  by_cases hr : r.val < 1024
  · refine (concatenate_pair_apply_left (s₁ := S1024x1024) (s₂ := S16384x1024) _ _ _ _ (ix2 r j) rfl (ix2 (⟨r.val, hr⟩ : Fin 1024) j) (fun b => match b with
      | ⟨0, _⟩ => rfl
      | ⟨1, _⟩ => rfl)).trans ?_
    refine (broadcastInDim_apply _ _ _ (ix2 (⟨r.val, hr⟩ : Fin 1024) j) (ix2 0 j) (fun b => match b with
      | ⟨0, _⟩ => rfl
      | ⟨1, _⟩ => (if_neg (show ¬(1024 : ℕ) = 1 by decide)).symm)).trans ?_
    refine (shapeCast_apply _ _ (ix2 0 j) (ix3 0 0 j) ?_).trans (extractStridedSlice_apply _ z _ (ix3 0 0 j) (ix3 (stream r) 0 j) ?_)
    · rewrite [Shape.rowMajor_val_three, Shape.rowMajor_val_two]
      show (0 * 1 + 0) * 1024 + j.val = 0 * 1024 + j.val
      omega
    · intro a
      match a with
      | ⟨0, _⟩ => exact if_pos hr
      | ⟨1, _⟩ => rfl
      | ⟨2, _⟩ => show j.val = 0 + j.val; omega
  · have hq : r.val - 1024 < 16384 := by omega
    have h4 : (r.val - 1024) / 4096 < 4 := by omega
    have hm : (r.val - 1024) % 4096 < 4096 := by omega
    refine (concatenate_pair_apply_right (s₁ := S1024x1024) (s₂ := S16384x1024) _ _ _ _ (ix2 r j) rfl rfl (ix2 (⟨r.val - 1024, hq⟩ : Fin 16384) j) (fun b => match b with
      | ⟨0, _⟩ => fun hb => absurd rfl hb
      | ⟨1, _⟩ => fun _ => rfl) (by show r.val - 1024 + 1024 = r.val; omega)).trans ?_
    refine (shapeCast_apply _ _ (ix2 (⟨r.val - 1024, hq⟩ : Fin 16384) j) (ix3 (⟨_, h4⟩ : Fin 4) (⟨_, hm⟩ : Fin 4096) j) ?_).trans ?_
    · rewrite [Shape.rowMajor_val_three, Shape.rowMajor_val_two]
      show ((r.val - 1024) / 4096 * 4096 + (r.val - 1024) % 4096) * 1024 + j.val = (r.val - 1024) * 1024 + j.val
      omega
    refine (broadcastInDim_apply _ _ _ (ix3 (⟨_, h4⟩ : Fin 4) (⟨_, hm⟩ : Fin 4096) j) (ix3 (⟨_, h4⟩ : Fin 4) 0 j) (fun b => match b with
      | ⟨0, _⟩ => (if_neg (show ¬(4 : ℕ) = 1 by decide)).symm
      | ⟨1, _⟩ => rfl
      | ⟨2, _⟩ => (if_neg (show ¬(1024 : ℕ) = 1 by decide)).symm)).trans ?_
    refine extractStridedSlice_apply _ z _ (ix3 (⟨_, h4⟩ : Fin 4) 0 j) (ix3 (stream r) 0 j) ?_
    intro a
    match a with
    | ⟨0, _⟩ => exact (if_neg hr).trans (Nat.zero_add _).symm
    | ⟨1, _⟩ => rfl
    | ⟨2, _⟩ => show j.val = 0 + j.val; omega

theorem gate_apply (t : Mods) (r : Fin 17408) (j : Fin 1024) : val_main_v63 (F := Ideal) t (ix2 r j) = t (ix4 (stream r) 2 0 j) := by
  refine (spread_apply (val_main_v56 (F := Ideal) t) r j).trans ?_
  rw [val_main_v56_apply, val_main_v55_apply]
  have hj := j.isLt
  refine congrArg t (funext fun y => Fin.ext ?_)
  match y with
  | ⟨0, _⟩ => show (((stream r).val * 1 + 0) * 1024 + j.val) / 1024 = (stream r).val; omega
  | ⟨1, _⟩ => rfl
  | ⟨2, _⟩ => rfl
  | ⟨3, _⟩ => show (((stream r).val * 1 + 0) * 1024 + j.val) % 1024 = j.val; omega

theorem up_apply (t : Mods) (r : Fin 17408) (j : Fin 1024) : val_main_v102 (F := Ideal) t (ix2 r j) = t (ix4 (stream r) 4 0 j) := by
  refine (spread_apply (val_main_v95 (F := Ideal) t) r j).trans ?_
  rw [val_main_v95_apply, val_main_v94_apply]
  have hj := j.isLt
  refine congrArg t (funext fun y => Fin.ext ?_)
  match y with
  | ⟨0, _⟩ => show (((stream r).val * 1 + 0) * 1024 + j.val) / 1024 = (stream r).val; omega
  | ⟨1, _⟩ => rfl
  | ⟨2, _⟩ => rfl
  | ⟨3, _⟩ => show (((stream r).val * 1 + 0) * 1024 + j.val) % 1024 = j.val; omega

theorem down_apply (t : Mods) (r : Fin 17408) (j : Fin 1024) : val_main_v114 (F := Ideal) t (ix2 r j) = t (ix4 (stream r) 3 0 j) := by
  refine (spread_apply (val_main_v107 (F := Ideal) t) r j).trans ?_
  rw [val_main_v107_apply, val_main_v106_apply]
  have hj := j.isLt
  refine congrArg t (funext fun y => Fin.ext ?_)
  match y with
  | ⟨0, _⟩ => show (((stream r).val * 1 + 0) * 1024 + j.val) / 1024 = (stream r).val; omega
  | ⟨1, _⟩ => rfl
  | ⟨2, _⟩ => rfl
  | ⟨3, _⟩ => show (((stream r).val * 1 + 0) * 1024 + j.val) % 1024 = j.val; omega

/-! ## The linear mixers' rows -/

variable (f b : Rows) (y : Gates) (n : Near) (x : Rows) (g : Gain) (wb : Square) (wn : Tall) (wo : Square) (p q : Gain) (t : Mods)

/-- The sum of the two mixers, at a head's column. -/
theorem sum_apply (r : Fin 17408) (h : Fin 4) (l : Fin 256) :
    val_main_v3 (F := Ideal) f b (ix3 r h l) = f (ix2 r (lane h l)) + b (ix2 r (lane h l)) := by
  rw [val_main_v3_apply]
  have hh := h.isLt
  have hl := l.isLt
  have e : (idx_main_v3 (ix3 r h l) : S17408x1024.Idx) = ix2 r (lane h l) := by
    funext z
    apply Fin.ext
    match z with
    | ⟨0, _⟩ => show ((r.val * 4 + h.val) * 256 + l.val) / 1024 = r.val; omega
    | ⟨1, _⟩ => show ((r.val * 4 + h.val) * 256 + l.val) % 1024 = 256 * h.val + l.val; omega
  rw [e]
  rfl

/-- A head's sum of squares. -/
theorem head_squares_apply (r : Fin 17408) (h : Fin 4) :
    val_main_v5 (F := Ideal) f b (ix2 r h) = ∑ l, (f (ix2 r (lane h l)) + b (ix2 r (lane h l))) * (f (ix2 r (lane h l)) + b (ix2 r (lane h l))) := by
  refine (val_main_v5_apply f b (ix2 r h)).trans ?_
  rw [show val_main_cst (F := Ideal) (Shape.Idx.first h_S_) = (0 : EReal) from Ideal.ofBits_zero_f32, zero_add]
  refine Finset.sum_congr rfl fun l _ => ?_
  have e : (idx_main_v5 (ix2 r h) l : S17408x4x256.Idx) = ix3 r h l := by
    funext z
    match z with
    | ⟨0, _⟩ => rfl
    | ⟨1, _⟩ => rfl
    | ⟨2, _⟩ => rfl
  rw [e, val_main_v4_apply, sum_apply]
  rfl

theorem head_scale_apply (r : Fin 17408) (h : Fin 4) (l : Fin 256) :
    val_main_v12 (F := Ideal) f b (ix3 r h l) = headScale (fun j => f (ix2 r j) + b (ix2 r j)) h := by
  rw [val_main_v12_apply, val_main_v11_apply, val_main_v10_apply, val_main_v8_apply, val_main_v6_apply]
  have e : (idx_main_v6 (idx_main_v12 (ix3 r h l)) : S17408x4.Idx) = ix2 r h := by
    funext z
    match z with
    | ⟨0, _⟩ => rfl
    | ⟨1, _⟩ => rfl
  rw [e, head_squares_apply]
  rfl

theorem lane_head (j : Fin 1024) : lane (head j) ⟨j.val % 256, by omega⟩ = j := Fin.ext (by show 256 * (j.val / 256) + j.val % 256 = j.val; omega)

theorem normed_apply (r : Fin 17408) (j : Fin 1024) :
    val_main_v14 (F := Ideal) f b (ix2 r j) = (f (ix2 r j) + b (ix2 r j)) * headScale (fun j => f (ix2 r j) + b (ix2 r j)) (head j) := by
  rw [val_main_v14_apply]
  have hj := j.isLt
  have e : (idx_main_v14 (ix2 r j) : S17408x4x256.Idx) = ix3 r (head j) (⟨j.val % 256, by omega⟩ : Fin 256) := by
    funext z
    apply Fin.ext
    match z with
    | ⟨0, _⟩ => show (r.val * 1024 + j.val) / 1024 = r.val; omega
    | ⟨1, _⟩ => show (r.val * 1024 + j.val) / 256 % 4 = j.val / 256; omega
    | ⟨2, _⟩ => show (r.val * 1024 + j.val) % 256 = j.val % 256; omega
  rw [e, val_main_v13_apply, sum_apply, head_scale_apply, lane_head]
  rfl

theorem first_gate_apply (r : Fin 17408) (j : Fin 1024) : val_main_v16 (F := Ideal) y (ix2 r j) = y (ix2 r (column 2048 (by decide) j)) := by
  show val_main_v15 (F := Ideal) y (ix2 r j) = _
  unfold val_main_v15
  refine extractStridedSlice_apply _ y _ (ix2 r j) (ix2 r (column 2048 (by decide) j)) fun a => ?_
  match a with
  | ⟨0, _⟩ => show r.val = 0 + r.val; omega
  | ⟨1, _⟩ => rfl

theorem second_gate_apply (r : Fin 17408) (j : Fin 1024) : val_main_v18 (F := Ideal) y (ix2 r j) = y (ix2 r (column 3072 (by decide) j)) := by
  show val_main_v17 (F := Ideal) y (ix2 r j) = _
  unfold val_main_v17
  refine extractStridedSlice_apply _ y _ (ix2 r j) (ix2 r (column 3072 (by decide) j)) fun a => ?_
  match a with
  | ⟨0, _⟩ => show r.val = 0 + r.val; omega
  | ⟨1, _⟩ => rfl

theorem third_gate_apply (r : Fin 17408) (j : Fin 1024) : val_main_v20 (F := Ideal) y (ix2 r j) = y (ix2 r (column 4096 (by decide) j)) := by
  show val_main_v19 (F := Ideal) y (ix2 r j) = _
  unfold val_main_v19
  refine extractStridedSlice_apply _ y _ (ix2 r j) (ix2 r (column 4096 (by decide) j)) fun a => ?_
  match a with
  | ⟨0, _⟩ => show r.val = 0 + r.val; omega
  | ⟨1, _⟩ => rfl

theorem gated_apply (r : Fin 17408) (j : Fin 1024) :
    val_main_v30 (F := Ideal) f b y g (ix2 r j)
      = gated (fun j => f (ix2 r j) + b (ix2 r j)) (fun j => g (ix2 0 j)) (fun j => y (ix2 r (column 2048 (by decide) j))) j := by
  rw [val_main_v30_apply, val_main_v22_apply, val_main_v21_apply, normed_apply]
  have e : (idx_main_v21 (ix2 r j) : S1x1024.Idx) = ix2 0 j := by
    funext z
    match z with
    | ⟨0, _⟩ => rfl
    | ⟨1, _⟩ => rfl
  rw [e]
  unfold gated
  dsimp only
  rw [← first_gate_apply y r j]
  show _ * (val_main_v16 (F := Ideal) y (ix2 r j) * Ideal.div (Ideal.ofBits .f32 0x3F800000#32) (Ideal.ofBits .f32 0x3F800000#32 + Ideal.exp (-(val_main_v16 (F := Ideal) y (ix2 r j))))) = _
  rw [Ideal.ofBits_one_f32]
  rfl

/-! ## The projections -/

theorem wb_apply (d : Fin 1024) (j : Fin 1024) : val_main_v33 (F := Ideal) wb (ix2 d j) = wb (ix3 0 d j) := by
  show val_main_v32 (F := Ideal) wb (ix2 d j) = _
  unfold val_main_v32 val_main_v31
  refine (shapeCast_apply _ _ (ix2 d j) (ix3 0 d j) ?_).trans (extractStridedSlice_apply _ wb _ (ix3 0 d j) (ix3 0 d j) ?_)
  · rewrite [Shape.rowMajor_val_three, Shape.rowMajor_val_two]
    show (0 * 1024 + d.val) * 1024 + j.val = d.val * 1024 + j.val
    omega
  · intro a
    match a with
    | ⟨0, _⟩ => rfl
    | ⟨1, _⟩ => show d.val = 0 + d.val; omega
    | ⟨2, _⟩ => show j.val = 0 + j.val; omega

theorem wn_apply (d : Fin 512) (j : Fin 1024) : val_main_v38 (F := Ideal) wn (ix2 d j) = wn (ix3 0 d j) := by
  show val_main_v37 (F := Ideal) wn (ix2 d j) = _
  unfold val_main_v37 val_main_v36
  refine (shapeCast_apply _ _ (ix2 d j) (ix3 0 d j) ?_).trans (extractStridedSlice_apply _ wn _ (ix3 0 d j) (ix3 0 d j) ?_)
  · rewrite [Shape.rowMajor_val_three, Shape.rowMajor_val_two]
    show (0 * 512 + d.val) * 1024 + j.val = d.val * 1024 + j.val
    omega
  · intro a
    match a with
    | ⟨0, _⟩ => rfl
    | ⟨1, _⟩ => show d.val = 0 + d.val; omega
    | ⟨2, _⟩ => show j.val = 0 + j.val; omega

theorem wo_apply (d : Fin 1024) (j : Fin 1024) : val_main_v66 (F := Ideal) wo (ix2 d j) = wo (ix3 0 d j) := by
  show val_main_v65 (F := Ideal) wo (ix2 d j) = _
  unfold val_main_v65 val_main_v64
  refine (shapeCast_apply _ _ (ix2 d j) (ix3 0 d j) ?_).trans (extractStridedSlice_apply _ wo _ (ix3 0 d j) (ix3 0 d j) ?_)
  · rewrite [Shape.rowMajor_val_three, Shape.rowMajor_val_two]
    show (0 * 1024 + d.val) * 1024 + j.val = d.val * 1024 + j.val
    omega
  · intro a
    match a with
    | ⟨0, _⟩ => rfl
    | ⟨1, _⟩ => show d.val = 0 + d.val; omega
    | ⟨2, _⟩ => show j.val = 0 + j.val; omega

theorem linear_apply (r : Fin 17408) (j : Fin 1024) :
    val_main_v34 (F := Ideal) f b y g wb (ix2 r j)
      = times (gated (fun j => f (ix2 r j) + b (ix2 r j)) (fun j => g (ix2 0 j)) (fun j => y (ix2 r (column 2048 (by decide) j)))) (fun d j => wb (ix3 0 d j)) j :=
  (StackMember.dotGeneral_plain_apply none _ _ r j).trans (Finset.sum_congr rfl fun d _ => congrArg₂ (· * ·) (gated_apply f b y g r d) (wb_apply wb d j))

theorem near_apply (r : Fin 17408) (j : Fin 1024) :
    val_main_v39 (F := Ideal) n wn (ix2 r j) = times (fun d => n (ix2 r d)) (fun d j => wn (ix3 0 d j)) j :=
  (StackMember.dotGeneral_plain_apply none _ _ r j).trans (Finset.sum_congr rfl fun d _ => congrArg (n (ix2 r d) * ·) (wn_apply wn d j))

theorem mixed_apply (r : Fin 17408) (j : Fin 1024) :
    val_main_v54 (F := Ideal) f b y n g wb wn (ix2 r j)
      = mixed (fun j => y (ix2 r (column 3072 (by decide) j))) (fun j => y (ix2 r (column 4096 (by decide) j)))
          (times (gated (fun j => f (ix2 r j) + b (ix2 r j)) (fun j => g (ix2 0 j)) (fun j => y (ix2 r (column 2048 (by decide) j)))) (fun d j => wb (ix3 0 d j)))
          (times (fun d => n (ix2 r d)) (fun d j => wn (ix3 0 d j))) j := by
  rw [val_main_v54_apply, val_main_v46_apply, val_main_v53_apply, linear_apply, near_apply]
  unfold mixed
  dsimp only
  rw [← second_gate_apply y r j, ← third_gate_apply y r j]
  show Ideal.div (Ideal.ofBits .f32 0x3F800000#32) (Ideal.ofBits .f32 0x3F800000#32 + Ideal.exp (-(val_main_v18 (F := Ideal) y (ix2 r j)))) * _
    + Ideal.div (Ideal.ofBits .f32 0x3F800000#32) (Ideal.ofBits .f32 0x3F800000#32 + Ideal.exp (-(val_main_v20 (F := Ideal) y (ix2 r j)))) * _ = _
  rw [Ideal.ofBits_one_f32]
  rfl

theorem merged_apply (r : Fin 17408) (j : Fin 1024) : val_main_v67 (F := Ideal) f b y n g wb wn wo (ix2 r j) = mergedRow f b y n g wb wn wo r j :=
  (StackMember.dotGeneral_plain_apply none _ _ r j).trans (Finset.sum_congr rfl fun d _ => congrArg₂ (· * ·) (mixed_apply f b y n g wb wn r d) (wo_apply wo d j))

/-! ## The residual -/

theorem squares_apply (r : Fin 17408) :
    val_main_v69 (F := Ideal) f b y n g wb wn wo (ix1 r) = ∑ j, mergedRow f b y n g wb wn wo r j * mergedRow f b y n g wb wn wo r j := by
  refine (val_main_v69_apply f b y n g wb wn wo (ix1 r)).trans ?_
  rw [show val_main_cst_8 (F := Ideal) (Shape.Idx.first h_S_) = (0 : EReal) from Ideal.ofBits_zero_f32, zero_add]
  refine Finset.sum_congr rfl fun j _ => ?_
  have e : (idx_main_v69 (ix1 r) j : S17408x1024.Idx) = ix2 r j := by
    funext z
    match z with
    | ⟨0, _⟩ => rfl
    | ⟨1, _⟩ => rfl
  rw [e, val_main_v68_apply, merged_apply]
  rfl

theorem scale_apply (r : Fin 17408) (j : Fin 1024) :
    val_main_v76 (F := Ideal) f b y n g wb wn wo (ix2 r j) = scale (mergedRow f b y n g wb wn wo r) := by
  rw [val_main_v76_apply, val_main_v75_apply, val_main_v74_apply, val_main_v72_apply, val_main_v70_apply]
  have e : (idx_main_v70 (idx_main_v76 (ix2 r j)) : S17408.Idx) = ix1 r := by
    funext z
    match z with
    | ⟨0, _⟩ => rfl
  rw [e, squares_apply]
  rfl

theorem kept_apply (r : Fin 17408) (j : Fin 1024) :
    val_main_v81 (F := Ideal) f b y n x g wb wn wo p t (ix2 r j) = keptRow f b y n x g wb wn wo p t r j := by
  rw [val_main_v81_apply, val_main_v80_apply, val_main_v79_apply, val_main_v77_apply, val_main_v78_apply, gate_apply, scale_apply, merged_apply]
  have e : (idx_main_v78 (ix2 r j) : S1x1024.Idx) = ix2 0 j := by
    funext z
    match z with
    | ⟨0, _⟩ => rfl
    | ⟨1, _⟩ => rfl
  rw [e]
  rfl

theorem residual_eq : val_main_v81 (F := Ideal) f b y n x g wb wn wo p t = residual f b y n x g wb wn wo p t := by
  funext i
  obtain ⟨r, j, rfl⟩ : ∃ (r : Fin 17408) (j : Fin 1024), i = ix2 r j := ⟨i 0, i 1, by
    funext z
    match z with
    | ⟨0, _⟩ => rfl
    | ⟨1, _⟩ => rfl⟩
  exact kept_apply f b y n x g wb wn wo p t r j

/-! ## The feed-forward's input -/

theorem kept_squares_apply (r : Fin 17408) :
    val_main_v83 (F := Ideal) f b y n x g wb wn wo p t (ix1 r) = ∑ j, keptRow f b y n x g wb wn wo p t r j * keptRow f b y n x g wb wn wo p t r j := by
  refine (val_main_v83_apply f b y n x g wb wn wo p t (ix1 r)).trans ?_
  rw [show val_main_cst_11 (F := Ideal) (Shape.Idx.first h_S_) = (0 : EReal) from Ideal.ofBits_zero_f32, zero_add]
  refine Finset.sum_congr rfl fun j _ => ?_
  have e : (idx_main_v83 (ix1 r) j : S17408x1024.Idx) = ix2 r j := by
    funext z
    match z with
    | ⟨0, _⟩ => rfl
    | ⟨1, _⟩ => rfl
  rw [e, val_main_v82_apply, kept_apply]
  rfl

theorem kept_scale_apply (r : Fin 17408) (j : Fin 1024) :
    val_main_v90 (F := Ideal) f b y n x g wb wn wo p t (ix2 r j) = scale (keptRow f b y n x g wb wn wo p t r) := by
  rw [val_main_v90_apply, val_main_v89_apply, val_main_v88_apply, val_main_v86_apply, val_main_v84_apply]
  have e : (idx_main_v84 (idx_main_v90 (ix2 r j)) : S17408.Idx) = ix1 r := by
    funext z
    match z with
    | ⟨0, _⟩ => rfl
  rw [e, kept_squares_apply]
  rfl

theorem input_eq : val_main_v116 (F := Ideal) f b y n x g wb wn wo p q t = input f b y n x g wb wn wo p q t := by
  funext i
  obtain ⟨r, j, rfl⟩ : ∃ (r : Fin 17408) (j : Fin 1024), i = ix2 r j := ⟨i 0, i 1, by
    funext z
    match z with
    | ⟨0, _⟩ => rfl
    | ⟨1, _⟩ => rfl⟩
  show val_main_v115 (F := Ideal) f b y n x g wb wn wo p q t (ix2 r j) = _
  rw [val_main_v115_apply, val_main_v105_apply, val_main_v104_apply, val_main_v93_apply, val_main_v91_apply, val_main_v92_apply, up_apply, down_apply, kept_scale_apply, kept_apply]
  have e : (idx_main_v92 (ix2 r j) : S1x1024.Idx) = ix2 0 j := by
    funext z
    match z with
    | ⟨0, _⟩ => rfl
    | ⟨1, _⟩ => rfl
  rw [e]
  rfl

end Cert.MergeReferenceIdeal.RefOut
end
-- ==== Proof.MergeSame.lean ====
/- The merge's call: its claims, from the generated frames, the kernel's arrays (Proof/MergeValue.lean) and the
   reference's (Proof/MergeRefOut.lean). -/
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeReferenceIdeal
public import proofs.«01_k».proof.Proof.Gen.MergeReferenceIdeal.Run
public import proofs.«01_k».proof.Proof.MergeValue
public import proofs.«01_k».proof.Proof.MergeRefOut

@[expose] public section

noncomputable section

namespace Cert.MergeSame

open Idealize.ShloMosaic Idealize.SL.Sem Idealize.ShloMosaic.TcCoe

/-- The call as printed runs, keeps its arguments, and leaves every counter at zero. -/
theorem frame : Cert.quiescent_Merge := fun m g _ => Cert.Merge.Gen.frame m g

/-- So does its idealized form. -/
theorem frame_ideal : Cert.quiescent_MergeIdeal := fun m g _ => Cert.MergeIdeal.Gen.frame m g

/-- And its reference, which declares no counter. -/
theorem frame_reference : Cert.quiescent_MergeReferenceIdeal := fun m g _ =>
  (θ_run Cert.MergeReferenceIdeal.defs _ _).mono (fun r h => ⟨fun c => (h c).2.2, Idealize.ShloMosaic.sem_eq_zero_of_no_sems (by decide) r.2⟩)
    (Cert.MergeReferenceIdeal.Value.run (F := Ideal) m g)

/-- The specified residual on equal arguments. -/
theorem residual_congr {f f' b b' x x' : MergeSpec.Rows} {y y' : MergeSpec.Gates} {n n' : MergeSpec.Near} {g g' p p' : MergeSpec.Gain} {wb wb' wo wo' : MergeSpec.Square}
    {wn wn' : MergeSpec.Tall} {t t' : MergeSpec.Mods} (h : f = f' ∧ b = b' ∧ y = y' ∧ n = n' ∧ x = x' ∧ g = g' ∧ wb = wb' ∧ wn = wn' ∧ wo = wo' ∧ p = p') (ht : t = t') :
    MergeSpec.residual f b y n x g wb wn wo p t = MergeSpec.residual f' b' y' n' x' g' wb' wn' wo' p' t' := by
  obtain ⟨rfl, rfl, rfl, rfl, rfl, rfl, rfl, rfl, rfl, rfl⟩ := h
  rw [ht]

/-- The specified input of the feed-forward on equal arguments. -/
theorem input_congr {f f' b b' x x' : MergeSpec.Rows} {y y' : MergeSpec.Gates} {n n' : MergeSpec.Near} {g g' p p' q q' : MergeSpec.Gain} {wb wb' wo wo' : MergeSpec.Square}
    {wn wn' : MergeSpec.Tall} {t t' : MergeSpec.Mods} (h : f = f' ∧ b = b' ∧ y = y' ∧ n = n' ∧ x = x' ∧ g = g' ∧ wb = wb' ∧ wn = wn' ∧ wo = wo' ∧ p = p' ∧ q = q' ∧ t = t') :
    MergeSpec.input f b y n x g wb wn wo p q t = MergeSpec.input f' b' y' n' x' g' wb' wn' wo' p' q' t' := by
  obtain ⟨rfl, rfl, rfl, rfl, rfl, rfl, rfl, rfl, rfl, rfl, rfl, rfl⟩ := h
  rfl

/-- The kernel and the reference end with the same arrays. -/
theorem same : Cert.algebraic_MergeIdeal_MergeReferenceIdeal := by
  intro m g m' g' _ hargs
  refine ⟨fun c => Cert.MergeIdeal.Outcome.residualOf m c, fun c => Cert.MergeIdeal.Outcome.inputOf m c, Cert.MergeIdeal.Outcome.run m g, ?_⟩
  refine (θ_run Cert.MergeReferenceIdeal.defs _ _).mono (fun r h c => ⟨(h c).1.trans ?_, (h c).2.1.trans ?_, (h c).2.2⟩) (Cert.MergeReferenceIdeal.Value.run (F := Ideal) m' g')
  · refine (Cert.MergeReferenceIdeal.Read.val_main_v81_eq _ _).trans ((Cert.MergeReferenceIdeal.RefOut.residual_eq _ _ _ _ _ _ _ _ _ _ _).trans ?_)
    obtain ⟨h0, h1, h2, h3, h4, h5, h6, h7, h8, h9, _, h11⟩ := hargs c
    exact residual_congr ⟨h0, h1, h2, h3, h4, h5, h6, h7, h8, h9⟩ h11
  · refine (Cert.MergeReferenceIdeal.Read.val_main_v116_eq _ _).trans ((Cert.MergeReferenceIdeal.RefOut.input_eq _ _ _ _ _ _ _ _ _ _ _ _).trans ?_)
    exact input_congr (hargs c)

end Cert.MergeSame

end
-- ==== Proof.ModulationSpec.lean ====
module

public import Idealize.ShloMosaic.PureOps.Ideal
public import Idealize.ShloMosaic.PureOps.Ideal.Laws
public import Idealize.ShloMosaic.Lib.ValueIdx

@[expose] public section

noncomputable section

namespace Cert.ModulationSpec

open Idealize.ShloMosaic Idealize.ShloMosaic.ValueIdx

/-! ## The modulation, as a function of the arguments

Each of the eight conditioning rows, gated by its own logistic, is multiplied by each layer's weights, and the layer's
bias is added. -/

abbrev Conds := (⟨2, ![8, 1024]⟩ : Shape).Idx → EReal
abbrev Weights := (⟨3, ![4, 1024, 6144]⟩ : Shape).Idx → EReal
abbrev Biases := (⟨2, ![4, 6144]⟩ : Shape).Idx → EReal
abbrev Mods := (⟨3, ![4, 8, 6144]⟩ : Shape).Idx → EReal

/-- Layer `l`'s modulation of row `a`, at column `j`. -/
def entry (x : Conds) (w : Weights) (b : Biases) (l : Fin 4) (a : Fin 8) (j : Fin 6144) : EReal :=
  (∑ d : Fin 1024, x (ix2 a d) * Ideal.logistic (x (ix2 a d)) * w (ix3 l d j)) + b (ix2 l j)

/-- The result. -/
def modulation (x : Conds) (w : Weights) (b : Biases) : Mods := fun i => entry x w b (i 0) (i 1) (i 2)

end Cert.ModulationSpec
end
-- ==== Proof.ModulationValue.lean ====
/- The modulation's kernel ends with the specified array: each grid point fills 1536 columns of one layer. -/
module

public import proofs.«01_k».proof.Proof.ModulationSpec
public import proofs.«01_k».proof.Proof.Gen.ModulationIdeal.Value
public import Idealize.ShloMosaic.Lib.IdealHost
public import Idealize.ShloMosaic.Lib.MatmulPlain
public import Idealize.ShloMosaic.Lib.KernelVsHost
public import Idealize.ShloMosaic.Lib.Pipeline.Value
public import Idealize.ShloMosaic.Lib.Pipeline.ValueKit.Tiles

@[expose] public section

set_option maxRecDepth 16384

noncomputable section

namespace Cert.ModulationIdeal.Outcome

open Cert.ModulationIdeal Cert.ModulationIdeal.Gen Cert.ModulationIdeal.Value Cert.ModulationSpec
open Idealize.ShloMosaic Idealize.ShloMosaic.TcCoe Idealize.SL.Sem Idealize.ShloMosaic.ValueIdx

/-! ## The body at an index -/

/-- What the body leaves in the output block. -/
theorem out_eq (x0 : Vec Ideal S8x1024 .f32) (x1 : Vec Ideal S1x1024x1536 .f32) (x2 : Vec Ideal S1x1x1536 .f32) :
    out0_3 x0 x1 x2 = k0_pay1 x0 x1 x2 := by
  have h0 : View.ld x0 r0_0 = x0 := View.ld_unit_zero (off := ![0, 0]) (by decide) _ x0
  have h1 : View.ld x1 r0_1 = x1 := View.ld_unit_zero (off := ![0, 0, 0]) (by decide) _ x1
  have h2 : View.ld x2 r0_2 = x2 := View.ld_unit_zero (off := ![0, 0, 0]) (by decide) _ x2
  unfold out0_3
  rw [h0, h1, h2]
  exact View.canon_cons_unit_zero (Val := Elt Ideal) (S := S1x8x1536) (e := .f32) (off := ![0, 0, 0]) (by decide) inb_S1x8x1536_S1x8x1536_0_0_0 (k0_pay1 x0 x1 x2) []

theorem dot_apply (s : FVec Ideal S8x1024 .bf16) (w : FVec Ideal S1024x1536 .bf16) (a : Fin 8) (l : Fin 1536) :
    matmul dot_S8x1024_S1024x1536_S8x1536_1_0_0_1_n_n none s w (constant (F := Ideal) S8x1536 .f32 0x00000000#32) (ix2 a l)
      = ∑ d : Fin 1024, s (ix2 a d) * w (ix2 d l) := by
  refine (Ideal.matmul_plain_apply none _ _ _ a l).trans ?_
  rw [show (constant (F := Ideal) S8x1536 .f32 0x00000000#32 (ix2 a l) : EReal) = 0 from Ideal.ofBits_zero_f32, zero_add]

theorem weight_apply (w : FVec Ideal S1x1024x1536 .f32) (d : Fin 1024) (l : Fin 1536) :
    shapeCast S1024x1536 w shapeCasts_S1x1024x1536_S1024x1536 (ix2 d l) = w (ix3 0 d l) :=
  shapeCast_apply w _ (ix2 d l) (ix3 0 d l) (by
    rewrite [Shape.rowMajor_val_three, Shape.rowMajor_val_two]
    show (0 * 1024 + d.val) * 1536 + l.val = d.val * 1536 + l.val
    omega)

theorem bias_apply (b : FVec Ideal S1x1x1536 .f32) (a : Fin 8) (l : Fin 1536) :
    broadcastTo S8x1536 (shapeCast S1x1536 b shapeCasts_S1x1x1536_S1x1536) broadcasts_S1x1536_S8x1536 (ix2 a l) = b (ix3 0 0 l) := by
  refine (broadcastTo_apply _ broadcasts_S1x1536_S8x1536 (ix2 a l) (ix2 0 l) (fun y => match y with
    | ⟨0, _⟩ => rfl
    | ⟨1, _⟩ => (if_neg (show ¬(1536 : ℕ) = 1 by decide)).symm)).trans ?_
  exact shapeCast_apply b _ (ix2 0 l) (ix3 0 0 l) (by
    rewrite [Shape.rowMajor_val_three, Shape.rowMajor_val_two]
    show (0 * 1 + 0) * 1536 + l.val = 0 * 1536 + l.val
    omega)

theorem pay_apply (x0 : FVec Ideal S8x1024 .f32) (x1 : FVec Ideal S1x1024x1536 .f32) (x2 : FVec Ideal S1x1x1536 .f32) (a : Fin 8) (l : Fin 1536) :
    k0_pay1 (F := Ideal) x0 x1 x2 (ix3 0 a l)
      = (∑ d : Fin 1024, x0 (ix2 a d) * Ideal.logistic (x0 (ix2 a d)) * x1 (ix3 0 d l)) + x2 (ix3 0 0 l) := by
  unfold k0_pay1
  refine (shapeCast_apply _ _ (ix3 0 a l) (ix2 a l) (by
    rewrite [Shape.rowMajor_val_three, Shape.rowMajor_val_two]
    show a.val * 1536 + l.val = (0 * 8 + a.val) * 1536 + l.val
    omega)).trans ?_
  refine congrArg₂ (fun y z : EReal => y + z) ?_ (bias_apply x2 a l)
  exact (dot_apply _ _ a l).trans (Finset.sum_congr rfl fun d _ =>
    congrArg (fun z : EReal => x0 (ix2 a d) * Ideal.logistic (x0 (ix2 a d)) * z) (weight_apply x1 d l))

/-! ## The blocks a point reads -/

variable (m : (ℓ : Loc nD τ sig) → Buf (Elt Ideal) ℓ) (c : Dev nD)

abbrev xOf : Conds := m ((c : Thread nD τ).loc main_arg0)
abbrev wOf : Weights := m ((c : Thread nD τ).loc main_arg1)
abbrev bOf : Biases := m ((c : Thread nD τ).loc main_arg2)

/-- Which block each window is on at a point: layer `t / 4`, columns from `1536 * (t % 4)`. -/
theorem index0 : ∀ t : Fin cfg0.N, win0_0.index t 0 = 0 ∧ win0_0.index t 1 = 0 :=
  (by decide +kernel : ∀ t : Fin grid0.N, _)
theorem index1 : ∀ t : Fin cfg0.N, win0_1.index t 0 = t.val / 4 ∧ win0_1.index t 1 = 0 ∧ win0_1.index t 2 = t.val % 4 :=
  (by decide +kernel : ∀ t : Fin grid0.N, _)
theorem index2 : ∀ t : Fin cfg0.N, win0_2.index t 0 = t.val / 4 ∧ win0_2.index t 1 = 0 ∧ win0_2.index t 2 = t.val % 4 :=
  (by decide +kernel : ∀ t : Fin grid0.N, _)
theorem index3 : ∀ t : Fin cfg0.N, win0_3.index t 0 = t.val / 4 ∧ win0_3.index t 1 = 0 ∧ win0_3.index t 2 = t.val % 4 :=
  (by decide +kernel : ∀ t : Fin grid0.N, _)

theorem blk_x (t : Fin cfg0.N) (a : Fin 8) (d : Fin 1024) : (iblk m c 0 t : Vec Ideal S8x1024 .f32) (ix2 a d) = xOf m c (ix2 a d) := by
  obtain ⟨e0, e1⟩ := index0 t
  unfold iblk
  rw [View.read_apply]
  show V m c main_arg0 _ = _
  rw [V_main_arg0]
  refine congrArg (m (c.tc.loc main_arg0)) (funext fun y => Fin.ext ?_)
  match y with
  | ⟨0, _⟩ => show win0_0.index t 0 * 8 + 1 * a.val = a.val; omega
  | ⟨1, _⟩ => show win0_0.index t 1 * 1024 + 1 * d.val = d.val; omega

theorem blk_w (t : Fin cfg0.N) (d : Fin 1024) (l : Fin 1536) (k : Fin 4) (j : Fin 6144) (hk : k.val = t.val / 4) (hj : j.val = 1536 * (t.val % 4) + l.val) :
    (iblk m c 1 t : Vec Ideal S1x1024x1536 .f32) (ix3 0 d l) = wOf m c (ix3 k d j) := by
  obtain ⟨e0, e1, e2⟩ := index1 t
  unfold iblk
  rw [View.read_apply]
  show V m c main_arg1 _ = _
  rw [V_main_arg1]
  refine congrArg (m (c.tc.loc main_arg1)) (funext fun y => Fin.ext ?_)
  match y with
  | ⟨0, _⟩ => show win0_1.index t 0 * 1 + 1 * 0 = k.val; omega
  | ⟨1, _⟩ => show win0_1.index t 1 * 1024 + 1 * d.val = d.val; omega
  | ⟨2, _⟩ => show win0_1.index t 2 * 1536 + 1 * l.val = j.val; omega

/-- The biases as the kernel finds them, reshaped. -/
theorem bias_found : (V m c main_v0 : Vec Ideal S4x1x6144 .f32) = shapeCast S4x1x6144 (bOf m c) shapeCasts_S4x6144_S4x1x6144 := by
  unfold V
  simp only [hostOps0]
  after_results_simp
  rfl

theorem blk_b (t : Fin cfg0.N) (l : Fin 1536) (k : Fin 4) (j : Fin 6144) (hk : k.val = t.val / 4) (hj : j.val = 1536 * (t.val % 4) + l.val) :
    (iblk m c 2 t : Vec Ideal S1x1x1536 .f32) (ix3 0 0 l) = bOf m c (ix2 k j) := by
  obtain ⟨e0, e1, e2⟩ := index2 t
  unfold iblk
  rw [View.read_apply]
  show (V m c main_v0 : Vec Ideal S4x1x6144 .f32) _ = _
  rw [bias_found]
  refine (congrArg (shapeCast S4x1x6144 (bOf m c) shapeCasts_S4x6144_S4x1x6144) (show _ = (ix3 k 0 j : S4x1x6144.Idx) from funext fun y => Fin.ext ?_)).trans
    (shapeCast_apply _ _ (ix3 k 0 j) (ix2 k j) (by
      rewrite [Shape.rowMajor_val_three, Shape.rowMajor_val_two]
      show k.val * 6144 + j.val = (k.val * 1 + 0) * 6144 + j.val
      omega))
  match y with
  | ⟨0, _⟩ => show win0_2.index t 0 * 1 + 1 * 0 = k.val; omega
  | ⟨1, _⟩ => show win0_2.index t 1 * 1 + 1 * 0 = 0; omega
  | ⟨2, _⟩ => show win0_2.index t 2 * 1536 + 1 * l.val = j.val; omega

/-! ## The result array -/

/-- The specified result. -/
abbrev result : Mods := modulation (xOf m c) (wOf m c) (bOf m c)

/-- Where an entry of a point's block lies in the array. -/
theorem place (t : Fin cfg0.N) (a : Fin 8) (l : Fin 1536) (k : Fin 4) (j : Fin 6144) (hk : k.val = t.val / 4) (hj : j.val = 1536 * (t.val % 4) + l.val) :
    ((cfg0.win 3).blk t).view.emb (ix3 0 a l : S1x8x1536.Idx) = (ix3 k a j : S4x8x6144.Idx) := by
  obtain ⟨e0, e1, e2⟩ := index3 t
  funext y
  apply Fin.ext
  match y with
  | ⟨0, _⟩ => show win0_3.index t 0 * 1 + 1 * 0 = k.val; omega
  | ⟨1, _⟩ => show win0_3.index t 1 * 8 + 1 * a.val = a.val; omega
  | ⟨2, _⟩ => show win0_3.index t 2 * 1536 + 1 * l.val = j.val; omega

/-- A point's block, of the arguments. -/
theorem block_eq (t : Fin cfg0.N) (a : Fin 8) (l : Fin 1536) (k : Fin 4) (j : Fin 6144) (hk : k.val = t.val / 4) (hj : j.val = 1536 * (t.val % 4) + l.val) :
    k0_pay1 (F := Ideal) (iblk m c 0 t) (iblk m c 1 t) (iblk m c 2 t) (ix3 0 a l) = entry (xOf m c) (wOf m c) (bOf m c) k a j := by
  refine (pay_apply _ _ _ a l).trans (congrArg₂ (fun y z : EReal => y + z) (Finset.sum_congr rfl fun d _ => ?_) (blk_b m c t l k j hk hj))
  exact congrArg₂ (fun y z : EReal => y * Ideal.logistic y * z) (blk_x m c t a d) (blk_w m c t d l k j hk hj)

/-- What a grid point writes back is its block of the specified array. -/
theorem flushed_eq (t : Fin cfg0.N) : (dats m 0 c).flushed 3 t = ((cfg0.win 3).blk t).view.read (Elt Ideal) (result m c) := by
  rw [flushed3, out_eq]
  funext i
  rw [View.read_apply]
  have ht : t.val < 16 := Nat.lt_of_lt_of_eq t.isLt N_0
  obtain ⟨a, l, rfl⟩ : ∃ (a : Fin 8) (l : Fin 1536), i = (ix3 0 a l : S1x8x1536.Idx) := ⟨i 1, i 2, by
    funext y
    match y with
    | ⟨0, _⟩ =>
      refine Fin.ext ?_
      have h0 : (i 0).val < 1 := (i 0).isLt
      show (i 0).val = 0
      omega
    | ⟨1, _⟩ => rfl
    | ⟨2, _⟩ => rfl⟩
  exact (block_eq m c t a l ⟨t.val / 4, by omega⟩ ⟨1536 * (t.val % 4) + l.val, by omega⟩ rfl rfl).trans
    (congrArg (result m c) (place t a l ⟨t.val / 4, by omega⟩ ⟨1536 * (t.val % 4) + l.val, by omega⟩ rfl rfl) : _ = _).symm

/-- Every place of the result lies in a point's block. -/
theorem covered (i : S4x8x6144.Idx) : ∃ t : Fin cfg0.N, (cfg0.win 3).flush t = true ∧ i ∈ ((cfg0.win 3).blk t).view.set := by
  have h0 : (i 0).val < 4 := (i 0).isLt
  have h2 : (i 2).val < 6144 := (i 2).isLt
  have hp : 4 * (i 0).val + (i 2).val / 1536 < cfg0.N := Nat.lt_of_lt_of_eq (show 4 * (i 0).val + (i 2).val / 1536 < 16 by omega) N_0.symm
  refine ⟨⟨4 * (i 0).val + (i 2).val / 1536, hp⟩, flush0_3 _, ?_⟩
  have hl : (i 2).val % 1536 < 1536 := by omega
  have e := place ⟨4 * (i 0).val + (i 2).val / 1536, hp⟩ (i 1 : Fin 8) (⟨(i 2).val % 1536, hl⟩ : Fin 1536) (i 0) (i 2)
    (by show (i 0).val = (4 * (i 0).val + (i 2).val / 1536) / 4; omega)
    (by show (i 2).val = 1536 * ((4 * (i 0).val + (i 2).val / 1536) % 4) + (i 2).val % 1536; omega)
  have ii : i = (ix3 (i 0 : Fin 4) (i 1 : Fin 8) (i 2 : Fin 6144) : S4x8x6144.Idx) := by
    funext y
    match y with
    | ⟨0, _⟩ => rfl
    | ⟨1, _⟩ => rfl
    | ⟨2, _⟩ => rfl
  have g := View.emb_mem_set ((cfg0.win 3).blk ⟨4 * (i 0).val + (i 2).val / 1536, hp⟩).view (ix3 0 (i 1 : Fin 8) (⟨(i 2).val % 1536, hl⟩ : Fin 1536) : S1x8x1536.Idx)
  rwa [e.trans ii.symm] at g

/-- The result array after the kernel's run. -/
theorem final : (dats m 0 c).arrAt 3 cfg0.N = result m c :=
  (dats m 0 c).arrAt_eq_of_cover 3 (result m c) (fun t _ => flushed_eq m c t) covered

/-- The run ends with the specified array and the arguments as they were. -/
theorem run (g : Dev nD → PrngReg) : θ_run defs (onTc (τ := τ) (main (F := Ideal))) ⟨m, fun _ => 0, g⟩ fun r => ∀ c : Dev nD,
    r.2.mem ((c.tc : Thread nD τ).loc main_v1) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨(h c).1.trans (final m c), (h c).2⟩) (run_blocks m g)

end Cert.ModulationIdeal.Outcome
end
-- ==== Proof.ModulationRefOut.lean ====
/- The reference's result, read at an index: the specified array. -/
module

public import proofs.«01_k».proof.Proof.Gen.ModulationReferenceIdeal.Read
public import proofs.«01_k».proof.Proof.ModulationSpec
public import Idealize.ShloMosaic.Lib.IdealHost
public import Idealize.ShloMosaic.Lib.StackMember
public import Idealize.ShloMosaic.Lib.Pipeline.Value

@[expose] public section

set_option maxRecDepth 16384

noncomputable section

namespace Cert.ModulationReferenceIdeal.RefOut

open Cert.ModulationReferenceIdeal Cert.ModulationReferenceIdeal.Gen Cert.ModulationReferenceIdeal.Read Cert.ModulationSpec
open Idealize.ShloMosaic Idealize.ShloMosaic.ValueIdx

/-- The gated conditioning rows. -/
def gated (x : FVec Ideal S8x1024 .f32) : FVec Ideal S8x1024 .f32 := val_main_v0 (F := Ideal) x

theorem gated_apply (x : Conds) (i : S8x1024.Idx) : gated x i = x i * Ideal.logistic (x i) := by
  show x i * Ideal.div (Ideal.ofBits .f32 0x3F800000#32) (Ideal.ofBits .f32 0x3F800000#32 + Ideal.exp (-(x i))) = _
  rw [Ideal.ofBits_one_f32]
  rfl

/-- Layer `o`'s weights. -/
def weightsAt (o : ℕ) (h : S4x1024x6144.Slices ![o, 0, 0] S1x1024x6144) (w : FVec Ideal S4x1024x6144 .f32) : FVec Ideal S1024x6144 .f32 :=
  shapeCast S1024x6144 (extractStridedSlice S1x1024x6144 ![o, 0, 0] w h) shapeCasts_S1x1024x6144_S1024x6144

theorem weightsAt_apply (l : Fin 4) (h) (w : Weights) (d : Fin 1024) (j : Fin 6144) : weightsAt l.val h w (ix2 d j) = w (ix3 l d j) := by
  unfold weightsAt
  refine (shapeCast_apply _ _ (ix2 d j) (ix3 0 d j) (by
    rewrite [Shape.rowMajor_val_three, Shape.rowMajor_val_two]
    show (0 * 1024 + d.val) * 6144 + j.val = d.val * 6144 + j.val
    omega)).trans ?_
  exact extractStridedSlice_apply _ _ _ (ix3 0 d j) (ix3 l d j) fun a => match a with
    | ⟨0, _⟩ => by show l.val = l.val + 0; omega
    | ⟨1, _⟩ => by show d.val = 0 + d.val; omega
    | ⟨2, _⟩ => by show j.val = 0 + j.val; omega

/-- Layer `o`'s bias, on every row. -/
def biasAt (o : ℕ) (h : S4x6144.Slices ![o, 0] S1x6144) (b : FVec Ideal S4x6144 .f32) : FVec Ideal S8x6144 .f32 :=
  broadcastInDim S8x6144 ![0, 1] bcast_S1x6144_S8x6144_0_1 (broadcastInDim S1x6144 ![1] bcast_S6144_S1x6144_1
    (shapeCast S6144 (extractStridedSlice S1x6144 ![o, 0] b h) shapeCasts_S1x6144_S6144))

theorem biasAt_apply (l : Fin 4) (h) (b : Biases) (a : Fin 8) (j : Fin 6144) : biasAt l.val h b (ix2 a j) = b (ix2 l j) := by
  unfold biasAt
  refine (broadcastInDim_apply _ _ _ (ix2 a j) (ix2 0 j) (fun y => match y with
    | ⟨0, _⟩ => rfl
    | ⟨1, _⟩ => (if_neg (show ¬(6144 : ℕ) = 1 by decide)).symm)).trans ?_
  refine (broadcastInDim_apply _ _ _ (ix2 0 j) (ix1 j) (fun y => match y with
    | ⟨0, _⟩ => (if_neg (show ¬(6144 : ℕ) = 1 by decide)).symm)).trans ?_
  refine (shapeCast_apply _ _ (ix1 j) (ix2 0 j) (by
    rewrite [Shape.rowMajor_val_two, Shape.rowMajor_val_one]
    show 0 * 6144 + j.val = j.val
    omega)).trans ?_
  exact extractStridedSlice_apply _ _ _ (ix2 0 j) (ix2 l j) fun y => match y with
    | ⟨0, _⟩ => by show l.val = l.val + 0; omega
    | ⟨1, _⟩ => by show j.val = 0 + j.val; omega

/-- Layer `o`'s part of the result. -/
def layer (o : ℕ) (h1 : S4x1024x6144.Slices ![o, 0, 0] S1x1024x6144) (h2 : S4x6144.Slices ![o, 0] S1x6144)
    (x : FVec Ideal S8x1024 .f32) (w : FVec Ideal S4x1024x6144 .f32) (b : FVec Ideal S4x6144 .f32) : FVec Ideal S1x8x6144 .f32 :=
  broadcastInDim S1x8x6144 ![1, 2] bcast_S8x6144_S1x8x6144_1_2
    (addf (Host.dotGeneral dot_S8x1024_S1024x6144_S8x6144_1_0_0_1_n_n none (gated x) (weightsAt o h1 w)) (biasAt o h2 b))

theorem layer_apply (l : Fin 4) (h1 h2) (x : Conds) (w : Weights) (b : Biases) (a : Fin 8) (j : Fin 6144) :
    layer l.val h1 h2 x w b (ix3 0 a j) = entry x w b l a j := by
  unfold layer
  refine (broadcastInDim_apply ![1, 2] bcast_S8x6144_S1x8x6144_1_2 _ (ix3 0 a j) (ix2 a j) (fun y => match y with
    | ⟨0, _⟩ => (if_neg (show ¬(8 : ℕ) = 1 by decide)).symm
    | ⟨1, _⟩ => (if_neg (show ¬(6144 : ℕ) = 1 by decide)).symm)).trans ?_
  refine congrArg₂ (fun y z : EReal => y + z) ?_ (biasAt_apply l h2 b a j)
  exact (StackMember.dotGeneral_plain_apply none _ _ a j).trans (Finset.sum_congr rfl fun d _ =>
    congrArg₂ (fun y z : EReal => y * z) (gated_apply x (ix2 a d)) (weightsAt_apply l h1 w d j))

/-- The four layers' parts, in order. -/
abbrev parts (x : Conds) (w : Weights) (b : Biases) : List (Σ s : Shape, FVec Ideal s .f32) :=
  [⟨S1x8x6144, layer 0 slices_S4x1024x6144_S1x1024x6144_0_0_0 slices_S4x6144_S1x6144_0_0 x w b⟩,
    ⟨S1x8x6144, layer 1 slices_S4x1024x6144_S1x1024x6144_1_0_0 slices_S4x6144_S1x6144_1_0 x w b⟩,
    ⟨S1x8x6144, layer 2 slices_S4x1024x6144_S1x1024x6144_2_0_0 slices_S4x6144_S1x6144_2_0 x w b⟩,
    ⟨S1x8x6144, layer 3 slices_S4x1024x6144_S1x1024x6144_3_0_0 slices_S4x6144_S1x6144_3_0 x w b⟩]

theorem joined (x : Conds) (w : Weights) (b : Biases) : val_main_v37 (F := Ideal) x w b
    = concatenate S4x8x6144 0 (parts x w b) concatenates_S1x8x6144_S1x8x6144_S1x8x6144_S1x8x6144_S4x8x6144_d0 := rfl

theorem joined_apply (x : Conds) (w : Weights) (b : Biases) (l : Fin 4) (a : Fin 8) (j : Fin 6144) :
    concatenate S4x8x6144 0 (parts x w b) concatenates_S1x8x6144_S1x8x6144_S1x8x6144_S1x8x6144_S4x8x6144_d0 (ix3 l a j) = entry x w b l a j := by
  match l with
  | ⟨0, h⟩ =>
    refine (concatenate_apply_piece (0 : Fin S4x8x6144.rank) (parts x w b) concatenates_S1x8x6144_S1x8x6144_S1x8x6144_S1x8x6144_S4x8x6144_d0 (ix3 ⟨0, h⟩ a j) 0 (by decide : 0 < 4) S1x8x6144 _ rfl rfl 0 rfl (ix3 0 a j) (fun y => match y with
      | ⟨0, _⟩ => fun hb => absurd rfl hb
      | ⟨1, _⟩ => fun _ => rfl
      | ⟨2, _⟩ => fun _ => rfl) rfl).trans ?_
    exact layer_apply 0 _ _ x w b a j
  | ⟨1, h⟩ =>
    refine (concatenate_apply_piece (0 : Fin S4x8x6144.rank) (parts x w b) concatenates_S1x8x6144_S1x8x6144_S1x8x6144_S1x8x6144_S4x8x6144_d0 (ix3 ⟨1, h⟩ a j) 1 (by decide : 1 < 4) S1x8x6144 _ rfl rfl 1 rfl (ix3 0 a j) (fun y => match y with
      | ⟨0, _⟩ => fun hb => absurd rfl hb
      | ⟨1, _⟩ => fun _ => rfl
      | ⟨2, _⟩ => fun _ => rfl) rfl).trans ?_
    exact layer_apply 1 _ _ x w b a j
  | ⟨2, h⟩ =>
    refine (concatenate_apply_piece (0 : Fin S4x8x6144.rank) (parts x w b) concatenates_S1x8x6144_S1x8x6144_S1x8x6144_S1x8x6144_S4x8x6144_d0 (ix3 ⟨2, h⟩ a j) 2 (by decide : 2 < 4) S1x8x6144 _ rfl rfl 2 rfl (ix3 0 a j) (fun y => match y with
      | ⟨0, _⟩ => fun hb => absurd rfl hb
      | ⟨1, _⟩ => fun _ => rfl
      | ⟨2, _⟩ => fun _ => rfl) rfl).trans ?_
    exact layer_apply 2 _ _ x w b a j
  | ⟨3, h⟩ =>
    refine (concatenate_apply_piece (0 : Fin S4x8x6144.rank) (parts x w b) concatenates_S1x8x6144_S1x8x6144_S1x8x6144_S1x8x6144_S4x8x6144_d0 (ix3 ⟨3, h⟩ a j) 3 (by decide : 3 < 4) S1x8x6144 _ rfl rfl 3 rfl (ix3 0 a j) (fun y => match y with
      | ⟨0, _⟩ => fun hb => absurd rfl hb
      | ⟨1, _⟩ => fun _ => rfl
      | ⟨2, _⟩ => fun _ => rfl) rfl).trans ?_
    exact layer_apply 3 _ _ x w b a j

/-- The reference's result is the specified array. -/
theorem result_eq (x : Conds) (w : Weights) (b : Biases) : val_main_v37 (F := Ideal) x w b = modulation x w b := by
  rw [joined]
  funext i
  obtain ⟨l, a, j, rfl⟩ : ∃ (l : Fin 4) (a : Fin 8) (j : Fin 6144), i = (ix3 l a j : S4x8x6144.Idx) := ⟨i 0, i 1, i 2, by
    funext y
    match y with
    | ⟨0, _⟩ => rfl
    | ⟨1, _⟩ => rfl
    | ⟨2, _⟩ => rfl⟩
  exact joined_apply x w b l a j

end Cert.ModulationReferenceIdeal.RefOut
end
-- ==== Proof.ModulationSame.lean ====
/- The modulation's call: its claims, from the generated frames, the kernel's array (Proof/ModulationValue.lean) and the
   reference's (Proof/ModulationRefOut.lean). -/
module

public import proofs.«01_k».proof.Defs
public import proofs.«01_k».proof.Proof.Gen.Modulation
public import proofs.«01_k».proof.Proof.Gen.Modulation.Frame
public import proofs.«01_k».proof.Proof.Gen.ModulationIdeal
public import proofs.«01_k».proof.Proof.Gen.ModulationReferenceIdeal
public import proofs.«01_k».proof.Proof.Gen.ModulationReferenceIdeal.Run
public import proofs.«01_k».proof.Proof.ModulationValue
public import proofs.«01_k».proof.Proof.ModulationRefOut

@[expose] public section

noncomputable section

namespace Cert.ModulationSame

open Idealize.ShloMosaic Idealize.SL.Sem Idealize.ShloMosaic.TcCoe

/-- The call as printed runs, keeps its arguments, and leaves every counter at zero. -/
theorem frame : Cert.quiescent_Modulation := fun m g _ => Cert.Modulation.Gen.frame m g

/-- So does its idealized form. -/
theorem frame_ideal : Cert.quiescent_ModulationIdeal := fun m g _ => Cert.ModulationIdeal.Gen.frame m g

/-- And its reference, which declares no counter. -/
theorem frame_reference : Cert.quiescent_ModulationReferenceIdeal := fun m g _ =>
  (θ_run Cert.ModulationReferenceIdeal.defs _ _).mono (fun r h => ⟨fun c => (h c).2, Idealize.ShloMosaic.sem_eq_zero_of_no_sems (by decide) r.2⟩)
    (Cert.ModulationReferenceIdeal.Value.run (F := Ideal) m g)

/-- The specified array on equal arguments. -/
theorem modulation_congr {x x' : ModulationSpec.Conds} {w w' : ModulationSpec.Weights} {b b' : ModulationSpec.Biases} (h : x = x' ∧ w = w' ∧ b = b') :
    ModulationSpec.modulation x w b = ModulationSpec.modulation x' w' b' := by
  obtain ⟨rfl, rfl, rfl⟩ := h
  rfl

/-- The kernel and the reference end with the same array. -/
theorem same : Cert.algebraic_ModulationIdeal_ModulationReferenceIdeal := by
  intro m g m' g' _ hargs
  refine ⟨fun c => Cert.ModulationIdeal.Outcome.result m c, Cert.ModulationIdeal.Outcome.run m g, ?_⟩
  refine (θ_run Cert.ModulationReferenceIdeal.defs _ _).mono (fun r h c => ⟨(h c).1.trans ?_, (h c).2⟩) (Cert.ModulationReferenceIdeal.Value.run (F := Ideal) m' g')
  exact (Cert.ModulationReferenceIdeal.Read.val_main_v37_eq _ _ _).trans ((Cert.ModulationReferenceIdeal.RefOut.result_eq _ _ _).trans (modulation_congr (hargs c)))

end Cert.ModulationSame

end
-- ==== Proof.MergeRouterBody.lean ====
/- What a grid point of the merge with a router leaves in the blocks of its first two outputs. -/
module

public import proofs.«01_k».proof.Proof.Gen.MergeRouterIdeal.Frame
public import Idealize.ShloMosaic.Lib.VecWindow
public import Idealize.ShloMosaic.Lib.Pipeline.Value

@[expose] public section

set_option maxRecDepth 16384

noncomputable section

namespace Cert.MergeRouterIdeal.Body

open Cert.MergeRouterIdeal Cert.MergeRouterIdeal.Gen
open Idealize.ShloMosaic Idealize.ShloMosaic.TcCoe Idealize.SL.Sem

variable {F : FTy → Type} [FloatOps F]

variable (x0 x1 x2 x3 x4 : Vec F S256x1024 .bf16) (x5 : Vec F S256x512 .bf16) (x6 : Vec F S256x1024 .f32) (x7 : Vec F S1x1024 .f32) (x8 : Vec F S1x1024x1024 .bf16)
  (x9 : Vec F S1x512x1024 .bf16) (x10 : Vec F S1x1024x1024 .bf16) (x11 : Vec F S1x1024 .f32) (x12 : Vec F S1x1x1x1024 .f32) (x13 : Vec F S1x1024 .f32)
  (x14 x15 : Vec F S1x1x1x1024 .f32) (x16 x17 : Vec F S1024x128 .bf16)

/-- The block's merged rows. -/
def rows : FVec F S256x1024 .f32 :=
  k0_pay7 (k0_pay2 x0 x1) (k0_pay3 x0 x1) (k0_pay4 x0 x1) (k0_pay5 x0 x1) (k0_pay6 x0 x1) x2 x7 x3 x8 x4 x5 x9 x10

section Point

variable (c : Dev nD) (i : grid0.Coords) (a1 : Memref sig .tc .vmem S256x1024 .bf16) (w1 : a1.IsWhole) (a2 : Memref sig .tc .vmem S256x1024 .bf16) (w2 : a2.IsWhole)
  (a3 : Memref sig .tc .vmem S256x1024 .bf16) (w3 : a3.IsWhole) (a4 : Memref sig .tc .vmem S256x1024 .bf16) (w4 : a4.IsWhole) (a5 : Memref sig .tc .vmem S256x1024 .bf16) (w5 : a5.IsWhole)
  (a6 : Memref sig .tc .vmem S256x512 .bf16) (w6 : a6.IsWhole) (a7 : Memref sig .tc .vmem S256x1024 .f32) (w7 : a7.IsWhole) (a8 : Memref sig .tc .vmem S1x1024 .f32) (w8 : a8.IsWhole)
  (a9 : Memref sig .tc .vmem S1x1024x1024 .bf16) (w9 : a9.IsWhole) (a10 : Memref sig .tc .vmem S1x512x1024 .bf16) (w10 : a10.IsWhole) (a11 : Memref sig .tc .vmem S1x1024x1024 .bf16) (w11 : a11.IsWhole)
  (a12 : Memref sig .tc .vmem S1x1024 .f32) (w12 : a12.IsWhole) (a13 : Memref sig .tc .vmem S1x1x1x1024 .f32) (w13 : a13.IsWhole) (a14 : Memref sig .tc .vmem S1x1024 .f32) (w14 : a14.IsWhole)
  (a15 : Memref sig .tc .vmem S1x1x1x1024 .f32) (w15 : a15.IsWhole) (a16 : Memref sig .tc .vmem S1x1x1x1024 .f32) (w16 : a16.IsWhole)
  (a17 : Memref sig .tc .vmem S1024x128 .bf16) (w17 : a17.IsWhole) (a18 : Memref sig .tc .vmem S1024x128 .bf16) (w18 : a18.IsWhole) (a19 : Memref sig .tc .vmem S256x1024 .f32) (w19 : a19.IsWhole)
  (a20 : Memref sig .tc .vmem S256x1024 .f32) (w20 : a20.IsWhole) (a21 : Memref sig .tc .vmem S256x128 .f32) (w21 : a21.IsWhole) (a22 : Memref sig .tc .vmem S8x128 .f32) (w22 : a22.IsWhole)
  (a23 : Memref sig .tc .vmem S1x128 .f32) (w23 : a23.IsWhole)

theorem residual_first (hc : cond0_0 i) :
    out0_A_18 c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 hc
      x0 x1 x2 x3 x4 x5 x6 x7 x8 x9 x10 x11 x12 x13 x14 x15 x16 x17 = k0_pay8 (rows x0 x1 x2 x3 x4 x5 x7 x8 x9 x10) x6 x12 x11 := by
  unfold out0_A_18
  unfold kernelRun0_A
  dsimp only
  sl_unfold_words
  refine (View.read_writes_full _ _ _ _ _).trans ?_
  simp only [View.readAt_eq_ld, Memref.IsWhole.read_unread]
  rw [View.ld_unit_zero (off := ![0, 0]) (by decide) _ x0, View.ld_unit_zero (off := ![0, 0]) (by decide) _ x1,
    View.ld_unit_zero (off := ![0, 0]) (by decide) _ x2, View.ld_unit_zero (off := ![0, 0]) (by decide) _ x3,
    View.ld_unit_zero (off := ![0, 0]) (by decide) _ x4, View.ld_unit_zero (off := ![0, 0]) (by decide) _ x5,
    View.ld_unit_zero (off := ![0, 0]) (by decide) _ x6, View.ld_unit_zero (off := ![0, 0]) (by decide) _ x7,
    View.ld_unit_zero (off := ![0, 0, 0]) (by decide) _ x8, View.ld_unit_zero (off := ![0, 0, 0]) (by decide) _ x9,
    View.ld_unit_zero (off := ![0, 0, 0]) (by decide) _ x10, View.ld_unit_zero (off := ![0, 0]) (by decide) _ x11,
    View.ld_unit_zero (off := ![0, 0, 0, 0]) (by decide) _ x12]
  rfl

theorem input_first (hc : cond0_0 i) :
    out0_A_19 c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 hc
      x0 x1 x2 x3 x4 x5 x6 x7 x8 x9 x10 x11 x12 x13 x14 x15 x16 x17 = k0_pay11 (k0_pay9 (rows x0 x1 x2 x3 x4 x5 x7 x8 x9 x10) x6 x12 x11 x13) (k0_pay10 x15) x14 := by
  unfold out0_A_19
  unfold kernelRun0_A
  dsimp only
  sl_unfold_words
  refine (View.read_writes_full _ _ _ _ _).trans ?_
  simp only [View.readAt_eq_ld, Memref.IsWhole.read_unread]
  rw [View.ld_unit_zero (off := ![0, 0]) (by decide) _ x0, View.ld_unit_zero (off := ![0, 0]) (by decide) _ x1,
    View.ld_unit_zero (off := ![0, 0]) (by decide) _ x2, View.ld_unit_zero (off := ![0, 0]) (by decide) _ x3,
    View.ld_unit_zero (off := ![0, 0]) (by decide) _ x4, View.ld_unit_zero (off := ![0, 0]) (by decide) _ x5,
    View.ld_unit_zero (off := ![0, 0]) (by decide) _ x6, View.ld_unit_zero (off := ![0, 0]) (by decide) _ x7,
    View.ld_unit_zero (off := ![0, 0, 0]) (by decide) _ x8, View.ld_unit_zero (off := ![0, 0, 0]) (by decide) _ x9,
    View.ld_unit_zero (off := ![0, 0, 0]) (by decide) _ x10, View.ld_unit_zero (off := ![0, 0]) (by decide) _ x11,
    View.ld_unit_zero (off := ![0, 0, 0, 0]) (by decide) _ x12, View.ld_unit_zero (off := ![0, 0]) (by decide) _ x13,
    View.ld_unit_zero (off := ![0, 0, 0, 0]) (by decide) _ x14, View.ld_unit_zero (off := ![0, 0, 0, 0]) (by decide) _ x15]
  rfl

theorem residual_later (hc : ¬cond0_0 i) (xs : Vec F S1x128 .f32) :
    out0_B_18 c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 hc
      x0 x1 x2 x3 x4 x5 x6 x7 x8 x9 x10 x11 x12 x13 x14 x15 x16 x17 xs = k0_pay8 (rows x0 x1 x2 x3 x4 x5 x7 x8 x9 x10) x6 x12 x11 := by
  unfold out0_B_18
  unfold kernelRun0_B
  dsimp only
  sl_unfold_words
  refine (View.read_writes_full _ _ _ _ _).trans ?_
  simp only [View.readAt_eq_ld, Memref.IsWhole.read_unread]
  rw [View.ld_unit_zero (off := ![0, 0]) (by decide) _ x0, View.ld_unit_zero (off := ![0, 0]) (by decide) _ x1,
    View.ld_unit_zero (off := ![0, 0]) (by decide) _ x2, View.ld_unit_zero (off := ![0, 0]) (by decide) _ x3,
    View.ld_unit_zero (off := ![0, 0]) (by decide) _ x4, View.ld_unit_zero (off := ![0, 0]) (by decide) _ x5,
    View.ld_unit_zero (off := ![0, 0]) (by decide) _ x6, View.ld_unit_zero (off := ![0, 0]) (by decide) _ x7,
    View.ld_unit_zero (off := ![0, 0, 0]) (by decide) _ x8, View.ld_unit_zero (off := ![0, 0, 0]) (by decide) _ x9,
    View.ld_unit_zero (off := ![0, 0, 0]) (by decide) _ x10, View.ld_unit_zero (off := ![0, 0]) (by decide) _ x11,
    View.ld_unit_zero (off := ![0, 0, 0, 0]) (by decide) _ x12]
  rfl

theorem input_later (hc : ¬cond0_0 i) (xs : Vec F S1x128 .f32) :
    out0_B_19 c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 hc
      x0 x1 x2 x3 x4 x5 x6 x7 x8 x9 x10 x11 x12 x13 x14 x15 x16 x17 xs = k0_pay11 (k0_pay9 (rows x0 x1 x2 x3 x4 x5 x7 x8 x9 x10) x6 x12 x11 x13) (k0_pay10 x15) x14 := by
  unfold out0_B_19
  unfold kernelRun0_B
  dsimp only
  sl_unfold_words
  refine (View.read_writes_full _ _ _ _ _).trans ?_
  simp only [View.readAt_eq_ld, Memref.IsWhole.read_unread]
  rw [View.ld_unit_zero (off := ![0, 0]) (by decide) _ x0, View.ld_unit_zero (off := ![0, 0]) (by decide) _ x1,
    View.ld_unit_zero (off := ![0, 0]) (by decide) _ x2, View.ld_unit_zero (off := ![0, 0]) (by decide) _ x3,
    View.ld_unit_zero (off := ![0, 0]) (by decide) _ x4, View.ld_unit_zero (off := ![0, 0]) (by decide) _ x5,
    View.ld_unit_zero (off := ![0, 0]) (by decide) _ x6, View.ld_unit_zero (off := ![0, 0]) (by decide) _ x7,
    View.ld_unit_zero (off := ![0, 0, 0]) (by decide) _ x8, View.ld_unit_zero (off := ![0, 0, 0]) (by decide) _ x9,
    View.ld_unit_zero (off := ![0, 0, 0]) (by decide) _ x10, View.ld_unit_zero (off := ![0, 0]) (by decide) _ x11,
    View.ld_unit_zero (off := ![0, 0, 0, 0]) (by decide) _ x12, View.ld_unit_zero (off := ![0, 0]) (by decide) _ x13,
    View.ld_unit_zero (off := ![0, 0, 0, 0]) (by decide) _ x14, View.ld_unit_zero (off := ![0, 0, 0, 0]) (by decide) _ x15]
  rfl

end Point

end Cert.MergeRouterIdeal.Body
end
-- ==== Proof.MergeRouterSpec.lean ====
/- The merge of the mixers in a layer with experts: its residual and its feed-forward input, as functions of the arguments. -/
module

public import proofs.«01_k».proof.Proof.MergeSpec
public import Idealize.ShloMosaic.PureOps.Ideal
public import Idealize.ShloMosaic.PureOps.Ideal.Laws
public import Idealize.ShloMosaic.Lib.ValueIdx

@[expose] public section

noncomputable section

namespace Cert.MergeSpec

open Idealize.ShloMosaic Idealize.ShloMosaic.ValueIdx

/-- The merged rows, of the arguments: the layer takes the second matrix of each stack. -/
def routedMerged (f b : Rows) (y : Gates) (n : Near) (g : Gain) (wb : Square) (wn : Tall) (wo : Square) (r : Fin 17408) : Line :=
  merged (fun j => f (ix2 r j) + b (ix2 r j)) (fun j => g (ix2 0 j)) (fun j => y (ix2 r (column 2048 (by decide) j))) (fun j => y (ix2 r (column 3072 (by decide) j)))
    (fun j => y (ix2 r (column 4096 (by decide) j))) (fun d => n (ix2 r d)) (fun d j => wb (ix3 1 d j)) (fun d j => wn (ix3 1 d j)) (fun d j => wo (ix3 1 d j))

/-- The residual's rows in such a layer. -/
def routedKept (f b : Rows) (y : Gates) (n : Near) (x : Rows) (g : Gain) (wb : Square) (wn : Tall) (wo : Square) (p : Gain) (t : Mods) (r : Fin 17408) : Line :=
  kept (fun j => x (ix2 r j)) (routedMerged f b y n g wb wn wo r) (fun j => p (ix2 0 j)) fun j => t (ix4 (stream r) 2 0 j)

/-- The first result: the residual. -/
def routedResidual (f b : Rows) (y : Gates) (n : Near) (x : Rows) (g : Gain) (wb : Square) (wn : Tall) (wo : Square) (p : Gain) (t : Mods) : Rows := fun i =>
  routedKept f b y n x g wb wn wo p t (i 0) (i 1)

/-- The second result: the feed-forward's input. -/
def routedInput (f b : Rows) (y : Gates) (n : Near) (x : Rows) (g : Gain) (wb : Square) (wn : Tall) (wo : Square) (p q : Gain) (t : Mods) : Rows := fun i =>
  next (routedKept f b y n x g wb wn wo p t (i 0)) (fun j => q (ix2 0 j)) (fun j => t (ix4 (stream (i 0)) 4 0 j)) (fun j => t (ix4 (stream (i 0)) 3 0 j)) (i 1)

end Cert.MergeSpec
end
-- ==== Proof.MergeRouterValue.lean ====
/- The merge with a router ends with the two specified arrays: each grid point fills its 256 rows of both. -/
module

public import proofs.«01_k».proof.Proof.MergeRouterBody
public import proofs.«01_k».proof.Proof.MergeRouterSpec
public import Idealize.ShloMosaic.Lib.IdealHost
public import Idealize.ShloMosaic.Lib.MatmulPlain
public import Idealize.ShloMosaic.Lib.KernelVsHost
public import Idealize.ShloMosaic.Lib.Pipeline.Value

@[expose] public section

set_option maxRecDepth 16384

noncomputable section

namespace Cert.MergeRouterIdeal.Outcome

open Cert.MergeRouterIdeal Cert.MergeRouterIdeal.Gen Cert.MergeRouterIdeal.Body Cert.MergeSpec
open Idealize.ShloMosaic Idealize.ShloMosaic.TcCoe Idealize.SL.Sem Idealize.ShloMosaic.ValueIdx

/-! ## The norms at an index -/

/-- A row's sum of squares, as the body takes it. -/
theorem squares_apply (y : FVec Ideal S256x1024 .f32) (a : Fin 256) :
    multiReduction .add [1] S256 (mulf y y) 0x00000000#32 reduces_S256x1024_S256 (.inl rfl) rfl (ix1 a) = ∑ j : Fin 1024, y (ix2 a j) * y (ix2 a j) := by
  refine (Ideal.multiReduction_add_single (mulf y y) _ reduces_S256x1024_S256 _ _ (ix1 a)).trans (Finset.sum_congr rfl fun j _ => ?_)
  have e : (reduces_S256x1024_S256.lift (ix1 a) j : S256x1024.Idx) = ix2 a j := by
    funext b
    match b with
    | ⟨0, _⟩ => rfl
    | ⟨1, _⟩ => rfl
  rw [e]
  rfl

theorem lane_apply (t : FVec Ideal S1x1x1x1024 .f32) (d : Fin 1024) : shapeCast S1x1024 t shapeCasts_S1x1x1x1024_S1x1024 (ix2 0 d) = t (ix4 0 0 0 d) :=
  shapeCast_apply t _ (ix2 0 d) (ix4 0 0 0 d) (by
    rewrite [Shape.rowMajor_val_four, Shape.rowMajor_val_two]
    show ((0 * 1 + 0) * 1 + 0) * 1024 + d.val = 0 * 1024 + d.val
    omega)

theorem down_apply (t : FVec Ideal S1x1024 .f32) (a : Fin 256) (d : Fin 1024) : broadcastTo S256x1024 t broadcasts_S1x1024_S256x1024 (ix2 a d) = t (ix2 0 d) :=
  broadcastTo_apply _ _ (ix2 a d) (ix2 0 d) fun b => match b with
    | ⟨0, _⟩ => rfl
    | ⟨1, _⟩ => (if_neg (show ¬(1024 : ℕ) = 1 by decide)).symm

/-- A head's sum of squares, as the body takes it. -/
theorem head_squares_apply (z : FVec Ideal S256x256 .f32) (a : Fin 256) :
    multiReduction .add [1] S256 (mulf z z) 0x00000000#32 reduces_S256x256_S256 (.inl rfl) rfl (ix1 a) = ∑ l : Fin 256, z (ix2 a l) * z (ix2 a l) := by
  refine (Ideal.multiReduction_add_single (mulf z z) _ reduces_S256x256_S256 _ _ (ix1 a)).trans (Finset.sum_congr rfl fun j _ => ?_)
  have e : (reduces_S256x256_S256.lift (ix1 a) j : S256x256.Idx) = ix2 a j := by
    funext b
    match b with
    | ⟨0, _⟩ => rfl
    | ⟨1, _⟩ => rfl
  rw [e]
  rfl

/-- A head's columns, normalised. -/
def part (z : FVec Ideal S256x256 .f32) : FVec Ideal S256x256 .f32 :=
  mulf z (broadcastTo S256x256 (rsqrt (addf (divf (shapeCast S256x1 (multiReduction .add [1] S256 (mulf z z) 0x00000000#32 reduces_S256x256_S256 (.inl rfl) rfl) shapeCasts_S256_S256x1)
    (broadcast S256x1 (Scalar.ofBits .f32 0x43800000#32))) (broadcast S256x1 (Scalar.ofBits .f32 0x358637BD#32)))) broadcasts_S256x1_S256x256)

theorem part_apply (z : FVec Ideal S256x256 .f32) (o : Line) (h : Fin 4) (a l : Fin 256) (hz : ∀ l, z (ix2 a l) = o (lane h l)) :
    part z (ix2 a l) = o (lane h l) * headScale o h := by
  unfold part headScale
  refine congrArg₂ (fun y z : EReal => y * z) (hz l) ?_
  refine (broadcastTo_apply _ _ (ix2 a l) (ix2 a 0) fun b => ?_).trans ?_
  · match b with
    | ⟨0, _⟩ => exact (if_neg (show ¬(256 : ℕ) = 1 by decide)).symm
    | ⟨1, _⟩ => rfl
  · refine congrArg (fun z : EReal => Ideal.rsqrt (Ideal.div z (Ideal.ofBits .f32 0x43800000#32) + Ideal.ofBits .f32 0x358637BD#32)) ?_
    refine (shapeCast_apply _ shapeCasts_S256_S256x1 (ix2 a 0) (ix1 a) ?_).trans ((head_squares_apply z a).trans (Finset.sum_congr rfl fun l _ => by rw [hz l]))
    rewrite [Shape.rowMajor_val_one, Shape.rowMajor_val_two]
    show a.val = a.val * 1 + 0
    omega

/-- A line times the reciprocal root of its mean square. -/
theorem scaled_apply (z : FVec Ideal S256x1024 .f32) (a : Fin 256) (d : Fin 1024) :
    mulf z (broadcastTo S256x1024 (rsqrt (addf (divf (shapeCast S256x1 (multiReduction .add [1] S256 (mulf z z) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024) (ix2 a d)
      = z (ix2 a d) * scale fun j => z (ix2 a j) := by
  unfold scale
  refine congrArg (fun y : EReal => z (ix2 a d) * y) ?_
  refine (broadcastTo_apply _ _ (ix2 a d) (ix2 a 0) fun b => ?_).trans ?_
  · match b with
    | ⟨0, _⟩ => exact (if_neg (show ¬(256 : ℕ) = 1 by decide)).symm
    | ⟨1, _⟩ => rfl
  · refine congrArg (fun z : EReal => Ideal.rsqrt (Ideal.div z (Ideal.ofBits .f32 0x44800000#32) + Ideal.ofBits .f32 0x358637BD#32)) ?_
    refine (shapeCast_apply _ shapeCasts_S256_S256x1 (ix2 a 0) (ix1 a) ?_).trans (squares_apply z a)
    rewrite [Shape.rowMajor_val_one, Shape.rowMajor_val_two]
    show a.val = a.val * 1 + 0
    omega

/-! ## The merged rows at an index -/

section Payloads

variable (x0 x1 x2 x3 x4 : FVec Ideal S256x1024 .bf16) (x5 : FVec Ideal S256x512 .bf16) (x6 : FVec Ideal S256x1024 .f32) (x7 : FVec Ideal S1x1024 .f32)
  (x8 : FVec Ideal S1x1024x1024 .bf16) (x9 : FVec Ideal S1x512x1024 .bf16) (x10 : FVec Ideal S1x1024x1024 .bf16) (x11 : FVec Ideal S1x1024 .f32)
  (x12 : FVec Ideal S1x1x1x1024 .f32) (x13 : FVec Ideal S1x1024 .f32) (x14 x15 : FVec Ideal S1x1x1x1024 .f32)

/-- The four heads, each normalised. -/
abbrev parts : List ((s : Shape) × (s.Idx → Elt Ideal .f32)) :=
  [⟨S256x256, part (extractStridedSlice S256x256 ![0, 0] (k0_pay1 (F := Ideal) x0 x1) slices_S256x1024_o0_0_S256x256)⟩,
   ⟨S256x256, part (extractStridedSlice S256x256 ![0, 256] (k0_pay1 (F := Ideal) x0 x1) slices_S256x1024_o0_256_S256x256)⟩,
   ⟨S256x256, part (extractStridedSlice S256x256 ![0, 512] (k0_pay1 (F := Ideal) x0 x1) slices_S256x1024_o0_512_S256x256)⟩,
   ⟨S256x256, part (extractStridedSlice S256x256 ![0, 768] (k0_pay1 (F := Ideal) x0 x1) slices_S256x1024_o0_768_S256x256)⟩]

theorem head_apply (h : Fin 4) (hs) (a l : Fin 256) :
    (extractStridedSlice S256x256 ![0, 256 * h.val] (k0_pay1 (F := Ideal) x0 x1) hs : S256x256.Idx → EReal) (ix2 a l) = x0 (ix2 a (lane h l)) + x1 (ix2 a (lane h l)) :=
  extractStridedSlice_apply _ (k0_pay1 (F := Ideal) x0 x1) hs (ix2 a l) (ix2 a (lane h l)) fun b => match b with
    | ⟨0, _⟩ => (Nat.zero_add _).symm
    | ⟨1, _⟩ => rfl

theorem normed_apply (a : Fin 256) (j : Fin 1024) :
    concatenate S256x1024 1 (parts x0 x1) concatenates_S256x256_S256x256_S256x256_S256x256_S256x1024_d1 (ix2 a j)
      = (x0 (ix2 a j) + x1 (ix2 a j)) * headScale (fun k => x0 (ix2 a k) + x1 (ix2 a k)) (head j) := by
  have hj := j.isLt
  have key : ∀ (h : Fin 4) (hs) (l : Fin 256), 256 * h.val + l.val = j.val →
      (part (extractStridedSlice S256x256 ![0, 256 * h.val] (k0_pay1 (F := Ideal) x0 x1) hs) : S256x256.Idx → EReal) (ix2 a l)
        = (x0 (ix2 a j) + x1 (ix2 a j)) * headScale (fun k => x0 (ix2 a k) + x1 (ix2 a k)) (head j) := by
    intro h hs l e
    obtain rfl : lane h l = j := Fin.ext e
    have hl := l.isLt
    have eh : head (lane h l) = h := Fin.ext (by show (256 * h.val + l.val) / 256 = h.val; omega)
    rw [eh]
    exact part_apply _ (fun k => x0 (ix2 a k) + x1 (ix2 a k)) h a l fun l => head_apply x0 x1 h hs a l
  by_cases h0 : j.val < 256
  · refine (concatenate_apply_piece (1 : Fin S256x1024.rank) (parts x0 x1) concatenates_S256x256_S256x256_S256x256_S256x256_S256x1024_d1 (ix2 a j) 0 (by decide : 0 < 4) S256x256 _ rfl rfl 0 rfl (ix2 a (⟨j.val - 0, by omega⟩ : Fin 256)) (fun b => match b with
      | ⟨0, _⟩ => fun _ => rfl
      | ⟨1, _⟩ => fun hb => absurd rfl hb) (by show 0 + (j.val - 0) = j.val; omega)).trans ?_
    exact key 0 slices_S256x1024_o0_0_S256x256 _ (by show 0 + (j.val - 0) = j.val; omega)
  by_cases h1 : j.val < 512
  · refine (concatenate_apply_piece (1 : Fin S256x1024.rank) (parts x0 x1) concatenates_S256x256_S256x256_S256x256_S256x256_S256x1024_d1 (ix2 a j) 1 (by decide : 1 < 4) S256x256 _ rfl rfl 256 rfl (ix2 a (⟨j.val - 256, by omega⟩ : Fin 256)) (fun b => match b with
      | ⟨0, _⟩ => fun _ => rfl
      | ⟨1, _⟩ => fun hb => absurd rfl hb) (by show 256 + (j.val - 256) = j.val; omega)).trans ?_
    exact key 1 slices_S256x1024_o0_256_S256x256 _ (by show 256 + (j.val - 256) = j.val; omega)
  by_cases h2 : j.val < 768
  · refine (concatenate_apply_piece (1 : Fin S256x1024.rank) (parts x0 x1) concatenates_S256x256_S256x256_S256x256_S256x256_S256x1024_d1 (ix2 a j) 2 (by decide : 2 < 4) S256x256 _ rfl rfl 512 rfl (ix2 a (⟨j.val - 512, by omega⟩ : Fin 256)) (fun b => match b with
      | ⟨0, _⟩ => fun _ => rfl
      | ⟨1, _⟩ => fun hb => absurd rfl hb) (by show 512 + (j.val - 512) = j.val; omega)).trans ?_
    exact key 2 slices_S256x1024_o0_512_S256x256 _ (by show 512 + (j.val - 512) = j.val; omega)
  · refine (concatenate_apply_piece (1 : Fin S256x1024.rank) (parts x0 x1) concatenates_S256x256_S256x256_S256x256_S256x256_S256x1024_d1 (ix2 a j) 3 (by decide : 3 < 4) S256x256 _ rfl rfl 768 rfl (ix2 a (⟨j.val - 768, by omega⟩ : Fin 256)) (fun b => match b with
      | ⟨0, _⟩ => fun _ => rfl
      | ⟨1, _⟩ => fun hb => absurd rfl hb) (by show 768 + (j.val - 768) = j.val; omega)).trans ?_
    exact key 3 slices_S256x1024_o0_768_S256x256 _ (by show 768 + (j.val - 768) = j.val; omega)

/-- A row of the block times a matrix. -/
theorem dot_apply (s : FVec Ideal S256x1024 .bf16) (w : FVec Ideal S1x1024x1024 .bf16) (a : Fin 256) (l : Fin 1024) :
    matmul dot_S256x1024_S1024x1024_S256x1024_1_0_0_1_n_n none s (shapeCast S1024x1024 w shapeCasts_S1x1024x1024_S1024x1024)
      (constant (F := Ideal) S256x1024 .f32 0x00000000#32) (ix2 a l) = ∑ d : Fin 1024, s (ix2 a d) * w (ix3 0 d l) := by
  refine (Ideal.matmul_plain_apply none _ _ _ a l).trans ?_
  rw [show (constant (F := Ideal) S256x1024 .f32 0x00000000#32 (ix2 a l) : EReal) = 0 from Ideal.ofBits_zero_f32, zero_add]
  refine Finset.sum_congr rfl fun d _ => congrArg (fun z : EReal => s (ix2 a d) * z) (shapeCast_apply w _ (ix2 d l) (ix3 0 d l) ?_)
  rewrite [Shape.rowMajor_val_three, Shape.rowMajor_val_two]
  show (0 * 1024 + d.val) * 1024 + l.val = d.val * 1024 + l.val
  omega

theorem near_dot_apply (s : FVec Ideal S256x512 .bf16) (w : FVec Ideal S1x512x1024 .bf16) (a : Fin 256) (l : Fin 1024) :
    matmul dot_S256x512_S512x1024_S256x1024_1_0_0_1_n_n none s (shapeCast S512x1024 w shapeCasts_S1x512x1024_S512x1024)
      (constant (F := Ideal) S256x1024 .f32 0x00000000#32) (ix2 a l) = ∑ d : Fin 512, s (ix2 a d) * w (ix3 0 d l) := by
  refine (Ideal.matmul_plain_apply none _ _ _ a l).trans ?_
  rw [show (constant (F := Ideal) S256x1024 .f32 0x00000000#32 (ix2 a l) : EReal) = 0 from Ideal.ofBits_zero_f32, zero_add]
  refine Finset.sum_congr rfl fun d _ => congrArg (fun z : EReal => s (ix2 a d) * z) (shapeCast_apply w _ (ix2 d l) (ix3 0 d l) ?_)
  rewrite [Shape.rowMajor_val_three, Shape.rowMajor_val_two]
  show (0 * 512 + d.val) * 1024 + l.val = d.val * 1024 + l.val
  omega

theorem rows_apply (a : Fin 256) (j : Fin 1024) :
    rows (F := Ideal) x0 x1 x2 x3 x4 x5 x7 x8 x9 x10 (ix2 a j)
      = merged (fun k => x0 (ix2 a k) + x1 (ix2 a k)) (fun k => x7 (ix2 0 k)) (fun k => x2 (ix2 a k)) (fun k => x3 (ix2 a k)) (fun k => x4 (ix2 a k))
          (fun d => x5 (ix2 a d)) (fun d j => x8 (ix3 0 d j)) (fun d j => x9 (ix3 0 d j)) (fun d j => x10 (ix3 0 d j)) j := by
  unfold rows k0_pay7
  refine (dot_apply _ x10 a j).trans (Finset.sum_congr rfl fun d _ => congrArg (fun z : EReal => z * x10 (ix3 0 d j)) ?_)
  refine congrArg₂ (fun y z : EReal => Ideal.logistic (x3 (ix2 a d)) * y + Ideal.logistic (x4 (ix2 a d)) * z) ?_ (near_dot_apply x5 x9 a d)
  refine (dot_apply _ x8 a d).trans (Finset.sum_congr rfl fun e _ => congrArg (fun z : EReal => z * x8 (ix3 0 e d)) ?_)
  exact congrArg₂ (fun y z : EReal => y * z * (x2 (ix2 a e) * Ideal.logistic (x2 (ix2 a e)))) (normed_apply x0 x1 a e) (down_apply x7 a e)

/-- The residual's rows, of the merged ones. -/
theorem kept_apply (z : FVec Ideal S256x1024 .f32) (a : Fin 256) (j : Fin 1024) :
    k0_pay8 (F := Ideal) z x6 x12 x11 (ix2 a j) = kept (fun j => x6 (ix2 a j)) (fun j => z (ix2 a j)) (fun j => x11 (ix2 0 j)) (fun j => x12 (ix4 0 0 0 j)) j := by
  unfold k0_pay8 kept
  refine congrArg (fun y : EReal => x6 (ix2 a j) + y) ?_
  refine congrArg₂ (fun y z : EReal => y * z) ((down_apply _ a j).trans (lane_apply x12 j)) ?_
  exact congrArg₂ (fun y z : EReal => y * z) (scaled_apply z a j) (down_apply x11 a j)

/-- The feed-forward's rows, of the residual's. -/
theorem next_apply (z : FVec Ideal S256x1024 .f32) (a : Fin 256) (j : Fin 1024) :
    k0_pay11 (F := Ideal) (k0_pay9 z x6 x12 x11 x13) (k0_pay10 x15) x14 (ix2 a j)
      = next (fun j => k0_pay8 (F := Ideal) z x6 x12 x11 (ix2 a j)) (fun j => x13 (ix2 0 j)) (fun j => x15 (ix4 0 0 0 j)) (fun j => x14 (ix4 0 0 0 j)) j := by
  unfold k0_pay11 k0_pay9 k0_pay10 next
  refine congrArg₂ (fun y z : EReal => y + z) (congrArg₂ (fun y z : EReal => y * z) ?_ ?_) ((down_apply _ a j).trans (lane_apply x14 j))
  · exact congrArg₂ (fun y z : EReal => y * z) (scaled_apply (k0_pay8 (F := Ideal) z x6 x12 x11) a j) (down_apply x13 a j)
  · exact (down_apply _ a j).trans (congrArg (fun z : EReal => Ideal.ofBits .f32 0x3F800000#32 + z) (lane_apply x15 j))

end Payloads

/-! ## The blocks of a point -/

variable (m : (ℓ : Loc nD τ sig) → Buf (Elt Ideal) ℓ) (c : Dev nD)

abbrev fOf : Rows := m ((c : Thread nD τ).loc main_arg0)
abbrev bOf : Rows := m ((c : Thread nD τ).loc main_arg1)
abbrev yOf : Gates := m ((c : Thread nD τ).loc main_arg2)
abbrev nOf : Near := m ((c : Thread nD τ).loc main_arg3)
abbrev xOf : Rows := m ((c : Thread nD τ).loc main_arg4)
abbrev gOf : Gain := m ((c : Thread nD τ).loc main_arg5)
abbrev wbOf : Square := m ((c : Thread nD τ).loc main_arg6)
abbrev wnOf : Tall := m ((c : Thread nD τ).loc main_arg7)
abbrev woOf : Square := m ((c : Thread nD τ).loc main_arg8)
abbrev pOf : Gain := m ((c : Thread nD τ).loc main_arg9)
abbrev qOf : Gain := m ((c : Thread nD τ).loc main_arg10)
abbrev tOf : Mods := m ((c : Thread nD τ).loc main_arg11)

theorem point_val (t : Fin grid0.N) : (grid0.coords t 0).val = t.val := by
  have ht : t.val < 68 := Nat.lt_of_lt_of_eq t.isLt N_0
  have e : (grid0.coords t 0).val = t.val / 1 % 68 := Pipeline.Grid.coords_val t 0 (by decide) rfl
  omega

/-- The block of rows a point reads or writes is its own. -/
theorem row_word : ∀ i : Fin 68, (BitVec.ofNat 32 i.val + 0#32).toNat = i.val ∧ (BitVec.ofNat 32 i.val).toNat = i.val := by
  decide

theorem row_map (t : Fin cfg0.N) : (BitVec.ofNat 32 (grid0.coords t 0).val + 0#32).toNat = t.val ∧ (BitVec.ofNat 32 (grid0.coords t 0).val).toNat = t.val := by
  rw [point_val t]
  exact row_word ⟨t.val, Nat.lt_of_lt_of_eq t.isLt N_0⟩

/-- The modulation's stream of a point, as the index maps compute it. -/
theorem stream_word : ∀ i : Fin 68, cc0_transform_12 (fun a => match a with | ⟨0, _⟩ => i) 0 = (if i.val < 4 then 4 else (i.val - 4) / 16)
    ∧ cc0_transform_14 (fun a => match a with | ⟨0, _⟩ => i) 0 = (if i.val < 4 then 4 else (i.val - 4) / 16)
    ∧ cc0_transform_15 (fun a => match a with | ⟨0, _⟩ => i) 0 = if i.val < 4 then 4 else (i.val - 4) / 16 := by
  decide

theorem stream_map (t : Fin cfg0.N) : cc0_transform_12 (grid0.coords t) 0 = (if t.val < 4 then 4 else (t.val - 4) / 16)
    ∧ cc0_transform_14 (grid0.coords t) 0 = (if t.val < 4 then 4 else (t.val - 4) / 16)
    ∧ cc0_transform_15 (grid0.coords t) 0 = if t.val < 4 then 4 else (t.val - 4) / 16 := by
  have e := stream_word (grid0.coords t 0)
  rw [point_val] at e
  exact e

theorem blk_f (t : Fin cfg0.N) (a : Fin 256) (d : Fin 1024) (r : Fin 17408) (hr : r.val = 256 * t.val + a.val) :
    (iblk m c 0 t : Vec Ideal S256x1024 .bf16) (ix2 a d) = fOf m c (ix2 r d) := by
  refine (View.read_apply _ _).trans (congrArg (m ((c : Thread nD τ).loc main_arg0)) (funext fun y => Fin.ext ?_))
  match y with
  | ⟨0, _⟩ =>
    show (BitVec.ofNat 32 (grid0.coords t 0).val + 0#32).toNat * 256 + 1 * a.val = r.val
    rw [(row_map t).1]; omega
  | ⟨1, _⟩ => show 0 * 1024 + 1 * d.val = d.val; omega

theorem blk_b (t : Fin cfg0.N) (a : Fin 256) (d : Fin 1024) (r : Fin 17408) (hr : r.val = 256 * t.val + a.val) :
    (iblk m c 1 t : Vec Ideal S256x1024 .bf16) (ix2 a d) = bOf m c (ix2 r d) := by
  refine (View.read_apply _ _).trans (congrArg (m ((c : Thread nD τ).loc main_arg1)) (funext fun y => Fin.ext ?_))
  match y with
  | ⟨0, _⟩ =>
    show (BitVec.ofNat 32 (grid0.coords t 0).val + 0#32).toNat * 256 + 1 * a.val = r.val
    rw [(row_map t).1]; omega
  | ⟨1, _⟩ => show 0 * 1024 + 1 * d.val = d.val; omega

theorem blk_n (t : Fin cfg0.N) (a : Fin 256) (d : Fin 512) (r : Fin 17408) (hr : r.val = 256 * t.val + a.val) :
    (iblk m c 5 t : Vec Ideal S256x512 .bf16) (ix2 a d) = nOf m c (ix2 r d) := by
  refine (View.read_apply _ _).trans (congrArg (m ((c : Thread nD τ).loc main_arg3)) (funext fun y => Fin.ext ?_))
  match y with
  | ⟨0, _⟩ =>
    show (BitVec.ofNat 32 (grid0.coords t 0).val + 0#32).toNat * 256 + 1 * a.val = r.val
    rw [(row_map t).1]; omega
  | ⟨1, _⟩ => show 0 * 512 + 1 * d.val = d.val; omega

theorem blk_x (t : Fin cfg0.N) (a : Fin 256) (d : Fin 1024) (r : Fin 17408) (hr : r.val = 256 * t.val + a.val) :
    (iblk m c 6 t : Vec Ideal S256x1024 .f32) (ix2 a d) = xOf m c (ix2 r d) := by
  refine (View.read_apply _ _).trans (congrArg (m ((c : Thread nD τ).loc main_arg4)) (funext fun y => Fin.ext ?_))
  match y with
  | ⟨0, _⟩ =>
    show (BitVec.ofNat 32 (grid0.coords t 0).val + 0#32).toNat * 256 + 1 * a.val = r.val
    rw [(row_map t).1]; omega
  | ⟨1, _⟩ => show 0 * 1024 + 1 * d.val = d.val; omega

theorem blk_y2 (t : Fin cfg0.N) (a : Fin 256) (j : Fin 1024) (r : Fin 17408) (hr : r.val = 256 * t.val + a.val) :
    (X0_2 m c t : Vec Ideal S256x1024 .bf16) (ix2 a j) = yOf m c (ix2 r (column 2048 (by decide) j)) := by
  unfold X0_2 Pipeline.Window.fill
  rw [dif_pos (moved0_2 t _)]
  unfold iblk
  rw [View.read_apply]
  show V m c main_arg2 _ = m (c.tc.loc main_arg2) _
  rw [V_main_arg2]
  refine congrArg (m (c.tc.loc main_arg2)) (funext fun z => Fin.ext ?_)
  match z with
  | ⟨0, _⟩ =>
    show (BitVec.ofNat 32 (grid0.coords t 0).val + 0#32).toNat * 256 + 1 * a.val = r.val
    rw [(row_map t).1]; omega
  | ⟨1, _⟩ => show 2 * 1024 + 1 * j.val = 2048 + j.val; omega

theorem blk_y3 (t : Fin cfg0.N) (a : Fin 256) (j : Fin 1024) (r : Fin 17408) (hr : r.val = 256 * t.val + a.val) :
    (X0_3 m c t : Vec Ideal S256x1024 .bf16) (ix2 a j) = yOf m c (ix2 r (column 3072 (by decide) j)) := by
  unfold X0_3 Pipeline.Window.fill
  rw [dif_pos (moved0_3 t _)]
  unfold iblk
  rw [View.read_apply]
  show V m c main_arg2 _ = m (c.tc.loc main_arg2) _
  rw [V_main_arg2]
  refine congrArg (m (c.tc.loc main_arg2)) (funext fun z => Fin.ext ?_)
  match z with
  | ⟨0, _⟩ =>
    show (BitVec.ofNat 32 (grid0.coords t 0).val + 0#32).toNat * 256 + 1 * a.val = r.val
    rw [(row_map t).1]; omega
  | ⟨1, _⟩ => show 3 * 1024 + 1 * j.val = 3072 + j.val; omega

theorem blk_y4 (t : Fin cfg0.N) (a : Fin 256) (j : Fin 1024) (r : Fin 17408) (hr : r.val = 256 * t.val + a.val) :
    (X0_4 m c t : Vec Ideal S256x1024 .bf16) (ix2 a j) = yOf m c (ix2 r (column 4096 (by decide) j)) := by
  unfold X0_4 Pipeline.Window.fill
  rw [dif_pos (moved0_4 t _)]
  unfold iblk
  rw [View.read_apply]
  show V m c main_arg2 _ = m (c.tc.loc main_arg2) _
  rw [V_main_arg2]
  refine congrArg (m (c.tc.loc main_arg2)) (funext fun z => Fin.ext ?_)
  match z with
  | ⟨0, _⟩ =>
    show (BitVec.ofNat 32 (grid0.coords t 0).val + 0#32).toNat * 256 + 1 * a.val = r.val
    rw [(row_map t).1]; omega
  | ⟨1, _⟩ => show 4 * 1024 + 1 * j.val = 4096 + j.val; omega

theorem blk_g (t : Fin cfg0.N) (d : Fin 1024) : (iblk m c 7 t : Vec Ideal S1x1024 .f32) (ix2 0 d) = gOf m c (ix2 0 d) := by
  refine (View.read_apply _ _).trans (congrArg (m ((c : Thread nD τ).loc main_arg5)) (funext fun y => Fin.ext ?_))
  match y with
  | ⟨0, _⟩ => rfl
  | ⟨1, _⟩ => show 0 * 1024 + 1 * d.val = d.val; omega

theorem blk_p (t : Fin cfg0.N) (d : Fin 1024) : (iblk m c 11 t : Vec Ideal S1x1024 .f32) (ix2 0 d) = pOf m c (ix2 0 d) := by
  refine (View.read_apply _ _).trans (congrArg (m ((c : Thread nD τ).loc main_arg9)) (funext fun y => Fin.ext ?_))
  match y with
  | ⟨0, _⟩ => rfl
  | ⟨1, _⟩ => show 0 * 1024 + 1 * d.val = d.val; omega

theorem blk_q (t : Fin cfg0.N) (d : Fin 1024) : (iblk m c 13 t : Vec Ideal S1x1024 .f32) (ix2 0 d) = qOf m c (ix2 0 d) := by
  refine (View.read_apply _ _).trans (congrArg (m ((c : Thread nD τ).loc main_arg10)) (funext fun y => Fin.ext ?_))
  match y with
  | ⟨0, _⟩ => rfl
  | ⟨1, _⟩ => show 0 * 1024 + 1 * d.val = d.val; omega

theorem blk_wb (t : Fin cfg0.N) (d : Fin 1024) (k : Fin 1024) : (iblk m c 8 t : Vec Ideal S1x1024x1024 .bf16) (ix3 0 d k) = wbOf m c (ix3 1 d k) := by
  refine (View.read_apply _ _).trans (congrArg (m ((c : Thread nD τ).loc main_arg6)) (funext fun y => Fin.ext ?_))
  match y with
  | ⟨0, _⟩ => rfl
  | ⟨1, _⟩ => show 0 * 1024 + 1 * d.val = d.val; omega
  | ⟨2, _⟩ => show 0 * 1024 + 1 * k.val = k.val; omega

theorem blk_wn (t : Fin cfg0.N) (d : Fin 512) (k : Fin 1024) : (iblk m c 9 t : Vec Ideal S1x512x1024 .bf16) (ix3 0 d k) = wnOf m c (ix3 1 d k) := by
  refine (View.read_apply _ _).trans (congrArg (m ((c : Thread nD τ).loc main_arg7)) (funext fun y => Fin.ext ?_))
  match y with
  | ⟨0, _⟩ => rfl
  | ⟨1, _⟩ => show 0 * 512 + 1 * d.val = d.val; omega
  | ⟨2, _⟩ => show 0 * 1024 + 1 * k.val = k.val; omega

theorem blk_wo (t : Fin cfg0.N) (d : Fin 1024) (k : Fin 1024) : (iblk m c 10 t : Vec Ideal S1x1024x1024 .bf16) (ix3 0 d k) = woOf m c (ix3 1 d k) := by
  refine (View.read_apply _ _).trans (congrArg (m ((c : Thread nD τ).loc main_arg8)) (funext fun y => Fin.ext ?_))
  match y with
  | ⟨0, _⟩ => rfl
  | ⟨1, _⟩ => show 0 * 1024 + 1 * d.val = d.val; omega
  | ⟨2, _⟩ => show 0 * 1024 + 1 * k.val = k.val; omega

theorem blk_gate (t : Fin cfg0.N) (a : Fin 256) (d : Fin 1024) (r : Fin 17408) (hr : r.val = 256 * t.val + a.val) :
    (iblk m c 12 t : Vec Ideal S1x1x1x1024 .f32) (ix4 0 0 0 d) = tOf m c (ix4 (stream r) 2 0 d) := by
  refine (View.read_apply _ _).trans (congrArg (m ((c : Thread nD τ).loc main_arg11)) (funext fun y => Fin.ext ?_))
  match y with
  | ⟨0, _⟩ =>
    show cc0_transform_12 (grid0.coords t) 0 * 1 + 1 * 0 = if r.val < 1024 then 4 else (r.val - 1024) / 4096
    rw [(stream_map t).1]
    split_ifs <;> omega
  | ⟨1, _⟩ => rfl
  | ⟨2, _⟩ => rfl
  | ⟨3, _⟩ => show 0 * 1024 + 1 * d.val = d.val; omega

theorem blk_down (t : Fin cfg0.N) (a : Fin 256) (d : Fin 1024) (r : Fin 17408) (hr : r.val = 256 * t.val + a.val) :
    (iblk m c 14 t : Vec Ideal S1x1x1x1024 .f32) (ix4 0 0 0 d) = tOf m c (ix4 (stream r) 3 0 d) := by
  refine (View.read_apply _ _).trans (congrArg (m ((c : Thread nD τ).loc main_arg11)) (funext fun y => Fin.ext ?_))
  match y with
  | ⟨0, _⟩ =>
    show cc0_transform_14 (grid0.coords t) 0 * 1 + 1 * 0 = if r.val < 1024 then 4 else (r.val - 1024) / 4096
    rw [(stream_map t).2.1]
    split_ifs <;> omega
  | ⟨1, _⟩ => rfl
  | ⟨2, _⟩ => rfl
  | ⟨3, _⟩ => show 0 * 1024 + 1 * d.val = d.val; omega

theorem blk_up (t : Fin cfg0.N) (a : Fin 256) (d : Fin 1024) (r : Fin 17408) (hr : r.val = 256 * t.val + a.val) :
    (iblk m c 15 t : Vec Ideal S1x1x1x1024 .f32) (ix4 0 0 0 d) = tOf m c (ix4 (stream r) 4 0 d) := by
  refine (View.read_apply _ _).trans (congrArg (m ((c : Thread nD τ).loc main_arg11)) (funext fun y => Fin.ext ?_))
  match y with
  | ⟨0, _⟩ =>
    show cc0_transform_15 (grid0.coords t) 0 * 1 + 1 * 0 = if r.val < 1024 then 4 else (r.val - 1024) / 4096
    rw [(stream_map t).2.2]
    split_ifs <;> omega
  | ⟨1, _⟩ => rfl
  | ⟨2, _⟩ => rfl
  | ⟨3, _⟩ => show 0 * 1024 + 1 * d.val = d.val; omega

/-! ## The blocks a point writes -/

theorem row_lt (t : Fin cfg0.N) (a : Fin 256) : 256 * t.val + a.val < 17408 := by
  have ht : t.val < 68 := Nat.lt_of_lt_of_eq t.isLt N_0
  omega

/-- A line of the merge depends on its lines only. -/
theorem merged_congr {o o' g g' u u' v v' w w' : Line} {n n' : Fin 512 → EReal} {wb wb' : Fin 1024 → Line} {wn wn' : Fin 512 → Line} {wo wo' : Fin 1024 → Line}
    (ho : ∀ j, o j = o' j) (hg : ∀ j, g j = g' j) (hu : ∀ j, u j = u' j) (hv : ∀ j, v j = v' j) (hw : ∀ j, w j = w' j) (hn : ∀ d, n d = n' d)
    (hb : ∀ d j, wb d j = wb' d j) (hwn : ∀ d j, wn d j = wn' d j) (hwo : ∀ d j, wo d j = wo' d j) :
    merged o g u v w n wb wn wo = merged o' g' u' v' w' n' wb' wn' wo' := by
  obtain rfl := funext ho
  obtain rfl := funext hg
  obtain rfl := funext hu
  obtain rfl := funext hv
  obtain rfl := funext hw
  obtain rfl := funext hn
  obtain rfl := funext fun d => funext (hb d)
  obtain rfl := funext fun d => funext (hwn d)
  obtain rfl := funext fun d => funext (hwo d)
  rfl

theorem rows_eq (t : Fin cfg0.N) (a : Fin 256) (r : Fin 17408) (hr : r.val = 256 * t.val + a.val) (j : Fin 1024) :
    rows (F := Ideal) (iblk m c 0 t) (iblk m c 1 t) (X0_2 m c t) (X0_3 m c t) (X0_4 m c t) (iblk m c 5 t) (iblk m c 7 t) (iblk m c 8 t) (iblk m c 9 t) (iblk m c 10 t) (ix2 a j)
      = routedMerged (fOf m c) (bOf m c) (yOf m c) (nOf m c) (gOf m c) (wbOf m c) (wnOf m c) (woOf m c) r j :=
  (rows_apply _ _ _ _ _ _ _ _ _ _ a j).trans (congrFun (merged_congr
    (fun j => congrArg₂ (fun y z : EReal => y + z) (blk_f m c t a j r hr) (blk_b m c t a j r hr)) (fun j => blk_g m c t j)
    (fun j => blk_y2 m c t a j r hr) (fun j => blk_y3 m c t a j r hr) (fun j => blk_y4 m c t a j r hr) (fun d => blk_n m c t a d r hr)
    (fun d j => blk_wb m c t d j) (fun d j => blk_wn m c t d j) (fun d j => blk_wo m c t d j)) j)

theorem kept_congr {x x' z z' p p' t t' : Line} (hx : ∀ j, x j = x' j) (hz : ∀ j, z j = z' j) (hp : ∀ j, p j = p' j) (ht : ∀ j, t j = t' j) :
    kept x z p t = kept x' z' p' t' := by
  obtain rfl := funext hx
  obtain rfl := funext hz
  obtain rfl := funext hp
  obtain rfl := funext ht
  rfl

theorem next_congr {x x' q q' u u' v v' : Line} (hx : ∀ j, x j = x' j) (hq : ∀ j, q j = q' j) (hu : ∀ j, u j = u' j) (hv : ∀ j, v j = v' j) :
    next x q u v = next x' q' u' v' := by
  obtain rfl := funext hx
  obtain rfl := funext hq
  obtain rfl := funext hu
  obtain rfl := funext hv
  rfl

/-- A point's rows of the residual, of the arguments. -/
theorem kept_eq (t : Fin cfg0.N) (a : Fin 256) (r : Fin 17408) (hr : r.val = 256 * t.val + a.val) (j : Fin 1024) :
    k0_pay8 (F := Ideal) (rows (iblk m c 0 t) (iblk m c 1 t) (X0_2 m c t) (X0_3 m c t) (X0_4 m c t) (iblk m c 5 t) (iblk m c 7 t) (iblk m c 8 t) (iblk m c 9 t) (iblk m c 10 t)) (iblk m c 6 t) (iblk m c 12 t) (iblk m c 11 t) (ix2 a j)
      = routedKept (fOf m c) (bOf m c) (yOf m c) (nOf m c) (xOf m c) (gOf m c) (wbOf m c) (wnOf m c) (woOf m c) (pOf m c) (tOf m c) r j :=
  (kept_apply _ _ _ _ a j).trans (congrFun (kept_congr (fun j => blk_x m c t a j r hr) (fun j => rows_eq m c t a r hr j) (fun j => blk_p m c t j)
    fun j => blk_gate m c t a j r hr) j)

/-- A point's rows of the feed-forward's input, of the arguments. -/
theorem next_eq (t : Fin cfg0.N) (a : Fin 256) (r : Fin 17408) (hr : r.val = 256 * t.val + a.val) (j : Fin 1024) :
    k0_pay11 (F := Ideal) (k0_pay9 (rows (iblk m c 0 t) (iblk m c 1 t) (X0_2 m c t) (X0_3 m c t) (X0_4 m c t) (iblk m c 5 t) (iblk m c 7 t) (iblk m c 8 t) (iblk m c 9 t) (iblk m c 10 t)) (iblk m c 6 t) (iblk m c 12 t) (iblk m c 11 t) (iblk m c 13 t))
        (k0_pay10 (iblk m c 15 t)) (iblk m c 14 t) (ix2 a j)
      = next (routedKept (fOf m c) (bOf m c) (yOf m c) (nOf m c) (xOf m c) (gOf m c) (wbOf m c) (wnOf m c) (woOf m c) (pOf m c) (tOf m c) r) (fun j => qOf m c (ix2 0 j))
          (fun j => tOf m c (ix4 (stream r) 4 0 j)) (fun j => tOf m c (ix4 (stream r) 3 0 j)) j :=
  (next_apply _ _ _ _ _ _ _ a j).trans (congrFun (next_congr (fun j => kept_eq m c t a r hr j) (fun j => blk_q m c t j)
    (fun j => blk_up m c t a j r hr) fun j => blk_down m c t a j r hr) j)

/-! ## The result arrays -/

/-- The specified residual. -/
abbrev residualOf : Rows := routedResidual (fOf m c) (bOf m c) (yOf m c) (nOf m c) (xOf m c) (gOf m c) (wbOf m c) (wnOf m c) (woOf m c) (pOf m c) (tOf m c)

/-- The specified input of the feed-forward. -/
abbrev inputOf : Rows := routedInput (fOf m c) (bOf m c) (yOf m c) (nOf m c) (xOf m c) (gOf m c) (wbOf m c) (wnOf m c) (woOf m c) (pOf m c) (qOf m c) (tOf m c)

/-- A point's block of the residual. -/
def residualBlock (t : Fin cfg0.N) : FVec Ideal S256x1024 .f32 :=
  k0_pay8 (F := Ideal) (rows (iblk m c 0 t) (iblk m c 1 t) (X0_2 m c t) (X0_3 m c t) (X0_4 m c t) (iblk m c 5 t) (iblk m c 7 t) (iblk m c 8 t) (iblk m c 9 t) (iblk m c 10 t)) (iblk m c 6 t) (iblk m c 12 t) (iblk m c 11 t)

/-- A point's block of the feed-forward's input. -/
def inputBlock (t : Fin cfg0.N) : FVec Ideal S256x1024 .f32 :=
  k0_pay11 (F := Ideal) (k0_pay9 (rows (iblk m c 0 t) (iblk m c 1 t) (X0_2 m c t) (X0_3 m c t) (X0_4 m c t) (iblk m c 5 t) (iblk m c 7 t) (iblk m c 8 t) (iblk m c 9 t) (iblk m c 10 t)) (iblk m c 6 t) (iblk m c 12 t) (iblk m c 11 t) (iblk m c 13 t)) (k0_pay10 (iblk m c 15 t)) (iblk m c 14 t)

/-- Where an entry of a point's residual block lies in the array. -/
theorem place_residual (t : Fin cfg0.N) (a : Fin 256) (j : Fin 1024) (r : Fin 17408) (hr : r.val = 256 * t.val + a.val) :
    ((cfg0.win 18).blk t).view.emb (ix2 a j : S256x1024.Idx) = (ix2 r j : S17408x1024.Idx) := by
  funext b
  apply Fin.ext
  match b with
  | ⟨0, _⟩ =>
    show (BitVec.ofNat 32 (grid0.coords t 0).val).toNat * 256 + 1 * a.val = r.val
    rw [(row_map t).2]; omega
  | ⟨1, _⟩ => show 0 * 1024 + 1 * j.val = j.val; omega

/-- What a grid point's run leaves in its residual block, at the first point and at the later ones. -/
theorem residual_written (t : Fin cfg0.N) : (dats m 0 c).flushed 18 t = (cfg0.win 18).cut (grid0.coords t) (residualBlock m c t) := by
  show (cfg0.win 18).cut (grid0.coords t) ((dats m 0 c).after 18 t) = _
  rw [after0_18]
  refine congrArg ((cfg0.win 18).cut (grid0.coords t)) ?_
  by_cases h : t.val % 68 = 0
  · simp only [outsAt0_A m c t h]
    rw [Body.residual_first]
    rfl
  · simp only [outsAt0_B m c t h]
    rw [Body.residual_later]
    rfl

/-- What a grid point writes back is its block of the specified array. -/
theorem residual_flushed (t : Fin cfg0.N) : (dats m 0 c).flushed 18 t = ((cfg0.win 18).blk t).view.read (Elt Ideal) (residualOf m c) := by
  rw [residual_written]
  funext i
  rw [View.read_apply]
  obtain ⟨a, j, rfl⟩ : ∃ (a : Fin 256) (j : Fin 1024), i = (ix2 a j : S256x1024.Idx) := ⟨i 0, i 1, by
    funext b
    match b with
    | ⟨0, _⟩ => rfl
    | ⟨1, _⟩ => rfl⟩
  exact (kept_eq m c t a ⟨_, row_lt t a⟩ rfl j).trans (congrArg (residualOf m c) (place_residual t a j ⟨_, row_lt t a⟩ rfl) : _ = _).symm

/-- Every place of the residual lies in a point's block. -/
theorem residual_covered (i : S17408x1024.Idx) : ∃ t : Fin cfg0.N, (cfg0.win 18).flush t = true ∧ i ∈ ((cfg0.win 18).blk t).view.set := by
  have h0 : (i 0).val < 17408 := (i 0).isLt
  have hp : (i 0).val / 256 < cfg0.N := Nat.lt_of_lt_of_eq (show (i 0).val / 256 < 68 by omega) N_0.symm
  refine ⟨⟨(i 0).val / 256, hp⟩, flush0_18 _, ?_⟩
  have hl : (i 0).val % 256 < 256 := by omega
  have e := place_residual ⟨(i 0).val / 256, hp⟩ (⟨(i 0).val % 256, hl⟩ : Fin 256) (i 1 : Fin 1024) (i 0)
    (by show (i 0).val = 256 * ((i 0).val / 256) + (i 0).val % 256; omega)
  have ii : i = (ix2 (i 0 : Fin 17408) (i 1 : Fin 1024) : S17408x1024.Idx) := by
    funext y
    match y with
    | ⟨0, _⟩ => rfl
    | ⟨1, _⟩ => rfl
  have g := View.emb_mem_set ((cfg0.win 18).blk ⟨(i 0).val / 256, hp⟩).view (ix2 (⟨(i 0).val % 256, hl⟩ : Fin 256) (i 1 : Fin 1024) : S256x1024.Idx)
  rwa [e.trans ii.symm] at g

/-- The residual array after the kernel's run. -/
theorem residual_final : (dats m 0 c).arrAt 18 cfg0.N = residualOf m c :=
  (dats m 0 c).arrAt_eq_of_cover 18 (residualOf m c) (fun t _ => residual_flushed m c t) residual_covered

/-- Where an entry of a point's input block lies in the array. -/
theorem place_input (t : Fin cfg0.N) (a : Fin 256) (j : Fin 1024) (r : Fin 17408) (hr : r.val = 256 * t.val + a.val) :
    ((cfg0.win 19).blk t).view.emb (ix2 a j : S256x1024.Idx) = (ix2 r j : S17408x1024.Idx) := by
  funext b
  apply Fin.ext
  match b with
  | ⟨0, _⟩ =>
    show (BitVec.ofNat 32 (grid0.coords t 0).val).toNat * 256 + 1 * a.val = r.val
    rw [(row_map t).2]; omega
  | ⟨1, _⟩ => show 0 * 1024 + 1 * j.val = j.val; omega

/-- What a grid point's run leaves in its input block, at the first point and at the later ones. -/
theorem input_written (t : Fin cfg0.N) : (dats m 0 c).flushed 19 t = (cfg0.win 19).cut (grid0.coords t) (inputBlock m c t) := by
  show (cfg0.win 19).cut (grid0.coords t) ((dats m 0 c).after 19 t) = _
  rw [after0_19]
  refine congrArg ((cfg0.win 19).cut (grid0.coords t)) ?_
  by_cases h : t.val % 68 = 0
  · simp only [outsAt0_A m c t h]
    rw [Body.input_first]
    rfl
  · simp only [outsAt0_B m c t h]
    rw [Body.input_later]
    rfl

/-- What a grid point writes back is its block of the specified array. -/
theorem input_flushed (t : Fin cfg0.N) : (dats m 0 c).flushed 19 t = ((cfg0.win 19).blk t).view.read (Elt Ideal) (inputOf m c) := by
  rw [input_written]
  funext i
  rw [View.read_apply]
  obtain ⟨a, j, rfl⟩ : ∃ (a : Fin 256) (j : Fin 1024), i = (ix2 a j : S256x1024.Idx) := ⟨i 0, i 1, by
    funext b
    match b with
    | ⟨0, _⟩ => rfl
    | ⟨1, _⟩ => rfl⟩
  exact (next_eq m c t a ⟨_, row_lt t a⟩ rfl j).trans (congrArg (inputOf m c) (place_input t a j ⟨_, row_lt t a⟩ rfl) : _ = _).symm

/-- Every place of the input lies in a point's block. -/
theorem input_covered (i : S17408x1024.Idx) : ∃ t : Fin cfg0.N, (cfg0.win 19).flush t = true ∧ i ∈ ((cfg0.win 19).blk t).view.set := by
  have h0 : (i 0).val < 17408 := (i 0).isLt
  have hp : (i 0).val / 256 < cfg0.N := Nat.lt_of_lt_of_eq (show (i 0).val / 256 < 68 by omega) N_0.symm
  refine ⟨⟨(i 0).val / 256, hp⟩, flush0_19 _, ?_⟩
  have hl : (i 0).val % 256 < 256 := by omega
  have e := place_input ⟨(i 0).val / 256, hp⟩ (⟨(i 0).val % 256, hl⟩ : Fin 256) (i 1 : Fin 1024) (i 0)
    (by show (i 0).val = 256 * ((i 0).val / 256) + (i 0).val % 256; omega)
  have ii : i = (ix2 (i 0 : Fin 17408) (i 1 : Fin 1024) : S17408x1024.Idx) := by
    funext y
    match y with
    | ⟨0, _⟩ => rfl
    | ⟨1, _⟩ => rfl
  have g := View.emb_mem_set ((cfg0.win 19).blk ⟨(i 0).val / 256, hp⟩).view (ix2 (⟨(i 0).val % 256, hl⟩ : Fin 256) (i 1 : Fin 1024) : S256x1024.Idx)
  rwa [e.trans ii.symm] at g

/-- The input array after the kernel's run. -/
theorem input_final : (dats m 0 c).arrAt 19 cfg0.N = inputOf m c :=
  (dats m 0 c).arrAt_eq_of_cover 19 (inputOf m c) (fun t _ => input_flushed m c t) input_covered

/-! ## The run: the two arrays written, the arguments as they were -/

theorem residual_after (r : PUnit × MemSt nD τ sig (Elt Ideal)) (h : Pipeline.FramePost cfgs (dats m) 0 (V m) r) :
    r.2.mem ((c : Thread nD τ).loc main_v0_0) = residualOf m c :=
  ((h c).1 18).trans (residual_final m c)

theorem input_after (r : PUnit × MemSt nD τ sig (Elt Ideal)) (h : Pipeline.FramePost cfgs (dats m) 0 (V m) r) :
    r.2.mem ((c : Thread nD τ).loc main_v0_1) = inputOf m c :=
  ((h c).1 19).trans (input_final m c)

theorem kept_0 (r : PUnit × MemSt nD τ sig (Elt Ideal)) (h : Pipeline.FramePost cfgs (dats m) 0 (V m) r) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_1 (r : PUnit × MemSt nD τ sig (Elt Ideal)) (h : Pipeline.FramePost cfgs (dats m) 0 (V m) r) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_2 (r : PUnit × MemSt nD τ sig (Elt Ideal)) (h : Pipeline.FramePost cfgs (dats m) 0 (V m) r) :
    r.2.mem ((c : Thread nD τ).loc main_arg2) = m ((c : Thread nD τ).loc main_arg2) :=
  ((h c).1 4).trans (((dats m 0 c).arrAt_in 4 rfl _).trans ((A_eq m c 4).trans (V_main_arg2 m c)))

theorem kept_3 (r : PUnit × MemSt nD τ sig (Elt Ideal)) (h : Pipeline.FramePost cfgs (dats m) 0 (V m) r) :
    r.2.mem ((c : Thread nD τ).loc main_arg3) = m ((c : Thread nD τ).loc main_arg3) :=
  ((h c).1 5).trans (((dats m 0 c).arrAt_in 5 rfl _).trans ((A_eq m c 5).trans (V_main_arg3 m c)))

theorem kept_4 (r : PUnit × MemSt nD τ sig (Elt Ideal)) (h : Pipeline.FramePost cfgs (dats m) 0 (V m) r) :
    r.2.mem ((c : Thread nD τ).loc main_arg4) = m ((c : Thread nD τ).loc main_arg4) :=
  ((h c).1 6).trans (((dats m 0 c).arrAt_in 6 rfl _).trans ((A_eq m c 6).trans (V_main_arg4 m c)))

theorem kept_5 (r : PUnit × MemSt nD τ sig (Elt Ideal)) (h : Pipeline.FramePost cfgs (dats m) 0 (V m) r) :
    r.2.mem ((c : Thread nD τ).loc main_arg5) = m ((c : Thread nD τ).loc main_arg5) :=
  ((h c).1 7).trans (((dats m 0 c).arrAt_in 7 rfl _).trans ((A_eq m c 7).trans (V_main_arg5 m c)))

theorem kept_6 (r : PUnit × MemSt nD τ sig (Elt Ideal)) (h : Pipeline.FramePost cfgs (dats m) 0 (V m) r) :
    r.2.mem ((c : Thread nD τ).loc main_arg6) = m ((c : Thread nD τ).loc main_arg6) :=
  ((h c).1 8).trans (((dats m 0 c).arrAt_in 8 rfl _).trans ((A_eq m c 8).trans (V_main_arg6 m c)))

theorem kept_7 (r : PUnit × MemSt nD τ sig (Elt Ideal)) (h : Pipeline.FramePost cfgs (dats m) 0 (V m) r) :
    r.2.mem ((c : Thread nD τ).loc main_arg7) = m ((c : Thread nD τ).loc main_arg7) :=
  ((h c).1 9).trans (((dats m 0 c).arrAt_in 9 rfl _).trans ((A_eq m c 9).trans (V_main_arg7 m c)))

theorem kept_8 (r : PUnit × MemSt nD τ sig (Elt Ideal)) (h : Pipeline.FramePost cfgs (dats m) 0 (V m) r) :
    r.2.mem ((c : Thread nD τ).loc main_arg8) = m ((c : Thread nD τ).loc main_arg8) :=
  ((h c).1 10).trans (((dats m 0 c).arrAt_in 10 rfl _).trans ((A_eq m c 10).trans (V_main_arg8 m c)))

theorem kept_9 (r : PUnit × MemSt nD τ sig (Elt Ideal)) (h : Pipeline.FramePost cfgs (dats m) 0 (V m) r) :
    r.2.mem ((c : Thread nD τ).loc main_arg9) = m ((c : Thread nD τ).loc main_arg9) :=
  ((h c).1 11).trans (((dats m 0 c).arrAt_in 11 rfl _).trans ((A_eq m c 11).trans (V_main_arg9 m c)))

theorem kept_10 (r : PUnit × MemSt nD τ sig (Elt Ideal)) (h : Pipeline.FramePost cfgs (dats m) 0 (V m) r) :
    r.2.mem ((c : Thread nD τ).loc main_arg10) = m ((c : Thread nD τ).loc main_arg10) :=
  ((h c).1 13).trans (((dats m 0 c).arrAt_in 13 rfl _).trans ((A_eq m c 13).trans (V_main_arg10 m c)))

theorem kept_11 (r : PUnit × MemSt nD τ sig (Elt Ideal)) (h : Pipeline.FramePost cfgs (dats m) 0 (V m) r) :
    r.2.mem ((c : Thread nD τ).loc main_arg11) = m ((c : Thread nD τ).loc main_arg11) :=
  ((h c).1 15).trans (((dats m 0 c).arrAt_in 15 rfl _).trans ((A_eq m c 15).trans (V_main_arg11 m c)))

theorem kept_12 (r : PUnit × MemSt nD τ sig (Elt Ideal)) (h : Pipeline.FramePost cfgs (dats m) 0 (V m) r) :
    r.2.mem ((c : Thread nD τ).loc main_arg12) = m ((c : Thread nD τ).loc main_arg12) :=
  ((h c).1 16).trans (((dats m 0 c).arrAt_in 16 rfl _).trans ((A_eq m c 16).trans (V_main_arg12 m c)))

theorem kept_13 (r : PUnit × MemSt nD τ sig (Elt Ideal)) (h : Pipeline.FramePost cfgs (dats m) 0 (V m) r) :
    r.2.mem ((c : Thread nD τ).loc main_arg13) = m ((c : Thread nD τ).loc main_arg13) :=
  ((h c).1 17).trans (((dats m 0 c).arrAt_in 17 rfl _).trans ((A_eq m c 17).trans (V_main_arg13 m c)))

/-- The run ends with the specified arrays and the arguments as they were. -/
theorem run (g : Dev nD → PrngReg) : θ_run defs (onTc (τ := τ) (main (F := Ideal))) ⟨m, fun _ => 0, g⟩ fun r => ∀ c : Dev nD,
    r.2.mem ((c.tc : Thread nD τ).loc main_v0_0) = residualOf m c
    ∧ r.2.mem ((c.tc : Thread nD τ).loc main_v0_1) = inputOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  (θ_run defs _ _).mono (fun r h c => ⟨residual_after m c r h, input_after m c r h, kept_0 m c r h, kept_1 m c r h, kept_2 m c r h, kept_3 m c r h, kept_4 m c r h, kept_5 m c r h, kept_6 m c r h, kept_7 m c r h, kept_8 m c r h, kept_9 m c r h, kept_10 m c r h, kept_11 m c r h, kept_12 m c r h, kept_13 m c r h⟩)
    (run_main m g)

end Cert.MergeRouterIdeal.Outcome
end
-- ==== Proof.MergeRouterRefOut.lean ====
/- The reference's two results, read at an index: the specified arrays. -/
module

public import proofs.«01_k».proof.Proof.Gen.MergeRouterReferenceIdeal.Read
public import proofs.«01_k».proof.Proof.MergeRouterSpec
public import Idealize.ShloMosaic.Lib.IdealHost
public import Idealize.ShloMosaic.Lib.StackMember
public import Idealize.ShloMosaic.Lib.Pipeline.Value

@[expose] public section

set_option maxRecDepth 16384

noncomputable section

namespace Cert.MergeRouterReferenceIdeal.RefOut

open Cert.MergeRouterReferenceIdeal Cert.MergeRouterReferenceIdeal.Gen Cert.MergeRouterReferenceIdeal.Read Cert.MergeSpec
open Idealize.ShloMosaic Idealize.ShloMosaic.ValueIdx

/-! ## The modulation -/

/-- One component of the modulation, spread over the rows. -/
def spread (z : FVec Ideal S8x1x1024 .f32) : FVec Ideal S17408x1024 .f32 :=
  concatenate S17408x1024 0
    [⟨S1024x1024, broadcastInDim S1024x1024 ![0, 1] bcast_S1x1024_S1024x1024_0_1
        (shapeCast S1x1024 (extractStridedSlice S1x1x1024 ![4, 0, 0] z slices_S8x1x1024_S1x1x1024_4_0_0) shapeCasts_S1x1x1024_S1x1024)⟩,
     ⟨S16384x1024, shapeCast S16384x1024 (broadcastInDim S4x4096x1024 ![0, 1, 2] bcast_S4x1x1024_S4x4096x1024_0_1_2
        (extractStridedSlice S4x1x1024 ![0, 0, 0] z slices_S8x1x1024_S4x1x1024_0_0_0)) shapeCasts_S4x4096x1024_S16384x1024⟩]
    concatenates_S1024x1024_S16384x1024_S17408x1024_d0

theorem spread_apply (z : FVec Ideal S8x1x1024 .f32) (r : Fin 17408) (j : Fin 1024) : spread z (ix2 r j) = z (ix3 (stream r) 0 j) := by
  unfold spread
  by_cases hr : r.val < 1024
  · refine (concatenate_pair_apply_left (s₁ := S1024x1024) (s₂ := S16384x1024) _ _ _ _ (ix2 r j) rfl (ix2 (⟨r.val, hr⟩ : Fin 1024) j) (fun b => match b with
      | ⟨0, _⟩ => rfl
      | ⟨1, _⟩ => rfl)).trans ?_
    refine (broadcastInDim_apply _ _ _ (ix2 (⟨r.val, hr⟩ : Fin 1024) j) (ix2 0 j) (fun b => match b with
      | ⟨0, _⟩ => rfl
      | ⟨1, _⟩ => (if_neg (show ¬(1024 : ℕ) = 1 by decide)).symm)).trans ?_
    refine (shapeCast_apply _ _ (ix2 0 j) (ix3 0 0 j) ?_).trans (extractStridedSlice_apply _ z _ (ix3 0 0 j) (ix3 (stream r) 0 j) ?_)
    · rewrite [Shape.rowMajor_val_three, Shape.rowMajor_val_two]
      show (0 * 1 + 0) * 1024 + j.val = 0 * 1024 + j.val
      omega
    · intro a
      match a with
      | ⟨0, _⟩ => exact if_pos hr
      | ⟨1, _⟩ => rfl
      | ⟨2, _⟩ => show j.val = 0 + j.val; omega
  · have hq : r.val - 1024 < 16384 := by omega
    have h4 : (r.val - 1024) / 4096 < 4 := by omega
    have hm : (r.val - 1024) % 4096 < 4096 := by omega
    refine (concatenate_pair_apply_right (s₁ := S1024x1024) (s₂ := S16384x1024) _ _ _ _ (ix2 r j) rfl rfl (ix2 (⟨r.val - 1024, hq⟩ : Fin 16384) j) (fun b => match b with
      | ⟨0, _⟩ => fun hb => absurd rfl hb
      | ⟨1, _⟩ => fun _ => rfl) (by show r.val - 1024 + 1024 = r.val; omega)).trans ?_
    refine (shapeCast_apply _ _ (ix2 (⟨r.val - 1024, hq⟩ : Fin 16384) j) (ix3 (⟨_, h4⟩ : Fin 4) (⟨_, hm⟩ : Fin 4096) j) ?_).trans ?_
    · rewrite [Shape.rowMajor_val_three, Shape.rowMajor_val_two]
      show ((r.val - 1024) / 4096 * 4096 + (r.val - 1024) % 4096) * 1024 + j.val = (r.val - 1024) * 1024 + j.val
      omega
    refine (broadcastInDim_apply _ _ _ (ix3 (⟨_, h4⟩ : Fin 4) (⟨_, hm⟩ : Fin 4096) j) (ix3 (⟨_, h4⟩ : Fin 4) 0 j) (fun b => match b with
      | ⟨0, _⟩ => (if_neg (show ¬(4 : ℕ) = 1 by decide)).symm
      | ⟨1, _⟩ => rfl
      | ⟨2, _⟩ => (if_neg (show ¬(1024 : ℕ) = 1 by decide)).symm)).trans ?_
    refine extractStridedSlice_apply _ z _ (ix3 (⟨_, h4⟩ : Fin 4) 0 j) (ix3 (stream r) 0 j) ?_
    intro a
    match a with
    | ⟨0, _⟩ => exact (if_neg hr).trans (Nat.zero_add _).symm
    | ⟨1, _⟩ => rfl
    | ⟨2, _⟩ => show j.val = 0 + j.val; omega

theorem gate_apply (t : Mods) (r : Fin 17408) (j : Fin 1024) : val_main_v63 (F := Ideal) t (ix2 r j) = t (ix4 (stream r) 2 0 j) := by
  refine (spread_apply (val_main_v56 (F := Ideal) t) r j).trans ?_
  rw [val_main_v56_apply, val_main_v55_apply]
  have hj := j.isLt
  refine congrArg t (funext fun y => Fin.ext ?_)
  match y with
  | ⟨0, _⟩ => show (((stream r).val * 1 + 0) * 1024 + j.val) / 1024 = (stream r).val; omega
  | ⟨1, _⟩ => rfl
  | ⟨2, _⟩ => rfl
  | ⟨3, _⟩ => show (((stream r).val * 1 + 0) * 1024 + j.val) % 1024 = j.val; omega

theorem up_apply (t : Mods) (r : Fin 17408) (j : Fin 1024) : val_main_v102 (F := Ideal) t (ix2 r j) = t (ix4 (stream r) 4 0 j) := by
  refine (spread_apply (val_main_v95 (F := Ideal) t) r j).trans ?_
  rw [val_main_v95_apply, val_main_v94_apply]
  have hj := j.isLt
  refine congrArg t (funext fun y => Fin.ext ?_)
  match y with
  | ⟨0, _⟩ => show (((stream r).val * 1 + 0) * 1024 + j.val) / 1024 = (stream r).val; omega
  | ⟨1, _⟩ => rfl
  | ⟨2, _⟩ => rfl
  | ⟨3, _⟩ => show (((stream r).val * 1 + 0) * 1024 + j.val) % 1024 = j.val; omega

theorem down_apply (t : Mods) (r : Fin 17408) (j : Fin 1024) : val_main_v114 (F := Ideal) t (ix2 r j) = t (ix4 (stream r) 3 0 j) := by
  refine (spread_apply (val_main_v107 (F := Ideal) t) r j).trans ?_
  rw [val_main_v107_apply, val_main_v106_apply]
  have hj := j.isLt
  refine congrArg t (funext fun y => Fin.ext ?_)
  match y with
  | ⟨0, _⟩ => show (((stream r).val * 1 + 0) * 1024 + j.val) / 1024 = (stream r).val; omega
  | ⟨1, _⟩ => rfl
  | ⟨2, _⟩ => rfl
  | ⟨3, _⟩ => show (((stream r).val * 1 + 0) * 1024 + j.val) % 1024 = j.val; omega

/-! ## The linear mixers' rows -/

variable (f b : Rows) (y : Gates) (n : Near) (x : Rows) (g : Gain) (wb : Square) (wn : Tall) (wo : Square) (p q : Gain) (t : Mods)

/-- The sum of the two mixers, at a head's column. -/
theorem sum_apply (r : Fin 17408) (h : Fin 4) (l : Fin 256) :
    val_main_v3 (F := Ideal) f b (ix3 r h l) = f (ix2 r (lane h l)) + b (ix2 r (lane h l)) := by
  rw [val_main_v3_apply]
  have hh := h.isLt
  have hl := l.isLt
  have e : (idx_main_v3 (ix3 r h l) : S17408x1024.Idx) = ix2 r (lane h l) := by
    funext z
    apply Fin.ext
    match z with
    | ⟨0, _⟩ => show ((r.val * 4 + h.val) * 256 + l.val) / 1024 = r.val; omega
    | ⟨1, _⟩ => show ((r.val * 4 + h.val) * 256 + l.val) % 1024 = 256 * h.val + l.val; omega
  rw [e]
  rfl

/-- A head's sum of squares. -/
theorem head_squares_apply (r : Fin 17408) (h : Fin 4) :
    val_main_v5 (F := Ideal) f b (ix2 r h) = ∑ l, (f (ix2 r (lane h l)) + b (ix2 r (lane h l))) * (f (ix2 r (lane h l)) + b (ix2 r (lane h l))) := by
  refine (val_main_v5_apply f b (ix2 r h)).trans ?_
  rw [show val_main_cst (F := Ideal) (Shape.Idx.first h_S_) = (0 : EReal) from Ideal.ofBits_zero_f32, zero_add]
  refine Finset.sum_congr rfl fun l _ => ?_
  have e : (idx_main_v5 (ix2 r h) l : S17408x4x256.Idx) = ix3 r h l := by
    funext z
    match z with
    | ⟨0, _⟩ => rfl
    | ⟨1, _⟩ => rfl
    | ⟨2, _⟩ => rfl
  rw [e, val_main_v4_apply, sum_apply]
  rfl

theorem head_scale_apply (r : Fin 17408) (h : Fin 4) (l : Fin 256) :
    val_main_v12 (F := Ideal) f b (ix3 r h l) = headScale (fun j => f (ix2 r j) + b (ix2 r j)) h := by
  rw [val_main_v12_apply, val_main_v11_apply, val_main_v10_apply, val_main_v8_apply, val_main_v6_apply]
  have e : (idx_main_v6 (idx_main_v12 (ix3 r h l)) : S17408x4.Idx) = ix2 r h := by
    funext z
    match z with
    | ⟨0, _⟩ => rfl
    | ⟨1, _⟩ => rfl
  rw [e, head_squares_apply]
  rfl

theorem lane_head (j : Fin 1024) : lane (head j) ⟨j.val % 256, by omega⟩ = j := Fin.ext (by show 256 * (j.val / 256) + j.val % 256 = j.val; omega)

theorem normed_apply (r : Fin 17408) (j : Fin 1024) :
    val_main_v14 (F := Ideal) f b (ix2 r j) = (f (ix2 r j) + b (ix2 r j)) * headScale (fun j => f (ix2 r j) + b (ix2 r j)) (head j) := by
  rw [val_main_v14_apply]
  have hj := j.isLt
  have e : (idx_main_v14 (ix2 r j) : S17408x4x256.Idx) = ix3 r (head j) (⟨j.val % 256, by omega⟩ : Fin 256) := by
    funext z
    apply Fin.ext
    match z with
    | ⟨0, _⟩ => show (r.val * 1024 + j.val) / 1024 = r.val; omega
    | ⟨1, _⟩ => show (r.val * 1024 + j.val) / 256 % 4 = j.val / 256; omega
    | ⟨2, _⟩ => show (r.val * 1024 + j.val) % 256 = j.val % 256; omega
  rw [e, val_main_v13_apply, sum_apply, head_scale_apply, lane_head]
  rfl

theorem first_gate_apply (r : Fin 17408) (j : Fin 1024) : val_main_v16 (F := Ideal) y (ix2 r j) = y (ix2 r (column 2048 (by decide) j)) := by
  show val_main_v15 (F := Ideal) y (ix2 r j) = _
  unfold val_main_v15
  refine extractStridedSlice_apply _ y _ (ix2 r j) (ix2 r (column 2048 (by decide) j)) fun a => ?_
  match a with
  | ⟨0, _⟩ => show r.val = 0 + r.val; omega
  | ⟨1, _⟩ => rfl

theorem second_gate_apply (r : Fin 17408) (j : Fin 1024) : val_main_v18 (F := Ideal) y (ix2 r j) = y (ix2 r (column 3072 (by decide) j)) := by
  show val_main_v17 (F := Ideal) y (ix2 r j) = _
  unfold val_main_v17
  refine extractStridedSlice_apply _ y _ (ix2 r j) (ix2 r (column 3072 (by decide) j)) fun a => ?_
  match a with
  | ⟨0, _⟩ => show r.val = 0 + r.val; omega
  | ⟨1, _⟩ => rfl

theorem third_gate_apply (r : Fin 17408) (j : Fin 1024) : val_main_v20 (F := Ideal) y (ix2 r j) = y (ix2 r (column 4096 (by decide) j)) := by
  show val_main_v19 (F := Ideal) y (ix2 r j) = _
  unfold val_main_v19
  refine extractStridedSlice_apply _ y _ (ix2 r j) (ix2 r (column 4096 (by decide) j)) fun a => ?_
  match a with
  | ⟨0, _⟩ => show r.val = 0 + r.val; omega
  | ⟨1, _⟩ => rfl

theorem gated_apply (r : Fin 17408) (j : Fin 1024) :
    val_main_v30 (F := Ideal) f b y g (ix2 r j)
      = gated (fun j => f (ix2 r j) + b (ix2 r j)) (fun j => g (ix2 0 j)) (fun j => y (ix2 r (column 2048 (by decide) j))) j := by
  rw [val_main_v30_apply, val_main_v22_apply, val_main_v21_apply, normed_apply]
  have e : (idx_main_v21 (ix2 r j) : S1x1024.Idx) = ix2 0 j := by
    funext z
    match z with
    | ⟨0, _⟩ => rfl
    | ⟨1, _⟩ => rfl
  rw [e]
  unfold gated
  dsimp only
  rw [← first_gate_apply y r j]
  show _ * (val_main_v16 (F := Ideal) y (ix2 r j) * Ideal.div (Ideal.ofBits .f32 0x3F800000#32) (Ideal.ofBits .f32 0x3F800000#32 + Ideal.exp (-(val_main_v16 (F := Ideal) y (ix2 r j))))) = _
  rw [Ideal.ofBits_one_f32]
  rfl

/-! ## The projections -/

theorem wb_apply (d : Fin 1024) (j : Fin 1024) : val_main_v33 (F := Ideal) wb (ix2 d j) = wb (ix3 1 d j) := by
  show val_main_v32 (F := Ideal) wb (ix2 d j) = _
  unfold val_main_v32 val_main_v31
  refine (shapeCast_apply _ _ (ix2 d j) (ix3 0 d j) ?_).trans (extractStridedSlice_apply _ wb _ (ix3 0 d j) (ix3 1 d j) ?_)
  · rewrite [Shape.rowMajor_val_three, Shape.rowMajor_val_two]
    show (0 * 1024 + d.val) * 1024 + j.val = d.val * 1024 + j.val
    omega
  · intro a
    match a with
    | ⟨0, _⟩ => rfl
    | ⟨1, _⟩ => show d.val = 0 + d.val; omega
    | ⟨2, _⟩ => show j.val = 0 + j.val; omega

theorem wn_apply (d : Fin 512) (j : Fin 1024) : val_main_v38 (F := Ideal) wn (ix2 d j) = wn (ix3 1 d j) := by
  show val_main_v37 (F := Ideal) wn (ix2 d j) = _
  unfold val_main_v37 val_main_v36
  refine (shapeCast_apply _ _ (ix2 d j) (ix3 0 d j) ?_).trans (extractStridedSlice_apply _ wn _ (ix3 0 d j) (ix3 1 d j) ?_)
  · rewrite [Shape.rowMajor_val_three, Shape.rowMajor_val_two]
    show (0 * 512 + d.val) * 1024 + j.val = d.val * 1024 + j.val
    omega
  · intro a
    match a with
    | ⟨0, _⟩ => rfl
    | ⟨1, _⟩ => show d.val = 0 + d.val; omega
    | ⟨2, _⟩ => show j.val = 0 + j.val; omega

theorem wo_apply (d : Fin 1024) (j : Fin 1024) : val_main_v66 (F := Ideal) wo (ix2 d j) = wo (ix3 1 d j) := by
  show val_main_v65 (F := Ideal) wo (ix2 d j) = _
  unfold val_main_v65 val_main_v64
  refine (shapeCast_apply _ _ (ix2 d j) (ix3 0 d j) ?_).trans (extractStridedSlice_apply _ wo _ (ix3 0 d j) (ix3 1 d j) ?_)
  · rewrite [Shape.rowMajor_val_three, Shape.rowMajor_val_two]
    show (0 * 1024 + d.val) * 1024 + j.val = d.val * 1024 + j.val
    omega
  · intro a
    match a with
    | ⟨0, _⟩ => rfl
    | ⟨1, _⟩ => show d.val = 0 + d.val; omega
    | ⟨2, _⟩ => show j.val = 0 + j.val; omega

theorem linear_apply (r : Fin 17408) (j : Fin 1024) :
    val_main_v34 (F := Ideal) f b y g wb (ix2 r j)
      = times (gated (fun j => f (ix2 r j) + b (ix2 r j)) (fun j => g (ix2 0 j)) (fun j => y (ix2 r (column 2048 (by decide) j)))) (fun d j => wb (ix3 1 d j)) j :=
  (StackMember.dotGeneral_plain_apply none _ _ r j).trans (Finset.sum_congr rfl fun d _ => congrArg₂ (· * ·) (gated_apply f b y g r d) (wb_apply wb d j))

theorem near_apply (r : Fin 17408) (j : Fin 1024) :
    val_main_v39 (F := Ideal) n wn (ix2 r j) = times (fun d => n (ix2 r d)) (fun d j => wn (ix3 1 d j)) j :=
  (StackMember.dotGeneral_plain_apply none _ _ r j).trans (Finset.sum_congr rfl fun d _ => congrArg (n (ix2 r d) * ·) (wn_apply wn d j))

theorem mixed_apply (r : Fin 17408) (j : Fin 1024) :
    val_main_v54 (F := Ideal) f b y n g wb wn (ix2 r j)
      = mixed (fun j => y (ix2 r (column 3072 (by decide) j))) (fun j => y (ix2 r (column 4096 (by decide) j)))
          (times (gated (fun j => f (ix2 r j) + b (ix2 r j)) (fun j => g (ix2 0 j)) (fun j => y (ix2 r (column 2048 (by decide) j)))) (fun d j => wb (ix3 1 d j)))
          (times (fun d => n (ix2 r d)) (fun d j => wn (ix3 1 d j))) j := by
  rw [val_main_v54_apply, val_main_v46_apply, val_main_v53_apply, linear_apply, near_apply]
  unfold mixed
  dsimp only
  rw [← second_gate_apply y r j, ← third_gate_apply y r j]
  show Ideal.div (Ideal.ofBits .f32 0x3F800000#32) (Ideal.ofBits .f32 0x3F800000#32 + Ideal.exp (-(val_main_v18 (F := Ideal) y (ix2 r j)))) * _
    + Ideal.div (Ideal.ofBits .f32 0x3F800000#32) (Ideal.ofBits .f32 0x3F800000#32 + Ideal.exp (-(val_main_v20 (F := Ideal) y (ix2 r j)))) * _ = _
  rw [Ideal.ofBits_one_f32]
  rfl

theorem merged_apply (r : Fin 17408) (j : Fin 1024) : val_main_v67 (F := Ideal) f b y n g wb wn wo (ix2 r j) = routedMerged f b y n g wb wn wo r j :=
  (StackMember.dotGeneral_plain_apply none _ _ r j).trans (Finset.sum_congr rfl fun d _ => congrArg₂ (· * ·) (mixed_apply f b y n g wb wn r d) (wo_apply wo d j))

/-! ## The residual -/

theorem squares_apply (r : Fin 17408) :
    val_main_v69 (F := Ideal) f b y n g wb wn wo (ix1 r) = ∑ j, routedMerged f b y n g wb wn wo r j * routedMerged f b y n g wb wn wo r j := by
  refine (val_main_v69_apply f b y n g wb wn wo (ix1 r)).trans ?_
  rw [show val_main_cst_8 (F := Ideal) (Shape.Idx.first h_S_) = (0 : EReal) from Ideal.ofBits_zero_f32, zero_add]
  refine Finset.sum_congr rfl fun j _ => ?_
  have e : (idx_main_v69 (ix1 r) j : S17408x1024.Idx) = ix2 r j := by
    funext z
    match z with
    | ⟨0, _⟩ => rfl
    | ⟨1, _⟩ => rfl
  rw [e, val_main_v68_apply, merged_apply]
  rfl

theorem scale_apply (r : Fin 17408) (j : Fin 1024) :
    val_main_v76 (F := Ideal) f b y n g wb wn wo (ix2 r j) = scale (routedMerged f b y n g wb wn wo r) := by
  rw [val_main_v76_apply, val_main_v75_apply, val_main_v74_apply, val_main_v72_apply, val_main_v70_apply]
  have e : (idx_main_v70 (idx_main_v76 (ix2 r j)) : S17408.Idx) = ix1 r := by
    funext z
    match z with
    | ⟨0, _⟩ => rfl
  rw [e, squares_apply]
  rfl

theorem kept_apply (r : Fin 17408) (j : Fin 1024) :
    val_main_v81 (F := Ideal) f b y n x g wb wn wo p t (ix2 r j) = routedKept f b y n x g wb wn wo p t r j := by
  rw [val_main_v81_apply, val_main_v80_apply, val_main_v79_apply, val_main_v77_apply, val_main_v78_apply, gate_apply, scale_apply, merged_apply]
  have e : (idx_main_v78 (ix2 r j) : S1x1024.Idx) = ix2 0 j := by
    funext z
    match z with
    | ⟨0, _⟩ => rfl
    | ⟨1, _⟩ => rfl
  rw [e]
  rfl

theorem residual_eq : val_main_v81 (F := Ideal) f b y n x g wb wn wo p t = routedResidual f b y n x g wb wn wo p t := by
  funext i
  obtain ⟨r, j, rfl⟩ : ∃ (r : Fin 17408) (j : Fin 1024), i = ix2 r j := ⟨i 0, i 1, by
    funext z
    match z with
    | ⟨0, _⟩ => rfl
    | ⟨1, _⟩ => rfl⟩
  exact kept_apply f b y n x g wb wn wo p t r j

/-! ## The feed-forward's input -/

theorem kept_squares_apply (r : Fin 17408) :
    val_main_v83 (F := Ideal) f b y n x g wb wn wo p t (ix1 r) = ∑ j, routedKept f b y n x g wb wn wo p t r j * routedKept f b y n x g wb wn wo p t r j := by
  refine (val_main_v83_apply f b y n x g wb wn wo p t (ix1 r)).trans ?_
  rw [show val_main_cst_11 (F := Ideal) (Shape.Idx.first h_S_) = (0 : EReal) from Ideal.ofBits_zero_f32, zero_add]
  refine Finset.sum_congr rfl fun j _ => ?_
  have e : (idx_main_v83 (ix1 r) j : S17408x1024.Idx) = ix2 r j := by
    funext z
    match z with
    | ⟨0, _⟩ => rfl
    | ⟨1, _⟩ => rfl
  rw [e, val_main_v82_apply, kept_apply]
  rfl

theorem kept_scale_apply (r : Fin 17408) (j : Fin 1024) :
    val_main_v90 (F := Ideal) f b y n x g wb wn wo p t (ix2 r j) = scale (routedKept f b y n x g wb wn wo p t r) := by
  rw [val_main_v90_apply, val_main_v89_apply, val_main_v88_apply, val_main_v86_apply, val_main_v84_apply]
  have e : (idx_main_v84 (idx_main_v90 (ix2 r j)) : S17408.Idx) = ix1 r := by
    funext z
    match z with
    | ⟨0, _⟩ => rfl
  rw [e, kept_squares_apply]
  rfl

theorem input_eq : val_main_v115 (F := Ideal) f b y n x g wb wn wo p q t = routedInput f b y n x g wb wn wo p q t := by
  funext i
  obtain ⟨r, j, rfl⟩ : ∃ (r : Fin 17408) (j : Fin 1024), i = ix2 r j := ⟨i 0, i 1, by
    funext z
    match z with
    | ⟨0, _⟩ => rfl
    | ⟨1, _⟩ => rfl⟩
  change val_main_v115 (F := Ideal) f b y n x g wb wn wo p q t (ix2 r j) = _
  rw [val_main_v115_apply, val_main_v105_apply, val_main_v104_apply, val_main_v93_apply, val_main_v91_apply, val_main_v92_apply, up_apply, down_apply, kept_scale_apply, kept_apply]
  have e : (idx_main_v92 (ix2 r j) : S1x1024.Idx) = ix2 0 j := by
    funext z
    match z with
    | ⟨0, _⟩ => rfl
    | ⟨1, _⟩ => rfl
  rw [e]
  rfl

end Cert.MergeRouterReferenceIdeal.RefOut
end
-- ==== Proof.MergeRouterSame.lean ====
/- The call of the merge with a router: its claims, from the generated frames, the kernel's arrays (Proof/MergeRouterValue.lean) and the
   reference's (Proof/MergeRouterRefOut.lean). -/
module

public import proofs.«01_k».proof.Defs
public import proofs.«01_k».proof.Proof.Gen.MergeRouter
public import proofs.«01_k».proof.Proof.Gen.MergeRouter.Frame
public import proofs.«01_k».proof.Proof.Gen.MergeRouterIdeal
public import proofs.«01_k».proof.Proof.Gen.MergeRouterReferenceIdeal
public import proofs.«01_k».proof.Proof.Gen.MergeRouterReferenceIdeal.Run
public import proofs.«01_k».proof.Proof.MergeRouterValue
public import proofs.«01_k».proof.Proof.MergeRouterRefOut

@[expose] public section

noncomputable section

namespace Cert.MergeRouterSame

open Idealize.ShloMosaic Idealize.SL.Sem Idealize.ShloMosaic.TcCoe

/-- The call as printed runs, keeps its arguments, and leaves every counter at zero. -/
theorem frame : Cert.quiescent_MergeRouter := fun m g _ => Cert.MergeRouter.Gen.frame m g

/-- So does its idealized form. -/
theorem frame_ideal : Cert.quiescent_MergeRouterIdeal := fun m g _ => Cert.MergeRouterIdeal.Gen.frame m g

/-- And its reference, which declares no counter. -/
theorem frame_reference : Cert.quiescent_MergeRouterReferenceIdeal := fun m g _ =>
  (θ_run Cert.MergeRouterReferenceIdeal.defs _ _).mono (fun r h => ⟨fun c => (h c).2.2, Idealize.ShloMosaic.sem_eq_zero_of_no_sems (by decide) r.2⟩)
    (Cert.MergeRouterReferenceIdeal.Value.run (F := Ideal) m g)

/-- The specified residual on equal arguments. -/
theorem residual_congr {f f' b b' x x' : MergeSpec.Rows} {y y' : MergeSpec.Gates} {n n' : MergeSpec.Near} {g g' p p' : MergeSpec.Gain} {wb wb' wo wo' : MergeSpec.Square}
    {wn wn' : MergeSpec.Tall} {t t' : MergeSpec.Mods} (h : f = f' ∧ b = b' ∧ y = y' ∧ n = n' ∧ x = x' ∧ g = g' ∧ wb = wb' ∧ wn = wn' ∧ wo = wo' ∧ p = p') (ht : t = t') :
    MergeSpec.routedResidual f b y n x g wb wn wo p t = MergeSpec.routedResidual f' b' y' n' x' g' wb' wn' wo' p' t' := by
  obtain ⟨rfl, rfl, rfl, rfl, rfl, rfl, rfl, rfl, rfl, rfl⟩ := h
  rw [ht]

/-- The specified input of the feed-forward on equal arguments. -/
theorem input_congr {f f' b b' x x' : MergeSpec.Rows} {y y' : MergeSpec.Gates} {n n' : MergeSpec.Near} {g g' p p' q q' : MergeSpec.Gain} {wb wb' wo wo' : MergeSpec.Square}
    {wn wn' : MergeSpec.Tall} {t t' : MergeSpec.Mods} (h : f = f' ∧ b = b' ∧ y = y' ∧ n = n' ∧ x = x' ∧ g = g' ∧ wb = wb' ∧ wn = wn' ∧ wo = wo' ∧ p = p' ∧ q = q' ∧ t = t') :
    MergeSpec.routedInput f b y n x g wb wn wo p q t = MergeSpec.routedInput f' b' y' n' x' g' wb' wn' wo' p' q' t' := by
  obtain ⟨rfl, rfl, rfl, rfl, rfl, rfl, rfl, rfl, rfl, rfl, rfl, rfl⟩ := h
  rfl

/-- The kernel and the reference end with the same arrays. -/
theorem same : Cert.algebraic_MergeRouterIdeal_MergeRouterReferenceIdeal := by
  intro m g m' g' _ hargs
  refine ⟨fun c => Cert.MergeRouterIdeal.Outcome.residualOf m c, fun c => Cert.MergeRouterIdeal.Outcome.inputOf m c, Cert.MergeRouterIdeal.Outcome.run m g, ?_⟩
  refine (θ_run Cert.MergeRouterReferenceIdeal.defs _ _).mono (fun r h c => ⟨(h c).1.trans ?_, (h c).2.1.trans ?_, (h c).2.2⟩) (Cert.MergeRouterReferenceIdeal.Value.run (F := Ideal) m' g')
  · refine (Cert.MergeRouterReferenceIdeal.Read.val_main_v81_eq _ _).trans ((Cert.MergeRouterReferenceIdeal.RefOut.residual_eq _ _ _ _ _ _ _ _ _ _ _).trans ?_)
    obtain ⟨h0, h1, h2, h3, h4, h5, h6, h7, h8, h9, _, h11, _⟩ := hargs c
    exact residual_congr ⟨h0, h1, h2, h3, h4, h5, h6, h7, h8, h9⟩ h11
  · refine (Cert.MergeRouterReferenceIdeal.Read.val_main_v115_eq _ _).trans ((Cert.MergeRouterReferenceIdeal.RefOut.input_eq _ _ _ _ _ _ _ _ _ _ _ _).trans ?_)
    obtain ⟨h0, h1, h2, h3, h4, h5, h6, h7, h8, h9, h10, h11, _⟩ := hargs c
    exact input_congr ⟨h0, h1, h2, h3, h4, h5, h6, h7, h8, h9, h10, h11⟩

end Cert.MergeRouterSame

end
-- ==== Proof.lean ====
/- The proof of the claims. The neighbourhood attention: the frames are the generated ones; the kernel's array is the
   specified one (Proof/Array.lean), and so is the reference's (Proof/RefOut.lean). The experts: Proof/ExpertsSame.lean.
   The dense feed-forward: Proof/DenseSame.lean. The input projection: Proof/ProjectionSame.lean. The merge:
   Proof/MergeSame.lean. The modulation: Proof/ModulationSame.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.RefOut
public import proofs.«01_k».proof.Proof.Finite
public import proofs.«01_k».proof.Proof.ExpertsSame
public import proofs.«01_k».proof.Proof.DenseSame
public import proofs.«01_k».proof.Proof.ProjectionSame
public import proofs.«01_k».proof.Proof.MergeSame
public import proofs.«01_k».proof.Proof.ModulationSame
public import proofs.«01_k».proof.Proof.MergeRouterSame
public import Idealize.ShloMosaic.Adequacy
public import Idealize.ShloMosaic.Init

@[expose] public section

noncomputable section

namespace Cert.Proof

open Idealize.ShloMosaic Idealize.SL.Sem Idealize.ShloMosaic.TcCoe Idealize.ShloMosaic.ValueIdx

/-- The reference runs, keeps its arguments, and leaves every counter at zero: it declares none. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The specified array is the reference's result. -/
theorem reference_eq (Y : Cert.Spec.Tok) (B : Cert.Spec.Bias) :
    Cert.ReferenceIdeal.Read.val_main_v134 (F := Ideal) (fun i => (Y i : EReal)) (fun i => (B i : EReal)) = Cert.KernelIdeal.Array.G Y B := by
  funext x
  obtain ⟨r, c, rfl⟩ : ∃ (r : Fin 17408) (c : Fin 512), x = ix2 r c := ⟨x 0, x 1, by
    funext y
    match y with
    | ⟨0, _⟩ => rfl
    | ⟨1, _⟩ => rfl⟩
  exact Cert.ReferenceIdeal.RefOut.result Y B r c

/-- On finite arguments the kernel and the reference end with the same array. -/
theorem same : Cert.algebraic_KernelIdeal_ReferenceIdeal_pre_finite := by
  intro m g m' g' hpre hargs
  refine ⟨fun c => (Cert.KernelIdeal.Gen.dats m 0 c).arrAt 11 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨⟨Y, hY⟩, B, hB⟩ := Cert.Pre_finite.Decode.reals _ _ (hpre c)
  refine (Cert.ReferenceIdeal.Read.val_main_v134_eq _).trans (Eq.trans ?_ ((reference_eq Y B).trans (Cert.KernelIdeal.Array.final Y B m c hY hB).symm))
  exact congrArg₂ (Cert.ReferenceIdeal.Read.val_main_v134 (F := Ideal)) ((hargs c).1.trans hY) ((hargs c).2.trans hB)

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Dense.Gen.facts, Cert.DenseIdeal.Gen.facts, Cert.DenseReferenceIdeal.Gen.facts,
    Cert.Projection.Gen.facts, Cert.ProjectionIdeal.Gen.facts, Cert.ProjectionReferenceIdeal.Gen.facts, Cert.Merge.Gen.facts, Cert.MergeIdeal.Gen.facts, Cert.MergeReferenceIdeal.Gen.facts,
    Cert.Modulation.Gen.facts, Cert.ModulationIdeal.Gen.facts, Cert.ModulationReferenceIdeal.Gen.facts,
    Cert.MergeRouter.Gen.facts, Cert.MergeRouterIdeal.Gen.facts, Cert.MergeRouterReferenceIdeal.Gen.facts, Cert.Pre_finite.Decode.facts, Cert.Pre_routed.Gen.facts,
    fun m g _ => Cert.Kernel.Gen.frame m g, fun m g _ => Cert.KernelIdeal.Gen.frame m g, fun m g _ => Cert.KernelIdeal.Gen.frame m g,
    fun m g _ => frame_reference m g, fun m g _ => frame_reference m g,
    Cert.ExpertsSame.frame, Cert.ExpertsSame.frame_ideal, Cert.ExpertsSame.frame_reference, fun m g _ => Cert.ExpertsSame.frame_reference m g trivial,
    Cert.DenseSame.frame, Cert.DenseSame.frame_ideal, Cert.DenseSame.frame_reference,
    Cert.ProjectionSame.frame, Cert.ProjectionSame.frame_ideal, Cert.ProjectionSame.frame_reference, Cert.MergeSame.frame, Cert.MergeSame.frame_ideal, Cert.MergeSame.frame_reference,
    Cert.ModulationSame.frame, Cert.ModulationSame.frame_ideal, Cert.ModulationSame.frame_reference,
    Cert.MergeRouterSame.frame, Cert.MergeRouterSame.frame_ideal, Cert.MergeRouterSame.frame_reference,
    trivial, same, trivial, Cert.ExpertsSame.same, trivial, Cert.DenseSame.same, trivial, Cert.ProjectionSame.same, trivial, Cert.MergeSame.same, trivial, Cert.ModulationSame.same, trivial, Cert.MergeRouterSame.same⟩

end Cert.Proof

end
